-- ==== Defs.lean ====
def Pre_Attn [hPre_in_range : Cert.Pre_in_range.Facts] (m : (ℓ : Loc Cert.Attn.nD Cert.Attn.τ Cert.Attn.sig) → Buf (Elt Bits) ℓ) : Prop :=
  ∀ c : Dev Cert.Attn.nD,
    (Cert.Pre_in_range.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))) = (fun _ => 1#1)

def Pre_AttnIdeal [hPre_in_range : Cert.Pre_in_range.Facts] (m : (ℓ : Loc Cert.AttnIdeal.nD Cert.AttnIdeal.τ Cert.AttnIdeal.sig) → Buf (Elt Ideal) ℓ) : Prop :=
  ∀ c : Dev Cert.AttnIdeal.nD,
    (Cert.Pre_in_range.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnIdeal_selected [hPre_selected : Cert.Pre_selected.Facts] (m : (ℓ : Loc Cert.AttnIdeal.nD Cert.AttnIdeal.τ Cert.AttnIdeal.sig) → Buf (Elt Ideal) ℓ) : Prop :=
  ∀ c : Dev Cert.AttnIdeal.nD,
    (Cert.Pre_selected.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_selected.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_selected.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_selected.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_selected.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_selected.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2.1 = (fun _ => 1#1)
    ∧ (Cert.Pre_selected.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_selected [hPre_selected : Cert.Pre_selected.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_selected.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_selected.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_selected.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_selected.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_selected.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.1 = (fun _ => 1#1)
    ∧ (Cert.Pre_selected.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2.1 = (fun _ => 1#1)
    ∧ (Cert.Pre_selected.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Attn [hAttn : Cert.Attn.Facts] [hPre_in_range : Cert.Pre_in_range.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] [hPre_in_range : Cert.Pre_in_range.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_selected [hAttnIdeal : Cert.AttnIdeal.Facts] [hPre_selected : Cert.Pre_selected.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_selected m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_selected [hAttnRefIdeal : Cert.AttnRefIdeal.Facts] [hPre_selected : Cert.Pre_selected.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_selected m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def preserves_Attn_AttnIdeal : Prop :=
  True

def algebraic_AttnIdeal_AttnRefIdeal_pre_selected [hAttnIdeal : Cert.AttnIdeal.Facts] [hAttnRefIdeal : Cert.AttnRefIdeal.Facts] [hPre_selected : Cert.Pre_selected.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_selected m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v33) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)) (v2 : (c : Dev Cert.OutIdeal.nD) → Buf (Elt Ideal) ((c.tc : Thread Cert.OutIdeal.nD Cert.OutIdeal.τ).loc Cert.OutIdeal.main_v2_2)) (v3 : (c : Dev Cert.OutIdeal.nD) → Buf (Elt Ideal) ((c.tc : Thread Cert.OutIdeal.nD Cert.OutIdeal.τ).loc Cert.OutIdeal.main_v2_3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_v2_2) = v2 c
          ∧ r.2.mem ((c.tc : Thread Cert.OutIdeal.nD Cert.OutIdeal.τ).loc Cert.OutIdeal.main_v2_3) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5_0) = v0 c
          ∧ r.2.mem ((c.tc : Thread Cert.OutRefIdeal.nD Cert.OutRefIdeal.τ).loc Cert.OutRefIdeal.main_v2) = v1 c
          ∧ r.2.mem ((c.tc : Thread Cert.OutRefIdeal.nD Cert.OutRefIdeal.τ).loc Cert.OutRefIdeal.main_v5_1) = v2 c
          ∧ r.2.mem ((c.tc : Thread Cert.OutRefIdeal.nD Cert.OutRefIdeal.τ).loc Cert.OutRefIdeal.main_v5_2) = v3 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def Claim : Prop :=
  ∃ (hAttn : Cert.Attn.Facts) (hAttnIdeal : Cert.AttnIdeal.Facts) (hAttnRefIdeal : Cert.AttnRefIdeal.Facts) (hOut : Cert.Out.Facts) (hOutIdeal : Cert.OutIdeal.Facts) (hOutRefIdeal : Cert.OutRefIdeal.Facts) (hPre_in_range : Cert.Pre_in_range.Facts) (hPre_selected : Cert.Pre_selected.Facts),
    quiescent_Attn (hAttn := hAttn) (hPre_in_range := hPre_in_range)
    ∧ quiescent_AttnIdeal (hAttnIdeal := hAttnIdeal) (hPre_in_range := hPre_in_range)
    ∧ quiescent_AttnIdeal_pre_selected (hAttnIdeal := hAttnIdeal) (hPre_selected := hPre_selected)
    ∧ quiescent_AttnRefIdeal (hAttnRefIdeal := hAttnRefIdeal)
    ∧ quiescent_AttnRefIdeal_pre_selected (hAttnRefIdeal := hAttnRefIdeal) (hPre_selected := hPre_selected)
    ∧ quiescent_Out (hOut := hOut)
    ∧ quiescent_OutIdeal (hOutIdeal := hOutIdeal)
    ∧ quiescent_OutRefIdeal (hOutRefIdeal := hOutRefIdeal)
    ∧ preserves_Attn_AttnIdeal
    ∧ algebraic_AttnIdeal_AttnRefIdeal_pre_selected (hAttnIdeal := hAttnIdeal) (hAttnRefIdeal := hAttnRefIdeal) (hPre_selected := hPre_selected)
    ∧ preserves_Out_OutIdeal
    ∧ algebraic_OutIdeal_OutRefIdeal (hOutIdeal := hOutIdeal) (hOutRefIdeal := hOutRefIdeal)
-- ==== Pre_in_range.lean ====
abbrev S11520 : Shape := ⟨1, ![11520]⟩
abbrev S6x4x5760x128 : Shape := ⟨4, ![6, 4, 5760, 128]⟩
abbrev S6x4x12288x128 : Shape := ⟨4, ![6, 4, 12288, 128]⟩
abbrev S6x4x96x128x128 : Shape := ⟨5, ![6, 4, 96, 128, 128]⟩
abbrev S6x12288x128 : Shape := ⟨3, ![6, 12288, 128]⟩
abbrev S6x1x5760 : Shape := ⟨3, ![6, 1, 5760]⟩
abbrev S_ : Shape := ⟨0, ![]⟩

class Facts : Prop where
  bcast_S_S11520 : S_.BroadcastsInDim S11520 (![] : Fin 0 → Fin S11520.rank)

variable [Facts]

def fn {F : FTy → Type} [FloatOps F] (main_arg0 : IVec S11520 32) (main_arg1 : FVec F S6x4x5760x128 .bf16) (main_arg2 : FVec F S6x4x12288x128 .bf16) (main_arg3 : FVec F S6x4x96x128x128 .bf16) (main_arg4 : FVec F S6x12288x128 .f32) (main_arg5 : IVec S6x1x5760 32) : IVec S11520 1 :=
  let main_c : IVec S_ 32 := constantI S_ 32 0#32
  let main_v0 : IVec S11520 32 := broadcastInDim S11520 ![] bcast_S_S11520 main_c
  let main_v1 : IVec S11520 1 := cmpi .sge main_arg0 main_v0
  let main_c_0 : IVec S_ 32 := constantI S_ 32 12288#32
  let main_v2 : IVec S11520 32 := broadcastInDim S11520 ![] bcast_S_S11520 main_c_0
  let main_v3 : IVec S11520 1 := cmpi .slt main_arg0 main_v2
  let main_v4 : IVec S11520 1 := andi main_v1 main_v3
  main_v4
-- ==== Pre_selected.lean ====
abbrev S11520 : Shape := ⟨1, ![11520]⟩
abbrev S6x4x5760x128 : Shape := ⟨4, ![6, 4, 5760, 128]⟩
abbrev S6x4x12288x128 : Shape := ⟨4, ![6, 4, 12288, 128]⟩
abbrev S6x4x96x128x128 : Shape := ⟨5, ![6, 4, 96, 128, 128]⟩
abbrev S6x12288x128 : Shape := ⟨3, ![6, 12288, 128]⟩
abbrev S6x1x5760 : Shape := ⟨3, ![6, 1, 5760]⟩
abbrev S6x1920 : Shape := ⟨2, ![6, 1920]⟩
abbrev S6x120x1x16 : Shape := ⟨4, ![6, 120, 1, 16]⟩
abbrev S6x120x3x16 : Shape := ⟨4, ![6, 120, 3, 16]⟩
abbrev S_ : Shape := ⟨0, ![]⟩
abbrev S6x1919 : Shape := ⟨2, ![6, 1919]⟩

class Facts : Prop where
  shapeCasts_S11520_S6x1920 : S11520.ShapeCasts S6x1920
  shapeCasts_S11520_S6x120x1x16 : S11520.ShapeCasts S6x120x1x16
  bcast_S6x120x1x16_S6x120x3x16_0_1_2_3 : S6x120x1x16.BroadcastsInDim S6x120x3x16 (![0, 1, 2, 3] : Fin 4 → Fin S6x120x3x16.rank)
  shapeCasts_S6x120x3x16_S6x1x5760 : S6x120x3x16.ShapeCasts S6x1x5760
  bcast_S_S11520 : S_.BroadcastsInDim S11520 (![] : Fin 0 → Fin S11520.rank)
  slices_S6x1920_S6x1919_0_0 : S6x1920.Slices ![0, 0] S6x1919
  slices_S6x1920_S6x1919_0_1 : S6x1920.Slices ![0, 1] S6x1919
  bcast_S_S6x4x5760x128 : S_.BroadcastsInDim S6x4x5760x128 (![] : Fin 0 → Fin S6x4x5760x128.rank)
  bcast_S_S6x4x12288x128 : S_.BroadcastsInDim S6x4x12288x128 (![] : Fin 0 → Fin S6x4x12288x128.rank)
  bcast_S_S6x4x96x128x128 : S_.BroadcastsInDim S6x4x96x128x128 (![] : Fin 0 → Fin S6x4x96x128x128.rank)
  bcast_S_S6x12288x128 : S_.BroadcastsInDim S6x12288x128 (![] : Fin 0 → Fin S6x12288x128.rank)

variable [Facts]

def fn_part1 {F : FTy → Type} [FloatOps F] (main_arg4 : FVec F S6x12288x128 .f32) (main_v8 : IVec S11520 1) (main_v11 : IVec S6x1919 1) (main_v12 : IVec S6x1x5760 1) (main_v15 : IVec S6x4x5760x128 1) (main_v18 : IVec S6x4x12288x128 1) (main_v19 : FVec F S6x4x96x128x128 .bf16) : IVec S11520 1 × IVec S6x1919 1 × IVec S6x1x5760 1 × IVec S6x4x5760x128 1 × IVec S6x4x12288x128 1 × IVec S6x4x96x128x128 1 × IVec S6x12288x128 1 :=
  let main_cst_2 : FVec F S_ .bf16 := constant S_ .bf16 0x7F80#16
  let main_v20 : FVec F S6x4x96x128x128 .bf16 := broadcastInDim S6x4x96x128x128 ![] bcast_S_S6x4x96x128x128 main_cst_2
  let main_v21 : IVec S6x4x96x128x128 1 := cmpf .olt main_v19 main_v20
  let main_v22 : FVec F S6x12288x128 .f32 := Host.absf main_arg4
  let main_cst_3 : FVec F S_ .f32 := constant S_ .f32 0x7F800000#32
  let main_v23 : FVec F S6x12288x128 .f32 := broadcastInDim S6x12288x128 ![] bcast_S_S6x12288x128 main_cst_3
  let main_v24 : IVec S6x12288x128 1 := cmpf .olt main_v22 main_v23
  (main_v8, main_v11, main_v12, main_v15, main_v18, main_v21, main_v24)

def fn {F : FTy → Type} [FloatOps F] (main_arg0 : IVec S11520 32) (main_arg1 : FVec F S6x4x5760x128 .bf16) (main_arg2 : FVec F S6x4x12288x128 .bf16) (main_arg3 : FVec F S6x4x96x128x128 .bf16) (main_arg4 : FVec F S6x12288x128 .f32) (main_arg5 : IVec S6x1x5760 32) : IVec S11520 1 × IVec S6x1919 1 × IVec S6x1x5760 1 × IVec S6x4x5760x128 1 × IVec S6x4x12288x128 1 × IVec S6x4x96x128x128 1 × IVec S6x12288x128 1 :=
  let main_v0 : IVec S6x1920 32 := shapeCast S6x1920 main_arg0 shapeCasts_S11520_S6x1920
  let main_v1 : IVec S6x120x1x16 32 := shapeCast S6x120x1x16 main_arg0 shapeCasts_S11520_S6x120x1x16
  let main_v2 : IVec S6x120x3x16 32 := broadcastInDim S6x120x3x16 ![0, 1, 2, 3] bcast_S6x120x1x16_S6x120x3x16_0_1_2_3 main_v1
  let main_v3 : IVec S6x1x5760 32 := shapeCast S6x1x5760 main_v2 shapeCasts_S6x120x3x16_S6x1x5760
  let main_c : IVec S_ 32 := constantI S_ 32 0#32
  let main_v4 : IVec S11520 32 := broadcastInDim S11520 ![] bcast_S_S11520 main_c
  let main_v5 : IVec S11520 1 := cmpi .sge main_arg0 main_v4
  let main_c_0 : IVec S_ 32 := constantI S_ 32 12288#32
  let main_v6 : IVec S11520 32 := broadcastInDim S11520 ![] bcast_S_S11520 main_c_0
  let main_v7 : IVec S11520 1 := cmpi .slt main_arg0 main_v6
  let main_v8 : IVec S11520 1 := andi main_v5 main_v7
  let main_v9 : IVec S6x1919 32 := (extractStridedSlice S6x1919 ![0, 0] · slices_S6x1920_S6x1919_0_0) main_v0
  let main_v10 : IVec S6x1919 32 := (extractStridedSlice S6x1919 ![0, 1] · slices_S6x1920_S6x1919_0_1) main_v0
  let main_v11 : IVec S6x1919 1 := cmpi .sle main_v9 main_v10
  let main_v12 : IVec S6x1x5760 1 := cmpi .eq main_arg5 main_v3
  let main_v13 : FVec F S6x4x5760x128 .bf16 := Host.absf main_arg1
  let main_cst : FVec F S_ .bf16 := constant S_ .bf16 0x7F80#16
  let main_v14 : FVec F S6x4x5760x128 .bf16 := broadcastInDim S6x4x5760x128 ![] bcast_S_S6x4x5760x128 main_cst
  let main_v15 : IVec S6x4x5760x128 1 := cmpf .olt main_v13 main_v14
  let main_v16 : FVec F S6x4x12288x128 .bf16 := Host.absf main_arg2
  let main_cst_1 : FVec F S_ .bf16 := constant S_ .bf16 0x7F80#16
  let main_v17 : FVec F S6x4x12288x128 .bf16 := broadcastInDim S6x4x12288x128 ![] bcast_S_S6x4x12288x128 main_cst_1
  let main_v18 : IVec S6x4x12288x128 1 := cmpf .olt main_v16 main_v17
  let main_v19 : FVec F S6x4x96x128x128 .bf16 := Host.absf main_arg3
  fn_part1 (F := F) main_arg4 main_v8 main_v11 main_v12 main_v15 main_v18 main_v19
-- ==== Attn.lean ====
abbrev S11520 : Shape := ⟨1, ![11520]⟩
abbrev S6x4x5760x128 : Shape := ⟨4, ![6, 4, 5760, 128]⟩
abbrev S6x4x12288x128 : Shape := ⟨4, ![6, 4, 12288, 128]⟩
abbrev S6x4x96x128x128 : Shape := ⟨5, ![6, 4, 96, 128, 128]⟩
abbrev S6x12288x128 : Shape := ⟨3, ![6, 12288, 128]⟩
abbrev S6x1x5760 : Shape := ⟨3, ![6, 1, 5760]⟩
abbrev S6x4x128x5760 : Shape := ⟨4, ![6, 4, 128, 5760]⟩
abbrev S1x1x5760x128 : Shape := ⟨4, ![1, 1, 5760, 128]⟩
abbrev S1x1x12288x128 : Shape := ⟨4, ![1, 1, 12288, 128]⟩
abbrev S1x1x96x128x128 : Shape := ⟨5, ![1, 1, 96, 128, 128]⟩
abbrev S1x12288x128 : Shape := ⟨3, ![1, 12288, 128]⟩
abbrev S1x1x5760 : Shape := ⟨3, ![1, 1, 5760]⟩
abbrev S1x1x128x5760 : Shape := ⟨4, ![1, 1, 128, 5760]⟩
abbrev S128x512 : Shape := ⟨2, ![128, 512]⟩
abbrev S8x512 : Shape := ⟨2, ![8, 512]⟩
abbrev S512x512 : Shape := ⟨2, ![512, 512]⟩
abbrev S4x512x128 : Shape := ⟨3, ![4, 512, 128]⟩
abbrev S1x512 : Shape := ⟨2, ![1, 512]⟩
abbrev S1x5760 : Shape := ⟨2, ![1, 5760]⟩
abbrev S1 : Shape := ⟨1, ![1]⟩
abbrev S1x1x512x128 : Shape := ⟨4, ![1, 1, 512, 128]⟩
abbrev S512x128 : Shape := ⟨2, ![512, 128]⟩
abbrev S1x1x512 : Shape := ⟨3, ![1, 1, 512]⟩
abbrev S1x1x256x128 : Shape := ⟨4, ![1, 1, 256, 128]⟩
abbrev S256x128 : Shape := ⟨2, ![256, 128]⟩
abbrev S256x512 : Shape := ⟨2, ![256, 512]⟩
abbrev S1x256x128 : Shape := ⟨3, ![1, 256, 128]⟩
abbrev S256x128x1 : Shape := ⟨3, ![256, 128, 1]⟩
abbrev S512 : Shape := ⟨1, ![512]⟩
abbrev S16x512 : Shape := ⟨2, ![16, 512]⟩
abbrev S16x128 : Shape := ⟨2, ![16, 128]⟩
abbrev S1x16x128 : Shape := ⟨3, ![1, 16, 128]⟩
abbrev S16x128x1 : Shape := ⟨3, ![16, 128, 1]⟩
abbrev S1x1x1x128x128 : Shape := ⟨5, ![1, 1, 1, 128, 128]⟩
abbrev S128x128 : Shape := ⟨2, ![128, 128]⟩
abbrev S128x256 : Shape := ⟨2, ![128, 256]⟩
abbrev S1x128 : Shape := ⟨2, ![1, 128]⟩
abbrev S8x128 : Shape := ⟨2, ![8, 128]⟩
abbrev S32x8x128 : Shape := ⟨3, ![32, 8, 128]⟩
abbrev S1x1x128x512 : Shape := ⟨4, ![1, 1, 128, 512]⟩
abbrev S1x1x1 : Shape := ⟨3, ![1, 1, 1]⟩

abbrev nBuf : Space → Nat
  | .hbm => 6
  | .vmem => 19
  | .smem => 2
  | _ => 0

abbrev bufTy : (tb : Table) → Fin (tcTables nBuf tb) → BufTy
  | .hbm, ⟨0, _⟩ => ⟨S6x4x5760x128, .bf16⟩
  | .hbm, ⟨1, _⟩ => ⟨S6x4x12288x128, .bf16⟩
  | .hbm, ⟨2, _⟩ => ⟨S6x4x96x128x128, .bf16⟩
  | .hbm, ⟨3, _⟩ => ⟨S6x12288x128, .f32⟩
  | .hbm, ⟨4, _⟩ => ⟨S6x1x5760, .i32⟩
  | .hbm, ⟨5, _⟩ => ⟨S6x4x128x5760, .f32⟩
  | .local _ .vmem, ⟨0, _⟩ => ⟨S1x1x5760x128, .bf16⟩
  | .local _ .vmem, ⟨1, _⟩ => ⟨S1x1x5760x128, .bf16⟩
  | .local _ .vmem, ⟨2, _⟩ => ⟨S1x1x12288x128, .bf16⟩
  | .local _ .vmem, ⟨3, _⟩ => ⟨S1x1x12288x128, .bf16⟩
  | .local _ .vmem, ⟨4, _⟩ => ⟨S1x1x96x128x128, .bf16⟩
  | .local _ .vmem, ⟨5, _⟩ => ⟨S1x1x96x128x128, .bf16⟩
  | .local _ .vmem, ⟨6, _⟩ => ⟨S1x12288x128, .f32⟩
  | .local _ .vmem, ⟨7, _⟩ => ⟨S1x12288x128, .f32⟩
  | .local _ .vmem, ⟨8, _⟩ => ⟨S1x1x5760, .i32⟩
  | .local _ .vmem, ⟨9, _⟩ => ⟨S1x1x5760, .i32⟩
  | .local _ .vmem, ⟨10, _⟩ => ⟨S1x1x128x5760, .f32⟩
  | .local _ .vmem, ⟨11, _⟩ => ⟨S1x1x128x5760, .f32⟩
  | .local _ .vmem, ⟨12, _⟩ => ⟨S128x512, .f32⟩
  | .local _ .vmem, ⟨13, _⟩ => ⟨S8x512, .f32⟩
  | .local _ .vmem, ⟨14, _⟩ => ⟨S512x512, .f32⟩
  | .local _ .vmem, ⟨15, _⟩ => ⟨S4x512x128, .bf16⟩
  | .local _ .vmem, ⟨16, _⟩ => ⟨S1x512, .f32⟩
  | .local _ .vmem, ⟨17, _⟩ => ⟨S1x5760, .f32⟩
  | .local _ .vmem, ⟨18, _⟩ => ⟨S1x512, .f32⟩
  | .local _ .smem, ⟨0, _⟩ => ⟨S11520, .i32⟩
  | .local _ .smem, ⟨1, _⟩ => ⟨S1, .i32⟩
  | _, _ => ⟨S6x4x5760x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_45 : BitVec 32 := 0#32
  let c12_i32_46 : BitVec 32 := 12#32
  let v53 : BitVec 32 := Scalar.addi c0_i32_45 c12_i32_46
  let c1_i32_47 : BitVec 32 := 1#32
  ⟨c0_i32_45, v53, c1_i32_47⟩
def k0_mult1 (k0_t1 : Fin k0_t1_loop.trips) : BitVec 32 :=
  let c512_i32 : BitVec 32 := 512#32
  let c0_i32_45 : BitVec 32 := 0#32
  let c1_i32_47 : BitVec 32 := 1#32
  let arg19 : BitVec 32 := Scf.iv c0_i32_45 c1_i32_47 k0_t1
  let v55 : BitVec 32 := Scalar.muli c512_i32 arg19
  let c384_i32 : BitVec 32 := 384#32
  let v56 : BitVec 32 := Scalar.subi v55 c384_i32
  let c0_i32_49 : BitVec 32 := 0#32
  let v57 : BitVec 32 := Scalar.maxsi v56 c0_i32_49
  v57
def k0_off1 (k0_t1 : Fin k0_t1_loop.trips) : Fin 4 → Nat :=
  let c0_50 : Index := 0#32
  let c0_51 : Index := 0#32
  let c512_i32 : BitVec 32 := 512#32
  let c0_i32_45 : BitVec 32 := 0#32
  let c1_i32_47 : BitVec 32 := 1#32
  let arg19 : BitVec 32 := Scf.iv c0_i32_45 c1_i32_47 k0_t1
  let v55 : BitVec 32 := Scalar.muli c512_i32 arg19
  let c384_i32 : BitVec 32 := 384#32
  let v56 : BitVec 32 := Scalar.subi v55 c384_i32
  let c0_i32_49 : BitVec 32 := 0#32
  let v57 : BitVec 32 := Scalar.maxsi v56 c0_i32_49
  let v58 : BitVec 32 := v57
  let v59 : Index := Scalar.indexCast v58
  let c0_52 : Index := 0#32
  ![0, 0, v59.toNat, 0]
def k0_off2 (k0_t1 : Fin k0_t1_loop.trips) : Fin 3 → Nat :=
  let c0_53 : Index := 0#32
  let c0_54 : Index := 0#32
  let c512_i32 : BitVec 32 := 512#32
  let c0_i32_45 : BitVec 32 := 0#32
  let c1_i32_47 : BitVec 32 := 1#32
  let arg19 : BitVec 32 := Scf.iv c0_i32_45 c1_i32_47 k0_t1
  let v55 : BitVec 32 := Scalar.muli c512_i32 arg19
  let c384_i32 : BitVec 32 := 384#32
  let v56 : BitVec 32 := Scalar.subi v55 c384_i32
  let c0_i32_49 : BitVec 32 := 0#32
  let v57 : BitVec 32 := Scalar.maxsi v56 c0_i32_49
  let v58 : BitVec 32 := v57
  let v62 : Index := Scalar.indexCast v58
  ![0, 0, v62.toNat]
def k0_mult2 (k0_t1 : Fin k0_t1_loop.trips) : BitVec 32 :=
  let c512_i32_55 : BitVec 32 := 512#32
  let c0_i32_45 : BitVec 32 := 0#32
  let c1_i32_47 : BitVec 32 := 1#32
  let arg19 : BitVec 32 := Scf.iv c0_i32_45 c1_i32_47 k0_t1
  let v65 : BitVec 32 := Scalar.muli c512_i32_55 arg19
  let c384_i32_56 : BitVec 32 := 384#32
  let v66 : BitVec 32 := Scalar.subi v65 c384_i32_56
  let c0_i32_57 : BitVec 32 := 0#32
  let v67 : BitVec 32 := Scalar.maxsi v66 c0_i32_57
  v67
def k0_off3 (i : grid0.Coords) (k0_t1 : Fin k0_t1_loop.trips) : Fin 1 → Nat :=
  let arg0 : BitVec 32 := BitVec.ofNat 32 (i 0).val
  let c1920_i32 : BitVec 32 := 1920#32
  let v126 : BitVec 32 := Scalar.muli arg0 c1920_i32
  let c16_i32_70 : BitVec 32 := 16#32
  let c512_i32_55 : BitVec 32 := 512#32
  let c0_i32_45 : BitVec 32 := 0#32
  let c1_i32_47 : BitVec 32 := 1#32
  let arg19 : BitVec 32 := Scf.iv c0_i32_45 c1_i32_47 k0_t1
  let v65 : BitVec 32 := Scalar.muli c512_i32_55 arg19
  let c384_i32_56 : BitVec 32 := 384#32
  let v66 : BitVec 32 := Scalar.subi v65 c384_i32_56
  let c0_i32_57 : BitVec 32 := 0#32
  let v67 : BitVec 32 := Scalar.maxsi v66 c0_i32_57
  let v68 : BitVec 32 := v67
  let c0_i32_58 : BitVec 32 := 0#32
  let v70 : BitVec 1 := Scalar.cmpi .sgt v68 c0_i32_58
  let v71 : BitVec 32 := Scalar.extui v70
  let c0_i32_59 : BitVec 32 := 0#32
  let v72 : BitVec 1 := Scalar.cmpi .slt v68 c0_i32_59
  let v73 : BitVec 32 := Scalar.extui v72
  let v74 : BitVec 32 := Scalar.subi v71 v73
  let c16_i32 : BitVec 32 := 16#32
  let c0_i32_60 : BitVec 32 := 0#32
  let v75 : BitVec 1 := Scalar.cmpi .sgt c16_i32 c0_i32_60
  let v76 : BitVec 32 := Scalar.extui v75
  let c0_i32_61 : BitVec 32 := 0#32
  let v77 : BitVec 1 := Scalar.cmpi .slt c16_i32 c0_i32_61
  let v78 : BitVec 32 := Scalar.extui v77
  let v79 : BitVec 32 := Scalar.subi v76 v78
  let v80 : BitVec 1 := Scalar.cmpi .ne v74 v79
  let v81 : BitVec 32 := Scalar.remsi v68 c16_i32
  let c0_i32_62 : BitVec 32 := 0#32
  let v82 : BitVec 1 := Scalar.cmpi .ne v81 c0_i32_62
  let v83 : BitVec 1 := Scalar.andi v80 v82
  let v69 : BitVec 32 := Scalar.divsi v68 c16_i32
  let c1_i32_63 : BitVec 32 := 1#32
  let v84 : BitVec 32 := Scalar.subi v69 c1_i32_63
  let v85 : BitVec 32 := Scalar.select v83 v84 v69
  let c0_i32_64 : BitVec 32 := 0#32
  let v87 : BitVec 1 := Scalar.cmpi .sgt v85 c0_i32_64
  let v88 : BitVec 32 := Scalar.extui v87
  let c0_i32_65 : BitVec 32 := 0#32
  let v89 : BitVec 1 := Scalar.cmpi .slt v85 c0_i32_65
  let v90 : BitVec 32 := Scalar.extui v89
  let v91 : BitVec 32 := Scalar.subi v88 v90
  let c3_i32 : BitVec 32 := 3#32
  let c0_i32_66 : BitVec 32 := 0#32
  let v92 : BitVec 1 := Scalar.cmpi .sgt c3_i32 c0_i32_66
  let v93 : BitVec 32 := Scalar.extui v92
  let c0_i32_67 : BitVec 32 := 0#32
  let v94 : BitVec 1 := Scalar.cmpi .slt c3_i32 c0_i32_67
  let v95 : BitVec 32 := Scalar.extui v94
  let v96 : BitVec 32 := Scalar.subi v93 v95
  let v97 : BitVec 1 := Scalar.cmpi .ne v91 v96
  let v98 : BitVec 32 := Scalar.remsi v85 c3_i32
  let c0_i32_68 : BitVec 32 := 0#32
  let v99 : BitVec 1 := Scalar.cmpi .ne v98 c0_i32_68
  let v100 : BitVec 1 := Scalar.andi v97 v99
  let v86 : BitVec 32 := Scalar.divsi v85 c3_i32
  let c1_i32_69 : BitVec 32 := 1#32
  let v101 : BitVec 32 := Scalar.subi v86 c1_i32_69
  let v102 : BitVec 32 := Scalar.select v100 v101 v86
  let v103 : BitVec 32 := Scalar.muli c16_i32_70 v102
  let v127 : BitVec 32 := Scalar.addi v126 v103
  let v128 : Index := Scalar.indexCast v127
  ![v128.toNat]
def k0_off4 (i : grid0.Coords) (k0_t1 : Fin k0_t1_loop.trips) : Fin 1 → Nat :=
  let arg0 : BitVec 32 := BitVec.ofNat 32 (i 0).val
  let c1920_i32_90 : BitVec 32 := 1920#32
  let v148 : BitVec 32 := Scalar.muli arg0 c1920_i32_90
  let c16_i32_79 : BitVec 32 := 16#32
  let c512_i32_55 : BitVec 32 := 512#32
  let c0_i32_45 : BitVec 32 := 0#32
  let c1_i32_47 : BitVec 32 := 1#32
  let arg19 : BitVec 32 := Scf.iv c0_i32_45 c1_i32_47 k0_t1
  let v65 : BitVec 32 := Scalar.muli c512_i32_55 arg19
  let c384_i32_56 : BitVec 32 := 384#32
  let v66 : BitVec 32 := Scalar.subi v65 c384_i32_56
  let c0_i32_57 : BitVec 32 := 0#32
  let v67 : BitVec 32 := Scalar.maxsi v66 c0_i32_57
  let v68 : BitVec 32 := v67
  let c0_i32_58 : BitVec 32 := 0#32
  let v70 : BitVec 1 := Scalar.cmpi .sgt v68 c0_i32_58
  let v71 : BitVec 32 := Scalar.extui v70
  let c0_i32_59 : BitVec 32 := 0#32
  let v72 : BitVec 1 := Scalar.cmpi .slt v68 c0_i32_59
  let v73 : BitVec 32 := Scalar.extui v72
  let v74 : BitVec 32 := Scalar.subi v71 v73
  let c16_i32 : BitVec 32 := 16#32
  let c0_i32_60 : BitVec 32 := 0#32
  let v75 : BitVec 1 := Scalar.cmpi .sgt c16_i32 c0_i32_60
  let v76 : BitVec 32 := Scalar.extui v75
  let c0_i32_61 : BitVec 32 := 0#32
  let v77 : BitVec 1 := Scalar.cmpi .slt c16_i32 c0_i32_61
  let v78 : BitVec 32 := Scalar.extui v77
  let v79 : BitVec 32 := Scalar.subi v76 v78
  let v80 : BitVec 1 := Scalar.cmpi .ne v74 v79
  let v81 : BitVec 32 := Scalar.remsi v68 c16_i32
  let c0_i32_62 : BitVec 32 := 0#32
  let v82 : BitVec 1 := Scalar.cmpi .ne v81 c0_i32_62
  let v83 : BitVec 1 := Scalar.andi v80 v82
  let v69 : BitVec 32 := Scalar.divsi v68 c16_i32
  let c1_i32_63 : BitVec 32 := 1#32
  let v84 : BitVec 32 := Scalar.subi v69 c1_i32_63
  let v85 : BitVec 32 := Scalar.select v83 v84 v69
  let c32_i32 : BitVec 32 := 32#32
  let v104 : BitVec 32 := Scalar.addi v85 c32_i32
  let c1_i32_71 : BitVec 32 := 1#32
  let v105 : BitVec 32 := Scalar.subi v104 c1_i32_71
  let c0_i32_73 : BitVec 32 := 0#32
  let v107 : BitVec 1 := Scalar.cmpi .sgt v105 c0_i32_73
  let v108 : BitVec 32 := Scalar.extui v107
  let c0_i32_74 : BitVec 32 := 0#32
  let v109 : BitVec 1 := Scalar.cmpi .slt v105 c0_i32_74
  let v110 : BitVec 32 := Scalar.extui v109
  let v111 : BitVec 32 := Scalar.subi v108 v110
  let c3_i32_72 : BitVec 32 := 3#32
  let c0_i32_75 : BitVec 32 := 0#32
  let v112 : BitVec 1 := Scalar.cmpi .sgt c3_i32_72 c0_i32_75
  let v113 : BitVec 32 := Scalar.extui v112
  let c0_i32_76 : BitVec 32 := 0#32
  let v114 : BitVec 1 := Scalar.cmpi .slt c3_i32_72 c0_i32_76
  let v115 : BitVec 32 := Scalar.extui v114
  let v116 : BitVec 32 := Scalar.subi v113 v115
  let v117 : BitVec 1 := Scalar.cmpi .ne v111 v116
  let v118 : BitVec 32 := Scalar.remsi v105 c3_i32_72
  let c0_i32_77 : BitVec 32 := 0#32
  let v119 : BitVec 1 := Scalar.cmpi .ne v118 c0_i32_77
  let v120 : BitVec 1 := Scalar.andi v117 v119
  let v106 : BitVec 32 := Scalar.divsi v105 c3_i32_72
  let c1_i32_78 : BitVec 32 := 1#32
  let v121 : BitVec 32 := Scalar.subi v106 c1_i32_78
  let v122 : BitVec 32 := Scalar.select v120 v121 v106
  let v123 : BitVec 32 := Scalar.muli c16_i32_79 v122
  let c16_i32_80 : BitVec 32 := 16#32
  let v124 : BitVec 32 := Scalar.addi v123 c16_i32_80
  let c1_i32_81 : BitVec 32 := 1#32
  let v125 : BitVec 32 := Scalar.subi v124 c1_i32_81
  let v149 : BitVec 32 := Scalar.addi v148 v125
  let v150 : Index := Scalar.indexCast v149
  ![v150.toNat]
@[reducible] def k0_t2_loop (v151 : BitVec 32) : Scf.Loop 32 :=
  let c0_i32_100 : BitVec 32 := 0#32
  let c0_i32_92 : BitVec 32 := 0#32
  let v153 : BitVec 1 := Scalar.cmpi .sgt v151 c0_i32_92
  let v154 : BitVec 32 := Scalar.extui v153
  let c0_i32_93 : BitVec 32 := 0#32
  let v155 : BitVec 1 := Scalar.cmpi .slt v151 c0_i32_93
  let v156 : BitVec 32 := Scalar.extui v155
  let v157 : BitVec 32 := Scalar.subi v154 v156
  let c512_i32_91 : BitVec 32 := 512#32
  let c0_i32_94 : BitVec 32 := 0#32
  let v158 : BitVec 1 := Scalar.cmpi .sgt c512_i32_91 c0_i32_94
  let v159 : BitVec 32 := Scalar.extui v158
  let c0_i32_95 : BitVec 32 := 0#32
  let v160 : BitVec 1 := Scalar.cmpi .slt c512_i32_91 c0_i32_95
  let v161 : BitVec 32 := Scalar.extui v160
  let v162 : BitVec 32 := Scalar.subi v159 v161
  let v163 : BitVec 1 := Scalar.cmpi .ne v157 v162
  let v164 : BitVec 32 := Scalar.remsi v151 c512_i32_91
  let c0_i32_96 : BitVec 32 := 0#32
  let v165 : BitVec 1 := Scalar.cmpi .ne v164 c0_i32_96
  let v166 : BitVec 1 := Scalar.andi v163 v165
  let v152 : BitVec 32 := Scalar.divsi v151 c512_i32_91
  let c1_i32_97 : BitVec 32 := 1#32
  let v167 : BitVec 32 := Scalar.subi v152 c1_i32_97
  let v168 : BitVec 32 := Scalar.select v166 v167 v152
  let c1_i32_98 : BitVec 32 := 1#32
  let v169 : BitVec 32 := Scalar.addi v168 c1_i32_98
  let c2_i32 : BitVec 32 := 2#32
  let v170 : BitVec 32 := Scalar.muli v169 c2_i32
  let v172 : BitVec 32 := Scalar.subi v170 c0_i32_100
  let c1_i32_101 : BitVec 32 := 1#32
  let v174 : BitVec 32 := Scalar.divsi v172 c1_i32_101
  let v175 : BitVec 32 := Scalar.muli v174 c1_i32_101
  let v176 : BitVec 32 := Scalar.addi c0_i32_100 v175
  let c1_i32_102 : BitVec 32 := 1#32
  ⟨c0_i32_100, v176, c1_i32_102⟩
def k0_cond1 (arg17 : BitVec 32) : BitVec 1 :=
  let c1_i32 : BitVec 32 := 1#32
  let v5 : BitVec 1 := Scalar.cmpi .eq arg17 c1_i32
  let v6 : BitVec 32 := Scalar.extui v5
  let c0_i32_2 : BitVec 32 := 0#32
  let v7 : BitVec 1 := Scalar.cmpi .ne v6 c0_i32_2
  v7

def k0_mult3 (v151 : BitVec 32) (k0_t2 : Fin (k0_t2_loop v151).trips) : BitVec 32 :=
  let c0_i32_100 : BitVec 32 := 0#32
  let c1_i32_102 : BitVec 32 := 1#32
  let arg21 : BitVec 32 := Scf.iv c0_i32_100 c1_i32_102 k0_t2
  let c256_i32 : BitVec 32 := 256#32
  let v184 : BitVec 32 := Scalar.muli arg21 c256_i32
  v184
def k0_off5 (v151 : BitVec 32) (k0_t2 : Fin (k0_t2_loop v151).trips) : Fin 4 → Nat :=
  let c0_106 : Index := 0#32
  let c0_107 : Index := 0#32
  let c0_i32_100 : BitVec 32 := 0#32
  let c1_i32_102 : BitVec 32 := 1#32
  let arg21 : BitVec 32 := Scf.iv c0_i32_100 c1_i32_102 k0_t2
  let c256_i32 : BitVec 32 := 256#32
  let v184 : BitVec 32 := Scalar.muli arg21 c256_i32
  let v185 : BitVec 32 := v184
  let v186 : Index := Scalar.indexCast v185
  let c0_108 : Index := 0#32
  ![0, 0, v186.toNat, 0]
def k0_off6 (v151 : BitVec 32) (k0_t2 : Fin (k0_t2_loop v151).trips) : Fin 3 → Nat :=
  let c0_110 : Index := 0#32
  let c0_i32_100 : BitVec 32 := 0#32
  let c1_i32_102 : BitVec 32 := 1#32
  let arg21 : BitVec 32 := Scf.iv c0_i32_100 c1_i32_102 k0_t2
  let c256_i32 : BitVec 32 := 256#32
  let v184 : BitVec 32 := Scalar.muli arg21 c256_i32
  let v185 : BitVec 32 := v184
  let v191 : Index := Scalar.indexCast v185
  let c0_111 : Index := 0#32
  ![0, v191.toNat, 0]
@[reducible] def k0_t3_loop (v151 : BitVec 32) : Scf.Loop 32 :=
  let c0_i32_100 : BitVec 32 := 0#32
  let c0_i32_92 : BitVec 32 := 0#32
  let v153 : BitVec 1 := Scalar.cmpi .sgt v151 c0_i32_92
  let v154 : BitVec 32 := Scalar.extui v153
  let c0_i32_93 : BitVec 32 := 0#32
  let v155 : BitVec 1 := Scalar.cmpi .slt v151 c0_i32_93
  let v156 : BitVec 32 := Scalar.extui v155
  let v157 : BitVec 32 := Scalar.subi v154 v156
  let c512_i32_91 : BitVec 32 := 512#32
  let c0_i32_94 : BitVec 32 := 0#32
  let v158 : BitVec 1 := Scalar.cmpi .sgt c512_i32_91 c0_i32_94
  let v159 : BitVec 32 := Scalar.extui v158
  let c0_i32_95 : BitVec 32 := 0#32
  let v160 : BitVec 1 := Scalar.cmpi .slt c512_i32_91 c0_i32_95
  let v161 : BitVec 32 := Scalar.extui v160
  let v162 : BitVec 32 := Scalar.subi v159 v161
  let v163 : BitVec 1 := Scalar.cmpi .ne v157 v162
  let v164 : BitVec 32 := Scalar.remsi v151 c512_i32_91
  let c0_i32_96 : BitVec 32 := 0#32
  let v165 : BitVec 1 := Scalar.cmpi .ne v164 c0_i32_96
  let v166 : BitVec 1 := Scalar.andi v163 v165
  let v152 : BitVec 32 := Scalar.divsi v151 c512_i32_91
  let c1_i32_97 : BitVec 32 := 1#32
  let v167 : BitVec 32 := Scalar.subi v152 c1_i32_97
  let v168 : BitVec 32 := Scalar.select v166 v167 v152
  let c1_i32_98 : BitVec 32 := 1#32
  let v169 : BitVec 32 := Scalar.addi v168 c1_i32_98
  let c2_i32 : BitVec 32 := 2#32
  let v170 : BitVec 32 := Scalar.muli v169 c2_i32
  let v172 : BitVec 32 := Scalar.subi v170 c0_i32_100
  let c1_i32_101 : BitVec 32 := 1#32
  let v174 : BitVec 32 := Scalar.divsi v172 c1_i32_101
  let v175 : BitVec 32 := Scalar.muli v174 c1_i32_101
  let v176 : BitVec 32 := Scalar.addi c0_i32_100 v175
  let v173 : BitVec 32 := Scalar.addi c0_i32_100 v172
  let c1_i32_103 : BitVec 32 := 1#32
  ⟨v176, v173, c1_i32_103⟩
def k0_mult4 (v151 : BitVec 32) (k0_t3 : Fin (k0_t3_loop v151).trips) : BitVec 32 :=
  let c0_i32_100 : BitVec 32 := 0#32
  let c0_i32_92 : BitVec 32 := 0#32
  let v153 : BitVec 1 := Scalar.cmpi .sgt v151 c0_i32_92
  let v154 : BitVec 32 := Scalar.extui v153
  let c0_i32_93 : BitVec 32 := 0#32
  let v155 : BitVec 1 := Scalar.cmpi .slt v151 c0_i32_93
  let v156 : BitVec 32 := Scalar.extui v155
  let v157 : BitVec 32 := Scalar.subi v154 v156
  let c512_i32_91 : BitVec 32 := 512#32
  let c0_i32_94 : BitVec 32 := 0#32
  let v158 : BitVec 1 := Scalar.cmpi .sgt c512_i32_91 c0_i32_94
  let v159 : BitVec 32 := Scalar.extui v158
  let c0_i32_95 : BitVec 32 := 0#32
  let v160 : BitVec 1 := Scalar.cmpi .slt c512_i32_91 c0_i32_95
  let v161 : BitVec 32 := Scalar.extui v160
  let v162 : BitVec 32 := Scalar.subi v159 v161
  let v163 : BitVec 1 := Scalar.cmpi .ne v157 v162
  let v164 : BitVec 32 := Scalar.remsi v151 c512_i32_91
  let c0_i32_96 : BitVec 32 := 0#32
  let v165 : BitVec 1 := Scalar.cmpi .ne v164 c0_i32_96
  let v166 : BitVec 1 := Scalar.andi v163 v165
  let v152 : BitVec 32 := Scalar.divsi v151 c512_i32_91
  let c1_i32_97 : BitVec 32 := 1#32
  let v167 : BitVec 32 := Scalar.subi v152 c1_i32_97
  let v168 : BitVec 32 := Scalar.select v166 v167 v152
  let c1_i32_98 : BitVec 32 := 1#32
  let v169 : BitVec 32 := Scalar.addi v168 c1_i32_98
  let c2_i32 : BitVec 32 := 2#32
  let v170 : BitVec 32 := Scalar.muli v169 c2_i32
  let v172 : BitVec 32 := Scalar.subi v170 c0_i32_100
  let c1_i32_101 : BitVec 32 := 1#32
  let v174 : BitVec 32 := Scalar.divsi v172 c1_i32_101
  let v175 : BitVec 32 := Scalar.muli v174 c1_i32_101
  let v176 : BitVec 32 := Scalar.addi c0_i32_100 v175
  let c1_i32_103 : BitVec 32 := 1#32
  let arg21 : BitVec 32 := Scf.iv v176 c1_i32_103 k0_t3
  let c256_i32 : BitVec 32 := 256#32
  let v184 : BitVec 32 := Scalar.muli arg21 c256_i32
  v184
def k0_off7 (v151 : BitVec 32) (k0_t3 : Fin (k0_t3_loop v151).trips) : Fin 4 → Nat :=
  let c0_106 : Index := 0#32
  let c0_107 : Index := 0#32
  let c0_i32_100 : BitVec 32 := 0#32
  let c0_i32_92 : BitVec 32 := 0#32
  let v153 : BitVec 1 := Scalar.cmpi .sgt v151 c0_i32_92
  let v154 : BitVec 32 := Scalar.extui v153
  let c0_i32_93 : BitVec 32 := 0#32
  let v155 : BitVec 1 := Scalar.cmpi .slt v151 c0_i32_93
  let v156 : BitVec 32 := Scalar.extui v155
  let v157 : BitVec 32 := Scalar.subi v154 v156
  let c512_i32_91 : BitVec 32 := 512#32
  let c0_i32_94 : BitVec 32 := 0#32
  let v158 : BitVec 1 := Scalar.cmpi .sgt c512_i32_91 c0_i32_94
  let v159 : BitVec 32 := Scalar.extui v158
  let c0_i32_95 : BitVec 32 := 0#32
  let v160 : BitVec 1 := Scalar.cmpi .slt c512_i32_91 c0_i32_95
  let v161 : BitVec 32 := Scalar.extui v160
  let v162 : BitVec 32 := Scalar.subi v159 v161
  let v163 : BitVec 1 := Scalar.cmpi .ne v157 v162
  let v164 : BitVec 32 := Scalar.remsi v151 c512_i32_91
  let c0_i32_96 : BitVec 32 := 0#32
  let v165 : BitVec 1 := Scalar.cmpi .ne v164 c0_i32_96
  let v166 : BitVec 1 := Scalar.andi v163 v165
  let v152 : BitVec 32 := Scalar.divsi v151 c512_i32_91
  let c1_i32_97 : BitVec 32 := 1#32
  let v167 : BitVec 32 := Scalar.subi v152 c1_i32_97
  let v168 : BitVec 32 := Scalar.select v166 v167 v152
  let c1_i32_98 : BitVec 32 := 1#32
  let v169 : BitVec 32 := Scalar.addi v168 c1_i32_98
  let c2_i32 : BitVec 32 := 2#32
  let v170 : BitVec 32 := Scalar.muli v169 c2_i32
  let v172 : BitVec 32 := Scalar.subi v170 c0_i32_100
  let c1_i32_101 : BitVec 32 := 1#32
  let v174 : BitVec 32 := Scalar.divsi v172 c1_i32_101
  let v175 : BitVec 32 := Scalar.muli v174 c1_i32_101
  let v176 : BitVec 32 := Scalar.addi c0_i32_100 v175
  let c1_i32_103 : BitVec 32 := 1#32
  let arg21 : BitVec 32 := Scf.iv v176 c1_i32_103 k0_t3
  let c256_i32 : BitVec 32 := 256#32
  let v184 : BitVec 32 := Scalar.muli arg21 c256_i32
  let v185 : BitVec 32 := v184
  let v186 : Index := Scalar.indexCast v185
  let c0_108 : Index := 0#32
  ![0, 0, v186.toNat, 0]
def k0_off8 (v151 : BitVec 32) (k0_t3 : Fin (k0_t3_loop v151).trips) : Fin 3 → Nat :=
  let c0_110 : Index := 0#32
  let c0_i32_100 : BitVec 32 := 0#32
  let c0_i32_92 : BitVec 32 := 0#32
  let v153 : BitVec 1 := Scalar.cmpi .sgt v151 c0_i32_92
  let v154 : BitVec 32 := Scalar.extui v153
  let c0_i32_93 : BitVec 32 := 0#32
  let v155 : BitVec 1 := Scalar.cmpi .slt v151 c0_i32_93
  let v156 : BitVec 32 := Scalar.extui v155
  let v157 : BitVec 32 := Scalar.subi v154 v156
  let c512_i32_91 : BitVec 32 := 512#32
  let c0_i32_94 : BitVec 32 := 0#32
  let v158 : BitVec 1 := Scalar.cmpi .sgt c512_i32_91 c0_i32_94
  let v159 : BitVec 32 := Scalar.extui v158
  let c0_i32_95 : BitVec 32 := 0#32
  let v160 : BitVec 1 := Scalar.cmpi .slt c512_i32_91 c0_i32_95
  let v161 : BitVec 32 := Scalar.extui v160
  let v162 : BitVec 32 := Scalar.subi v159 v161
  let v163 : BitVec 1 := Scalar.cmpi .ne v157 v162
  let v164 : BitVec 32 := Scalar.remsi v151 c512_i32_91
  let c0_i32_96 : BitVec 32 := 0#32
  let v165 : BitVec 1 := Scalar.cmpi .ne v164 c0_i32_96
  let v166 : BitVec 1 := Scalar.andi v163 v165
  let v152 : BitVec 32 := Scalar.divsi v151 c512_i32_91
  let c1_i32_97 : BitVec 32 := 1#32
  let v167 : BitVec 32 := Scalar.subi v152 c1_i32_97
  let v168 : BitVec 32 := Scalar.select v166 v167 v152
  let c1_i32_98 : BitVec 32 := 1#32
  let v169 : BitVec 32 := Scalar.addi v168 c1_i32_98
  let c2_i32 : BitVec 32 := 2#32
  let v170 : BitVec 32 := Scalar.muli v169 c2_i32
  let v172 : BitVec 32 := Scalar.subi v170 c0_i32_100
  let c1_i32_101 : BitVec 32 := 1#32
  let v174 : BitVec 32 := Scalar.divsi v172 c1_i32_101
  let v175 : BitVec 32 := Scalar.muli v174 c1_i32_101
  let v176 : BitVec 32 := Scalar.addi c0_i32_100 v175
  let c1_i32_103 : BitVec 32 := 1#32
  let arg21 : BitVec 32 := Scf.iv v176 c1_i32_103 k0_t3
  let c256_i32 : BitVec 32 := 256#32
  let v184 : BitVec 32 := Scalar.muli arg21 c256_i32
  let v185 : BitVec 32 := v184
  let v191 : Index := Scalar.indexCast v185
  let c0_111 : Index := 0#32
  ![0, v191.toNat, 0]

def k0_chk1 (arg17 : BitVec 32) (v151 : BitVec 32) : Prop :=
  (∀ (k0_h1 : k0_cond1 arg17 = 1#1), (k0_t2_loop v151).OK) ∧
  (∀ k0_t2 : Fin (k0_t2_loop v151).trips, ∀ (k0_h1 : k0_cond1 arg17 = 1#1), 256 ∣ (k0_mult3 v151 k0_t2).toNat) ∧
  (∀ k0_t2 : Fin (k0_t2_loop v151).trips, ∀ (k0_h1 : k0_cond1 arg17 = 1#1), ∀ a, (k0_off5 v151 k0_t2) a + S1x1x256x128.size a ≤ S1x1x12288x128.size a) ∧
  (∀ k0_t2 : Fin (k0_t2_loop v151).trips, ∀ (k0_h1 : k0_cond1 arg17 = 1#1), ∀ a, (k0_off6 v151 k0_t2) a + S1x256x128.size a ≤ S1x12288x128.size a) ∧
  (∀ (k0_h1 : k0_cond1 arg17 = 1#1), (k0_t3_loop v151).OK) ∧
  (∀ k0_t3 : Fin (k0_t3_loop v151).trips, ∀ (k0_h1 : k0_cond1 arg17 = 1#1), 256 ∣ (k0_mult4 v151 k0_t3).toNat) ∧
  (∀ k0_t3 : Fin (k0_t3_loop v151).trips, ∀ (k0_h1 : k0_cond1 arg17 = 1#1), ∀ a, (k0_off7 v151 k0_t3) a + S1x1x256x128.size a ≤ S1x1x12288x128.size a) ∧
  (∀ k0_t3 : Fin (k0_t3_loop v151).trips, ∀ (k0_h1 : k0_cond1 arg17 = 1#1), ∀ a, (k0_off8 v151 k0_t3) a + S1x256x128.size a ≤ S1x12288x128.size a)
theorem k0_t2_ok : ∀ (arg17 : BitVec 32) (v151 : BitVec 32) (k0_hw1 : k0_chk1 arg17 v151), ∀ (k0_h1 : k0_cond1 arg17 = 1#1), (k0_t2_loop v151).OK := fun arg17 v151 k0_hw1 k0_h1 => k0_hw1.1 k0_h1
theorem k0_mult3_dvd : ∀ (arg17 : BitVec 32) (v151 : BitVec 32) (k0_hw1 : k0_chk1 arg17 v151) (k0_t2 : Fin (k0_t2_loop v151).trips), ∀ (k0_h1 : k0_cond1 arg17 = 1#1), 256 ∣ (k0_mult3 v151 k0_t2).toNat := fun arg17 v151 k0_hw1 k0_t2 k0_h1 => k0_hw1.2.1 k0_t2 k0_h1
theorem k0_off5_inb : ∀ (arg17 : BitVec 32) (v151 : BitVec 32) (k0_hw1 : k0_chk1 arg17 v151) (k0_t2 : Fin (k0_t2_loop v151).trips), ∀ (k0_h1 : k0_cond1 arg17 = 1#1), ∀ a, (k0_off5 v151 k0_t2) a + S1x1x256x128.size a ≤ S1x1x12288x128.size a := fun arg17 v151 k0_hw1 k0_t2 k0_h1 => k0_hw1.2.2.1 k0_t2 k0_h1
theorem k0_off6_inb : ∀ (arg17 : BitVec 32) (v151 : BitVec 32) (k0_hw1 : k0_chk1 arg17 v151) (k0_t2 : Fin (k0_t2_loop v151).trips), ∀ (k0_h1 : k0_cond1 arg17 = 1#1), ∀ a, (k0_off6 v151 k0_t2) a + S1x256x128.size a ≤ S1x12288x128.size a := fun arg17 v151 k0_hw1 k0_t2 k0_h1 => k0_hw1.2.2.2.1 k0_t2 k0_h1
theorem k0_t3_ok : ∀ (arg17 : BitVec 32) (v151 : BitVec 32) (k0_hw1 : k0_chk1 arg17 v151), ∀ (k0_h1 : k0_cond1 arg17 = 1#1), (k0_t3_loop v151).OK := fun arg17 v151 k0_hw1 k0_h1 => k0_hw1.2.2.2.2.1 k0_h1
theorem k0_mult4_dvd : ∀ (arg17 : BitVec 32) (v151 : BitVec 32) (k0_hw1 : k0_chk1 arg17 v151) (k0_t3 : Fin (k0_t3_loop v151).trips), ∀ (k0_h1 : k0_cond1 arg17 = 1#1), 256 ∣ (k0_mult4 v151 k0_t3).toNat := fun arg17 v151 k0_hw1 k0_t3 k0_h1 => k0_hw1.2.2.2.2.2.1 k0_t3 k0_h1
theorem k0_off7_inb : ∀ (arg17 : BitVec 32) (v151 : BitVec 32) (k0_hw1 : k0_chk1 arg17 v151) (k0_t3 : Fin (k0_t3_loop v151).trips), ∀ (k0_h1 : k0_cond1 arg17 = 1#1), ∀ a, (k0_off7 v151 k0_t3) a + S1x1x256x128.size a ≤ S1x1x12288x128.size a := fun arg17 v151 k0_hw1 k0_t3 k0_h1 => k0_hw1.2.2.2.2.2.2.1 k0_t3 k0_h1
theorem k0_off8_inb : ∀ (arg17 : BitVec 32) (v151 : BitVec 32) (k0_hw1 : k0_chk1 arg17 v151) (k0_t3 : Fin (k0_t3_loop v151).trips), ∀ (k0_h1 : k0_cond1 arg17 = 1#1), ∀ a, (k0_off8 v151 k0_t3) a + S1x256x128.size a ≤ S1x12288x128.size a := fun arg17 v151 k0_hw1 k0_t3 k0_h1 => k0_hw1.2.2.2.2.2.2.2 k0_t3 k0_h1

def k0_off9 (k0_t1 : Fin k0_t1_loop.trips) : Fin 2 → Nat :=
  let c0_104 : Index := 0#32
  let c512_i32 : BitVec 32 := 512#32
  let c0_i32_45 : BitVec 32 := 0#32
  let c1_i32_47 : BitVec 32 := 1#32
  let arg19 : BitVec 32 := Scf.iv c0_i32_45 c1_i32_47 k0_t1
  let v55 : BitVec 32 := Scalar.muli c512_i32 arg19
  let c384_i32 : BitVec 32 := 384#32
  let v56 : BitVec 32 := Scalar.subi v55 c384_i32
  let c0_i32_49 : BitVec 32 := 0#32
  let v57 : BitVec 32 := Scalar.maxsi v56 c0_i32_49
  let v58 : BitVec 32 := v57
  let v180 : Index := Scalar.indexCast v58
  ![0, v180.toNat]
def k0_mult5 : BitVec 32 :=
  let c_m384_i32 : BitVec 32 := 4294966912#32
  let c0_i32_16 : BitVec 32 := 0#32
  let v24 : BitVec 32 := Scalar.maxsi c_m384_i32 c0_i32_16
  v24
def k0_off10 : Fin 4 → Nat :=
  let c0_17 : Index := 0#32
  let c0_18 : Index := 0#32
  let c_m384_i32 : BitVec 32 := 4294966912#32
  let c0_i32_16 : BitVec 32 := 0#32
  let v24 : BitVec 32 := Scalar.maxsi c_m384_i32 c0_i32_16
  let v25 : BitVec 32 := v24
  let v26 : Index := Scalar.indexCast v25
  let c0_19 : Index := 0#32
  ![0, 0, v26.toNat, 0]
@[reducible] def k0_t4_loop : Scf.Loop 32 :=
  let c0_i32_34 : BitVec 32 := 0#32
  let c12_i32 : BitVec 32 := 12#32
  let v41 : BitVec 32 := Scalar.addi c0_i32_34 c12_i32
  let c1_i32_35 : BitVec 32 := 1#32
  ⟨c0_i32_34, v41, c1_i32_35⟩
def k0_mult6 (k0_t4 : Fin k0_t4_loop.trips) : BitVec 32 :=
  let c512_i32 : BitVec 32 := 512#32
  let c0_i32_34 : BitVec 32 := 0#32
  let c1_i32_35 : BitVec 32 := 1#32
  let arg19 : BitVec 32 := Scf.iv c0_i32_34 c1_i32_35 k0_t4
  let v53 : BitVec 32 := Scalar.muli c512_i32 arg19
  let c384_i32 : BitVec 32 := 384#32
  let v54 : BitVec 32 := Scalar.subi v53 c384_i32
  let c0_i32_44 : BitVec 32 := 0#32
  let v55 : BitVec 32 := Scalar.maxsi v54 c0_i32_44
  v55
def k0_off11 (i : grid0.Coords) (k0_t4 : Fin k0_t4_loop.trips) : Fin 1 → Nat :=
  let arg0 : BitVec 32 := BitVec.ofNat 32 (i 0).val
  let c1920_i32 : BitVec 32 := 1920#32
  let v114 : BitVec 32 := Scalar.muli arg0 c1920_i32
  let c16_i32_57 : BitVec 32 := 16#32
  let c512_i32 : BitVec 32 := 512#32
  let c0_i32_34 : BitVec 32 := 0#32
  let c1_i32_35 : BitVec 32 := 1#32
  let arg19 : BitVec 32 := Scf.iv c0_i32_34 c1_i32_35 k0_t4
  let v53 : BitVec 32 := Scalar.muli c512_i32 arg19
  let c384_i32 : BitVec 32 := 384#32
  let v54 : BitVec 32 := Scalar.subi v53 c384_i32
  let c0_i32_44 : BitVec 32 := 0#32
  let v55 : BitVec 32 := Scalar.maxsi v54 c0_i32_44
  let v56 : BitVec 32 := v55
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c16_i32 : BitVec 32 := 16#32
  let c0_i32_47 : BitVec 32 := 0#32
  let v63 : BitVec 1 := Scalar.cmpi .sgt c16_i32 c0_i32_47
  let v64 : BitVec 32 := Scalar.extui v63
  let c0_i32_48 : BitVec 32 := 0#32
  let v65 : BitVec 1 := Scalar.cmpi .slt c16_i32 c0_i32_48
  let v66 : BitVec 32 := Scalar.extui v65
  let v67 : BitVec 32 := Scalar.subi v64 v66
  let v68 : BitVec 1 := Scalar.cmpi .ne v62 v67
  let v69 : BitVec 32 := Scalar.remsi v56 c16_i32
  let c0_i32_49 : BitVec 32 := 0#32
  let v70 : BitVec 1 := Scalar.cmpi .ne v69 c0_i32_49
  let v71 : BitVec 1 := Scalar.andi v68 v70
  let v57 : BitVec 32 := Scalar.divsi v56 c16_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c3_i32 : BitVec 32 := 3#32
  let c0_i32_53 : BitVec 32 := 0#32
  let v80 : BitVec 1 := Scalar.cmpi .sgt c3_i32 c0_i32_53
  let v81 : BitVec 32 := Scalar.extui v80
  let c0_i32_54 : BitVec 32 := 0#32
  let v82 : BitVec 1 := Scalar.cmpi .slt c3_i32 c0_i32_54
  let v83 : BitVec 32 := Scalar.extui v82
  let v84 : BitVec 32 := Scalar.subi v81 v83
  let v85 : BitVec 1 := Scalar.cmpi .ne v79 v84
  let v86 : BitVec 32 := Scalar.remsi v73 c3_i32
  let c0_i32_55 : BitVec 32 := 0#32
  let v87 : BitVec 1 := Scalar.cmpi .ne v86 c0_i32_55
  let v88 : BitVec 1 := Scalar.andi v85 v87
  let v74 : BitVec 32 := Scalar.divsi v73 c3_i32
  let c1_i32_56 : BitVec 32 := 1#32
  let v89 : BitVec 32 := Scalar.subi v74 c1_i32_56
  let v90 : BitVec 32 := Scalar.select v88 v89 v74
  let v91 : BitVec 32 := Scalar.muli c16_i32_57 v90
  let v115 : BitVec 32 := Scalar.addi v114 v91
  let v116 : Index := Scalar.indexCast v115
  ![v116.toNat]
def k0_off12 (i : grid0.Coords) (k0_t4 : Fin k0_t4_loop.trips) : Fin 1 → Nat :=
  let arg0 : BitVec 32 := BitVec.ofNat 32 (i 0).val
  let c1920_i32_77 : BitVec 32 := 1920#32
  let v136 : BitVec 32 := Scalar.muli arg0 c1920_i32_77
  let c16_i32_66 : BitVec 32 := 16#32
  let c512_i32 : BitVec 32 := 512#32
  let c0_i32_34 : BitVec 32 := 0#32
  let c1_i32_35 : BitVec 32 := 1#32
  let arg19 : BitVec 32 := Scf.iv c0_i32_34 c1_i32_35 k0_t4
  let v53 : BitVec 32 := Scalar.muli c512_i32 arg19
  let c384_i32 : BitVec 32 := 384#32
  let v54 : BitVec 32 := Scalar.subi v53 c384_i32
  let c0_i32_44 : BitVec 32 := 0#32
  let v55 : BitVec 32 := Scalar.maxsi v54 c0_i32_44
  let v56 : BitVec 32 := v55
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c16_i32 : BitVec 32 := 16#32
  let c0_i32_47 : BitVec 32 := 0#32
  let v63 : BitVec 1 := Scalar.cmpi .sgt c16_i32 c0_i32_47
  let v64 : BitVec 32 := Scalar.extui v63
  let c0_i32_48 : BitVec 32 := 0#32
  let v65 : BitVec 1 := Scalar.cmpi .slt c16_i32 c0_i32_48
  let v66 : BitVec 32 := Scalar.extui v65
  let v67 : BitVec 32 := Scalar.subi v64 v66
  let v68 : BitVec 1 := Scalar.cmpi .ne v62 v67
  let v69 : BitVec 32 := Scalar.remsi v56 c16_i32
  let c0_i32_49 : BitVec 32 := 0#32
  let v70 : BitVec 1 := Scalar.cmpi .ne v69 c0_i32_49
  let v71 : BitVec 1 := Scalar.andi v68 v70
  let v57 : BitVec 32 := Scalar.divsi v56 c16_i32
  let c1_i32_50 : BitVec 32 := 1#32
  let v72 : BitVec 32 := Scalar.subi v57 c1_i32_50
  let v73 : BitVec 32 := Scalar.select v71 v72 v57
  let c32_i32 : BitVec 32 := 32#32
  let v92 : BitVec 32 := Scalar.addi v73 c32_i32
  let c1_i32_58 : BitVec 32 := 1#32
  let v93 : BitVec 32 := Scalar.subi v92 c1_i32_58
  let c0_i32_60 : BitVec 32 := 0#32
  let v95 : BitVec 1 := Scalar.cmpi .sgt v93 c0_i32_60
  let v96 : BitVec 32 := Scalar.extui v95
  let c0_i32_61 : BitVec 32 := 0#32
  let v97 : BitVec 1 := Scalar.cmpi .slt v93 c0_i32_61
  let v98 : BitVec 32 := Scalar.extui v97
  let v99 : BitVec 32 := Scalar.subi v96 v98
  let c3_i32_59 : BitVec 32 := 3#32
  let c0_i32_62 : BitVec 32 := 0#32
  let v100 : BitVec 1 := Scalar.cmpi .sgt c3_i32_59 c0_i32_62
  let v101 : BitVec 32 := Scalar.extui v100
  let c0_i32_63 : BitVec 32 := 0#32
  let v102 : BitVec 1 := Scalar.cmpi .slt c3_i32_59 c0_i32_63
  let v103 : BitVec 32 := Scalar.extui v102
  let v104 : BitVec 32 := Scalar.subi v101 v103
  let v105 : BitVec 1 := Scalar.cmpi .ne v99 v104
  let v106 : BitVec 32 := Scalar.remsi v93 c3_i32_59
  let c0_i32_64 : BitVec 32 := 0#32
  let v107 : BitVec 1 := Scalar.cmpi .ne v106 c0_i32_64
  let v108 : BitVec 1 := Scalar.andi v105 v107
  let v94 : BitVec 32 := Scalar.divsi v93 c3_i32_59
  let c1_i32_65 : BitVec 32 := 1#32
  let v109 : BitVec 32 := Scalar.subi v94 c1_i32_65
  let v110 : BitVec 32 := Scalar.select v108 v109 v94
  let v111 : BitVec 32 := Scalar.muli c16_i32_66 v110
  let c16_i32_67 : BitVec 32 := 16#32
  let v112 : BitVec 32 := Scalar.addi v111 c16_i32_67
  let c1_i32_68 : BitVec 32 := 1#32
  let v113 : BitVec 32 := Scalar.subi v112 c1_i32_68
  let v137 : BitVec 32 := Scalar.addi v136 v113
  let v138 : Index := Scalar.indexCast v137
  ![v138.toNat]
@[reducible] def k0_t5_loop (v139 : BitVec 32) : Scf.Loop 32 :=
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_88 : BitVec 32 := 1#32
  ⟨c0_i32_86, v162, c1_i32_88⟩

def k0_mult7 (k0_t4 : Fin k0_t4_loop.trips) : BitVec 32 :=
  let c512_i32_168 : BitVec 32 := 512#32
  let c0_i32_34 : BitVec 32 := 0#32
  let c1_i32_35 : BitVec 32 := 1#32
  let arg19 : BitVec 32 := Scf.iv c0_i32_34 c1_i32_35 k0_t4
  let c11_i32 : BitVec 32 := 11#32
  let v249 : BitVec 32 := Scalar.minsi arg19 c11_i32
  let v250 : BitVec 32 := Scalar.muli c512_i32_168 v249
  let c384_i32_169 : BitVec 32 := 384#32
  let v251 : BitVec 32 := Scalar.subi v250 c384_i32_169
  let c0_i32_170 : BitVec 32 := 0#32
  let v252 : BitVec 32 := Scalar.maxsi v251 c0_i32_170
  v252
def k0_off13 (i : grid0.Coords) (k0_t4 : Fin k0_t4_loop.trips) : Fin 1 → Nat :=
  let arg0 : BitVec 32 := BitVec.ofNat 32 (i 0).val
  let c1920_i32_198 : BitVec 32 := 1920#32
  let v311 : BitVec 32 := Scalar.muli arg0 c1920_i32_198
  let c16_i32_185 : BitVec 32 := 16#32
  let c512_i32_168 : BitVec 32 := 512#32
  let c0_i32_34 : BitVec 32 := 0#32
  let c1_i32_35 : BitVec 32 := 1#32
  let arg19 : BitVec 32 := Scf.iv c0_i32_34 c1_i32_35 k0_t4
  let c11_i32 : BitVec 32 := 11#32
  let v249 : BitVec 32 := Scalar.minsi arg19 c11_i32
  let v250 : BitVec 32 := Scalar.muli c512_i32_168 v249
  let c384_i32_169 : BitVec 32 := 384#32
  let v251 : BitVec 32 := Scalar.subi v250 c384_i32_169
  let c0_i32_170 : BitVec 32 := 0#32
  let v252 : BitVec 32 := Scalar.maxsi v251 c0_i32_170
  let v253 : BitVec 32 := v252
  let c0_i32_172 : BitVec 32 := 0#32
  let v255 : BitVec 1 := Scalar.cmpi .sgt v253 c0_i32_172
  let v256 : BitVec 32 := Scalar.extui v255
  let c0_i32_173 : BitVec 32 := 0#32
  let v257 : BitVec 1 := Scalar.cmpi .slt v253 c0_i32_173
  let v258 : BitVec 32 := Scalar.extui v257
  let v259 : BitVec 32 := Scalar.subi v256 v258
  let c16_i32_171 : BitVec 32 := 16#32
  let c0_i32_174 : BitVec 32 := 0#32
  let v260 : BitVec 1 := Scalar.cmpi .sgt c16_i32_171 c0_i32_174
  let v261 : BitVec 32 := Scalar.extui v260
  let c0_i32_175 : BitVec 32 := 0#32
  let v262 : BitVec 1 := Scalar.cmpi .slt c16_i32_171 c0_i32_175
  let v263 : BitVec 32 := Scalar.extui v262
  let v264 : BitVec 32 := Scalar.subi v261 v263
  let v265 : BitVec 1 := Scalar.cmpi .ne v259 v264
  let v266 : BitVec 32 := Scalar.remsi v253 c16_i32_171
  let c0_i32_176 : BitVec 32 := 0#32
  let v267 : BitVec 1 := Scalar.cmpi .ne v266 c0_i32_176
  let v268 : BitVec 1 := Scalar.andi v265 v267
  let v254 : BitVec 32 := Scalar.divsi v253 c16_i32_171
  let c1_i32_177 : BitVec 32 := 1#32
  let v269 : BitVec 32 := Scalar.subi v254 c1_i32_177
  let v270 : BitVec 32 := Scalar.select v268 v269 v254
  let c0_i32_179 : BitVec 32 := 0#32
  let v272 : BitVec 1 := Scalar.cmpi .sgt v270 c0_i32_179
  let v273 : BitVec 32 := Scalar.extui v272
  let c0_i32_180 : BitVec 32 := 0#32
  let v274 : BitVec 1 := Scalar.cmpi .slt v270 c0_i32_180
  let v275 : BitVec 32 := Scalar.extui v274
  let v276 : BitVec 32 := Scalar.subi v273 v275
  let c3_i32_178 : BitVec 32 := 3#32
  let c0_i32_181 : BitVec 32 := 0#32
  let v277 : BitVec 1 := Scalar.cmpi .sgt c3_i32_178 c0_i32_181
  let v278 : BitVec 32 := Scalar.extui v277
  let c0_i32_182 : BitVec 32 := 0#32
  let v279 : BitVec 1 := Scalar.cmpi .slt c3_i32_178 c0_i32_182
  let v280 : BitVec 32 := Scalar.extui v279
  let v281 : BitVec 32 := Scalar.subi v278 v280
  let v282 : BitVec 1 := Scalar.cmpi .ne v276 v281
  let v283 : BitVec 32 := Scalar.remsi v270 c3_i32_178
  let c0_i32_183 : BitVec 32 := 0#32
  let v284 : BitVec 1 := Scalar.cmpi .ne v283 c0_i32_183
  let v285 : BitVec 1 := Scalar.andi v282 v284
  let v271 : BitVec 32 := Scalar.divsi v270 c3_i32_178
  let c1_i32_184 : BitVec 32 := 1#32
  let v286 : BitVec 32 := Scalar.subi v271 c1_i32_184
  let v287 : BitVec 32 := Scalar.select v285 v286 v271
  let v288 : BitVec 32 := Scalar.muli c16_i32_185 v287
  let v312 : BitVec 32 := Scalar.addi v311 v288
  let v313 : Index := Scalar.indexCast v312
  ![v313.toNat]
def k0_off14 (i : grid0.Coords) (k0_t4 : Fin k0_t4_loop.trips) : Fin 1 → Nat :=
  let arg0 : BitVec 32 := BitVec.ofNat 32 (i 0).val
  let c1920_i32_207 : BitVec 32 := 1920#32
  let v333 : BitVec 32 := Scalar.muli arg0 c1920_i32_207
  let c16_i32_195 : BitVec 32 := 16#32
  let c512_i32_168 : BitVec 32 := 512#32
  let c0_i32_34 : BitVec 32 := 0#32
  let c1_i32_35 : BitVec 32 := 1#32
  let arg19 : BitVec 32 := Scf.iv c0_i32_34 c1_i32_35 k0_t4
  let c11_i32 : BitVec 32 := 11#32
  let v249 : BitVec 32 := Scalar.minsi arg19 c11_i32
  let v250 : BitVec 32 := Scalar.muli c512_i32_168 v249
  let c384_i32_169 : BitVec 32 := 384#32
  let v251 : BitVec 32 := Scalar.subi v250 c384_i32_169
  let c0_i32_170 : BitVec 32 := 0#32
  let v252 : BitVec 32 := Scalar.maxsi v251 c0_i32_170
  let v253 : BitVec 32 := v252
  let c0_i32_172 : BitVec 32 := 0#32
  let v255 : BitVec 1 := Scalar.cmpi .sgt v253 c0_i32_172
  let v256 : BitVec 32 := Scalar.extui v255
  let c0_i32_173 : BitVec 32 := 0#32
  let v257 : BitVec 1 := Scalar.cmpi .slt v253 c0_i32_173
  let v258 : BitVec 32 := Scalar.extui v257
  let v259 : BitVec 32 := Scalar.subi v256 v258
  let c16_i32_171 : BitVec 32 := 16#32
  let c0_i32_174 : BitVec 32 := 0#32
  let v260 : BitVec 1 := Scalar.cmpi .sgt c16_i32_171 c0_i32_174
  let v261 : BitVec 32 := Scalar.extui v260
  let c0_i32_175 : BitVec 32 := 0#32
  let v262 : BitVec 1 := Scalar.cmpi .slt c16_i32_171 c0_i32_175
  let v263 : BitVec 32 := Scalar.extui v262
  let v264 : BitVec 32 := Scalar.subi v261 v263
  let v265 : BitVec 1 := Scalar.cmpi .ne v259 v264
  let v266 : BitVec 32 := Scalar.remsi v253 c16_i32_171
  let c0_i32_176 : BitVec 32 := 0#32
  let v267 : BitVec 1 := Scalar.cmpi .ne v266 c0_i32_176
  let v268 : BitVec 1 := Scalar.andi v265 v267
  let v254 : BitVec 32 := Scalar.divsi v253 c16_i32_171
  let c1_i32_177 : BitVec 32 := 1#32
  let v269 : BitVec 32 := Scalar.subi v254 c1_i32_177
  let v270 : BitVec 32 := Scalar.select v268 v269 v254
  let c32_i32_186 : BitVec 32 := 32#32
  let v289 : BitVec 32 := Scalar.addi v270 c32_i32_186
  let c1_i32_187 : BitVec 32 := 1#32
  let v290 : BitVec 32 := Scalar.subi v289 c1_i32_187
  let c0_i32_189 : BitVec 32 := 0#32
  let v292 : BitVec 1 := Scalar.cmpi .sgt v290 c0_i32_189
  let v293 : BitVec 32 := Scalar.extui v292
  let c0_i32_190 : BitVec 32 := 0#32
  let v294 : BitVec 1 := Scalar.cmpi .slt v290 c0_i32_190
  let v295 : BitVec 32 := Scalar.extui v294
  let v296 : BitVec 32 := Scalar.subi v293 v295
  let c3_i32_188 : BitVec 32 := 3#32
  let c0_i32_191 : BitVec 32 := 0#32
  let v297 : BitVec 1 := Scalar.cmpi .sgt c3_i32_188 c0_i32_191
  let v298 : BitVec 32 := Scalar.extui v297
  let c0_i32_192 : BitVec 32 := 0#32
  let v299 : BitVec 1 := Scalar.cmpi .slt c3_i32_188 c0_i32_192
  let v300 : BitVec 32 := Scalar.extui v299
  let v301 : BitVec 32 := Scalar.subi v298 v300
  let v302 : BitVec 1 := Scalar.cmpi .ne v296 v301
  let v303 : BitVec 32 := Scalar.remsi v290 c3_i32_188
  let c0_i32_193 : BitVec 32 := 0#32
  let v304 : BitVec 1 := Scalar.cmpi .ne v303 c0_i32_193
  let v305 : BitVec 1 := Scalar.andi v302 v304
  let v291 : BitVec 32 := Scalar.divsi v290 c3_i32_188
  let c1_i32_194 : BitVec 32 := 1#32
  let v306 : BitVec 32 := Scalar.subi v291 c1_i32_194
  let v307 : BitVec 32 := Scalar.select v305 v306 v291
  let v308 : BitVec 32 := Scalar.muli c16_i32_195 v307
  let c16_i32_196 : BitVec 32 := 16#32
  let v309 : BitVec 32 := Scalar.addi v308 c16_i32_196
  let c1_i32_197 : BitVec 32 := 1#32
  let v310 : BitVec 32 := Scalar.subi v309 c1_i32_197
  let v334 : BitVec 32 := Scalar.addi v333 v310
  let v335 : Index := Scalar.indexCast v334
  ![v335.toNat]
def k0_mult8 (k0_t4 : Fin k0_t4_loop.trips) : BitVec 32 :=
  let c512_i32_217 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v356 : BitVec 32 := Scalar.muli c512_i32_217 v355
  let c384_i32_218 : BitVec 32 := 384#32
  let v357 : BitVec 32 := Scalar.subi v356 c384_i32_218
  let c0_i32_219 : BitVec 32 := 0#32
  let v358 : BitVec 32 := Scalar.maxsi v357 c0_i32_219
  v358
def k0_cond2 (v139 : BitVec 32) (k0_t5 : Fin (k0_t5_loop v139).trips) : BitVec 1 :=
  let c0_i32_86 : BitVec 32 := 0#32
  let c1_i32_88 : BitVec 32 := 1#32
  let arg21 : BitVec 32 := Scf.iv c0_i32_86 c1_i32_88 k0_t5
  let c0_i32_270 : BitVec 32 := 0#32
  let v468 : BitVec 1 := Scalar.cmpi .eq arg21 c0_i32_270
  let v469 : BitVec 32 := Scalar.extui v468
  let c0_i32_271 : BitVec 32 := 0#32
  let v470 : BitVec 1 := Scalar.cmpi .ne v469 c0_i32_271
  v470

def k0_mult9 (k0_t4 : Fin k0_t4_loop.trips) : BitVec 32 :=
  let c512_i32_274 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v477 : BitVec 32 := Scalar.muli c512_i32_274 v355
  let c384_i32_275 : BitVec 32 := 384#32
  let v478 : BitVec 32 := Scalar.subi v477 c384_i32_275
  let c0_i32_276 : BitVec 32 := 0#32
  let v479 : BitVec 32 := Scalar.maxsi v478 c0_i32_276
  v479
def k0_off15 (k0_t4 : Fin k0_t4_loop.trips) : Fin 3 → Nat :=
  let c0_283 : Index := 0#32
  let c0_284 : Index := 0#32
  let c512_i32_274 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v477 : BitVec 32 := Scalar.muli c512_i32_274 v355
  let c384_i32_275 : BitVec 32 := 384#32
  let v478 : BitVec 32 := Scalar.subi v477 c384_i32_275
  let c0_i32_276 : BitVec 32 := 0#32
  let v479 : BitVec 32 := Scalar.maxsi v478 c0_i32_276
  let v480 : BitVec 32 := v479
  let v502 : Index := Scalar.indexCast v480
  ![0, 0, v502.toNat]
def k0_off16 (k0_t4 : Fin k0_t4_loop.trips) : Fin 2 → Nat :=
  let c0_289 : Index := 0#32
  let c512_i32_274 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v477 : BitVec 32 := Scalar.muli c512_i32_274 v355
  let c384_i32_275 : BitVec 32 := 384#32
  let v478 : BitVec 32 := Scalar.subi v477 c384_i32_275
  let c0_i32_276 : BitVec 32 := 0#32
  let v479 : BitVec 32 := Scalar.maxsi v478 c0_i32_276
  let v480 : BitVec 32 := v479
  let v516 : Index := Scalar.indexCast v480
  ![0, v516.toNat]
def k0_mult10 (k0_t4 : Fin k0_t4_loop.trips) (v139 : BitVec 32) (k0_t5 : Fin (k0_t5_loop v139).trips) (v442 : BitVec 32) : BitVec 32 :=
  let c512_i32_274 : BitVec 32 := 512#32
  let c0_i32_86 : BitVec 32 := 0#32
  let c1_i32_88 : BitVec 32 := 1#32
  let arg21 : BitVec 32 := Scf.iv c0_i32_86 c1_i32_88 k0_t5
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let c1_i32_266 : BitVec 32 := 1#32
  let v463 : BitVec 32 := Scalar.addi v355 c1_i32_266
  let v464 : BitVec 32 := Scalar.select v462 v463 v355
  let c11_i32_269 : BitVec 32 := 11#32
  let v467 : BitVec 32 := Scalar.minsi v464 c11_i32_269
  let v477 : BitVec 32 := Scalar.muli c512_i32_274 v467
  let c384_i32_275 : BitVec 32 := 384#32
  let v478 : BitVec 32 := Scalar.subi v477 c384_i32_275
  let c0_i32_276 : BitVec 32 := 0#32
  let v479 : BitVec 32 := Scalar.maxsi v478 c0_i32_276
  v479
def k0_cond3 (v139 : BitVec 32) (k0_t5 : Fin (k0_t5_loop v139).trips) (v314 : BitVec 32) : BitVec 1 :=
  let c0_i32_86 : BitVec 32 := 0#32
  let c1_i32_88 : BitVec 32 := 1#32
  let arg21 : BitVec 32 := Scf.iv c0_i32_86 c1_i32_88 k0_t5
  let c1_i32_199 : BitVec 32 := 1#32
  let v315 : BitVec 32 := Scalar.addi v314 c1_i32_199
  let c0_i32_201 : BitVec 32 := 0#32
  let v317 : BitVec 1 := Scalar.cmpi .sgt v315 c0_i32_201
  let v318 : BitVec 32 := Scalar.extui v317
  let c0_i32_202 : BitVec 32 := 0#32
  let v319 : BitVec 1 := Scalar.cmpi .slt v315 c0_i32_202
  let v320 : BitVec 32 := Scalar.extui v319
  let v321 : BitVec 32 := Scalar.subi v318 v320
  let c512_i32_200 : BitVec 32 := 512#32
  let c0_i32_203 : BitVec 32 := 0#32
  let v322 : BitVec 1 := Scalar.cmpi .sgt c512_i32_200 c0_i32_203
  let v323 : BitVec 32 := Scalar.extui v322
  let c0_i32_204 : BitVec 32 := 0#32
  let v324 : BitVec 1 := Scalar.cmpi .slt c512_i32_200 c0_i32_204
  let v325 : BitVec 32 := Scalar.extui v324
  let v326 : BitVec 32 := Scalar.subi v323 v325
  let v327 : BitVec 1 := Scalar.cmpi .ne v321 v326
  let v328 : BitVec 32 := Scalar.remsi v315 c512_i32_200
  let c0_i32_205 : BitVec 32 := 0#32
  let v329 : BitVec 1 := Scalar.cmpi .ne v328 c0_i32_205
  let v330 : BitVec 1 := Scalar.andi v327 v329
  let v316 : BitVec 32 := Scalar.divsi v315 c512_i32_200
  let c1_i32_206 : BitVec 32 := 1#32
  let v331 : BitVec 32 := Scalar.subi v316 c1_i32_206
  let v332 : BitVec 32 := Scalar.select v330 v331 v316
  let v471 : BitVec 1 := Scalar.cmpi .slt arg21 v332
  let v472 : BitVec 32 := Scalar.extui v471
  let c0_i32_272 : BitVec 32 := 0#32
  let v473 : BitVec 1 := Scalar.cmpi .ne v472 c0_i32_272
  v473

def k0_off17 (k0_t4 : Fin k0_t4_loop.trips) (v139 : BitVec 32) (k0_t5 : Fin (k0_t5_loop v139).trips) (v442 : BitVec 32) : Fin 4 → Nat :=
  let c0_277 : Index := 0#32
  let c0_278 : Index := 0#32
  let c512_i32_274 : BitVec 32 := 512#32
  let c0_i32_86 : BitVec 32 := 0#32
  let c1_i32_88 : BitVec 32 := 1#32
  let arg21 : BitVec 32 := Scf.iv c0_i32_86 c1_i32_88 k0_t5
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let c1_i32_266 : BitVec 32 := 1#32
  let v463 : BitVec 32 := Scalar.addi v355 c1_i32_266
  let v464 : BitVec 32 := Scalar.select v462 v463 v355
  let c11_i32_269 : BitVec 32 := 11#32
  let v467 : BitVec 32 := Scalar.minsi v464 c11_i32_269
  let v477 : BitVec 32 := Scalar.muli c512_i32_274 v467
  let c384_i32_275 : BitVec 32 := 384#32
  let v478 : BitVec 32 := Scalar.subi v477 c384_i32_275
  let c0_i32_276 : BitVec 32 := 0#32
  let v479 : BitVec 32 := Scalar.maxsi v478 c0_i32_276
  let v480 : BitVec 32 := v479
  let v481 : Index := Scalar.indexCast v480
  let c0_279 : Index := 0#32
  ![0, 0, v481.toNat, 0]
def k0_mult11 (k0_t4 : Fin k0_t4_loop.trips) : BitVec 32 :=
  let c512_i32_280 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v484 : BitVec 32 := Scalar.muli c512_i32_280 v355
  let c384_i32_281 : BitVec 32 := 384#32
  let v485 : BitVec 32 := Scalar.subi v484 c384_i32_281
  let c0_i32_282 : BitVec 32 := 0#32
  let v486 : BitVec 32 := Scalar.maxsi v485 c0_i32_282
  v486
def k0_off18 (k0_t4 : Fin k0_t4_loop.trips) : Fin 3 → Nat :=
  let c0_283 : Index := 0#32
  let c0_284 : Index := 0#32
  let c512_i32_280 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v484 : BitVec 32 := Scalar.muli c512_i32_280 v355
  let c384_i32_281 : BitVec 32 := 384#32
  let v485 : BitVec 32 := Scalar.subi v484 c384_i32_281
  let c0_i32_282 : BitVec 32 := 0#32
  let v486 : BitVec 32 := Scalar.maxsi v485 c0_i32_282
  let v487 : BitVec 32 := v486
  let v488 : Index := Scalar.indexCast v487
  ![0, 0, v488.toNat]
def k0_off19 (arg22 : BitVec 32) (c0_i32_290 : BitVec 32) (c0_i32_291 : BitVec 32) : Fin 5 → Nat :=
  let c0_292 : Index := 0#32
  let c0_293 : Index := 0#32
  let c4_i32_289 : BitVec 32 := 4#32
  let v493 : BitVec 32 := Scalar.muli arg22 c4_i32_289
  let v494 : BitVec 32 := Scalar.addi v493 c0_i32_290
  let v495 : BitVec 32 := Scalar.addi v494 c0_i32_291
  let v496 : Index := Scalar.indexCast v495
  let c0_294 : Index := 0#32
  let c0_295 : Index := 0#32
  ![0, 0, v496.toNat, 0, 0]

def k0_mult12 (v139 : BitVec 32) (k0_t5 : Fin (k0_t5_loop v139).trips) : BitVec 32 :=
  let c0_i32_86 : BitVec 32 := 0#32
  let c1_i32_88 : BitVec 32 := 1#32
  let arg21 : BitVec 32 := Scf.iv c0_i32_86 c1_i32_88 k0_t5
  let c512_i32_314 : BitVec 32 := 512#32
  let v515 : BitVec 32 := Scalar.muli arg21 c512_i32_314
  let c0_i32_315 : BitVec 32 := 0#32
  let v516 : BitVec 32 := Scalar.addi v515 c0_i32_315
  v516
def k0_off20 (v139 : BitVec 32) (k0_t5 : Fin (k0_t5_loop v139).trips) (c0_i32_315 : BitVec 32) : Fin 3 → Nat :=
  let c0_316 : Index := 0#32
  let c0_i32_86 : BitVec 32 := 0#32
  let c1_i32_88 : BitVec 32 := 1#32
  let arg21 : BitVec 32 := Scf.iv c0_i32_86 c1_i32_88 k0_t5
  let c512_i32_314 : BitVec 32 := 512#32
  let v515 : BitVec 32 := Scalar.muli arg21 c512_i32_314
  let v516 : BitVec 32 := Scalar.addi v515 c0_i32_315
  let v517 : BitVec 32 := v516
  let v519 : Index := Scalar.indexCast v517
  let c0_317 : Index := 0#32
  ![0, v519.toNat, 0]
def k0_mult13 (v139 : BitVec 32) (k0_t5 : Fin (k0_t5_loop v139).trips) (v442 : BitVec 32) : BitVec 32 :=
  let c0_i32_86 : BitVec 32 := 0#32
  let c1_i32_88 : BitVec 32 := 1#32
  let arg21 : BitVec 32 := Scf.iv c0_i32_86 c1_i32_88 k0_t5
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_268 : BitVec 32 := 0#32
  let c1_i32_267 : BitVec 32 := 1#32
  let v465 : BitVec 32 := Scalar.addi arg21 c1_i32_267
  let v466 : BitVec 32 := Scalar.select v462 c0_i32_268 v465
  let c512_i32_362 : BitVec 32 := 512#32
  let v615 : BitVec 32 := Scalar.muli v466 c512_i32_362
  let c0_i32_363 : BitVec 32 := 0#32
  let v616 : BitVec 32 := Scalar.addi v615 c0_i32_363
  v616
def k0_off21 (v139 : BitVec 32) (k0_t5 : Fin (k0_t5_loop v139).trips) (v442 : BitVec 32) (c0_i32_363 : BitVec 32) : Fin 4 → Nat :=
  let c0_364 : Index := 0#32
  let c0_365 : Index := 0#32
  let c0_i32_86 : BitVec 32 := 0#32
  let c1_i32_88 : BitVec 32 := 1#32
  let arg21 : BitVec 32 := Scf.iv c0_i32_86 c1_i32_88 k0_t5
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_268 : BitVec 32 := 0#32
  let c1_i32_267 : BitVec 32 := 1#32
  let v465 : BitVec 32 := Scalar.addi arg21 c1_i32_267
  let v466 : BitVec 32 := Scalar.select v462 c0_i32_268 v465
  let c512_i32_362 : BitVec 32 := 512#32
  let v615 : BitVec 32 := Scalar.muli v466 c512_i32_362
  let v616 : BitVec 32 := Scalar.addi v615 c0_i32_363
  let v617 : BitVec 32 := v616
  let v618 : Index := Scalar.indexCast v617
  let c0_366 : Index := 0#32
  ![0, 0, v618.toNat, 0]
def k0_mult14 (v139 : BitVec 32) (k0_t5 : Fin (k0_t5_loop v139).trips) : BitVec 32 :=
  let c0_i32_86 : BitVec 32 := 0#32
  let c1_i32_88 : BitVec 32 := 1#32
  let arg21 : BitVec 32 := Scf.iv c0_i32_86 c1_i32_88 k0_t5
  let c512_i32_395 : BitVec 32 := 512#32
  let v647 : BitVec 32 := Scalar.muli arg21 c512_i32_395
  let c256_i32 : BitVec 32 := 256#32
  let v648 : BitVec 32 := Scalar.addi v647 c256_i32
  v648
def k0_mult15 (v139 : BitVec 32) (k0_t5 : Fin (k0_t5_loop v139).trips) (v442 : BitVec 32) : BitVec 32 :=
  let c0_i32_86 : BitVec 32 := 0#32
  let c1_i32_88 : BitVec 32 := 1#32
  let arg21 : BitVec 32 := Scf.iv c0_i32_86 c1_i32_88 k0_t5
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_268 : BitVec 32 := 0#32
  let c1_i32_267 : BitVec 32 := 1#32
  let v465 : BitVec 32 := Scalar.addi arg21 c1_i32_267
  let v466 : BitVec 32 := Scalar.select v462 c0_i32_268 v465
  let c512_i32_445 : BitVec 32 := 512#32
  let v747 : BitVec 32 := Scalar.muli v466 c512_i32_445
  let c256_i32_446 : BitVec 32 := 256#32
  let v748 : BitVec 32 := Scalar.addi v747 c256_i32_446
  v748
def k0_mult16 (k0_t4 : Fin k0_t4_loop.trips) (v139 : BitVec 32) (k0_t5 : Fin (k0_t5_loop v139).trips) (v442 : BitVec 32) : BitVec 32 :=
  let c512_i32_274 : BitVec 32 := 512#32
  let c0_i32_86 : BitVec 32 := 0#32
  let c1_i32_88 : BitVec 32 := 1#32
  let arg21 : BitVec 32 := Scf.iv c0_i32_86 c1_i32_88 k0_t5
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let c1_i32_266 : BitVec 32 := 1#32
  let v463 : BitVec 32 := Scalar.addi v355 c1_i32_266
  let v464 : BitVec 32 := Scalar.select v462 v463 v355
  let c11_i32_269 : BitVec 32 := 11#32
  let v467 : BitVec 32 := Scalar.minsi v464 c11_i32_269
  let v477 : BitVec 32 := Scalar.muli c512_i32_274 v467
  let c384_i32_275 : BitVec 32 := 384#32
  let v478 : BitVec 32 := Scalar.subi v477 c384_i32_275
  let c0_i32_276 : BitVec 32 := 0#32
  let v479 : BitVec 32 := Scalar.maxsi v478 c0_i32_276
  v479
def k0_cond4 (v139 : BitVec 32) (k0_t5 : Fin (k0_t5_loop v139).trips) (v314 : BitVec 32) : BitVec 1 :=
  let c0_i32_86 : BitVec 32 := 0#32
  let c1_i32_88 : BitVec 32 := 1#32
  let arg21 : BitVec 32 := Scf.iv c0_i32_86 c1_i32_88 k0_t5
  let c1_i32_199 : BitVec 32 := 1#32
  let v315 : BitVec 32 := Scalar.addi v314 c1_i32_199
  let c0_i32_201 : BitVec 32 := 0#32
  let v317 : BitVec 1 := Scalar.cmpi .sgt v315 c0_i32_201
  let v318 : BitVec 32 := Scalar.extui v317
  let c0_i32_202 : BitVec 32 := 0#32
  let v319 : BitVec 1 := Scalar.cmpi .slt v315 c0_i32_202
  let v320 : BitVec 32 := Scalar.extui v319
  let v321 : BitVec 32 := Scalar.subi v318 v320
  let c512_i32_200 : BitVec 32 := 512#32
  let c0_i32_203 : BitVec 32 := 0#32
  let v322 : BitVec 1 := Scalar.cmpi .sgt c512_i32_200 c0_i32_203
  let v323 : BitVec 32 := Scalar.extui v322
  let c0_i32_204 : BitVec 32 := 0#32
  let v324 : BitVec 1 := Scalar.cmpi .slt c512_i32_200 c0_i32_204
  let v325 : BitVec 32 := Scalar.extui v324
  let v326 : BitVec 32 := Scalar.subi v323 v325
  let v327 : BitVec 1 := Scalar.cmpi .ne v321 v326
  let v328 : BitVec 32 := Scalar.remsi v315 c512_i32_200
  let c0_i32_205 : BitVec 32 := 0#32
  let v329 : BitVec 1 := Scalar.cmpi .ne v328 c0_i32_205
  let v330 : BitVec 1 := Scalar.andi v327 v329
  let v316 : BitVec 32 := Scalar.divsi v315 c512_i32_200
  let c1_i32_206 : BitVec 32 := 1#32
  let v331 : BitVec 32 := Scalar.subi v316 c1_i32_206
  let v332 : BitVec 32 := Scalar.select v330 v331 v316
  let v474 : BitVec 1 := Scalar.cmpi .sge arg21 v332
  let v475 : BitVec 32 := Scalar.extui v474
  let c0_i32_273 : BitVec 32 := 0#32
  let v476 : BitVec 1 := Scalar.cmpi .ne v475 c0_i32_273
  v476

def k0_off22 (k0_t4 : Fin k0_t4_loop.trips) (v139 : BitVec 32) (k0_t5 : Fin (k0_t5_loop v139).trips) (v442 : BitVec 32) : Fin 4 → Nat :=
  let c0_277 : Index := 0#32
  let c0_278 : Index := 0#32
  let c512_i32_274 : BitVec 32 := 512#32
  let c0_i32_86 : BitVec 32 := 0#32
  let c1_i32_88 : BitVec 32 := 1#32
  let arg21 : BitVec 32 := Scf.iv c0_i32_86 c1_i32_88 k0_t5
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let c1_i32_266 : BitVec 32 := 1#32
  let v463 : BitVec 32 := Scalar.addi v355 c1_i32_266
  let v464 : BitVec 32 := Scalar.select v462 v463 v355
  let c11_i32_269 : BitVec 32 := 11#32
  let v467 : BitVec 32 := Scalar.minsi v464 c11_i32_269
  let v477 : BitVec 32 := Scalar.muli c512_i32_274 v467
  let c384_i32_275 : BitVec 32 := 384#32
  let v478 : BitVec 32 := Scalar.subi v477 c384_i32_275
  let c0_i32_276 : BitVec 32 := 0#32
  let v479 : BitVec 32 := Scalar.maxsi v478 c0_i32_276
  let v480 : BitVec 32 := v479
  let v481 : Index := Scalar.indexCast v480
  let c0_279 : Index := 0#32
  ![0, 0, v481.toNat, 0]
def k0_mult17 (k0_t4 : Fin k0_t4_loop.trips) : BitVec 32 :=
  let c512_i32_280 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v484 : BitVec 32 := Scalar.muli c512_i32_280 v355
  let c384_i32_281 : BitVec 32 := 384#32
  let v485 : BitVec 32 := Scalar.subi v484 c384_i32_281
  let c0_i32_282 : BitVec 32 := 0#32
  let v486 : BitVec 32 := Scalar.maxsi v485 c0_i32_282
  v486
def k0_off23 (k0_t4 : Fin k0_t4_loop.trips) : Fin 3 → Nat :=
  let c0_283 : Index := 0#32
  let c0_284 : Index := 0#32
  let c512_i32_280 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v484 : BitVec 32 := Scalar.muli c512_i32_280 v355
  let c384_i32_281 : BitVec 32 := 384#32
  let v485 : BitVec 32 := Scalar.subi v484 c384_i32_281
  let c0_i32_282 : BitVec 32 := 0#32
  let v486 : BitVec 32 := Scalar.maxsi v485 c0_i32_282
  let v487 : BitVec 32 := v486
  let v488 : Index := Scalar.indexCast v487
  ![0, 0, v488.toNat]
def k0_off24 (arg22 : BitVec 32) (c0_i32_290 : BitVec 32) (c0_i32_291 : BitVec 32) : Fin 5 → Nat :=
  let c0_292 : Index := 0#32
  let c0_293 : Index := 0#32
  let c4_i32_289 : BitVec 32 := 4#32
  let v493 : BitVec 32 := Scalar.muli arg22 c4_i32_289
  let v494 : BitVec 32 := Scalar.addi v493 c0_i32_290
  let v495 : BitVec 32 := Scalar.addi v494 c0_i32_291
  let v496 : Index := Scalar.indexCast v495
  let c0_294 : Index := 0#32
  let c0_295 : Index := 0#32
  ![0, 0, v496.toNat, 0, 0]
def k0_mult18 (v139 : BitVec 32) (k0_t5 : Fin (k0_t5_loop v139).trips) : BitVec 32 :=
  let c0_i32_86 : BitVec 32 := 0#32
  let c1_i32_88 : BitVec 32 := 1#32
  let arg21 : BitVec 32 := Scf.iv c0_i32_86 c1_i32_88 k0_t5
  let c512_i32_314 : BitVec 32 := 512#32
  let v515 : BitVec 32 := Scalar.muli arg21 c512_i32_314
  let c0_i32_315 : BitVec 32 := 0#32
  let v516 : BitVec 32 := Scalar.addi v515 c0_i32_315
  v516
def k0_off25 (v139 : BitVec 32) (k0_t5 : Fin (k0_t5_loop v139).trips) (c0_i32_315 : BitVec 32) : Fin 3 → Nat :=
  let c0_316 : Index := 0#32
  let c0_i32_86 : BitVec 32 := 0#32
  let c1_i32_88 : BitVec 32 := 1#32
  let arg21 : BitVec 32 := Scf.iv c0_i32_86 c1_i32_88 k0_t5
  let c512_i32_314 : BitVec 32 := 512#32
  let v515 : BitVec 32 := Scalar.muli arg21 c512_i32_314
  let v516 : BitVec 32 := Scalar.addi v515 c0_i32_315
  let v517 : BitVec 32 := v516
  let v519 : Index := Scalar.indexCast v517
  let c0_317 : Index := 0#32
  ![0, v519.toNat, 0]
def k0_mult19 (v139 : BitVec 32) (k0_t5 : Fin (k0_t5_loop v139).trips) (v442 : BitVec 32) : BitVec 32 :=
  let c0_i32_86 : BitVec 32 := 0#32
  let c1_i32_88 : BitVec 32 := 1#32
  let arg21 : BitVec 32 := Scf.iv c0_i32_86 c1_i32_88 k0_t5
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_268 : BitVec 32 := 0#32
  let c1_i32_267 : BitVec 32 := 1#32
  let v465 : BitVec 32 := Scalar.addi arg21 c1_i32_267
  let v466 : BitVec 32 := Scalar.select v462 c0_i32_268 v465
  let c512_i32_366 : BitVec 32 := 512#32
  let v647 : BitVec 32 := Scalar.muli v466 c512_i32_366
  let c0_i32_367 : BitVec 32 := 0#32
  let v648 : BitVec 32 := Scalar.addi v647 c0_i32_367
  v648
def k0_off26 (v139 : BitVec 32) (k0_t5 : Fin (k0_t5_loop v139).trips) (v442 : BitVec 32) (c0_i32_367 : BitVec 32) : Fin 4 → Nat :=
  let c0_368 : Index := 0#32
  let c0_369 : Index := 0#32
  let c0_i32_86 : BitVec 32 := 0#32
  let c1_i32_88 : BitVec 32 := 1#32
  let arg21 : BitVec 32 := Scf.iv c0_i32_86 c1_i32_88 k0_t5
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_268 : BitVec 32 := 0#32
  let c1_i32_267 : BitVec 32 := 1#32
  let v465 : BitVec 32 := Scalar.addi arg21 c1_i32_267
  let v466 : BitVec 32 := Scalar.select v462 c0_i32_268 v465
  let c512_i32_366 : BitVec 32 := 512#32
  let v647 : BitVec 32 := Scalar.muli v466 c512_i32_366
  let v648 : BitVec 32 := Scalar.addi v647 c0_i32_367
  let v649 : BitVec 32 := v648
  let v650 : Index := Scalar.indexCast v649
  let c0_370 : Index := 0#32
  ![0, 0, v650.toNat, 0]
def k0_mult20 (v139 : BitVec 32) (k0_t5 : Fin (k0_t5_loop v139).trips) : BitVec 32 :=
  let c0_i32_86 : BitVec 32 := 0#32
  let c1_i32_88 : BitVec 32 := 1#32
  let arg21 : BitVec 32 := Scf.iv c0_i32_86 c1_i32_88 k0_t5
  let c512_i32_399 : BitVec 32 := 512#32
  let v679 : BitVec 32 := Scalar.muli arg21 c512_i32_399
  let c256_i32 : BitVec 32 := 256#32
  let v680 : BitVec 32 := Scalar.addi v679 c256_i32
  v680

def k0_chk4 (v139 : BitVec 32) (k0_t5 : Fin (k0_t5_loop v139).trips) (arg22 : BitVec 32) (v314 : BitVec 32) : Prop :=
  (∀ (k0_h3 : k0_cond3 v139 k0_t5 v314 = 1#1), ∀ (r₁ : Fin 2) (r₂ : Fin 2), ∀ a, (k0_off19 arg22 (BitVec.ofNat 32 (2 * r₁.val)) (BitVec.ofNat 32 r₂.val)) a + S1x1x1x128x128.size a ≤ S1x1x96x128x128.size a) ∧
  (∀ (k0_h3 : k0_cond3 v139 k0_t5 v314 = 1#1), 256 ∣ (k0_mult12 v139 k0_t5).toNat) ∧
  (∀ (k0_h3 : k0_cond3 v139 k0_t5 v314 = 1#1), ∀ (r : Fin 2), ∀ a, (k0_off20 v139 k0_t5 (BitVec.ofNat 32 (256 * r.val))) a + S1x256x128.size a ≤ S1x12288x128.size a) ∧
  (∀ (k0_h3 : k0_cond3 v139 k0_t5 v314 = 1#1), 256 ∣ (k0_mult14 v139 k0_t5).toNat) ∧
  (∀ (k0_h4 : k0_cond4 v139 k0_t5 v314 = 1#1), ∀ (r₁ : Fin 2) (r₂ : Fin 2), ∀ a, (k0_off24 arg22 (BitVec.ofNat 32 (2 * r₁.val)) (BitVec.ofNat 32 r₂.val)) a + S1x1x1x128x128.size a ≤ S1x1x96x128x128.size a) ∧
  (∀ (k0_h4 : k0_cond4 v139 k0_t5 v314 = 1#1), 256 ∣ (k0_mult18 v139 k0_t5).toNat) ∧
  (∀ (k0_h4 : k0_cond4 v139 k0_t5 v314 = 1#1), ∀ (r : Fin 2), ∀ a, (k0_off25 v139 k0_t5 (BitVec.ofNat 32 (256 * r.val))) a + S1x256x128.size a ≤ S1x12288x128.size a) ∧
  (∀ (k0_h4 : k0_cond4 v139 k0_t5 v314 = 1#1), 256 ∣ (k0_mult20 v139 k0_t5).toNat)
theorem k0_off19_inb : ∀ (v139 : BitVec 32) (k0_t5 : Fin (k0_t5_loop v139).trips) (arg22 : BitVec 32) (v314 : BitVec 32) (k0_hw4 : k0_chk4 v139 k0_t5 arg22 v314), ∀ (k0_h3 : k0_cond3 v139 k0_t5 v314 = 1#1), ∀ (r₁ : Fin 2) (r₂ : Fin 2), ∀ a, (k0_off19 arg22 (BitVec.ofNat 32 (2 * r₁.val)) (BitVec.ofNat 32 r₂.val)) a + S1x1x1x128x128.size a ≤ S1x1x96x128x128.size a := fun v139 k0_t5 arg22 v314 k0_hw4 k0_h3 r₁ r₂ => k0_hw4.1 k0_h3 r₁ r₂
theorem k0_mult12_dvd : ∀ (v139 : BitVec 32) (k0_t5 : Fin (k0_t5_loop v139).trips) (arg22 : BitVec 32) (v314 : BitVec 32) (k0_hw4 : k0_chk4 v139 k0_t5 arg22 v314), ∀ (k0_h3 : k0_cond3 v139 k0_t5 v314 = 1#1), 256 ∣ (k0_mult12 v139 k0_t5).toNat := fun v139 k0_t5 arg22 v314 k0_hw4 k0_h3 => k0_hw4.2.1 k0_h3
theorem k0_off20_inb : ∀ (v139 : BitVec 32) (k0_t5 : Fin (k0_t5_loop v139).trips) (arg22 : BitVec 32) (v314 : BitVec 32) (k0_hw4 : k0_chk4 v139 k0_t5 arg22 v314), ∀ (k0_h3 : k0_cond3 v139 k0_t5 v314 = 1#1), ∀ (r : Fin 2), ∀ a, (k0_off20 v139 k0_t5 (BitVec.ofNat 32 (256 * r.val))) a + S1x256x128.size a ≤ S1x12288x128.size a := fun v139 k0_t5 arg22 v314 k0_hw4 k0_h3 r => k0_hw4.2.2.1 k0_h3 r
theorem k0_mult14_dvd : ∀ (v139 : BitVec 32) (k0_t5 : Fin (k0_t5_loop v139).trips) (arg22 : BitVec 32) (v314 : BitVec 32) (k0_hw4 : k0_chk4 v139 k0_t5 arg22 v314), ∀ (k0_h3 : k0_cond3 v139 k0_t5 v314 = 1#1), 256 ∣ (k0_mult14 v139 k0_t5).toNat := fun v139 k0_t5 arg22 v314 k0_hw4 k0_h3 => k0_hw4.2.2.2.1 k0_h3
theorem k0_off24_inb : ∀ (v139 : BitVec 32) (k0_t5 : Fin (k0_t5_loop v139).trips) (arg22 : BitVec 32) (v314 : BitVec 32) (k0_hw4 : k0_chk4 v139 k0_t5 arg22 v314), ∀ (k0_h4 : k0_cond4 v139 k0_t5 v314 = 1#1), ∀ (r₁ : Fin 2) (r₂ : Fin 2), ∀ a, (k0_off24 arg22 (BitVec.ofNat 32 (2 * r₁.val)) (BitVec.ofNat 32 r₂.val)) a + S1x1x1x128x128.size a ≤ S1x1x96x128x128.size a := fun v139 k0_t5 arg22 v314 k0_hw4 k0_h4 r₁ r₂ => k0_hw4.2.2.2.2.1 k0_h4 r₁ r₂
theorem k0_mult18_dvd : ∀ (v139 : BitVec 32) (k0_t5 : Fin (k0_t5_loop v139).trips) (arg22 : BitVec 32) (v314 : BitVec 32) (k0_hw4 : k0_chk4 v139 k0_t5 arg22 v314), ∀ (k0_h4 : k0_cond4 v139 k0_t5 v314 = 1#1), 256 ∣ (k0_mult18 v139 k0_t5).toNat := fun v139 k0_t5 arg22 v314 k0_hw4 k0_h4 => k0_hw4.2.2.2.2.2.1 k0_h4
theorem k0_off25_inb : ∀ (v139 : BitVec 32) (k0_t5 : Fin (k0_t5_loop v139).trips) (arg22 : BitVec 32) (v314 : BitVec 32) (k0_hw4 : k0_chk4 v139 k0_t5 arg22 v314), ∀ (k0_h4 : k0_cond4 v139 k0_t5 v314 = 1#1), ∀ (r : Fin 2), ∀ a, (k0_off25 v139 k0_t5 (BitVec.ofNat 32 (256 * r.val))) a + S1x256x128.size a ≤ S1x12288x128.size a := fun v139 k0_t5 arg22 v314 k0_hw4 k0_h4 r => k0_hw4.2.2.2.2.2.2.1 k0_h4 r
theorem k0_mult20_dvd : ∀ (v139 : BitVec 32) (k0_t5 : Fin (k0_t5_loop v139).trips) (arg22 : BitVec 32) (v314 : BitVec 32) (k0_hw4 : k0_chk4 v139 k0_t5 arg22 v314), ∀ (k0_h4 : k0_cond4 v139 k0_t5 v314 = 1#1), 256 ∣ (k0_mult20 v139 k0_t5).toNat := fun v139 k0_t5 arg22 v314 k0_hw4 k0_h4 => k0_hw4.2.2.2.2.2.2.2 k0_h4

def k0_mult21 (v139 : BitVec 32) (k0_t5 : Fin (k0_t5_loop v139).trips) (v442 : BitVec 32) : BitVec 32 :=
  let c0_i32_86 : BitVec 32 := 0#32
  let c1_i32_88 : BitVec 32 := 1#32
  let arg21 : BitVec 32 := Scf.iv c0_i32_86 c1_i32_88 k0_t5
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_268 : BitVec 32 := 0#32
  let c1_i32_267 : BitVec 32 := 1#32
  let v465 : BitVec 32 := Scalar.addi arg21 c1_i32_267
  let v466 : BitVec 32 := Scalar.select v462 c0_i32_268 v465
  let c512_i32_453 : BitVec 32 := 512#32
  let v811 : BitVec 32 := Scalar.muli v466 c512_i32_453
  let c256_i32_454 : BitVec 32 := 256#32
  let v812 : BitVec 32 := Scalar.addi v811 c256_i32_454
  v812

def k0_chk3 (k0_t4 : Fin k0_t4_loop.trips) (v139 : BitVec 32) (k0_t5 : Fin (k0_t5_loop v139).trips) (v314 : BitVec 32) (v442 : BitVec 32) : Prop :=
  (∀ (k0_h3 : k0_cond3 v139 k0_t5 v314 = 1#1), 128 ∣ (k0_mult10 k0_t4 v139 k0_t5 v442).toNat) ∧
  (∀ (k0_h3 : k0_cond3 v139 k0_t5 v314 = 1#1), ∀ a, (k0_off17 k0_t4 v139 k0_t5 v442) a + S1x1x512x128.size a ≤ S1x1x5760x128.size a) ∧
  (∀ (k0_h3 : k0_cond3 v139 k0_t5 v314 = 1#1), 256 ∣ (k0_mult13 v139 k0_t5 v442).toNat) ∧
  (∀ (k0_h3 : k0_cond3 v139 k0_t5 v314 = 1#1), ∀ (r : Fin 2), ∀ a, (k0_off21 v139 k0_t5 v442 (BitVec.ofNat 32 (256 * r.val))) a + S1x1x256x128.size a ≤ S1x1x12288x128.size a) ∧
  (∀ (k0_h3 : k0_cond3 v139 k0_t5 v314 = 1#1), 256 ∣ (k0_mult15 v139 k0_t5 v442).toNat) ∧
  (∀ (k0_h4 : k0_cond4 v139 k0_t5 v314 = 1#1), 128 ∣ (k0_mult16 k0_t4 v139 k0_t5 v442).toNat) ∧
  (∀ (k0_h4 : k0_cond4 v139 k0_t5 v314 = 1#1), ∀ a, (k0_off22 k0_t4 v139 k0_t5 v442) a + S1x1x512x128.size a ≤ S1x1x5760x128.size a) ∧
  (∀ (k0_h4 : k0_cond4 v139 k0_t5 v314 = 1#1), 256 ∣ (k0_mult19 v139 k0_t5 v442).toNat) ∧
  (∀ (k0_h4 : k0_cond4 v139 k0_t5 v314 = 1#1), ∀ (r : Fin 2), ∀ a, (k0_off26 v139 k0_t5 v442 (BitVec.ofNat 32 (256 * r.val))) a + S1x1x256x128.size a ≤ S1x1x12288x128.size a) ∧
  (∀ (k0_h4 : k0_cond4 v139 k0_t5 v314 = 1#1), 256 ∣ (k0_mult21 v139 k0_t5 v442).toNat)
theorem k0_mult10_dvd : ∀ (k0_t4 : Fin k0_t4_loop.trips) (v139 : BitVec 32) (k0_t5 : Fin (k0_t5_loop v139).trips) (v314 : BitVec 32) (v442 : BitVec 32) (k0_hw3 : k0_chk3 k0_t4 v139 k0_t5 v314 v442), ∀ (k0_h3 : k0_cond3 v139 k0_t5 v314 = 1#1), 128 ∣ (k0_mult10 k0_t4 v139 k0_t5 v442).toNat := fun k0_t4 v139 k0_t5 v314 v442 k0_hw3 k0_h3 => k0_hw3.1 k0_h3
theorem k0_off17_inb : ∀ (k0_t4 : Fin k0_t4_loop.trips) (v139 : BitVec 32) (k0_t5 : Fin (k0_t5_loop v139).trips) (v314 : BitVec 32) (v442 : BitVec 32) (k0_hw3 : k0_chk3 k0_t4 v139 k0_t5 v314 v442), ∀ (k0_h3 : k0_cond3 v139 k0_t5 v314 = 1#1), ∀ a, (k0_off17 k0_t4 v139 k0_t5 v442) a + S1x1x512x128.size a ≤ S1x1x5760x128.size a := fun k0_t4 v139 k0_t5 v314 v442 k0_hw3 k0_h3 => k0_hw3.2.1 k0_h3
theorem k0_mult13_dvd : ∀ (k0_t4 : Fin k0_t4_loop.trips) (v139 : BitVec 32) (k0_t5 : Fin (k0_t5_loop v139).trips) (v314 : BitVec 32) (v442 : BitVec 32) (k0_hw3 : k0_chk3 k0_t4 v139 k0_t5 v314 v442), ∀ (k0_h3 : k0_cond3 v139 k0_t5 v314 = 1#1), 256 ∣ (k0_mult13 v139 k0_t5 v442).toNat := fun k0_t4 v139 k0_t5 v314 v442 k0_hw3 k0_h3 => k0_hw3.2.2.1 k0_h3
theorem k0_off21_inb : ∀ (k0_t4 : Fin k0_t4_loop.trips) (v139 : BitVec 32) (k0_t5 : Fin (k0_t5_loop v139).trips) (v314 : BitVec 32) (v442 : BitVec 32) (k0_hw3 : k0_chk3 k0_t4 v139 k0_t5 v314 v442), ∀ (k0_h3 : k0_cond3 v139 k0_t5 v314 = 1#1), ∀ (r : Fin 2), ∀ a, (k0_off21 v139 k0_t5 v442 (BitVec.ofNat 32 (256 * r.val))) a + S1x1x256x128.size a ≤ S1x1x12288x128.size a := fun k0_t4 v139 k0_t5 v314 v442 k0_hw3 k0_h3 r => k0_hw3.2.2.2.1 k0_h3 r
theorem k0_mult15_dvd : ∀ (k0_t4 : Fin k0_t4_loop.trips) (v139 : BitVec 32) (k0_t5 : Fin (k0_t5_loop v139).trips) (v314 : BitVec 32) (v442 : BitVec 32) (k0_hw3 : k0_chk3 k0_t4 v139 k0_t5 v314 v442), ∀ (k0_h3 : k0_cond3 v139 k0_t5 v314 = 1#1), 256 ∣ (k0_mult15 v139 k0_t5 v442).toNat := fun k0_t4 v139 k0_t5 v314 v442 k0_hw3 k0_h3 => k0_hw3.2.2.2.2.1 k0_h3
theorem k0_mult16_dvd : ∀ (k0_t4 : Fin k0_t4_loop.trips) (v139 : BitVec 32) (k0_t5 : Fin (k0_t5_loop v139).trips) (v314 : BitVec 32) (v442 : BitVec 32) (k0_hw3 : k0_chk3 k0_t4 v139 k0_t5 v314 v442), ∀ (k0_h4 : k0_cond4 v139 k0_t5 v314 = 1#1), 128 ∣ (k0_mult16 k0_t4 v139 k0_t5 v442).toNat := fun k0_t4 v139 k0_t5 v314 v442 k0_hw3 k0_h4 => k0_hw3.2.2.2.2.2.1 k0_h4
theorem k0_off22_inb : ∀ (k0_t4 : Fin k0_t4_loop.trips) (v139 : BitVec 32) (k0_t5 : Fin (k0_t5_loop v139).trips) (v314 : BitVec 32) (v442 : BitVec 32) (k0_hw3 : k0_chk3 k0_t4 v139 k0_t5 v314 v442), ∀ (k0_h4 : k0_cond4 v139 k0_t5 v314 = 1#1), ∀ a, (k0_off22 k0_t4 v139 k0_t5 v442) a + S1x1x512x128.size a ≤ S1x1x5760x128.size a := fun k0_t4 v139 k0_t5 v314 v442 k0_hw3 k0_h4 => k0_hw3.2.2.2.2.2.2.1 k0_h4
theorem k0_mult19_dvd : ∀ (k0_t4 : Fin k0_t4_loop.trips) (v139 : BitVec 32) (k0_t5 : Fin (k0_t5_loop v139).trips) (v314 : BitVec 32) (v442 : BitVec 32) (k0_hw3 : k0_chk3 k0_t4 v139 k0_t5 v314 v442), ∀ (k0_h4 : k0_cond4 v139 k0_t5 v314 = 1#1), 256 ∣ (k0_mult19 v139 k0_t5 v442).toNat := fun k0_t4 v139 k0_t5 v314 v442 k0_hw3 k0_h4 => k0_hw3.2.2.2.2.2.2.2.1 k0_h4
theorem k0_off26_inb : ∀ (k0_t4 : Fin k0_t4_loop.trips) (v139 : BitVec 32) (k0_t5 : Fin (k0_t5_loop v139).trips) (v314 : BitVec 32) (v442 : BitVec 32) (k0_hw3 : k0_chk3 k0_t4 v139 k0_t5 v314 v442), ∀ (k0_h4 : k0_cond4 v139 k0_t5 v314 = 1#1), ∀ (r : Fin 2), ∀ a, (k0_off26 v139 k0_t5 v442 (BitVec.ofNat 32 (256 * r.val))) a + S1x1x256x128.size a ≤ S1x1x12288x128.size a := fun k0_t4 v139 k0_t5 v314 v442 k0_hw3 k0_h4 r => k0_hw3.2.2.2.2.2.2.2.2.1 k0_h4 r
theorem k0_mult21_dvd : ∀ (k0_t4 : Fin k0_t4_loop.trips) (v139 : BitVec 32) (k0_t5 : Fin (k0_t5_loop v139).trips) (v314 : BitVec 32) (v442 : BitVec 32) (k0_hw3 : k0_chk3 k0_t4 v139 k0_t5 v314 v442), ∀ (k0_h4 : k0_cond4 v139 k0_t5 v314 = 1#1), 256 ∣ (k0_mult21 v139 k0_t5 v442).toNat := fun k0_t4 v139 k0_t5 v314 v442 k0_hw3 k0_h4 => k0_hw3.2.2.2.2.2.2.2.2.2 k0_h4

@[reducible] def k0_t6_loop (v139 : BitVec 32) : Scf.Loop 32 :=
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let v159 : BitVec 32 := Scalar.addi c0_i32_86 v158
  let c1_i32_89 : BitVec 32 := 1#32
  ⟨v162, v159, c1_i32_89⟩

def k0_chk2 (k0_t4 : Fin k0_t4_loop.trips) (v139 : BitVec 32) : Prop :=
  ((k0_t5_loop v139).OK) ∧
  (∀ k0_t5 : Fin (k0_t5_loop v139).trips, ∀ (k0_h2 : k0_cond2 v139 k0_t5 = 1#1), 128 ∣ (k0_mult9 k0_t4).toNat) ∧
  (∀ k0_t5 : Fin (k0_t5_loop v139).trips, ∀ (k0_h2 : k0_cond2 v139 k0_t5 = 1#1), ∀ a, (k0_off15 k0_t4) a + S1x1x512.size a ≤ S1x1x5760.size a) ∧
  (∀ k0_t5 : Fin (k0_t5_loop v139).trips, ∀ (k0_h2 : k0_cond2 v139 k0_t5 = 1#1), ∀ a, (k0_off16 k0_t4) a + S1x512.size a ≤ S1x5760.size a) ∧
  ((k0_t6_loop v139).OK)
theorem k0_t5_ok : ∀ (k0_t4 : Fin k0_t4_loop.trips) (v139 : BitVec 32) (k0_hw2 : k0_chk2 k0_t4 v139), (k0_t5_loop v139).OK := fun k0_t4 v139 k0_hw2 => k0_hw2.1
theorem k0_mult9_dvd : ∀ (k0_t4 : Fin k0_t4_loop.trips) (v139 : BitVec 32) (k0_hw2 : k0_chk2 k0_t4 v139) (k0_t5 : Fin (k0_t5_loop v139).trips), ∀ (k0_h2 : k0_cond2 v139 k0_t5 = 1#1), 128 ∣ (k0_mult9 k0_t4).toNat := fun k0_t4 v139 k0_hw2 k0_t5 k0_h2 => k0_hw2.2.1 k0_t5 k0_h2
theorem k0_off15_inb : ∀ (k0_t4 : Fin k0_t4_loop.trips) (v139 : BitVec 32) (k0_hw2 : k0_chk2 k0_t4 v139) (k0_t5 : Fin (k0_t5_loop v139).trips), ∀ (k0_h2 : k0_cond2 v139 k0_t5 = 1#1), ∀ a, (k0_off15 k0_t4) a + S1x1x512.size a ≤ S1x1x5760.size a := fun k0_t4 v139 k0_hw2 k0_t5 k0_h2 => k0_hw2.2.2.1 k0_t5 k0_h2
theorem k0_off16_inb : ∀ (k0_t4 : Fin k0_t4_loop.trips) (v139 : BitVec 32) (k0_hw2 : k0_chk2 k0_t4 v139) (k0_t5 : Fin (k0_t5_loop v139).trips), ∀ (k0_h2 : k0_cond2 v139 k0_t5 = 1#1), ∀ a, (k0_off16 k0_t4) a + S1x512.size a ≤ S1x5760.size a := fun k0_t4 v139 k0_hw2 k0_t5 k0_h2 => k0_hw2.2.2.2.1 k0_t5 k0_h2
theorem k0_t6_ok : ∀ (k0_t4 : Fin k0_t4_loop.trips) (v139 : BitVec 32) (k0_hw2 : k0_chk2 k0_t4 v139), (k0_t6_loop v139).OK := fun k0_t4 v139 k0_hw2 => k0_hw2.2.2.2.2

def k0_mult22 (k0_t4 : Fin k0_t4_loop.trips) : BitVec 32 :=
  let c512_i32_168 : BitVec 32 := 512#32
  let c0_i32_34 : BitVec 32 := 0#32
  let c1_i32_35 : BitVec 32 := 1#32
  let arg19 : BitVec 32 := Scf.iv c0_i32_34 c1_i32_35 k0_t4
  let c11_i32 : BitVec 32 := 11#32
  let v249 : BitVec 32 := Scalar.minsi arg19 c11_i32
  let v250 : BitVec 32 := Scalar.muli c512_i32_168 v249
  let c384_i32_169 : BitVec 32 := 384#32
  let v251 : BitVec 32 := Scalar.subi v250 c384_i32_169
  let c0_i32_170 : BitVec 32 := 0#32
  let v252 : BitVec 32 := Scalar.maxsi v251 c0_i32_170
  v252
def k0_off27 (i : grid0.Coords) (k0_t4 : Fin k0_t4_loop.trips) : Fin 1 → Nat :=
  let arg0 : BitVec 32 := BitVec.ofNat 32 (i 0).val
  let c1920_i32_198 : BitVec 32 := 1920#32
  let v311 : BitVec 32 := Scalar.muli arg0 c1920_i32_198
  let c16_i32_185 : BitVec 32 := 16#32
  let c512_i32_168 : BitVec 32 := 512#32
  let c0_i32_34 : BitVec 32 := 0#32
  let c1_i32_35 : BitVec 32 := 1#32
  let arg19 : BitVec 32 := Scf.iv c0_i32_34 c1_i32_35 k0_t4
  let c11_i32 : BitVec 32 := 11#32
  let v249 : BitVec 32 := Scalar.minsi arg19 c11_i32
  let v250 : BitVec 32 := Scalar.muli c512_i32_168 v249
  let c384_i32_169 : BitVec 32 := 384#32
  let v251 : BitVec 32 := Scalar.subi v250 c384_i32_169
  let c0_i32_170 : BitVec 32 := 0#32
  let v252 : BitVec 32 := Scalar.maxsi v251 c0_i32_170
  let v253 : BitVec 32 := v252
  let c0_i32_172 : BitVec 32 := 0#32
  let v255 : BitVec 1 := Scalar.cmpi .sgt v253 c0_i32_172
  let v256 : BitVec 32 := Scalar.extui v255
  let c0_i32_173 : BitVec 32 := 0#32
  let v257 : BitVec 1 := Scalar.cmpi .slt v253 c0_i32_173
  let v258 : BitVec 32 := Scalar.extui v257
  let v259 : BitVec 32 := Scalar.subi v256 v258
  let c16_i32_171 : BitVec 32 := 16#32
  let c0_i32_174 : BitVec 32 := 0#32
  let v260 : BitVec 1 := Scalar.cmpi .sgt c16_i32_171 c0_i32_174
  let v261 : BitVec 32 := Scalar.extui v260
  let c0_i32_175 : BitVec 32 := 0#32
  let v262 : BitVec 1 := Scalar.cmpi .slt c16_i32_171 c0_i32_175
  let v263 : BitVec 32 := Scalar.extui v262
  let v264 : BitVec 32 := Scalar.subi v261 v263
  let v265 : BitVec 1 := Scalar.cmpi .ne v259 v264
  let v266 : BitVec 32 := Scalar.remsi v253 c16_i32_171
  let c0_i32_176 : BitVec 32 := 0#32
  let v267 : BitVec 1 := Scalar.cmpi .ne v266 c0_i32_176
  let v268 : BitVec 1 := Scalar.andi v265 v267
  let v254 : BitVec 32 := Scalar.divsi v253 c16_i32_171
  let c1_i32_177 : BitVec 32 := 1#32
  let v269 : BitVec 32 := Scalar.subi v254 c1_i32_177
  let v270 : BitVec 32 := Scalar.select v268 v269 v254
  let c0_i32_179 : BitVec 32 := 0#32
  let v272 : BitVec 1 := Scalar.cmpi .sgt v270 c0_i32_179
  let v273 : BitVec 32 := Scalar.extui v272
  let c0_i32_180 : BitVec 32 := 0#32
  let v274 : BitVec 1 := Scalar.cmpi .slt v270 c0_i32_180
  let v275 : BitVec 32 := Scalar.extui v274
  let v276 : BitVec 32 := Scalar.subi v273 v275
  let c3_i32_178 : BitVec 32 := 3#32
  let c0_i32_181 : BitVec 32 := 0#32
  let v277 : BitVec 1 := Scalar.cmpi .sgt c3_i32_178 c0_i32_181
  let v278 : BitVec 32 := Scalar.extui v277
  let c0_i32_182 : BitVec 32 := 0#32
  let v279 : BitVec 1 := Scalar.cmpi .slt c3_i32_178 c0_i32_182
  let v280 : BitVec 32 := Scalar.extui v279
  let v281 : BitVec 32 := Scalar.subi v278 v280
  let v282 : BitVec 1 := Scalar.cmpi .ne v276 v281
  let v283 : BitVec 32 := Scalar.remsi v270 c3_i32_178
  let c0_i32_183 : BitVec 32 := 0#32
  let v284 : BitVec 1 := Scalar.cmpi .ne v283 c0_i32_183
  let v285 : BitVec 1 := Scalar.andi v282 v284
  let v271 : BitVec 32 := Scalar.divsi v270 c3_i32_178
  let c1_i32_184 : BitVec 32 := 1#32
  let v286 : BitVec 32 := Scalar.subi v271 c1_i32_184
  let v287 : BitVec 32 := Scalar.select v285 v286 v271
  let v288 : BitVec 32 := Scalar.muli c16_i32_185 v287
  let v312 : BitVec 32 := Scalar.addi v311 v288
  let v313 : Index := Scalar.indexCast v312
  ![v313.toNat]
def k0_off28 (i : grid0.Coords) (k0_t4 : Fin k0_t4_loop.trips) : Fin 1 → Nat :=
  let arg0 : BitVec 32 := BitVec.ofNat 32 (i 0).val
  let c1920_i32_207 : BitVec 32 := 1920#32
  let v333 : BitVec 32 := Scalar.muli arg0 c1920_i32_207
  let c16_i32_195 : BitVec 32 := 16#32
  let c512_i32_168 : BitVec 32 := 512#32
  let c0_i32_34 : BitVec 32 := 0#32
  let c1_i32_35 : BitVec 32 := 1#32
  let arg19 : BitVec 32 := Scf.iv c0_i32_34 c1_i32_35 k0_t4
  let c11_i32 : BitVec 32 := 11#32
  let v249 : BitVec 32 := Scalar.minsi arg19 c11_i32
  let v250 : BitVec 32 := Scalar.muli c512_i32_168 v249
  let c384_i32_169 : BitVec 32 := 384#32
  let v251 : BitVec 32 := Scalar.subi v250 c384_i32_169
  let c0_i32_170 : BitVec 32 := 0#32
  let v252 : BitVec 32 := Scalar.maxsi v251 c0_i32_170
  let v253 : BitVec 32 := v252
  let c0_i32_172 : BitVec 32 := 0#32
  let v255 : BitVec 1 := Scalar.cmpi .sgt v253 c0_i32_172
  let v256 : BitVec 32 := Scalar.extui v255
  let c0_i32_173 : BitVec 32 := 0#32
  let v257 : BitVec 1 := Scalar.cmpi .slt v253 c0_i32_173
  let v258 : BitVec 32 := Scalar.extui v257
  let v259 : BitVec 32 := Scalar.subi v256 v258
  let c16_i32_171 : BitVec 32 := 16#32
  let c0_i32_174 : BitVec 32 := 0#32
  let v260 : BitVec 1 := Scalar.cmpi .sgt c16_i32_171 c0_i32_174
  let v261 : BitVec 32 := Scalar.extui v260
  let c0_i32_175 : BitVec 32 := 0#32
  let v262 : BitVec 1 := Scalar.cmpi .slt c16_i32_171 c0_i32_175
  let v263 : BitVec 32 := Scalar.extui v262
  let v264 : BitVec 32 := Scalar.subi v261 v263
  let v265 : BitVec 1 := Scalar.cmpi .ne v259 v264
  let v266 : BitVec 32 := Scalar.remsi v253 c16_i32_171
  let c0_i32_176 : BitVec 32 := 0#32
  let v267 : BitVec 1 := Scalar.cmpi .ne v266 c0_i32_176
  let v268 : BitVec 1 := Scalar.andi v265 v267
  let v254 : BitVec 32 := Scalar.divsi v253 c16_i32_171
  let c1_i32_177 : BitVec 32 := 1#32
  let v269 : BitVec 32 := Scalar.subi v254 c1_i32_177
  let v270 : BitVec 32 := Scalar.select v268 v269 v254
  let c32_i32_186 : BitVec 32 := 32#32
  let v289 : BitVec 32 := Scalar.addi v270 c32_i32_186
  let c1_i32_187 : BitVec 32 := 1#32
  let v290 : BitVec 32 := Scalar.subi v289 c1_i32_187
  let c0_i32_189 : BitVec 32 := 0#32
  let v292 : BitVec 1 := Scalar.cmpi .sgt v290 c0_i32_189
  let v293 : BitVec 32 := Scalar.extui v292
  let c0_i32_190 : BitVec 32 := 0#32
  let v294 : BitVec 1 := Scalar.cmpi .slt v290 c0_i32_190
  let v295 : BitVec 32 := Scalar.extui v294
  let v296 : BitVec 32 := Scalar.subi v293 v295
  let c3_i32_188 : BitVec 32 := 3#32
  let c0_i32_191 : BitVec 32 := 0#32
  let v297 : BitVec 1 := Scalar.cmpi .sgt c3_i32_188 c0_i32_191
  let v298 : BitVec 32 := Scalar.extui v297
  let c0_i32_192 : BitVec 32 := 0#32
  let v299 : BitVec 1 := Scalar.cmpi .slt c3_i32_188 c0_i32_192
  let v300 : BitVec 32 := Scalar.extui v299
  let v301 : BitVec 32 := Scalar.subi v298 v300
  let v302 : BitVec 1 := Scalar.cmpi .ne v296 v301
  let v303 : BitVec 32 := Scalar.remsi v290 c3_i32_188
  let c0_i32_193 : BitVec 32 := 0#32
  let v304 : BitVec 1 := Scalar.cmpi .ne v303 c0_i32_193
  let v305 : BitVec 1 := Scalar.andi v302 v304
  let v291 : BitVec 32 := Scalar.divsi v290 c3_i32_188
  let c1_i32_194 : BitVec 32 := 1#32
  let v306 : BitVec 32 := Scalar.subi v291 c1_i32_194
  let v307 : BitVec 32 := Scalar.select v305 v306 v291
  let v308 : BitVec 32 := Scalar.muli c16_i32_195 v307
  let c16_i32_196 : BitVec 32 := 16#32
  let v309 : BitVec 32 := Scalar.addi v308 c16_i32_196
  let c1_i32_197 : BitVec 32 := 1#32
  let v310 : BitVec 32 := Scalar.subi v309 c1_i32_197
  let v334 : BitVec 32 := Scalar.addi v333 v310
  let v335 : Index := Scalar.indexCast v334
  ![v335.toNat]
def k0_mult23 (k0_t4 : Fin k0_t4_loop.trips) : BitVec 32 :=
  let c512_i32_217 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v356 : BitVec 32 := Scalar.muli c512_i32_217 v355
  let c384_i32_218 : BitVec 32 := 384#32
  let v357 : BitVec 32 := Scalar.subi v356 c384_i32_218
  let c0_i32_219 : BitVec 32 := 0#32
  let v358 : BitVec 32 := Scalar.maxsi v357 c0_i32_219
  v358
def k0_mult24 (k0_t4 : Fin k0_t4_loop.trips) : BitVec 32 :=
  let c512_i32_274 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v477 : BitVec 32 := Scalar.muli c512_i32_274 v355
  let c384_i32_275 : BitVec 32 := 384#32
  let v478 : BitVec 32 := Scalar.subi v477 c384_i32_275
  let c0_i32_276 : BitVec 32 := 0#32
  let v479 : BitVec 32 := Scalar.maxsi v478 c0_i32_276
  v479
def k0_off29 (k0_t4 : Fin k0_t4_loop.trips) : Fin 3 → Nat :=
  let c0_283 : Index := 0#32
  let c0_284 : Index := 0#32
  let c512_i32_274 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v477 : BitVec 32 := Scalar.muli c512_i32_274 v355
  let c384_i32_275 : BitVec 32 := 384#32
  let v478 : BitVec 32 := Scalar.subi v477 c384_i32_275
  let c0_i32_276 : BitVec 32 := 0#32
  let v479 : BitVec 32 := Scalar.maxsi v478 c0_i32_276
  let v480 : BitVec 32 := v479
  let v502 : Index := Scalar.indexCast v480
  ![0, 0, v502.toNat]
def k0_off30 (k0_t4 : Fin k0_t4_loop.trips) : Fin 2 → Nat :=
  let c0_289 : Index := 0#32
  let c512_i32_274 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v477 : BitVec 32 := Scalar.muli c512_i32_274 v355
  let c384_i32_275 : BitVec 32 := 384#32
  let v478 : BitVec 32 := Scalar.subi v477 c384_i32_275
  let c0_i32_276 : BitVec 32 := 0#32
  let v479 : BitVec 32 := Scalar.maxsi v478 c0_i32_276
  let v480 : BitVec 32 := v479
  let v516 : Index := Scalar.indexCast v480
  ![0, v516.toNat]
def k0_mult25 (k0_t4 : Fin k0_t4_loop.trips) (v139 : BitVec 32) (k0_t6 : Fin (k0_t6_loop v139).trips) (v442 : BitVec 32) : BitVec 32 :=
  let c512_i32_274 : BitVec 32 := 512#32
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let c1_i32_266 : BitVec 32 := 1#32
  let v463 : BitVec 32 := Scalar.addi v355 c1_i32_266
  let v464 : BitVec 32 := Scalar.select v462 v463 v355
  let c11_i32_269 : BitVec 32 := 11#32
  let v467 : BitVec 32 := Scalar.minsi v464 c11_i32_269
  let v477 : BitVec 32 := Scalar.muli c512_i32_274 v467
  let c384_i32_275 : BitVec 32 := 384#32
  let v478 : BitVec 32 := Scalar.subi v477 c384_i32_275
  let c0_i32_276 : BitVec 32 := 0#32
  let v479 : BitVec 32 := Scalar.maxsi v478 c0_i32_276
  v479
def k0_cond6 (v139 : BitVec 32) (k0_t6 : Fin (k0_t6_loop v139).trips) (v314 : BitVec 32) : BitVec 1 :=
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c1_i32_199 : BitVec 32 := 1#32
  let v315 : BitVec 32 := Scalar.addi v314 c1_i32_199
  let c0_i32_201 : BitVec 32 := 0#32
  let v317 : BitVec 1 := Scalar.cmpi .sgt v315 c0_i32_201
  let v318 : BitVec 32 := Scalar.extui v317
  let c0_i32_202 : BitVec 32 := 0#32
  let v319 : BitVec 1 := Scalar.cmpi .slt v315 c0_i32_202
  let v320 : BitVec 32 := Scalar.extui v319
  let v321 : BitVec 32 := Scalar.subi v318 v320
  let c512_i32_200 : BitVec 32 := 512#32
  let c0_i32_203 : BitVec 32 := 0#32
  let v322 : BitVec 1 := Scalar.cmpi .sgt c512_i32_200 c0_i32_203
  let v323 : BitVec 32 := Scalar.extui v322
  let c0_i32_204 : BitVec 32 := 0#32
  let v324 : BitVec 1 := Scalar.cmpi .slt c512_i32_200 c0_i32_204
  let v325 : BitVec 32 := Scalar.extui v324
  let v326 : BitVec 32 := Scalar.subi v323 v325
  let v327 : BitVec 1 := Scalar.cmpi .ne v321 v326
  let v328 : BitVec 32 := Scalar.remsi v315 c512_i32_200
  let c0_i32_205 : BitVec 32 := 0#32
  let v329 : BitVec 1 := Scalar.cmpi .ne v328 c0_i32_205
  let v330 : BitVec 1 := Scalar.andi v327 v329
  let v316 : BitVec 32 := Scalar.divsi v315 c512_i32_200
  let c1_i32_206 : BitVec 32 := 1#32
  let v331 : BitVec 32 := Scalar.subi v316 c1_i32_206
  let v332 : BitVec 32 := Scalar.select v330 v331 v316
  let v471 : BitVec 1 := Scalar.cmpi .slt arg21 v332
  let v472 : BitVec 32 := Scalar.extui v471
  let c0_i32_272 : BitVec 32 := 0#32
  let v473 : BitVec 1 := Scalar.cmpi .ne v472 c0_i32_272
  v473

def k0_off31 (k0_t4 : Fin k0_t4_loop.trips) (v139 : BitVec 32) (k0_t6 : Fin (k0_t6_loop v139).trips) (v442 : BitVec 32) : Fin 4 → Nat :=
  let c0_277 : Index := 0#32
  let c0_278 : Index := 0#32
  let c512_i32_274 : BitVec 32 := 512#32
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let c1_i32_266 : BitVec 32 := 1#32
  let v463 : BitVec 32 := Scalar.addi v355 c1_i32_266
  let v464 : BitVec 32 := Scalar.select v462 v463 v355
  let c11_i32_269 : BitVec 32 := 11#32
  let v467 : BitVec 32 := Scalar.minsi v464 c11_i32_269
  let v477 : BitVec 32 := Scalar.muli c512_i32_274 v467
  let c384_i32_275 : BitVec 32 := 384#32
  let v478 : BitVec 32 := Scalar.subi v477 c384_i32_275
  let c0_i32_276 : BitVec 32 := 0#32
  let v479 : BitVec 32 := Scalar.maxsi v478 c0_i32_276
  let v480 : BitVec 32 := v479
  let v481 : Index := Scalar.indexCast v480
  let c0_279 : Index := 0#32
  ![0, 0, v481.toNat, 0]
def k0_mult26 (k0_t4 : Fin k0_t4_loop.trips) : BitVec 32 :=
  let c512_i32_280 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v484 : BitVec 32 := Scalar.muli c512_i32_280 v355
  let c384_i32_281 : BitVec 32 := 384#32
  let v485 : BitVec 32 := Scalar.subi v484 c384_i32_281
  let c0_i32_282 : BitVec 32 := 0#32
  let v486 : BitVec 32 := Scalar.maxsi v485 c0_i32_282
  v486
def k0_off32 (k0_t4 : Fin k0_t4_loop.trips) : Fin 3 → Nat :=
  let c0_283 : Index := 0#32
  let c0_284 : Index := 0#32
  let c512_i32_280 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v484 : BitVec 32 := Scalar.muli c512_i32_280 v355
  let c384_i32_281 : BitVec 32 := 384#32
  let v485 : BitVec 32 := Scalar.subi v484 c384_i32_281
  let c0_i32_282 : BitVec 32 := 0#32
  let v486 : BitVec 32 := Scalar.maxsi v485 c0_i32_282
  let v487 : BitVec 32 := v486
  let v488 : Index := Scalar.indexCast v487
  ![0, 0, v488.toNat]
def k0_off33 (arg22 : BitVec 32) (c0_i32_290 : BitVec 32) (c0_i32_291 : BitVec 32) : Fin 5 → Nat :=
  let c0_292 : Index := 0#32
  let c0_293 : Index := 0#32
  let c4_i32_289 : BitVec 32 := 4#32
  let v493 : BitVec 32 := Scalar.muli arg22 c4_i32_289
  let v494 : BitVec 32 := Scalar.addi v493 c0_i32_290
  let v495 : BitVec 32 := Scalar.addi v494 c0_i32_291
  let v496 : Index := Scalar.indexCast v495
  let c0_294 : Index := 0#32
  let c0_295 : Index := 0#32
  ![0, 0, v496.toNat, 0, 0]

def k0_mult27 (v139 : BitVec 32) (k0_t6 : Fin (k0_t6_loop v139).trips) : BitVec 32 :=
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c512_i32_314 : BitVec 32 := 512#32
  let v515 : BitVec 32 := Scalar.muli arg21 c512_i32_314
  let c0_i32_315 : BitVec 32 := 0#32
  let v516 : BitVec 32 := Scalar.addi v515 c0_i32_315
  v516
def k0_off34 (v139 : BitVec 32) (k0_t6 : Fin (k0_t6_loop v139).trips) (c0_i32_315 : BitVec 32) : Fin 3 → Nat :=
  let c0_316 : Index := 0#32
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c512_i32_314 : BitVec 32 := 512#32
  let v515 : BitVec 32 := Scalar.muli arg21 c512_i32_314
  let v516 : BitVec 32 := Scalar.addi v515 c0_i32_315
  let v517 : BitVec 32 := v516
  let v519 : Index := Scalar.indexCast v517
  let c0_317 : Index := 0#32
  ![0, v519.toNat, 0]
def k0_mult28 (v139 : BitVec 32) (k0_t6 : Fin (k0_t6_loop v139).trips) (v442 : BitVec 32) : BitVec 32 :=
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_268 : BitVec 32 := 0#32
  let c1_i32_267 : BitVec 32 := 1#32
  let v465 : BitVec 32 := Scalar.addi arg21 c1_i32_267
  let v466 : BitVec 32 := Scalar.select v462 c0_i32_268 v465
  let c512_i32_362 : BitVec 32 := 512#32
  let v615 : BitVec 32 := Scalar.muli v466 c512_i32_362
  let c0_i32_363 : BitVec 32 := 0#32
  let v616 : BitVec 32 := Scalar.addi v615 c0_i32_363
  v616
def k0_off35 (v139 : BitVec 32) (k0_t6 : Fin (k0_t6_loop v139).trips) (v442 : BitVec 32) (c0_i32_363 : BitVec 32) : Fin 4 → Nat :=
  let c0_364 : Index := 0#32
  let c0_365 : Index := 0#32
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_268 : BitVec 32 := 0#32
  let c1_i32_267 : BitVec 32 := 1#32
  let v465 : BitVec 32 := Scalar.addi arg21 c1_i32_267
  let v466 : BitVec 32 := Scalar.select v462 c0_i32_268 v465
  let c512_i32_362 : BitVec 32 := 512#32
  let v615 : BitVec 32 := Scalar.muli v466 c512_i32_362
  let v616 : BitVec 32 := Scalar.addi v615 c0_i32_363
  let v617 : BitVec 32 := v616
  let v618 : Index := Scalar.indexCast v617
  let c0_366 : Index := 0#32
  ![0, 0, v618.toNat, 0]
def k0_mult29 (v139 : BitVec 32) (k0_t6 : Fin (k0_t6_loop v139).trips) : BitVec 32 :=
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c512_i32_395 : BitVec 32 := 512#32
  let v647 : BitVec 32 := Scalar.muli arg21 c512_i32_395
  let c256_i32 : BitVec 32 := 256#32
  let v648 : BitVec 32 := Scalar.addi v647 c256_i32
  v648
def k0_mult30 (v139 : BitVec 32) (k0_t6 : Fin (k0_t6_loop v139).trips) (v442 : BitVec 32) : BitVec 32 :=
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_268 : BitVec 32 := 0#32
  let c1_i32_267 : BitVec 32 := 1#32
  let v465 : BitVec 32 := Scalar.addi arg21 c1_i32_267
  let v466 : BitVec 32 := Scalar.select v462 c0_i32_268 v465
  let c512_i32_445 : BitVec 32 := 512#32
  let v747 : BitVec 32 := Scalar.muli v466 c512_i32_445
  let c256_i32_446 : BitVec 32 := 256#32
  let v748 : BitVec 32 := Scalar.addi v747 c256_i32_446
  v748
def k0_mult31 (k0_t4 : Fin k0_t4_loop.trips) (v139 : BitVec 32) (k0_t6 : Fin (k0_t6_loop v139).trips) (v442 : BitVec 32) : BitVec 32 :=
  let c512_i32_274 : BitVec 32 := 512#32
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let c1_i32_266 : BitVec 32 := 1#32
  let v463 : BitVec 32 := Scalar.addi v355 c1_i32_266
  let v464 : BitVec 32 := Scalar.select v462 v463 v355
  let c11_i32_269 : BitVec 32 := 11#32
  let v467 : BitVec 32 := Scalar.minsi v464 c11_i32_269
  let v477 : BitVec 32 := Scalar.muli c512_i32_274 v467
  let c384_i32_275 : BitVec 32 := 384#32
  let v478 : BitVec 32 := Scalar.subi v477 c384_i32_275
  let c0_i32_276 : BitVec 32 := 0#32
  let v479 : BitVec 32 := Scalar.maxsi v478 c0_i32_276
  v479
def k0_cond7 (v139 : BitVec 32) (k0_t6 : Fin (k0_t6_loop v139).trips) (v314 : BitVec 32) : BitVec 1 :=
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c1_i32_199 : BitVec 32 := 1#32
  let v315 : BitVec 32 := Scalar.addi v314 c1_i32_199
  let c0_i32_201 : BitVec 32 := 0#32
  let v317 : BitVec 1 := Scalar.cmpi .sgt v315 c0_i32_201
  let v318 : BitVec 32 := Scalar.extui v317
  let c0_i32_202 : BitVec 32 := 0#32
  let v319 : BitVec 1 := Scalar.cmpi .slt v315 c0_i32_202
  let v320 : BitVec 32 := Scalar.extui v319
  let v321 : BitVec 32 := Scalar.subi v318 v320
  let c512_i32_200 : BitVec 32 := 512#32
  let c0_i32_203 : BitVec 32 := 0#32
  let v322 : BitVec 1 := Scalar.cmpi .sgt c512_i32_200 c0_i32_203
  let v323 : BitVec 32 := Scalar.extui v322
  let c0_i32_204 : BitVec 32 := 0#32
  let v324 : BitVec 1 := Scalar.cmpi .slt c512_i32_200 c0_i32_204
  let v325 : BitVec 32 := Scalar.extui v324
  let v326 : BitVec 32 := Scalar.subi v323 v325
  let v327 : BitVec 1 := Scalar.cmpi .ne v321 v326
  let v328 : BitVec 32 := Scalar.remsi v315 c512_i32_200
  let c0_i32_205 : BitVec 32 := 0#32
  let v329 : BitVec 1 := Scalar.cmpi .ne v328 c0_i32_205
  let v330 : BitVec 1 := Scalar.andi v327 v329
  let v316 : BitVec 32 := Scalar.divsi v315 c512_i32_200
  let c1_i32_206 : BitVec 32 := 1#32
  let v331 : BitVec 32 := Scalar.subi v316 c1_i32_206
  let v332 : BitVec 32 := Scalar.select v330 v331 v316
  let v474 : BitVec 1 := Scalar.cmpi .sge arg21 v332
  let v475 : BitVec 32 := Scalar.extui v474
  let c0_i32_273 : BitVec 32 := 0#32
  let v476 : BitVec 1 := Scalar.cmpi .ne v475 c0_i32_273
  v476

def k0_off36 (k0_t4 : Fin k0_t4_loop.trips) (v139 : BitVec 32) (k0_t6 : Fin (k0_t6_loop v139).trips) (v442 : BitVec 32) : Fin 4 → Nat :=
  let c0_277 : Index := 0#32
  let c0_278 : Index := 0#32
  let c512_i32_274 : BitVec 32 := 512#32
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let c1_i32_266 : BitVec 32 := 1#32
  let v463 : BitVec 32 := Scalar.addi v355 c1_i32_266
  let v464 : BitVec 32 := Scalar.select v462 v463 v355
  let c11_i32_269 : BitVec 32 := 11#32
  let v467 : BitVec 32 := Scalar.minsi v464 c11_i32_269
  let v477 : BitVec 32 := Scalar.muli c512_i32_274 v467
  let c384_i32_275 : BitVec 32 := 384#32
  let v478 : BitVec 32 := Scalar.subi v477 c384_i32_275
  let c0_i32_276 : BitVec 32 := 0#32
  let v479 : BitVec 32 := Scalar.maxsi v478 c0_i32_276
  let v480 : BitVec 32 := v479
  let v481 : Index := Scalar.indexCast v480
  let c0_279 : Index := 0#32
  ![0, 0, v481.toNat, 0]
def k0_mult32 (k0_t4 : Fin k0_t4_loop.trips) : BitVec 32 :=
  let c512_i32_280 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v484 : BitVec 32 := Scalar.muli c512_i32_280 v355
  let c384_i32_281 : BitVec 32 := 384#32
  let v485 : BitVec 32 := Scalar.subi v484 c384_i32_281
  let c0_i32_282 : BitVec 32 := 0#32
  let v486 : BitVec 32 := Scalar.maxsi v485 c0_i32_282
  v486
def k0_off37 (k0_t4 : Fin k0_t4_loop.trips) : Fin 3 → Nat :=
  let c0_283 : Index := 0#32
  let c0_284 : Index := 0#32
  let c512_i32_280 : BitVec 32 := 512#32
  let c0_i32_34 : BitVec 32 := 0#32
  let c1_i32_35 : BitVec 32 := 1#32
  let arg19 : BitVec 32 := Scf.iv c0_i32_34 c1_i32_35 k0_t4
  let c11_i32_216 : BitVec 32 := 11#32
  let v355 : BitVec 32 := Scalar.minsi arg19 c11_i32_216
  let v484 : BitVec 32 := Scalar.muli c512_i32_280 v355
  let c384_i32_281 : BitVec 32 := 384#32
  let v485 : BitVec 32 := Scalar.subi v484 c384_i32_281
  let c0_i32_282 : BitVec 32 := 0#32
  let v486 : BitVec 32 := Scalar.maxsi v485 c0_i32_282
  let v487 : BitVec 32 := v486
  let v488 : Index := Scalar.indexCast v487
  ![0, 0, v488.toNat]
def k0_off38 (arg22 : BitVec 32) (c0_i32_290 : BitVec 32) (c0_i32_291 : BitVec 32) : Fin 5 → Nat :=
  let c0_292 : Index := 0#32
  let c0_293 : Index := 0#32
  let c4_i32_289 : BitVec 32 := 4#32
  let v493 : BitVec 32 := Scalar.muli arg22 c4_i32_289
  let v494 : BitVec 32 := Scalar.addi v493 c0_i32_290
  let v495 : BitVec 32 := Scalar.addi v494 c0_i32_291
  let v496 : Index := Scalar.indexCast v495
  let c0_294 : Index := 0#32
  let c0_295 : Index := 0#32
  ![0, 0, v496.toNat, 0, 0]
def k0_mult33 (v139 : BitVec 32) (k0_t6 : Fin (k0_t6_loop v139).trips) : BitVec 32 :=
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c512_i32_314 : BitVec 32 := 512#32
  let v515 : BitVec 32 := Scalar.muli arg21 c512_i32_314
  let c0_i32_315 : BitVec 32 := 0#32
  let v516 : BitVec 32 := Scalar.addi v515 c0_i32_315
  v516
def k0_off39 (v139 : BitVec 32) (k0_t6 : Fin (k0_t6_loop v139).trips) (c0_i32_315 : BitVec 32) : Fin 3 → Nat :=
  let c0_316 : Index := 0#32
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c512_i32_314 : BitVec 32 := 512#32
  let v515 : BitVec 32 := Scalar.muli arg21 c512_i32_314
  let v516 : BitVec 32 := Scalar.addi v515 c0_i32_315
  let v517 : BitVec 32 := v516
  let v519 : Index := Scalar.indexCast v517
  let c0_317 : Index := 0#32
  ![0, v519.toNat, 0]
def k0_mult34 (v139 : BitVec 32) (k0_t6 : Fin (k0_t6_loop v139).trips) (v442 : BitVec 32) : BitVec 32 :=
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_268 : BitVec 32 := 0#32
  let c1_i32_267 : BitVec 32 := 1#32
  let v465 : BitVec 32 := Scalar.addi arg21 c1_i32_267
  let v466 : BitVec 32 := Scalar.select v462 c0_i32_268 v465
  let c512_i32_366 : BitVec 32 := 512#32
  let v647 : BitVec 32 := Scalar.muli v466 c512_i32_366
  let c0_i32_367 : BitVec 32 := 0#32
  let v648 : BitVec 32 := Scalar.addi v647 c0_i32_367
  v648
def k0_off40 (v139 : BitVec 32) (k0_t6 : Fin (k0_t6_loop v139).trips) (v442 : BitVec 32) (c0_i32_367 : BitVec 32) : Fin 4 → Nat :=
  let c0_368 : Index := 0#32
  let c0_369 : Index := 0#32
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_268 : BitVec 32 := 0#32
  let c1_i32_267 : BitVec 32 := 1#32
  let v465 : BitVec 32 := Scalar.addi arg21 c1_i32_267
  let v466 : BitVec 32 := Scalar.select v462 c0_i32_268 v465
  let c512_i32_366 : BitVec 32 := 512#32
  let v647 : BitVec 32 := Scalar.muli v466 c512_i32_366
  let v648 : BitVec 32 := Scalar.addi v647 c0_i32_367
  let v649 : BitVec 32 := v648
  let v650 : Index := Scalar.indexCast v649
  let c0_370 : Index := 0#32
  ![0, 0, v650.toNat, 0]
def k0_mult35 (v139 : BitVec 32) (k0_t6 : Fin (k0_t6_loop v139).trips) : BitVec 32 :=
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c512_i32_399 : BitVec 32 := 512#32
  let v679 : BitVec 32 := Scalar.muli arg21 c512_i32_399
  let c256_i32 : BitVec 32 := 256#32
  let v680 : BitVec 32 := Scalar.addi v679 c256_i32
  v680

def k0_chk6 (v139 : BitVec 32) (k0_t6 : Fin (k0_t6_loop v139).trips) (arg22 : BitVec 32) (v314 : BitVec 32) : Prop :=
  (∀ (k0_h6 : k0_cond6 v139 k0_t6 v314 = 1#1), ∀ (r₁ : Fin 2) (r₂ : Fin 2), ∀ a, (k0_off33 arg22 (BitVec.ofNat 32 (2 * r₁.val)) (BitVec.ofNat 32 r₂.val)) a + S1x1x1x128x128.size a ≤ S1x1x96x128x128.size a) ∧
  (∀ (k0_h6 : k0_cond6 v139 k0_t6 v314 = 1#1), 256 ∣ (k0_mult27 v139 k0_t6).toNat) ∧
  (∀ (k0_h6 : k0_cond6 v139 k0_t6 v314 = 1#1), ∀ (r : Fin 2), ∀ a, (k0_off34 v139 k0_t6 (BitVec.ofNat 32 (256 * r.val))) a + S1x256x128.size a ≤ S1x12288x128.size a) ∧
  (∀ (k0_h6 : k0_cond6 v139 k0_t6 v314 = 1#1), 256 ∣ (k0_mult29 v139 k0_t6).toNat) ∧
  (∀ (k0_h7 : k0_cond7 v139 k0_t6 v314 = 1#1), ∀ (r₁ : Fin 2) (r₂ : Fin 2), ∀ a, (k0_off38 arg22 (BitVec.ofNat 32 (2 * r₁.val)) (BitVec.ofNat 32 r₂.val)) a + S1x1x1x128x128.size a ≤ S1x1x96x128x128.size a) ∧
  (∀ (k0_h7 : k0_cond7 v139 k0_t6 v314 = 1#1), 256 ∣ (k0_mult33 v139 k0_t6).toNat) ∧
  (∀ (k0_h7 : k0_cond7 v139 k0_t6 v314 = 1#1), ∀ (r : Fin 2), ∀ a, (k0_off39 v139 k0_t6 (BitVec.ofNat 32 (256 * r.val))) a + S1x256x128.size a ≤ S1x12288x128.size a) ∧
  (∀ (k0_h7 : k0_cond7 v139 k0_t6 v314 = 1#1), 256 ∣ (k0_mult35 v139 k0_t6).toNat)
theorem k0_off33_inb : ∀ (v139 : BitVec 32) (k0_t6 : Fin (k0_t6_loop v139).trips) (arg22 : BitVec 32) (v314 : BitVec 32) (k0_hw6 : k0_chk6 v139 k0_t6 arg22 v314), ∀ (k0_h6 : k0_cond6 v139 k0_t6 v314 = 1#1), ∀ (r₁ : Fin 2) (r₂ : Fin 2), ∀ a, (k0_off33 arg22 (BitVec.ofNat 32 (2 * r₁.val)) (BitVec.ofNat 32 r₂.val)) a + S1x1x1x128x128.size a ≤ S1x1x96x128x128.size a := fun v139 k0_t6 arg22 v314 k0_hw6 k0_h6 r₁ r₂ => k0_hw6.1 k0_h6 r₁ r₂
theorem k0_mult27_dvd : ∀ (v139 : BitVec 32) (k0_t6 : Fin (k0_t6_loop v139).trips) (arg22 : BitVec 32) (v314 : BitVec 32) (k0_hw6 : k0_chk6 v139 k0_t6 arg22 v314), ∀ (k0_h6 : k0_cond6 v139 k0_t6 v314 = 1#1), 256 ∣ (k0_mult27 v139 k0_t6).toNat := fun v139 k0_t6 arg22 v314 k0_hw6 k0_h6 => k0_hw6.2.1 k0_h6
theorem k0_off34_inb : ∀ (v139 : BitVec 32) (k0_t6 : Fin (k0_t6_loop v139).trips) (arg22 : BitVec 32) (v314 : BitVec 32) (k0_hw6 : k0_chk6 v139 k0_t6 arg22 v314), ∀ (k0_h6 : k0_cond6 v139 k0_t6 v314 = 1#1), ∀ (r : Fin 2), ∀ a, (k0_off34 v139 k0_t6 (BitVec.ofNat 32 (256 * r.val))) a + S1x256x128.size a ≤ S1x12288x128.size a := fun v139 k0_t6 arg22 v314 k0_hw6 k0_h6 r => k0_hw6.2.2.1 k0_h6 r
theorem k0_mult29_dvd : ∀ (v139 : BitVec 32) (k0_t6 : Fin (k0_t6_loop v139).trips) (arg22 : BitVec 32) (v314 : BitVec 32) (k0_hw6 : k0_chk6 v139 k0_t6 arg22 v314), ∀ (k0_h6 : k0_cond6 v139 k0_t6 v314 = 1#1), 256 ∣ (k0_mult29 v139 k0_t6).toNat := fun v139 k0_t6 arg22 v314 k0_hw6 k0_h6 => k0_hw6.2.2.2.1 k0_h6
theorem k0_off38_inb : ∀ (v139 : BitVec 32) (k0_t6 : Fin (k0_t6_loop v139).trips) (arg22 : BitVec 32) (v314 : BitVec 32) (k0_hw6 : k0_chk6 v139 k0_t6 arg22 v314), ∀ (k0_h7 : k0_cond7 v139 k0_t6 v314 = 1#1), ∀ (r₁ : Fin 2) (r₂ : Fin 2), ∀ a, (k0_off38 arg22 (BitVec.ofNat 32 (2 * r₁.val)) (BitVec.ofNat 32 r₂.val)) a + S1x1x1x128x128.size a ≤ S1x1x96x128x128.size a := fun v139 k0_t6 arg22 v314 k0_hw6 k0_h7 r₁ r₂ => k0_hw6.2.2.2.2.1 k0_h7 r₁ r₂
theorem k0_mult33_dvd : ∀ (v139 : BitVec 32) (k0_t6 : Fin (k0_t6_loop v139).trips) (arg22 : BitVec 32) (v314 : BitVec 32) (k0_hw6 : k0_chk6 v139 k0_t6 arg22 v314), ∀ (k0_h7 : k0_cond7 v139 k0_t6 v314 = 1#1), 256 ∣ (k0_mult33 v139 k0_t6).toNat := fun v139 k0_t6 arg22 v314 k0_hw6 k0_h7 => k0_hw6.2.2.2.2.2.1 k0_h7
theorem k0_off39_inb : ∀ (v139 : BitVec 32) (k0_t6 : Fin (k0_t6_loop v139).trips) (arg22 : BitVec 32) (v314 : BitVec 32) (k0_hw6 : k0_chk6 v139 k0_t6 arg22 v314), ∀ (k0_h7 : k0_cond7 v139 k0_t6 v314 = 1#1), ∀ (r : Fin 2), ∀ a, (k0_off39 v139 k0_t6 (BitVec.ofNat 32 (256 * r.val))) a + S1x256x128.size a ≤ S1x12288x128.size a := fun v139 k0_t6 arg22 v314 k0_hw6 k0_h7 r => k0_hw6.2.2.2.2.2.2.1 k0_h7 r
theorem k0_mult35_dvd : ∀ (v139 : BitVec 32) (k0_t6 : Fin (k0_t6_loop v139).trips) (arg22 : BitVec 32) (v314 : BitVec 32) (k0_hw6 : k0_chk6 v139 k0_t6 arg22 v314), ∀ (k0_h7 : k0_cond7 v139 k0_t6 v314 = 1#1), 256 ∣ (k0_mult35 v139 k0_t6).toNat := fun v139 k0_t6 arg22 v314 k0_hw6 k0_h7 => k0_hw6.2.2.2.2.2.2.2 k0_h7

def k0_mult36 (v139 : BitVec 32) (k0_t6 : Fin (k0_t6_loop v139).trips) (v442 : BitVec 32) : BitVec 32 :=
  let c0_i32_86 : BitVec 32 := 0#32
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c512_i32_78 : BitVec 32 := 512#32
  let c0_i32_81 : BitVec 32 := 0#32
  let v146 : BitVec 1 := Scalar.cmpi .sgt c512_i32_78 c0_i32_81
  let v147 : BitVec 32 := Scalar.extui v146
  let c0_i32_82 : BitVec 32 := 0#32
  let v148 : BitVec 1 := Scalar.cmpi .slt c512_i32_78 c0_i32_82
  let v149 : BitVec 32 := Scalar.extui v148
  let v150 : BitVec 32 := Scalar.subi v147 v149
  let v151 : BitVec 1 := Scalar.cmpi .ne v145 v150
  let v152 : BitVec 32 := Scalar.remsi v139 c512_i32_78
  let c0_i32_83 : BitVec 32 := 0#32
  let v153 : BitVec 1 := Scalar.cmpi .ne v152 c0_i32_83
  let v154 : BitVec 1 := Scalar.andi v151 v153
  let v140 : BitVec 32 := Scalar.divsi v139 c512_i32_78
  let c1_i32_84 : BitVec 32 := 1#32
  let v155 : BitVec 32 := Scalar.subi v140 c1_i32_84
  let v156 : BitVec 32 := Scalar.select v154 v155 v140
  let c1_i32_85 : BitVec 32 := 1#32
  let v157 : BitVec 32 := Scalar.addi v156 c1_i32_85
  let v158 : BitVec 32 := Scalar.subi v157 c0_i32_86
  let c1_i32_87 : BitVec 32 := 1#32
  let v160 : BitVec 32 := Scalar.divsi v158 c1_i32_87
  let v161 : BitVec 32 := Scalar.muli v160 c1_i32_87
  let v162 : BitVec 32 := Scalar.addi c0_i32_86 v161
  let c1_i32_89 : BitVec 32 := 1#32
  let arg21 : BitVec 32 := Scf.iv v162 c1_i32_89 k0_t6
  let c0_i32_258 : BitVec 32 := 0#32
  let v444 : BitVec 1 := Scalar.cmpi .sgt v442 c0_i32_258
  let v445 : BitVec 32 := Scalar.extui v444
  let c0_i32_259 : BitVec 32 := 0#32
  let v446 : BitVec 1 := Scalar.cmpi .slt v442 c0_i32_259
  let v447 : BitVec 32 := Scalar.extui v446
  let v448 : BitVec 32 := Scalar.subi v445 v447
  let c512_i32_257 : BitVec 32 := 512#32
  let c0_i32_260 : BitVec 32 := 0#32
  let v449 : BitVec 1 := Scalar.cmpi .sgt c512_i32_257 c0_i32_260
  let v450 : BitVec 32 := Scalar.extui v449
  let c0_i32_261 : BitVec 32 := 0#32
  let v451 : BitVec 1 := Scalar.cmpi .slt c512_i32_257 c0_i32_261
  let v452 : BitVec 32 := Scalar.extui v451
  let v453 : BitVec 32 := Scalar.subi v450 v452
  let v454 : BitVec 1 := Scalar.cmpi .ne v448 v453
  let v455 : BitVec 32 := Scalar.remsi v442 c512_i32_257
  let c0_i32_262 : BitVec 32 := 0#32
  let v456 : BitVec 1 := Scalar.cmpi .ne v455 c0_i32_262
  let v457 : BitVec 1 := Scalar.andi v454 v456
  let v443 : BitVec 32 := Scalar.divsi v442 c512_i32_257
  let c1_i32_263 : BitVec 32 := 1#32
  let v458 : BitVec 32 := Scalar.subi v443 c1_i32_263
  let v459 : BitVec 32 := Scalar.select v457 v458 v443
  let c1_i32_264 : BitVec 32 := 1#32
  let v460 : BitVec 32 := Scalar.addi v459 c1_i32_264
  let c1_i32_265 : BitVec 32 := 1#32
  let v461 : BitVec 32 := Scalar.subi v460 c1_i32_265
  let v462 : BitVec 1 := Scalar.cmpi .eq arg21 v461
  let c0_i32_268 : BitVec 32 := 0#32
  let c1_i32_267 : BitVec 32 := 1#32
  let v465 : BitVec 32 := Scalar.addi arg21 c1_i32_267
  let v466 : BitVec 32 := Scalar.select v462 c0_i32_268 v465
  let c512_i32_453 : BitVec 32 := 512#32
  let v811 : BitVec 32 := Scalar.muli v466 c512_i32_453
  let c256_i32_454 : BitVec 32 := 256#32
  let v812 : BitVec 32 := Scalar.addi v811 c256_i32_454
  v812

def k0_chk5 (k0_t4 : Fin k0_t4_loop.trips) (v139 : BitVec 32) (k0_t6 : Fin (k0_t6_loop v139).trips) (v314 : BitVec 32) (v442 : BitVec 32) : Prop :=
  (∀ (k0_h6 : k0_cond6 v139 k0_t6 v314 = 1#1), 128 ∣ (k0_mult25 k0_t4 v139 k0_t6 v442).toNat) ∧
  (∀ (k0_h6 : k0_cond6 v139 k0_t6 v314 = 1#1), ∀ a, (k0_off31 k0_t4 v139 k0_t6 v442) a + S1x1x512x128.size a ≤ S1x1x5760x128.size a) ∧
  (∀ (k0_h6 : k0_cond6 v139 k0_t6 v314 = 1#1), 256 ∣ (k0_mult28 v139 k0_t6 v442).toNat) ∧
  (∀ (k0_h6 : k0_cond6 v139 k0_t6 v314 = 1#1), ∀ (r : Fin 2), ∀ a, (k0_off35 v139 k0_t6 v442 (BitVec.ofNat 32 (256 * r.val))) a + S1x1x256x128.size a ≤ S1x1x12288x128.size a) ∧
  (∀ (k0_h6 : k0_cond6 v139 k0_t6 v314 = 1#1), 256 ∣ (k0_mult30 v139 k0_t6 v442).toNat) ∧
  (∀ (k0_h7 : k0_cond7 v139 k0_t6 v314 = 1#1), 128 ∣ (k0_mult31 k0_t4 v139 k0_t6 v442).toNat) ∧
  (∀ (k0_h7 : k0_cond7 v139 k0_t6 v314 = 1#1), ∀ a, (k0_off36 k0_t4 v139 k0_t6 v442) a + S1x1x512x128.size a ≤ S1x1x5760x128.size a) ∧
  (∀ (k0_h7 : k0_cond7 v139 k0_t6 v314 = 1#1), 256 ∣ (k0_mult34 v139 k0_t6 v442).toNat) ∧
  (∀ (k0_h7 : k0_cond7 v139 k0_t6 v314 = 1#1), ∀ (r : Fin 2), ∀ a, (k0_off40 v139 k0_t6 v442 (BitVec.ofNat 32 (256 * r.val))) a + S1x1x256x128.size a ≤ S1x1x12288x128.size a) ∧
  (∀ (k0_h7 : k0_cond7 v139 k0_t6 v314 = 1#1), 256 ∣ (k0_mult36 v139 k0_t6 v442).toNat)
theorem k0_mult25_dvd : ∀ (k0_t4 : Fin k0_t4_loop.trips) (v139 : BitVec 32) (k0_t6 : Fin (k0_t6_loop v139).trips) (v314 : BitVec 32) (v442 : BitVec 32) (k0_hw5 : k0_chk5 k0_t4 v139 k0_t6 v314 v442), ∀ (k0_h6 : k0_cond6 v139 k0_t6 v314 = 1#1), 128 ∣ (k0_mult25 k0_t4 v139 k0_t6 v442).toNat := fun k0_t4 v139 k0_t6 v314 v442 k0_hw5 k0_h6 => k0_hw5.1 k0_h6
theorem k0_off31_inb : ∀ (k0_t4 : Fin k0_t4_loop.trips) (v139 : BitVec 32) (k0_t6 : Fin (k0_t6_loop v139).trips) (v314 : BitVec 32) (v442 : BitVec 32) (k0_hw5 : k0_chk5 k0_t4 v139 k0_t6 v314 v442), ∀ (k0_h6 : k0_cond6 v139 k0_t6 v314 = 1#1), ∀ a, (k0_off31 k0_t4 v139 k0_t6 v442) a + S1x1x512x128.size a ≤ S1x1x5760x128.size a := fun k0_t4 v139 k0_t6 v314 v442 k0_hw5 k0_h6 => k0_hw5.2.1 k0_h6
theorem k0_mult28_dvd : ∀ (k0_t4 : Fin k0_t4_loop.trips) (v139 : BitVec 32) (k0_t6 : Fin (k0_t6_loop v139).trips) (v314 : BitVec 32) (v442 : BitVec 32) (k0_hw5 : k0_chk5 k0_t4 v139 k0_t6 v314 v442), ∀ (k0_h6 : k0_cond6 v139 k0_t6 v314 = 1#1), 256 ∣ (k0_mult28 v139 k0_t6 v442).toNat := fun k0_t4 v139 k0_t6 v314 v442 k0_hw5 k0_h6 => k0_hw5.2.2.1 k0_h6
theorem k0_off35_inb : ∀ (k0_t4 : Fin k0_t4_loop.trips) (v139 : BitVec 32) (k0_t6 : Fin (k0_t6_loop v139).trips) (v314 : BitVec 32) (v442 : BitVec 32) (k0_hw5 : k0_chk5 k0_t4 v139 k0_t6 v314 v442), ∀ (k0_h6 : k0_cond6 v139 k0_t6 v314 = 1#1), ∀ (r : Fin 2), ∀ a, (k0_off35 v139 k0_t6 v442 (BitVec.ofNat 32 (256 * r.val))) a + S1x1x256x128.size a ≤ S1x1x12288x128.size a := fun k0_t4 v139 k0_t6 v314 v442 k0_hw5 k0_h6 r => k0_hw5.2.2.2.1 k0_h6 r
theorem k0_mult30_dvd : ∀ (k0_t4 : Fin k0_t4_loop.trips) (v139 : BitVec 32) (k0_t6 : Fin (k0_t6_loop v139).trips) (v314 : BitVec 32) (v442 : BitVec 32) (k0_hw5 : k0_chk5 k0_t4 v139 k0_t6 v314 v442), ∀ (k0_h6 : k0_cond6 v139 k0_t6 v314 = 1#1), 256 ∣ (k0_mult30 v139 k0_t6 v442).toNat := fun k0_t4 v139 k0_t6 v314 v442 k0_hw5 k0_h6 => k0_hw5.2.2.2.2.1 k0_h6
theorem k0_mult31_dvd : ∀ (k0_t4 : Fin k0_t4_loop.trips) (v139 : BitVec 32) (k0_t6 : Fin (k0_t6_loop v139).trips) (v314 : BitVec 32) (v442 : BitVec 32) (k0_hw5 : k0_chk5 k0_t4 v139 k0_t6 v314 v442), ∀ (k0_h7 : k0_cond7 v139 k0_t6 v314 = 1#1), 128 ∣ (k0_mult31 k0_t4 v139 k0_t6 v442).toNat := fun k0_t4 v139 k0_t6 v314 v442 k0_hw5 k0_h7 => k0_hw5.2.2.2.2.2.1 k0_h7
theorem k0_off36_inb : ∀ (k0_t4 : Fin k0_t4_loop.trips) (v139 : BitVec 32) (k0_t6 : Fin (k0_t6_loop v139).trips) (v314 : BitVec 32) (v442 : BitVec 32) (k0_hw5 : k0_chk5 k0_t4 v139 k0_t6 v314 v442), ∀ (k0_h7 : k0_cond7 v139 k0_t6 v314 = 1#1), ∀ a, (k0_off36 k0_t4 v139 k0_t6 v442) a + S1x1x512x128.size a ≤ S1x1x5760x128.size a := fun k0_t4 v139 k0_t6 v314 v442 k0_hw5 k0_h7 => k0_hw5.2.2.2.2.2.2.1 k0_h7
theorem k0_mult34_dvd : ∀ (k0_t4 : Fin k0_t4_loop.trips) (v139 : BitVec 32) (k0_t6 : Fin (k0_t6_loop v139).trips) (v314 : BitVec 32) (v442 : BitVec 32) (k0_hw5 : k0_chk5 k0_t4 v139 k0_t6 v314 v442), ∀ (k0_h7 : k0_cond7 v139 k0_t6 v314 = 1#1), 256 ∣ (k0_mult34 v139 k0_t6 v442).toNat := fun k0_t4 v139 k0_t6 v314 v442 k0_hw5 k0_h7 => k0_hw5.2.2.2.2.2.2.2.1 k0_h7
theorem k0_off40_inb : ∀ (k0_t4 : Fin k0_t4_loop.trips) (v139 : BitVec 32) (k0_t6 : Fin (k0_t6_loop v139).trips) (v314 : BitVec 32) (v442 : BitVec 32) (k0_hw5 : k0_chk5 k0_t4 v139 k0_t6 v314 v442), ∀ (k0_h7 : k0_cond7 v139 k0_t6 v314 = 1#1), ∀ (r : Fin 2), ∀ a, (k0_off40 v139 k0_t6 v442 (BitVec.ofNat 32 (256 * r.val))) a + S1x1x256x128.size a ≤ S1x1x12288x128.size a := fun k0_t4 v139 k0_t6 v314 v442 k0_hw5 k0_h7 r => k0_hw5.2.2.2.2.2.2.2.2.1 k0_h7 r
theorem k0_mult36_dvd : ∀ (k0_t4 : Fin k0_t4_loop.trips) (v139 : BitVec 32) (k0_t6 : Fin (k0_t6_loop v139).trips) (v314 : BitVec 32) (v442 : BitVec 32) (k0_hw5 : k0_chk5 k0_t4 v139 k0_t6 v314 v442), ∀ (k0_h7 : k0_cond7 v139 k0_t6 v314 = 1#1), 256 ∣ (k0_mult36 v139 k0_t6 v442).toNat := fun k0_t4 v139 k0_t6 v314 v442 k0_hw5 k0_h7 => k0_hw5.2.2.2.2.2.2.2.2.2 k0_h7

def k0_off41 (v164 : BitVec 32) (c0_i32_92 : BitVec 32) (c0_i32_93 : BitVec 32) : Fin 5 → Nat :=
  let c0_94 : Index := 0#32
  let c0_95 : Index := 0#32
  let c4_i32 : BitVec 32 := 4#32
  let v166 : BitVec 32 := Scalar.muli v164 c4_i32
  let v167 : BitVec 32 := Scalar.addi v166 c0_i32_92
  let v168 : BitVec 32 := Scalar.addi v167 c0_i32_93
  let v169 : Index := Scalar.indexCast v168
  let c0_96 : Index := 0#32
  let c0_97 : Index := 0#32
  ![0, 0, v169.toNat, 0, 0]

def k0_chk7 (v164 : BitVec 32) : Prop :=
  (∀ (r₁ : Fin 2) (r₂ : Fin 2), ∀ a, (k0_off41 v164 (BitVec.ofNat 32 (2 * r₁.val)) (BitVec.ofNat 32 r₂.val)) a + S1x1x1x128x128.size a ≤ S1x1x96x128x128.size a)
theorem k0_off41_inb : ∀ (v164 : BitVec 32) (k0_hw7 : k0_chk7 v164), ∀ (r₁ : Fin 2) (r₂ : Fin 2), ∀ a, (k0_off41 v164 (BitVec.ofNat 32 (2 * r₁.val)) (BitVec.ofNat 32 r₂.val)) a + S1x1x1x128x128.size a ≤ S1x1x96x128x128.size a := fun v164 k0_hw7 r₁ r₂ => k0_hw7 r₁ r₂

def k0_mult37 (k0_t4 : Fin k0_t4_loop.trips) : BitVec 32 :=
  let c512_i32_151 : BitVec 32 := 512#32
  let c0_i32_34 : BitVec 32 := 0#32
  let c1_i32_35 : BitVec 32 := 1#32
  let arg19 : BitVec 32 := Scf.iv c0_i32_34 c1_i32_35 k0_t4
  let v229 : BitVec 32 := Scalar.muli c512_i32_151 arg19
  let c384_i32_152 : BitVec 32 := 384#32
  let v230 : BitVec 32 := Scalar.subi v229 c384_i32_152
  let c0_i32_153 : BitVec 32 := 0#32
  let v231 : BitVec 32 := Scalar.maxsi v230 c0_i32_153
  v231
def k0_off42 (k0_t4 : Fin k0_t4_loop.trips) : Fin 4 → Nat :=
  let c0_154 : Index := 0#32
  let c0_155 : Index := 0#32
  let c0_156 : Index := 0#32
  let c512_i32_151 : BitVec 32 := 512#32
  let c0_i32_34 : BitVec 32 := 0#32
  let c1_i32_35 : BitVec 32 := 1#32
  let arg19 : BitVec 32 := Scf.iv c0_i32_34 c1_i32_35 k0_t4
  let v229 : BitVec 32 := Scalar.muli c512_i32_151 arg19
  let c384_i32_152 : BitVec 32 := 384#32
  let v230 : BitVec 32 := Scalar.subi v229 c384_i32_152
  let c0_i32_153 : BitVec 32 := 0#32
  let v231 : BitVec 32 := Scalar.maxsi v230 c0_i32_153
  let v232 : BitVec 32 := v231
  let v233 : Index := Scalar.indexCast v232
  ![0, 0, 0, v233.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x5760x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x12288x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x96x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x12288x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x5760 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128x5760 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S11520 : Shape := ⟨1, ![11520]⟩
abbrev S6x4x5760x128 : Shape := ⟨4, ![6, 4, 5760, 128]⟩
abbrev S6x4x12288x128 : Shape := ⟨4, ![6, 4, 12288, 128]⟩
abbrev S6x4x96x128x128 : Shape := ⟨5, ![6, 4, 96, 128, 128]⟩
abbrev S6x12288x128 : Shape := ⟨3, ![6, 12288, 128]⟩
abbrev S6x1x5760 : Shape := ⟨3, ![6, 1, 5760]⟩
abbrev S6x12288x4 : Shape := ⟨3, ![6, 12288, 4]⟩
abbrev S6x4x12288 : Shape := ⟨3, ![6, 4, 12288]⟩
abbrev S6x4x5760x12288 : Shape := ⟨4, ![6, 4, 5760, 12288]⟩
abbrev S6x4x1x12288 : Shape := ⟨4, ![6, 4, 1, 12288]⟩
abbrev S12288 : Shape := ⟨1, ![12288]⟩
abbrev S1x1x1x12288 : Shape := ⟨4, ![1, 1, 1, 12288]⟩
abbrev S6x1x5760x1 : Shape := ⟨4, ![6, 1, 5760, 1]⟩
abbrev S6x1x5760x12288 : Shape := ⟨4, ![6, 1, 5760, 12288]⟩
abbrev S_ : Shape := ⟨0, ![]⟩
abbrev S6x4x5760 : Shape := ⟨3, ![6, 4, 5760]⟩
abbrev S6x4x5760x1 : Shape := ⟨4, ![6, 4, 5760, 1]⟩
abbrev S6x4x128x5760 : Shape := ⟨4, ![6, 4, 128, 5760]⟩

abbrev nBuf : Space → Nat
  | .hbm => 47
  | .vmem => 0
  | .smem => 0
  | _ => 0

abbrev bufTy : (tb : Table) → Fin (tcTables nBuf tb) → BufTy
  | .hbm, ⟨0, _⟩ => ⟨S11520, .i32⟩
  | .hbm, ⟨1, _⟩ => ⟨S6x4x5760x128, .bf16⟩
  | .hbm, ⟨2, _⟩ => ⟨S6x4x12288x128, .bf16⟩
  | .hbm, ⟨3, _⟩ => ⟨S6x4x96x128x128, .bf16⟩
  | .hbm, ⟨4, _⟩ => ⟨S6x12288x128, .f32⟩
  | .hbm, ⟨5, _⟩ => ⟨S6x1x5760, .i32⟩
  | .hbm, ⟨6, _⟩ => ⟨S6x4x96x128x128, .bf16⟩
  | .hbm, ⟨7, _⟩ => ⟨S6x4x12288x128, .bf16⟩
  | .hbm, ⟨8, _⟩ => ⟨S6x12288x4, .f32⟩
  | .hbm, ⟨9, _⟩ => ⟨S6x4x12288, .f32⟩
  | .hbm, ⟨10, _⟩ => ⟨S6x12288x4, .f32⟩
  | .hbm, ⟨11, _⟩ => ⟨S6x4x12288, .f32⟩
  | .hbm, ⟨12, _⟩ => ⟨S6x4x5760x12288, .f32⟩
  | .hbm, ⟨13, _⟩ => ⟨S6x4x1x12288, .f32⟩
  | .hbm, ⟨14, _⟩ => ⟨S6x4x5760x12288, .f32⟩
  | .hbm, ⟨15, _⟩ => ⟨S6x4x5760x12288, .f32⟩
  | .hbm, ⟨16, _⟩ => ⟨S12288, .i32⟩
  | .hbm, ⟨17, _⟩ => ⟨S1x1x1x12288, .i32⟩
  | .hbm, ⟨18, _⟩ => ⟨S6x1x5760x1, .i32⟩
  | .hbm, ⟨19, _⟩ => ⟨S6x1x5760x12288, .i32⟩
  | .hbm, ⟨20, _⟩ => ⟨S6x1x5760x12288, .i32⟩
  | .hbm, ⟨21, _⟩ => ⟨S6x1x5760x12288, .i1⟩
  | .hbm, ⟨22, _⟩ => ⟨S_, .f32⟩
  | .hbm, ⟨23, _⟩ => ⟨S_, .f32⟩
  | .hbm, ⟨24, _⟩ => ⟨S6x4x5760x12288, .i1⟩
  | .hbm, ⟨25, _⟩ => ⟨S6x4x5760x12288, .f32⟩
  | .hbm, ⟨26, _⟩ => ⟨S6x4x5760x12288, .f32⟩
  | .hbm, ⟨27, _⟩ => ⟨S_, .f32⟩
  | .hbm, ⟨28, _⟩ => ⟨S6x4x5760, .f32⟩
  | .hbm, ⟨29, _⟩ => ⟨S6x4x5760x1, .f32⟩
  | .hbm, ⟨30, _⟩ => ⟨S6x4x5760x1, .f32⟩
  | .hbm, ⟨31, _⟩ => ⟨S6x4x5760x12288, .f32⟩
  | .hbm, ⟨32, _⟩ => ⟨S6x4x5760x12288, .f32⟩
  | .hbm, ⟨33, _⟩ => ⟨S_, .f32⟩
  | .hbm, ⟨34, _⟩ => ⟨S6x4x5760x12288, .f32⟩
  | .hbm, ⟨35, _⟩ => ⟨S6x4x5760x12288, .f32⟩
  | .hbm, ⟨36, _⟩ => ⟨S_, .f32⟩
  | .hbm, ⟨37, _⟩ => ⟨S6x4x5760, .f32⟩
  | .hbm, ⟨38, _⟩ => ⟨S6x4x1x12288, .f32⟩
  | .hbm, ⟨39, _⟩ => ⟨S6x4x5760x12288, .f32⟩
  | .hbm, ⟨40, _⟩ => ⟨S6x4x5760x12288, .f32⟩
  | .hbm, ⟨41, _⟩ => ⟨S6x4x5760x12288, .bf16⟩
  | .hbm, ⟨42, _⟩ => ⟨S6x4x5760x128, .f32⟩
  | .hbm, ⟨43, _⟩ => ⟨S6x4x5760x1, .f32⟩
  | .hbm, ⟨44, _⟩ => ⟨S6x4x5760x128, .f32⟩
  | .hbm, ⟨45, _⟩ => ⟨S6x4x5760x128, .f32⟩
  | .hbm, ⟨46, _⟩ => ⟨S6x4x128x5760, .f32⟩
  | _, _ => ⟨S11520, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Out.lean ====
abbrev S6x4x128x5760 : Shape := ⟨4, ![6, 4, 128, 5760]⟩
abbrev S6x1920x3072 : Shape := ⟨3, ![6, 1920, 3072]⟩
abbrev S1536x3072 : Shape := ⟨2, ![1536, 3072]⟩
abbrev S3072 : Shape := ⟨1, ![3072]⟩
abbrev S11520x3072 : Shape := ⟨2, ![11520, 3072]⟩
abbrev S1x3072 : Shape := ⟨2, ![1, 3072]⟩
abbrev S11520x1536 : Shape := ⟨2, ![11520, 1536]⟩
abbrev S11520x1 : Shape := ⟨2, ![11520, 1]⟩
abbrev S1x4x128x1152 : Shape := ⟨4, ![1, 4, 128, 1152]⟩
abbrev S384x3072 : Shape := ⟨2, ![384, 3072]⟩
abbrev S384x1536 : Shape := ⟨2, ![384, 1536]⟩
abbrev S384x1 : Shape := ⟨2, ![384, 1]⟩
abbrev S1x1x128x1152 : Shape := ⟨4, ![1, 1, 128, 1152]⟩
abbrev S128x1152 : Shape := ⟨2, ![128, 1152]⟩
abbrev S1152x128 : Shape := ⟨2, ![1152, 128]⟩
abbrev S24x3x16x128 : Shape := ⟨4, ![24, 3, 16, 128]⟩
abbrev S24x1x16x128 : Shape := ⟨4, ![24, 1, 16, 128]⟩
abbrev S24x16x128 : Shape := ⟨3, ![24, 16, 128]⟩
abbrev S384x128 : Shape := ⟨2, ![384, 128]⟩
abbrev S384 : Shape := ⟨1, ![384]⟩

abbrev nBuf : Space → Nat
  | .hbm => 10
  | .vmem => 14
  | .smem => 0
  | _ => 0

abbrev bufTy : (tb : Table) → Fin (tcTables nBuf tb) → BufTy
  | .hbm, ⟨0, _⟩ => ⟨S6x4x128x5760, .f32⟩
  | .hbm, ⟨1, _⟩ => ⟨S6x1920x3072, .bf16⟩
  | .hbm, ⟨2, _⟩ => ⟨S1536x3072, .fp8e4m3⟩
  | .hbm, ⟨3, _⟩ => ⟨S3072, .f32⟩
  | .hbm, ⟨4, _⟩ => ⟨S11520x3072, .bf16⟩
  | .hbm, ⟨5, _⟩ => ⟨S1x3072, .f32⟩
  | .hbm, ⟨6, _⟩ => ⟨S11520x3072, .bf16⟩
  | .hbm, ⟨7, _⟩ => ⟨S11520x1536, .f32⟩
  | .hbm, ⟨8, _⟩ => ⟨S11520x1536, .fp8e4m3⟩
  | .hbm, ⟨9, _⟩ => ⟨S11520x1, .f32⟩
  | .local _ .vmem, ⟨0, _⟩ => ⟨S1x4x128x1152, .f32⟩
  | .local _ .vmem, ⟨1, _⟩ => ⟨S1x4x128x1152, .f32⟩
  | .local _ .vmem, ⟨2, _⟩ => ⟨S384x3072, .bf16⟩
  | .local _ .vmem, ⟨3, _⟩ => ⟨S384x3072, .bf16⟩
  | .local _ .vmem, ⟨4, _⟩ => ⟨S1536x3072, .fp8e4m3⟩
  | .local _ .vmem, ⟨5, _⟩ => ⟨S1x3072, .f32⟩
  | .local _ .vmem, ⟨6, _⟩ => ⟨S384x3072, .bf16⟩
  | .local _ .vmem, ⟨7, _⟩ => ⟨S384x3072, .bf16⟩
  | .local _ .vmem, ⟨8, _⟩ => ⟨S384x1536, .f32⟩
  | .local _ .vmem, ⟨9, _⟩ => ⟨S384x1536, .f32⟩
  | .local _ .vmem, ⟨10, _⟩ => ⟨S384x1536, .fp8e4m3⟩
  | .local _ .vmem, ⟨11, _⟩ => ⟨S384x1536, .fp8e4m3⟩
  | .local _ .vmem, ⟨12, _⟩ => ⟨S384x1, .f32⟩
  | .local _ .vmem, ⟨13, _⟩ => ⟨S384x1, .f32⟩
  | _, _ => ⟨S6x4x128x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![30], ![false]⟩

def cc0_transform_0 (i : grid0.Coords) : Fin 4 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4x128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1536 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S6x4x128x5760 : Shape := ⟨4, ![6, 4, 128, 5760]⟩
abbrev S6x1920x3072 : Shape := ⟨3, ![6, 1920, 3072]⟩
abbrev S1536x3072 : Shape := ⟨2, ![1536, 3072]⟩
abbrev S3072 : Shape := ⟨1, ![3072]⟩
abbrev S6x4x128x120x3x16 : Shape := ⟨6, ![6, 4, 128, 120, 3, 16]⟩
abbrev S6x120x16x4x3x128 : Shape := ⟨6, ![6, 120, 16, 4, 3, 128]⟩
abbrev S11520x1536 : Shape := ⟨2, ![11520, 1536]⟩
abbrev S11520x3072 : Shape := ⟨2, ![11520, 3072]⟩
abbrev S1x3072 : Shape := ⟨2, ![1, 3072]⟩
abbrev S11520x1 : Shape := ⟨2, ![11520, 1]⟩
abbrev S11520 : Shape := ⟨1, ![11520]⟩

abbrev nBuf : Space → Nat
  | .hbm => 12
  | .vmem => 7
  | .smem => 0
  | _ => 0

abbrev bufTy : (tb : Table) → Fin (tcTables nBuf tb) → BufTy
  | .hbm, ⟨0, _⟩ => ⟨S6x4x128x5760, .f32⟩
  | .hbm, ⟨1, _⟩ => ⟨S6x1920x3072, .bf16⟩
  | .hbm, ⟨2, _⟩ => ⟨S1536x3072, .fp8e4m3⟩
  | .hbm, ⟨3, _⟩ => ⟨S3072, .f32⟩
  | .hbm, ⟨4, _⟩ => ⟨S6x4x128x120x3x16, .f32⟩
  | .hbm, ⟨5, _⟩ => ⟨S6x120x16x4x3x128, .f32⟩
  | .hbm, ⟨6, _⟩ => ⟨S11520x1536, .f32⟩
  | .hbm, ⟨7, _⟩ => ⟨S11520x3072, .bf16⟩
  | .hbm, ⟨8, _⟩ => ⟨S1x3072, .f32⟩
  | .hbm, ⟨9, _⟩ => ⟨S11520x3072, .bf16⟩
  | .hbm, ⟨10, _⟩ => ⟨S11520x1536, .fp8e4m3⟩
  | .hbm, ⟨11, _⟩ => ⟨S11520x1, .f32⟩
  | .local _ .vmem, ⟨0, _⟩ => ⟨S11520x1536, .f32⟩
  | .local _ .vmem, ⟨1, _⟩ => ⟨S11520x3072, .bf16⟩
  | .local _ .vmem, ⟨2, _⟩ => ⟨S1536x3072, .fp8e4m3⟩
  | .local _ .vmem, ⟨3, _⟩ => ⟨S1x3072, .f32⟩
  | .local _ .vmem, ⟨4, _⟩ => ⟨S11520x3072, .bf16⟩
  | .local _ .vmem, ⟨5, _⟩ => ⟨S11520x1536, .fp8e4m3⟩
  | .local _ .vmem, ⟨6, _⟩ => ⟨S11520x1, .f32⟩
  | _, _ => ⟨S6x4x128x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S11520x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11520x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11520x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11520x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S11520x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Quant.lean ====
/-
  The row quantiser, as functions of one row of extended reals: the row's scale (its greatest absolute value over 448, or 1
  when that is 0), its codes (each entry over the scale, clipped to ±448), and the one fact the kernel and the reference
  differ by: multiplying by the reciprocal of the scale is dividing by the scale, because the scale is never 0.
-/
module

public import Idealize.ShloMosaic.Lib.Pointwise
public import Idealize.ShloMosaic.Lib.MatmulPlain

@[expose] public section

noncomputable section

namespace Cert.Quant

open Idealize.ShloMosaic

/-- The literal 448, the largest finite fp8 e4m3 value. -/
theorem ofBits_448 : Ideal.ofBits .f32 0x43E00000#32 = ((448 : ℝ) : EReal) := by
  simp [Ideal.ofBits, Ideal.ieee, -EReal.coe_mul]; norm_num

/-- The greatest absolute value of a row. -/
def amax {n : Nat} (r : Fin n → EReal) : EReal :=
  (Finset.univ : Finset (Fin n)).fold max (Ideal.ofBits .f32 0xFF800000#32) fun k => max (r k) (-(r k))

/-- The greatest absolute value, as the vector operations take it. -/
theorem multiReduction_absf {n0 n1 : Nat} (h : (⟨2, ![n0, n1]⟩ : Shape).Reduces [1] ⟨1, ![n0]⟩)
    (v : FVec Ideal (⟨2, ![n0, n1]⟩ : Shape) .f32) (p : Fin n0) :
    multiReduction (F := Ideal) .maximumf [1] ⟨1, ![n0]⟩ (absf v) 0xFF800000#32 h (.inl rfl) rfl (ix1 p)
      = amax fun k : Fin n1 => v (ix2 p k) := by
  unfold amax
  pointwise
  rfl

/-- The scale that goes with a greatest absolute value: that value over 448, or 1 when it is 0. -/
def scaleOf (a : EReal) : EReal :=
  Scalar.select (Ideal.cmp .oeq a 0) 1 (Ideal.div a (Ideal.ofBits .f32 0x43E00000#32))

/-- One code: the entry over the scale, clipped. -/
def code (s x : EReal) : EReal :=
  min (Ideal.ofBits .f32 0x43E00000#32) (max (Ideal.ofBits .f32 0xC3E00000#32) (Ideal.div x s))

theorem scaleOf_ne_zero (a : EReal) : scaleOf a ≠ 0 := by
  unfold scaleOf
  by_cases h : a = 0
  · subst h
    simp [Ideal.cmp, Scalar.select]
  · have h' : Ideal.cmp .oeq a 0 = 0#1 := by simp [Ideal.cmp, h]
    rw [h', show ∀ x y : EReal, Scalar.select 0#1 x y = y from fun _ _ => rfl, ofBits_448]
    induction a with
    | bot =>
      rw [Ideal.div, if_neg (by norm_num)]
      rw [← EReal.coe_inv, EReal.bot_mul_coe_of_pos (by norm_num)]
      exact EReal.bot_ne_zero
    | top =>
      rw [Ideal.div, if_neg (by norm_num)]
      rw [← EReal.coe_inv, EReal.top_mul_coe_of_pos (by norm_num)]
      exact EReal.top_ne_zero
    | coe x =>
      rw [Ideal.div_coe (y := 448) (by norm_num), ← EReal.coe_mul]
      have hx : x ≠ 0 := by simpa using h
      exact EReal.coe_ne_zero.2 (mul_ne_zero hx (by norm_num))

/-- Multiplying by the reciprocal of a scale is dividing by it. -/
theorem mul_recip (a x : EReal) : x * Ideal.div 1 (scaleOf a) = Ideal.div x (scaleOf a) := by
  rw [Ideal.div, Ideal.div, if_neg (scaleOf_ne_zero a), if_neg (scaleOf_ne_zero a), one_mul]

/-! ## The vector operations of the quantiser, at an index -/

/-- The scale column of an array of `n` rows of `l`. -/
def scaleVec {n l : Nat} (h : (⟨2, ![n, l]⟩ : Shape).Reduces [1] ⟨1, ![n]⟩) (hc : (⟨1, ![n]⟩ : Shape).ShapeCasts ⟨2, ![n, 1]⟩)
    (a : FVec Ideal ⟨2, ![n, l]⟩ .f32) : FVec Ideal ⟨2, ![n, 1]⟩ .f32 :=
  select
    (cmpf .oeq (shapeCast ⟨2, ![n, 1]⟩ (multiReduction (F := Ideal) .maximumf [1] ⟨1, ![n]⟩ (absf a) 0xFF800000#32 h (.inl rfl) rfl) hc)
      (broadcast ⟨2, ![n, 1]⟩ (Scalar.ofBits .f32 0x00000000#32)))
    (broadcast ⟨2, ![n, 1]⟩ (Scalar.ofBits .f32 0x3F800000#32))
    (divf (shapeCast ⟨2, ![n, 1]⟩ (multiReduction (F := Ideal) .maximumf [1] ⟨1, ![n]⟩ (absf a) 0xFF800000#32 h (.inl rfl) rfl) hc)
      (broadcast ⟨2, ![n, 1]⟩ (Scalar.ofBits .f32 0x43E00000#32)))

theorem select_scale {n : Nat} (v : FVec Ideal ⟨2, ![n, 1]⟩ .f32) (i : (⟨2, ![n, 1]⟩ : Shape).Idx) :
    select (cmpf .oeq v (broadcast ⟨2, ![n, 1]⟩ (Scalar.ofBits .f32 0x00000000#32)))
        (broadcast ⟨2, ![n, 1]⟩ (Scalar.ofBits .f32 0x3F800000#32))
        (divf (F := Ideal) v (broadcast ⟨2, ![n, 1]⟩ (Scalar.ofBits .f32 0x43E00000#32))) i
      = scaleOf (v i) := by
  unfold scaleOf
  pointwise

theorem scaleVec_apply {n l : Nat} (h : (⟨2, ![n, l]⟩ : Shape).Reduces [1] ⟨1, ![n]⟩) (hc : (⟨1, ![n]⟩ : Shape).ShapeCasts ⟨2, ![n, 1]⟩)
    (a : FVec Ideal ⟨2, ![n, l]⟩ .f32) (p : Fin n) : scaleVec h hc a (ix2 p 0) = scaleOf (amax fun k : Fin l => a (ix2 p k)) := by
  unfold scaleVec
  rw [select_scale, ← multiReduction_absf h]
  refine congrArg scaleOf (shapeCast_apply _ _ _ (ix1 p) ?_)
  simp [Shape.rowMajor_val_two, Shape.rowMajor_val_one]

/-- A column broadcast along the rows. -/
theorem column_apply {n l : Nat} {α : Type} (hb : (⟨2, ![n, 1]⟩ : Shape).Broadcasts ⟨2, ![n, l]⟩)
    (s : (⟨2, ![n, 1]⟩ : Shape).Idx → α) (p : Fin n) (k : Fin l) : broadcastTo ⟨2, ![n, l]⟩ s hb (ix2 p k) = s (ix2 p 0) := by
  refine broadcastTo_apply _ _ _ _ fun a => ?_
  have hp := p.isLt
  fin_cases a
  · by_cases h : n = 1
    · subst h; simp
    · simp [h]
  · simp

/-- A row broadcast down the columns. -/
theorem row_apply {n l : Nat} {α : Type} (hb : (⟨2, ![1, l]⟩ : Shape).Broadcasts ⟨2, ![n, l]⟩)
    (s : (⟨2, ![1, l]⟩ : Shape).Idx → α) (p : Fin n) (k : Fin l) : broadcastTo ⟨2, ![n, l]⟩ s hb (ix2 p k) = s (ix2 0 k) := by
  refine broadcastTo_apply _ _ _ _ fun a => ?_
  have hk := k.isLt
  fin_cases a
  · simp
  · by_cases h : l = 1
    · subst h; simp
    · simp [h]

/-- A quantised product scaled back by its row's and its column's scales. -/
theorem product_apply {n k l : Nat} {φ : FTy} (hb : (⟨2, ![n, 1]⟩ : Shape).Broadcasts ⟨2, ![n, l]⟩)
    (hb' : (⟨2, ![1, l]⟩ : Shape).Broadcasts ⟨2, ![n, l]⟩)
    (q : FVec Ideal ⟨2, ![n, k]⟩ φ) (w : FVec Ideal ⟨2, ![k, l]⟩ φ)
    (s : FVec Ideal ⟨2, ![n, 1]⟩ .f32) (ws : FVec Ideal ⟨2, ![1, l]⟩ .f32) (p : Fin n) (j : Fin l) :
    mulf (mulf (matmul (DotDims.plain n k l) none q w (constant ⟨2, ![n, l]⟩ .f32 0x00000000#32))
        (broadcastTo ⟨2, ![n, l]⟩ s hb)) (broadcastTo ⟨2, ![n, l]⟩ ws hb') (ix2 p j)
      = (∑ i : Fin k, q (ix2 p i) * w (ix2 i j)) * s (ix2 p 0) * ws (ix2 0 j) := by
  rw [mulf_apply, mulf_apply, column_apply, row_apply]
  congr 2
  refine (Ideal.matmul_plain_apply none q w _ p j).trans ?_
  exact (congrArg (· + _) Ideal.ofBits_zero_f32).trans (zero_add _)

/-- Codes by division. -/
theorem code_div {n l : Nat} (hb : (⟨2, ![n, 1]⟩ : Shape).Broadcasts ⟨2, ![n, l]⟩) (hw : FTy.fp8e4m3.bits < FTy.f32.bits)
    (a : FVec Ideal ⟨2, ![n, l]⟩ .f32) (s : FVec Ideal ⟨2, ![n, 1]⟩ .f32) (p : Fin n) (k : Fin l) :
    truncf (F := Ideal) .fp8e4m3 (minimumf (broadcast ⟨2, ![n, l]⟩ (Scalar.ofBits .f32 0x43E00000#32))
        (maximumf (broadcast ⟨2, ![n, l]⟩ (Scalar.ofBits .f32 0xC3E00000#32)) (divf a (broadcastTo ⟨2, ![n, l]⟩ s hb)))) hw (ix2 p k)
      = code (s (ix2 p 0)) (a (ix2 p k)) := by
  rw [← column_apply hb s p k]
  rfl

/-- Codes by multiplying with the reciprocal: the same codes, where the scale is one. -/
theorem code_recip {n l : Nat} (hb : (⟨2, ![n, 1]⟩ : Shape).Broadcasts ⟨2, ![n, l]⟩) (hw : FTy.fp8e4m3.bits < FTy.f32.bits)
    (a : FVec Ideal ⟨2, ![n, l]⟩ .f32) (s : FVec Ideal ⟨2, ![n, 1]⟩ .f32) (p : Fin n) (k : Fin l) (m : EReal)
    (hs : s (ix2 p 0) = scaleOf m) :
    truncf (F := Ideal) .fp8e4m3 (minimumf (broadcast ⟨2, ![n, l]⟩ (Scalar.ofBits .f32 0x43E00000#32))
        (maximumf (broadcast ⟨2, ![n, l]⟩ (Scalar.ofBits .f32 0xC3E00000#32))
          (mulf a (broadcastTo ⟨2, ![n, l]⟩ (divf (broadcast ⟨2, ![n, 1]⟩ (Scalar.ofBits .f32 0x3F800000#32)) s) hb)))) hw (ix2 p k)
      = code (scaleOf m) (a (ix2 p k)) := by
  unfold code
  rw [← mul_recip, ← hs]
  have e : Ideal.div 1 (s (ix2 p 0))
      = broadcastTo ⟨2, ![n, l]⟩ (divf (broadcast ⟨2, ![n, 1]⟩ (Scalar.ofBits (F := Ideal) .f32 0x3F800000#32)) s) hb (ix2 p k) := by
    rw [column_apply]
    pointwise
  rw [e]
  rfl

end Cert.Quant

end
-- ==== Proof.OutBlock.lean ====
/-
  What one grid point of the output kernel leaves in its four output windows, as functions of its input windows' blocks.
-/
module

public import proofs.«01_k».proof.Proof.Gen.OutIdeal.Value
public import proofs.«01_k».proof.Proof.Quant
public import Idealize.ShloMosaic.Lib.Pointwise
public import Idealize.ShloMosaic.Lib.Pipeline.ValueKit.Tiles
public import Idealize.ShloMosaic.Lib.Pipeline.ValueKit.Geometry

@[expose] public section

set_option maxRecDepth 16384

noncomputable section

namespace Cert.OutIdeal.Block

open Cert.OutIdeal Cert.OutIdeal.Gen Idealize.ShloMosaic Idealize.ShloMosaic.TcCoe Idealize.SL.Sem
open Idealize.ShloMosaic.Pipeline (Dat)

/-! ## The attention block: twelve stores, one function -/

section
variable {F : FTy → Type} [FloatOps F]

/-- The attention rows of one block: row `16 a + u`, head `3 j + g`, lane `d` is the transposed output at KV head `j`, lane `d`,
    column `48 a + 16 g + u`. -/
def attn (x : Vec F S1x4x128x1152 .f32) : Vec F S384x1536 .f32 := fun y =>
  x (ix4 0 ⟨(y 1).val / 384, by have : (y 1).val < 1536 := (y 1).isLt; omega⟩ ⟨(y 1).val % 128, by omega⟩
    ⟨(y 0).val / 16 * 48 + (y 1).val % 384 / 128 * 16 + (y 0).val % 16, by have : (y 0).val < 384 := (y 0).isLt; omega⟩)

/-- The re-laying of one KV head's block, common to the four heads. -/
theorem pay1_apply (v : Vec F S1x1x128x1152 .f32) (a : Fin 24) (g : Fin 3) (u : Fin 16) (d : Fin 128) :
    k0_pay1 v (ix4 a g u d) = v (ix4 0 0 d ⟨a.val * 48 + g.val * 16 + u.val, by omega⟩) := by
  unfold k0_pay1
  dsimp only
  rw [shapeCast_apply _ _ _ (ix2 (⟨a.val * 48 + g.val * 16 + u.val, by omega⟩ : Fin 1152) d) (by
    simp [Shape.rowMajor_val_two, Shape.rowMajor_val_four]; omega)]
  rw [transpose_apply _ _ _ _ (ix2 d (⟨a.val * 48 + g.val * 16 + u.val, by omega⟩ : Fin 1152)) (by
    intro b; fin_cases b <;> rfl)]
  rw [shapeCast_apply _ _ _ (ix4 0 0 d (⟨a.val * 48 + g.val * 16 + u.val, by omega⟩ : Fin 1152)) (by
    simp [Shape.rowMajor_val_two, Shape.rowMajor_val_four])]

/-- One query head's rows, cut out of the re-laid block. -/
theorem head_apply (w : FVec F S24x3x16x128 .f32) (g : Fin 3) (h : S24x3x16x128.Slices ![0, g.val, 0, 0] S24x1x16x128)
    (p : Fin 384) (d : Fin 128) :
    shapeCast S384x128 (shapeCast S24x16x128 (extractStridedSlice S24x1x16x128 ![0, g.val, 0, 0] w h)
        shapeCasts_S24x1x16x128_S24x16x128) shapeCasts_S24x16x128_S384x128 (ix2 p d)
      = w (ix4 ⟨p.val / 16, by omega⟩ g ⟨p.val % 16, by omega⟩ d) := by
  rw [shapeCast_apply _ _ _ (ix3 (⟨p.val / 16, by omega⟩ : Fin 24) (⟨p.val % 16, by omega⟩ : Fin 16) d) (by
    simp [Shape.rowMajor_val_two, Shape.rowMajor_val_three]; omega)]
  rw [shapeCast_apply _ _ _ (ix4 (⟨p.val / 16, by omega⟩ : Fin 24) 0 (⟨p.val % 16, by omega⟩ : Fin 16) d) (by
    simp [Shape.rowMajor_val_four, Shape.rowMajor_val_three])]
  rw [extractStridedSlice_apply _ _ _ _ (ix4 (⟨p.val / 16, by omega⟩ : Fin 24) g (⟨p.val % 16, by omega⟩ : Fin 16) d) (by
    intro b; fin_cases b <;> simp)]

/-- One store: the head `3 j + g` of the block is `attn` on its 128 columns. -/
theorem piece_apply (x : Vec F S1x4x128x1152 .f32) (j : Fin 4) (g : Fin 3)
    (h : S24x3x16x128.Slices ![0, g.val, 0, 0] S24x1x16x128)
    (inbj : ∀ a, (![0, j.val, 0, 0] : Fin 4 → Nat) a + (![1, 1, 128, 1152] : Fin 4 → Nat) a ≤ S1x4x128x1152.size a)
    (o : Nat) (ho : o = 384 * j.val + 128 * g.val)
    (inbo : ∀ a, (![0, o] : Fin 2 → Nat) a + (![384, 128] : Fin 2 → Nat) a ≤ S384x1536.size a)
    (y : S384x128.Idx) :
    shapeCast S384x128 (shapeCast S24x16x128 (extractStridedSlice S24x1x16x128 ![0, g.val, 0, 0]
        (k0_pay1 (View.ld x (Rect.unit (s := S1x4x128x1152) ![0, j.val, 0, 0] ![1, 1, 128, 1152] inbj))) h)
        shapeCasts_S24x1x16x128_S24x16x128) shapeCasts_S24x16x128_S384x128 y
      = attn x ((Rect.unit (s := S384x1536) ![0, o] ![384, 128] inbo).emb y) := by
  obtain ⟨p, d, rfl⟩ : ∃ (p : Fin 384) (d : Fin 128), y = ix2 p d := ⟨y 0, y 1, eq_ix2 y⟩
  rw [head_apply, pay1_apply]
  unfold attn
  rw [View.ld_unit_apply_of]
  intro a
  fin_cases a <;> simp [ValueKit.rect_emb_unit_val] <;> omega

/-- The twelve stores, last first. -/
def pieces (x : Vec F S1x4x128x1152 .f32) : List (View.Piece (Elt F) S384x1536 .f32) :=
  [⟨Rect.unit ![0, 1408] ![384, 128] inb_S384x1536_S384x128_0_1408, k0_pay16 (View.ld x (Rect.unit ![0, 3, 0, 0] ![1, 1, 128, 1152] inb_S1x4x128x1152_S1x1x128x1152_0_3_0_0))⟩,
   ⟨Rect.unit ![0, 1280] ![384, 128] inb_S384x1536_S384x128_0_1280, k0_pay15 (View.ld x (Rect.unit ![0, 3, 0, 0] ![1, 1, 128, 1152] inb_S1x4x128x1152_S1x1x128x1152_0_3_0_0))⟩,
   ⟨Rect.unit ![0, 1152] ![384, 128] inb_S384x1536_S384x128_0_1152, k0_pay14 (View.ld x (Rect.unit ![0, 3, 0, 0] ![1, 1, 128, 1152] inb_S1x4x128x1152_S1x1x128x1152_0_3_0_0))⟩,
   ⟨Rect.unit ![0, 1024] ![384, 128] inb_S384x1536_S384x128_0_1024, k0_pay12 (View.ld x (Rect.unit ![0, 2, 0, 0] ![1, 1, 128, 1152] inb_S1x4x128x1152_S1x1x128x1152_0_2_0_0))⟩,
   ⟨Rect.unit ![0, 896] ![384, 128] inb_S384x1536_S384x128_0_896, k0_pay11 (View.ld x (Rect.unit ![0, 2, 0, 0] ![1, 1, 128, 1152] inb_S1x4x128x1152_S1x1x128x1152_0_2_0_0))⟩,
   ⟨Rect.unit ![0, 768] ![384, 128] inb_S384x1536_S384x128_0_768, k0_pay10 (View.ld x (Rect.unit ![0, 2, 0, 0] ![1, 1, 128, 1152] inb_S1x4x128x1152_S1x1x128x1152_0_2_0_0))⟩,
   ⟨Rect.unit ![0, 640] ![384, 128] inb_S384x1536_S384x128_0_640, k0_pay8 (View.ld x (Rect.unit ![0, 1, 0, 0] ![1, 1, 128, 1152] inb_S1x4x128x1152_S1x1x128x1152_0_1_0_0))⟩,
   ⟨Rect.unit ![0, 512] ![384, 128] inb_S384x1536_S384x128_0_512, k0_pay7 (View.ld x (Rect.unit ![0, 1, 0, 0] ![1, 1, 128, 1152] inb_S1x4x128x1152_S1x1x128x1152_0_1_0_0))⟩,
   ⟨Rect.unit ![0, 384] ![384, 128] inb_S384x1536_S384x128_0_384, k0_pay6 (View.ld x (Rect.unit ![0, 1, 0, 0] ![1, 1, 128, 1152] inb_S1x4x128x1152_S1x1x128x1152_0_1_0_0))⟩,
   ⟨Rect.unit ![0, 256] ![384, 128] inb_S384x1536_S384x128_0_256, k0_pay4 (View.ld x (Rect.unit ![0, 0, 0, 0] ![1, 1, 128, 1152] inb_S1x4x128x1152_S1x1x128x1152_0_0_0_0))⟩,
   ⟨Rect.unit ![0, 128] ![384, 128] inb_S384x1536_S384x128_0_128, k0_pay3 (View.ld x (Rect.unit ![0, 0, 0, 0] ![1, 1, 128, 1152] inb_S1x4x128x1152_S1x1x128x1152_0_0_0_0))⟩,
   ⟨Rect.unit ![0, 0] ![384, 128] inb_S384x1536_S384x128_0_0, k0_pay2 (View.ld x (Rect.unit ![0, 0, 0, 0] ![1, 1, 128, 1152] inb_S1x4x128x1152_S1x1x128x1152_0_0_0_0))⟩]

theorem canon_pieces (x : Vec F S1x4x128x1152 .f32) (hc : ∀ y : S384x1536.Idx, ∃ p ∈ pieces x, y ∈ p.1.set) :
    View.canon (pieces x) = attn x := by
  funext y
  refine View.canon_apply_of_pieces (attn x) (pieces x) ?_ y (hc y)
  simp only [pieces, List.forall_mem_cons]
  refine ⟨piece_apply x 3 2 _ _ _ rfl _, piece_apply x 3 1 _ _ _ rfl _, piece_apply x 3 0 _ _ _ rfl _, piece_apply x 2 2 _ _ _ rfl _, piece_apply x 2 1 _ _ _ rfl _, piece_apply x 2 0 _ _ _ rfl _, piece_apply x 1 2 _ _ _ rfl _, piece_apply x 1 1 _ _ _ rfl _, piece_apply x 1 0 _ _ _ rfl _, piece_apply x 0 2 _ _ _ rfl _, piece_apply x 0 1 _ _ _ rfl _, piece_apply x 0 0 _ _ _ rfl _, fun _ h => absurd h (by simp)⟩

variable (m : (ℓ : Loc nD τ sig) → Buf (Elt F) ℓ)

/-- The run's stores to the attention window are the twelve pieces. -/
theorem run_pieces (c : Dev nD) (t : Fin cfg0.N) :
    (kernelRun0_A (F := F) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (iblk m c 0 t) (iblk m c 1 t)
      (iblk m c 2 t) (iblk m c 3 t)).2.1 = pieces (iblk m c 0 t) := by
  unfold kernelRun0_A
  dsimp only
  sl_unfold_words
  simp only [View.readAt_eq_ld, (hs0_0 t).read_unread]
  rfl

/-- They cover it. -/
theorem cover_pieces (c : Dev nD) (t : Fin cfg0.N) (y : S384x1536.Idx) :
    ∃ p ∈ pieces (iblk m c 0 t), y ∈ p.1.set := by
  rw [← run_pieces m c t]
  exact cover0_A_5 c _ _ _ _ _ _ _ _ _ _ _ _ _ _ _ _ _ _ _ _ _ y

/-- The attention window after grid point `t`. -/
theorem outs5 (c : Dev nD) (t : Fin cfg0.N) : (outsAt0 m c t).2.1 = attn (iblk m c 0 t) := by
  unfold outsAt0
  dsimp only
  unfold out0_A_5
  rw [View.read_writes_eq_canon _ _ _ (cover0_A_5 c _ _ _ _ _ _ _ _ _ _ _ _ _ _ _ _ _ _ _ _ _), run_pieces]
  exact canon_pieces _ (cover_pieces m c t)

/-- What the quantiser reads back: the attention block. -/
theorem readCov_pieces (c : Dev nD) (t : Fin cfg0.N) :
    (ms0_5 t).view.readCov (pieces (iblk m c 0 t)) (Rect.unit ![0, 0] ![384, 1536] inb_S384x1536_S384x1536_0_0).toLoadRect
      = attn (iblk m c 0 t) := by
  rw [View.readCov_eq_canon_ld _ _ _ (cover_pieces m c t), canon_pieces _ (cover_pieces m c t)]
  exact View.ld_unit_zero (by decide) _ _

/-- The scale window after grid point `t`. -/
theorem outs7 (c : Dev nD) (t : Fin cfg0.N) : (outsAt0 m c t).2.2.2 = k0_pay18 (attn (iblk m c 0 t)) := by
  unfold outsAt0
  dsimp only
  unfold out0_A_7
  rw [View.read_writes_eq_canon _ _ _ (cover0_A_7 c _ _ _ _ _ _ _ _ _ _ _ _ _ _ _ _ _ _ _ _ _)]
  unfold kernelRun0_A
  dsimp only
  sl_unfold_words
  simp only [View.readAt_eq_ld, (hs0_0 t).read_unread]
  refine (View.canon_unit_zero (by decide) _ _).trans (congrArg k0_pay18 ?_)
  have h5 := readCov_pieces m c t
  unfold pieces at h5
  exact h5

/-- The codes window after grid point `t`. -/
theorem outs6 (c : Dev nD) (t : Fin cfg0.N) : (outsAt0 m c t).2.2.1 = k0_pay19 (attn (iblk m c 0 t)) := by
  unfold outsAt0
  dsimp only
  unfold out0_A_6
  rw [View.read_writes_eq_canon _ _ _ (cover0_A_6 c _ _ _ _ _ _ _ _ _ _ _ _ _ _ _ _ _ _ _ _ _)]
  unfold kernelRun0_A
  dsimp only
  sl_unfold_words
  simp only [View.readAt_eq_ld, (hs0_0 t).read_unread]
  refine (View.canon_unit_zero (by decide) _ _).trans (congrArg k0_pay19 ?_)
  have h5 := readCov_pieces m c t
  unfold pieces at h5
  exact h5

/-- The product window after grid point `t`. -/
theorem outs4 (c : Dev nD) (t : Fin cfg0.N) : (outsAt0 m c t).1 =
    k0_pay20 (attn (iblk m c 0 t)) (k0_pay19 (attn (iblk m c 0 t))) (iblk m c 2 t) (iblk m c 3 t) (iblk m c 1 t) := by
  unfold outsAt0
  dsimp only
  unfold out0_A_4
  rw [View.read_writes_eq_canon _ _ _ (cover0_A_4 c _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  refine (View.canon_unit_zero (by decide) _ _).trans ?_
  have h5 := readCov_pieces m c t
  unfold pieces at h5
  rw [h5, View.readCov_unit_zero _ (by decide), View.ld_unit_zero (S := S1536x3072) (by decide), View.ld_unit_zero (S := S1x3072) (by decide),
    View.ld_unit_zero (S := S384x3072) (by decide)]

end

/-! ## The payloads at an index, over the extended reals -/

open Cert.Quant

theorem pay17_eq (a : FVec Ideal S384x1536 .f32) : k0_pay17 (F := Ideal) a = a := shapeCast_self _ _

theorem pay18_eq (a : FVec Ideal S384x1536 .f32) :
    k0_pay18 (F := Ideal) a = scaleVec reduces_S384x1536_S384 shapeCasts_S384_S384x1 a := by
  unfold k0_pay18 scaleVec
  rw [pay17_eq]

theorem scale_apply (a : FVec Ideal S384x1536 .f32) (p : Fin 384) :
    k0_pay18 (F := Ideal) a (ix2 p 0) = scaleOf (amax fun k => a (ix2 p k)) := by
  rw [pay18_eq, scaleVec_apply]

theorem codes_apply (a : FVec Ideal S384x1536 .f32) (p : Fin 384) (k : Fin 1536) :
    k0_pay19 (F := Ideal) a (ix2 p k) = code (scaleOf (amax fun k => a (ix2 p k))) (a (ix2 p k)) := by
  unfold k0_pay19
  rw [pay17_eq]
  exact code_recip _ _ _ _ _ _ _ (scale_apply a p)

theorem y_apply (a : FVec Ideal S384x1536 .f32) (q : FVec Ideal S384x1536 .fp8e4m3) (w : FVec Ideal S1536x3072 .fp8e4m3)
    (ws : FVec Ideal S1x3072 .f32) (x : FVec Ideal S384x3072 .bf16) (p : Fin 384) (n : Fin 3072) :
    k0_pay20 (F := Ideal) a q w ws x (ix2 p n)
      = (∑ k : Fin 1536, q (ix2 p k) * w (ix2 k n)) * scaleOf (amax fun k => a (ix2 p k)) * ws (ix2 0 n) + x (ix2 p n) := by
  rw [← scale_apply]
  pointwise [k0_pay20]

end Cert.OutIdeal.Block

end
-- ==== Proof.OutSpec.lean ====
/-
  What the output projection computes, as functions of the arguments: the attention rows, their scales and codes, and the
  product with the weights. Both the kernel and the reference are shown to hold these values.
-/
module

public import proofs.«01_k».proof.Proof.Quant

@[expose] public section

noncomputable section

namespace Cert.OutSpec

open Cert.Quant Idealize.ShloMosaic

/-- The attention rows, re-laid from the transposed output: row `r` of `B · NSEL`, column `384 j + 128 g + d`. -/
def rows (ot : FVec Ideal ⟨4, ![6, 4, 128, 5760]⟩ .f32) (r : Fin 11520) (k : Fin 1536) : EReal :=
  ot (ix4 ⟨r.val / 1920, by omega⟩ ⟨k.val / 384, by omega⟩ ⟨k.val % 128, by omega⟩
    ⟨r.val % 1920 / 16 * 48 + k.val % 384 / 128 * 16 + r.val % 16, by omega⟩)

/-- The rows' scales and codes. -/
def scales (ot : FVec Ideal ⟨4, ![6, 4, 128, 5760]⟩ .f32) (r : Fin 11520) : EReal := scaleOf (amax (rows ot r))
def codes (ot : FVec Ideal ⟨4, ![6, 4, 128, 5760]⟩ .f32) (r : Fin 11520) (k : Fin 1536) : EReal := code (scales ot r) (rows ot r k)

/-- The product with the weights, scaled back, plus the residual. -/
def product (ot : FVec Ideal ⟨4, ![6, 4, 128, 5760]⟩ .f32) (x : FVec Ideal ⟨3, ![6, 1920, 3072]⟩ .bf16) (w : FVec Ideal ⟨2, ![1536, 3072]⟩ .fp8e4m3)
    (ws : FVec Ideal ⟨1, ![3072]⟩ .f32) (r : Fin 11520) (n : Fin 3072) : EReal :=
  (∑ k : Fin 1536, codes ot r k * w (ix2 k n)) * scales ot r * ws (ix1 n)
    + x (ix3 ⟨r.val / 1920, by omega⟩ ⟨r.val % 1920, by omega⟩ n)

end Cert.OutSpec

end
-- ==== Proof.OutArray.lean ====
/-
  What the output kernel's four result arrays hold after the run, index by index, in terms of the arguments.
-/
module

public import proofs.«01_k».proof.Proof.OutBlock
public import proofs.«01_k».proof.Proof.OutSpec

@[expose] public section

set_option maxRecDepth 16384

noncomputable section

namespace Cert.OutIdeal.Array

open Cert.OutIdeal Cert.OutIdeal.Gen Cert.OutIdeal.Block Cert.Quant Cert.OutSpec Idealize.ShloMosaic Idealize.ShloMosaic.TcCoe Idealize.SL.Sem
open Idealize.ShloMosaic.Pipeline (Dat)

variable (m : (ℓ : Loc nD τ sig) → Buf (Elt Ideal) ℓ)

/-! ## The windows' index maps, and the blocks they read -/

theorem idx_facts : ∀ t : Fin cfg0.N,
    win0_0.index t 0 = t.val / 5 ∧ win0_0.index t 1 = 0 ∧ win0_0.index t 2 = 0 ∧ win0_0.index t 3 = t.val % 5
    ∧ win0_1.index t 0 = t.val ∧ win0_1.index t 1 = 0
    ∧ (∀ a, win0_2.index t a = 0) ∧ (∀ a, win0_3.index t a = 0)
    ∧ win0_4.index t 0 = t.val ∧ win0_4.index t 1 = 0 ∧ win0_5.index t 0 = t.val ∧ win0_5.index t 1 = 0
    ∧ win0_6.index t 0 = t.val ∧ win0_6.index t 1 = 0 ∧ win0_7.index t 0 = t.val ∧ win0_7.index t 1 = 0 :=
  (by decide +kernel : ∀ t : Fin grid0.N,
    win0_0.index t 0 = t.val / 5 ∧ win0_0.index t 1 = 0 ∧ win0_0.index t 2 = 0 ∧ win0_0.index t 3 = t.val % 5
    ∧ win0_1.index t 0 = t.val ∧ win0_1.index t 1 = 0
    ∧ (∀ a, win0_2.index t a = 0) ∧ (∀ a, win0_3.index t a = 0)
    ∧ win0_4.index t 0 = t.val ∧ win0_4.index t 1 = 0 ∧ win0_5.index t 0 = t.val ∧ win0_5.index t 1 = 0
    ∧ win0_6.index t 0 = t.val ∧ win0_6.index t 1 = 0 ∧ win0_7.index t 0 = t.val ∧ win0_7.index t 1 = 0)

theorem flush_facts : ∀ t : Fin cfg0.N, (cfg0.win 4).flush t = true ∧ (cfg0.win 5).flush t = true
    ∧ (cfg0.win 6).flush t = true ∧ (cfg0.win 7).flush t = true :=
  (by decide +kernel : ∀ t : Fin grid0.N, win0_4.flush t = true ∧ win0_5.flush t = true ∧ win0_6.flush t = true ∧ win0_7.flush t = true)

/-- The grid point of row `r`, and the row within its block. -/
def pt (r : Fin 11520) : Fin cfg0.N := ⟨r.val / 384, by show r.val / 384 < 30; omega⟩
def pr (r : Fin 11520) : Fin 384 := ⟨r.val % 384, by omega⟩

/-- The host's re-layings before the call. -/
theorem V_x (c : Dev nD) : V m c main_v0
    = shapeCast S11520x3072 (m ((c : Thread nD τ).loc main_arg1)) shapeCasts_S6x1920x3072_S11520x3072 := by
  dsimp only [V, hostOps0]; after_results; rfl

theorem V_ws (c : Dev nD) : V m c main_v1 = shapeCast S1x3072 (m ((c : Thread nD τ).loc main_arg3)) shapeCasts_S3072_S1x3072 := by
  dsimp only [V, hostOps0]; after_results; rfl

/-- The attention rows of a block are the array's. -/
theorem attn_rows (c : Dev nD) (r : Fin 11520) (k : Fin 1536) :
    attn (F := Ideal) (iblk m c 0 (pt r)) (ix2 (pr r) k) = rows (m ((c : Thread nD τ).loc main_arg0)) r k := by
  obtain ⟨i0, i1, i2, i3, -⟩ := idx_facts (pt r)
  unfold attn rows
  rw [← V_main_arg0 m c]
  show V m c main_arg0 ((win0_0.rect (pt r)).emb _) = _
  congr 1
  have hr := r.isLt
  have hk := k.isLt
  funext a
  apply Fin.ext
  rw [Pipeline.Window.rect_emb_val win0_0]
  fin_cases a
  · show win0_0.index (pt r) 0 * 1 + 0 = r.val / 1920
    rw [i0]; show r.val / 384 / 5 * 1 + 0 = _; omega
  · show win0_0.index (pt r) 1 * 4 + k.val / 384 = k.val / 384
    rw [i1]; omega
  · show win0_0.index (pt r) 2 * 128 + k.val % 128 = k.val % 128
    rw [i2]; omega
  · show win0_0.index (pt r) 3 * 1152 + (r.val % 384 / 16 * 48 + k.val % 384 / 128 * 16 + r.val % 384 % 16)
      = r.val % 1920 / 16 * 48 + k.val % 384 / 128 * 16 + r.val % 16
    rw [i3]; show r.val / 384 % 5 * 1152 + _ = _; omega

theorem x_rows (c : Dev nD) (r : Fin 11520) (n : Fin 3072) :
    iblk m c 1 (pt r) (ix2 (pr r) n : S384x3072.Idx)
      = m ((c : Thread nD τ).loc main_arg1) (ix3 ⟨r.val / 1920, by omega⟩ ⟨r.val % 1920, by omega⟩ n : S6x1920x3072.Idx) := by
  obtain ⟨-, -, -, -, i0, i1, -⟩ := idx_facts (pt r)
  show V m c main_v0 ((win0_1.rect (pt r)).emb _) = _
  rw [V_x]
  refine shapeCast_apply _ _ _ _ ?_
  have e : (win0_1.rect (pt r)).emb (ix2 (pr r) n : S384x3072.Idx) = (ix2 r n : S11520x3072.Idx) := by
    funext a
    apply Fin.ext
    rw [Pipeline.Window.rect_emb_val win0_1]
    fin_cases a
    · show win0_1.index (pt r) 0 * 384 + r.val % 384 = r.val
      rw [i0]; show r.val / 384 * 384 + _ = _; omega
    · show win0_1.index (pt r) 1 * 3072 + n.val = n.val
      rw [i1]; omega
  rw [e]
  show ((⟨3, ![6, 1920, 3072]⟩ : Shape).rowMajor _).val = _
  simp [Shape.rowMajor_val_two, Shape.rowMajor_val_three]
  omega

theorem w_whole (c : Dev nD) (t : Fin cfg0.N) : iblk m c 2 t = m ((c : Thread nD τ).loc main_arg2) := by
  obtain ⟨-, -, -, -, -, -, i, -⟩ := idx_facts t
  rw [← V_main_arg2 m c]
  funext y
  show V m c main_arg2 ((win0_2.rect t).emb y) = _
  congr 1
  funext a
  apply Fin.ext
  rw [Pipeline.Window.rect_emb_val win0_2]
  show win0_2.index t a * _ + _ = _
  rw [i a]
  omega

theorem ws_whole (c : Dev nD) (t : Fin cfg0.N) (n : Fin 3072) :
    iblk m c 3 t (ix2 0 n : S1x3072.Idx) = m ((c : Thread nD τ).loc main_arg3) (ix1 n : S3072.Idx) := by
  obtain ⟨-, -, -, -, -, -, -, i, -⟩ := idx_facts t
  show V m c main_v1 ((win0_3.rect t).emb _) = _
  rw [V_ws]
  have e : (win0_3.rect t).emb (ix2 0 n : S1x3072.Idx) = (ix2 0 n : S1x3072.Idx) := by
    funext a
    apply Fin.ext
    rw [Pipeline.Window.rect_emb_val win0_3]
    show win0_3.index t a * _ + _ = _
    rw [i a]
    omega
  rw [e]
  refine shapeCast_apply _ _ _ _ ?_
  show ((⟨1, ![3072]⟩ : Shape).rowMajor _).val = _
  simp [Shape.rowMajor_val_two, Shape.rowMajor_val_one]

/-! ## The arrays -/

theorem emb4 (r : Fin 11520) (n : Fin 3072) : (win0_4.rect (pt r)).emb (ix2 (pr r) n : S384x3072.Idx) = (ix2 r n : S11520x3072.Idx) := by
  obtain ⟨-, -, -, -, -, -, -, -, i0, i1, -⟩ := idx_facts (pt r)
  funext a
  apply Fin.ext
  rw [Pipeline.Window.rect_emb_val win0_4]
  fin_cases a
  · show win0_4.index (pt r) 0 * 384 + r.val % 384 = r.val
    rw [i0]; show r.val / 384 * 384 + _ = _; omega
  · show win0_4.index (pt r) 1 * 3072 + n.val = n.val
    rw [i1]; omega

theorem emb5 (r : Fin 11520) (n : Fin 1536) : (win0_5.rect (pt r)).emb (ix2 (pr r) n : S384x1536.Idx) = (ix2 r n : S11520x1536.Idx) := by
  obtain ⟨-, -, -, -, -, -, -, -, -, -, i0, i1, -⟩ := idx_facts (pt r)
  funext a
  apply Fin.ext
  rw [Pipeline.Window.rect_emb_val win0_5]
  fin_cases a
  · show win0_5.index (pt r) 0 * 384 + r.val % 384 = r.val
    rw [i0]; show r.val / 384 * 384 + _ = _; omega
  · show win0_5.index (pt r) 1 * 1536 + n.val = n.val
    rw [i1]; omega

theorem emb6 (r : Fin 11520) (n : Fin 1536) : (win0_6.rect (pt r)).emb (ix2 (pr r) n : S384x1536.Idx) = (ix2 r n : S11520x1536.Idx) := by
  obtain ⟨-, -, -, -, -, -, -, -, -, -, -, -, i0, i1, -⟩ := idx_facts (pt r)
  funext a
  apply Fin.ext
  rw [Pipeline.Window.rect_emb_val win0_6]
  fin_cases a
  · show win0_6.index (pt r) 0 * 384 + r.val % 384 = r.val
    rw [i0]; show r.val / 384 * 384 + _ = _; omega
  · show win0_6.index (pt r) 1 * 1536 + n.val = n.val
    rw [i1]; omega

theorem emb7 (r : Fin 11520) : (win0_7.rect (pt r)).emb (ix2 (pr r) 0 : S384x1.Idx) = (ix2 r 0 : S11520x1.Idx) := by
  obtain ⟨-, -, -, -, -, -, -, -, -, -, -, -, -, -, i0, i1⟩ := idx_facts (pt r)
  funext a
  apply Fin.ext
  rw [Pipeline.Window.rect_emb_val win0_7]
  fin_cases a
  · show win0_7.index (pt r) 0 * 384 + r.val % 384 = r.val
    rw [i0]; show r.val / 384 * 384 + _ = _; omega
  · show win0_7.index (pt r) 1 * 1 + 0 = 0
    rw [i1]

/-- Result 2: the attention rows. -/
theorem arr5 (c : Dev nD) (r : Fin 11520) (k : Fin 1536) :
    (dats m 0 c).arrAt 5 cfg0.N (ix2 r k : S11520x1536.Idx) = rows (m ((c : Thread nD τ).loc main_arg0)) r k := by
  have h := congrFun (Value.blocks5 m c (pt r) (flush_facts (pt r)).2.1) (ix2 (pr r) k : S384x1536.Idx)
  rw [Value.flushed5, outs5] at h
  rw [← emb5 r k, ← attn_rows]
  exact h

/-- Result 4: the scales. -/
theorem arr7 (c : Dev nD) (r : Fin 11520) :
    (dats m 0 c).arrAt 7 cfg0.N (ix2 r 0 : S11520x1.Idx) = scales (m ((c : Thread nD τ).loc main_arg0)) r := by
  have h := congrFun (Value.blocks7 m c (pt r) (flush_facts (pt r)).2.2.2) (ix2 (pr r) 0 : S384x1.Idx)
  rw [Value.flushed7, outs7] at h
  rw [← emb7 r]
  refine h.trans ((scale_apply _ (pr r)).trans ?_)
  simp only [attn_rows, scales]

/-- Result 3: the codes. -/
theorem arr6 (c : Dev nD) (r : Fin 11520) (k : Fin 1536) :
    (dats m 0 c).arrAt 6 cfg0.N (ix2 r k : S11520x1536.Idx) = codes (m ((c : Thread nD τ).loc main_arg0)) r k := by
  have h := congrFun (Value.blocks6 m c (pt r) (flush_facts (pt r)).2.2.1) (ix2 (pr r) k : S384x1536.Idx)
  rw [Value.flushed6, outs6] at h
  rw [← emb6 r k]
  refine h.trans ((codes_apply _ (pr r) k).trans ?_)
  simp only [attn_rows, codes, scales]

/-- Result 1: the product. -/
theorem arr4 (c : Dev nD) (r : Fin 11520) (n : Fin 3072) :
    (dats m 0 c).arrAt 4 cfg0.N (ix2 r n : S11520x3072.Idx)
      = product (m ((c : Thread nD τ).loc main_arg0)) (m ((c : Thread nD τ).loc main_arg1)) (m ((c : Thread nD τ).loc main_arg2))
          (m ((c : Thread nD τ).loc main_arg3)) r n := by
  have h := congrFun (Value.blocks4 m c (pt r) (flush_facts (pt r)).1) (ix2 (pr r) n : S384x3072.Idx)
  rw [Value.flushed4, outs4] at h
  rw [← emb4 r n]
  refine h.trans ((y_apply _ _ _ _ _ (pr r) n).trans ?_)
  simp only [codes_apply, attn_rows, w_whole, product, codes, scales]
  rw [← x_rows m c r n, ← ws_whole m c (pt r) n]

end Cert.OutIdeal.Array

end
-- ==== Proof.OutRef.lean ====
/-
  What the reference's arrays hold after its run, index by index: the same specification.
-/
module

public import proofs.«01_k».proof.Proof.Gen.OutRefIdeal.Value
public import proofs.«01_k».proof.Proof.OutSpec

@[expose] public section

set_option maxRecDepth 16384

noncomputable section

namespace Cert.OutRefIdeal.Array

open Cert.OutRefIdeal Cert.OutRefIdeal.Gen Cert.Quant Cert.OutSpec Idealize.ShloMosaic Idealize.ShloMosaic.TcCoe Idealize.SL.Sem
open Idealize.ShloMosaic.Pipeline (Dat)

/-! ## The payloads at an index -/

theorem pay1_eq (a : FVec Ideal S11520x1536 .f32) : k0_pay1 (F := Ideal) a = a := shapeCast_self _ _

theorem pay2_eq (a : FVec Ideal S11520x1536 .f32) :
    k0_pay2 (F := Ideal) a = scaleVec reduces_S11520x1536_S11520 shapeCasts_S11520_S11520x1 a := by
  unfold k0_pay2 scaleVec
  rw [pay1_eq]

theorem scale_apply (a : FVec Ideal S11520x1536 .f32) (p : Fin 11520) :
    k0_pay2 (F := Ideal) a (ix2 p 0) = scaleOf (amax fun k => a (ix2 p k)) := by
  rw [pay2_eq, scaleVec_apply]

theorem codes_apply (a : FVec Ideal S11520x1536 .f32) (p : Fin 11520) (k : Fin 1536) :
    k0_pay3 (F := Ideal) a (ix2 p k) = code (scaleOf (amax fun k => a (ix2 p k))) (a (ix2 p k)) := by
  unfold k0_pay3
  rw [pay1_eq]
  refine (code_div broadcasts_S11520x1_S11520x1536 bitsLt_fp8e4m3_f32 a (k0_pay2 a) p k).trans ?_
  rw [scale_apply]

theorem pay4_eq (a : FVec Ideal S11520x1536 .f32) (w : FVec Ideal S1536x3072 .fp8e4m3)
    (ws : FVec Ideal S1x3072 .f32) (x : FVec Ideal S11520x3072 .bf16) :
    k0_pay4 (F := Ideal) a w ws x = truncf .bf16 (addf (mulf (mulf (matmul (DotDims.plain 11520 1536 3072) none (k0_pay3 a) w
        (constant S11520x3072 .f32 0x00000000#32)) (broadcastTo S11520x3072 (k0_pay2 a) broadcasts_S11520x1_S11520x3072))
        (broadcastTo S11520x3072 ws broadcasts_S1x3072_S11520x3072)) (extf .f32 x bitsLt_bf16_f32)) bitsLt_bf16_f32 := by
  unfold k0_pay4
  simp only [shapeCast_self]
  rfl

theorem y_apply (a : FVec Ideal S11520x1536 .f32) (w : FVec Ideal S1536x3072 .fp8e4m3)
    (ws : FVec Ideal S1x3072 .f32) (x : FVec Ideal S11520x3072 .bf16) (p : Fin 11520) (n : Fin 3072) :
    k0_pay4 (F := Ideal) a w ws x (ix2 p n)
      = (∑ k : Fin 1536, k0_pay3 (F := Ideal) a (ix2 p k) * w (ix2 k n)) * scaleOf (amax fun k => a (ix2 p k)) * ws (ix2 0 n) + x (ix2 p n) := by
  rw [pay4_eq, truncf_apply, addf_apply, extf_apply, product_apply, scale_apply]
  rfl

/-! ## The one block of each window is the whole array -/

variable (m : (ℓ : Loc nD τ sig) → Buf (Elt Ideal) ℓ)

theorem idx_facts : ∀ t : Fin cfg0.N,
    (∀ a, win0_0.index t a = 0) ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) :=
  (by decide +kernel : ∀ t : Fin grid0.N,
    (∀ a, win0_0.index t a = 0) ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0))

theorem flush_facts : ∀ t : Fin cfg0.N, (cfg0.win 4).flush t = true ∧ (cfg0.win 5).flush t = true ∧ (cfg0.win 6).flush t = true :=
  (by decide +kernel : ∀ t : Fin grid0.N, win0_4.flush t = true ∧ win0_5.flush t = true ∧ win0_6.flush t = true)

/-- The host's re-layings before the call. -/
theorem V_attn (c : Dev nD) : V m c main_v2 = shapeCast S11520x1536 (transpose S6x120x16x4x3x128 [0, 3, 5, 1, 4, 2]
    (shapeCast S6x4x128x120x3x16 (m ((c : Thread nD τ).loc main_arg0)) shapeCasts_S6x4x128x5760_S6x4x128x120x3x16)
      transposes_S6x4x128x120x3x16_S6x120x16x4x3x128_0_3_5_1_4_2) shapeCasts_S6x120x16x4x3x128_S11520x1536 := by
  dsimp only [V, hostOps0]; after_results; rfl

theorem V_x (c : Dev nD) : V m c main_v3
    = shapeCast S11520x3072 (m ((c : Thread nD τ).loc main_arg1)) shapeCasts_S6x1920x3072_S11520x3072 := by
  dsimp only [V, hostOps0]; after_results; rfl

theorem V_ws (c : Dev nD) : V m c main_v4 = shapeCast S1x3072 (m ((c : Thread nD τ).loc main_arg3)) shapeCasts_S3072_S1x3072 := by
  dsimp only [V, hostOps0]; after_results; rfl

/-- The host's attention rows are the specification's. -/
theorem V_attn_apply (c : Dev nD) (r : Fin 11520) (k : Fin 1536) :
    V m c main_v2 (ix2 r k : S11520x1536.Idx) = rows (m ((c : Thread nD τ).loc main_arg0)) r k := by
  rw [V_attn]
  unfold rows
  have hr := r.isLt
  have hk := k.isLt
  refine (shapeCast_apply _ _ _ (ix6 (⟨r.val / 1920, by omega⟩ : Fin 6) (⟨r.val % 1920 / 16, by omega⟩ : Fin 120)
    (⟨r.val % 16, by omega⟩ : Fin 16) (⟨k.val / 384, by omega⟩ : Fin 4) (⟨k.val % 384 / 128, by omega⟩ : Fin 3)
    (⟨k.val % 128, by omega⟩ : Fin 128)) ?_).trans ?_
  · rw [Shape.rowMajor_val_six, Shape.rowMajor_val_two]
    simp
    omega
  refine (transpose_apply _ _ _ _ (ix6 (⟨r.val / 1920, by omega⟩ : Fin 6) (⟨k.val / 384, by omega⟩ : Fin 4)
    (⟨k.val % 128, by omega⟩ : Fin 128) (⟨r.val % 1920 / 16, by omega⟩ : Fin 120)
    (⟨k.val % 384 / 128, by omega⟩ : Fin 3) (⟨r.val % 16, by omega⟩ : Fin 16)) ?_).trans ?_
  · intro b; fin_cases b <;> rfl
  refine shapeCast_apply _ _ _ _ ?_
  show ((⟨4, ![6, 4, 128, 5760]⟩ : Shape).rowMajor _).val = _
  rw [Shape.rowMajor_val_six, Shape.rowMajor_val_four]
  simp
  omega

theorem attn_rows (c : Dev nD) (t : Fin cfg0.N) (r : Fin 11520) (k : Fin 1536) :
    iblk m c 0 t (ix2 r k : S11520x1536.Idx) = rows (m ((c : Thread nD τ).loc main_arg0)) r k := by
  rw [← V_attn_apply]
  show V m c main_v2 ((win0_0.rect t).emb _) = _
  congr 1
  funext a
  apply Fin.ext
  rw [Pipeline.Window.rect_emb_val win0_0, (idx_facts t).1 a]
  omega

theorem x_rows (c : Dev nD) (t : Fin cfg0.N) (r : Fin 11520) (n : Fin 3072) :
    iblk m c 1 t (ix2 r n : S11520x3072.Idx)
      = m ((c : Thread nD τ).loc main_arg1) (ix3 ⟨r.val / 1920, by omega⟩ ⟨r.val % 1920, by omega⟩ n : S6x1920x3072.Idx) := by
  show V m c main_v3 ((win0_1.rect t).emb _) = _
  have e : (win0_1.rect t).emb (ix2 r n : S11520x3072.Idx) = (ix2 r n : S11520x3072.Idx) := by
    funext a
    apply Fin.ext
    rw [Pipeline.Window.rect_emb_val win0_1, (idx_facts t).2.1 a]
    omega
  rw [e, V_x]
  refine shapeCast_apply _ _ _ _ ?_
  show ((⟨3, ![6, 1920, 3072]⟩ : Shape).rowMajor _).val = _
  simp [Shape.rowMajor_val_two, Shape.rowMajor_val_three]
  omega

theorem w_whole (c : Dev nD) (t : Fin cfg0.N) : iblk m c 2 t = m ((c : Thread nD τ).loc main_arg2) := by
  rw [← V_main_arg2 m c]
  funext y
  show V m c main_arg2 ((win0_2.rect t).emb y) = _
  congr 1
  funext a
  apply Fin.ext
  rw [Pipeline.Window.rect_emb_val win0_2, (idx_facts t).2.2.1 a]
  omega

theorem ws_whole (c : Dev nD) (t : Fin cfg0.N) (n : Fin 3072) :
    iblk m c 3 t (ix2 0 n : S1x3072.Idx) = m ((c : Thread nD τ).loc main_arg3) (ix1 n : S3072.Idx) := by
  show V m c main_v4 ((win0_3.rect t).emb _) = _
  have e : (win0_3.rect t).emb (ix2 0 n : S1x3072.Idx) = (ix2 0 n : S1x3072.Idx) := by
    funext a
    apply Fin.ext
    rw [Pipeline.Window.rect_emb_val win0_3, (idx_facts t).2.2.2.1 a]
    omega
  rw [e, V_ws]
  refine shapeCast_apply _ _ _ _ ?_
  show ((⟨1, ![3072]⟩ : Shape).rowMajor _).val = _
  simp [Shape.rowMajor_val_two, Shape.rowMajor_val_one]

/-! ## The arrays -/

/-- The grid's one point. -/
def t0 : Fin cfg0.N := ⟨0, by decide⟩

theorem emb4 (y : S11520x3072.Idx) : (win0_4.rect t0).emb y = y := by
  funext a
  apply Fin.ext
  rw [Pipeline.Window.rect_emb_val win0_4, (idx_facts t0).2.2.2.2.1 a]
  omega

theorem emb5 (y : S11520x1536.Idx) : (win0_5.rect t0).emb y = y := by
  funext a
  apply Fin.ext
  rw [Pipeline.Window.rect_emb_val win0_5, (idx_facts t0).2.2.2.2.2.1 a]
  omega

theorem emb6 (y : S11520x1.Idx) : (win0_6.rect t0).emb y = y := by
  funext a
  apply Fin.ext
  rw [Pipeline.Window.rect_emb_val win0_6, (idx_facts t0).2.2.2.2.2.2 a]
  omega

theorem out6_eq (x0 : Vec Ideal S11520x1536 .f32) (x1 : Vec Ideal S11520x3072 .bf16) (x2 : Vec Ideal S1536x3072 .fp8e4m3)
    (x3 : Vec Ideal S1x3072 .f32) : out0_6 x0 x1 x2 x3 = k0_pay2 x0 := by
  unfold out0_6
  refine (View.canon_unit_zero (by decide) _ _).trans ?_
  rw [View.ld_unit_zero (S := S11520x1536) (by decide)]

theorem out5_eq (x0 : Vec Ideal S11520x1536 .f32) (x1 : Vec Ideal S11520x3072 .bf16) (x2 : Vec Ideal S1536x3072 .fp8e4m3)
    (x3 : Vec Ideal S1x3072 .f32) : out0_5 x0 x1 x2 x3 = k0_pay3 x0 := by
  unfold out0_5
  refine (View.canon_unit_zero (by decide) _ _).trans ?_
  rw [View.ld_unit_zero (S := S11520x1536) (by decide)]

theorem out4_eq (x0 : Vec Ideal S11520x1536 .f32) (x1 : Vec Ideal S11520x3072 .bf16) (x2 : Vec Ideal S1536x3072 .fp8e4m3)
    (x3 : Vec Ideal S1x3072 .f32) : out0_4 x0 x1 x2 x3 = k0_pay4 x0 x2 x3 x1 := by
  unfold out0_4
  refine (View.canon_unit_zero (by decide) _ _).trans ?_
  rw [View.ld_unit_zero (S := S11520x1536) (by decide), View.ld_unit_zero (S := S1536x3072) (by decide),
    View.ld_unit_zero (S := S1x3072) (by decide), View.ld_unit_zero (S := S11520x3072) (by decide)]

/-- Result 4: the scales. -/
theorem arr6 (c : Dev nD) (r : Fin 11520) :
    (dats m 0 c).arrAt 6 cfg0.N (ix2 r 0 : S11520x1.Idx) = scales (m ((c : Thread nD τ).loc main_arg0)) r := by
  have h := congrFun (Value.blocks6 m c t0 (flush_facts t0).2.2) (ix2 r 0 : S11520x1.Idx)
  rw [Value.flushed6, out6_eq] at h
  rw [← emb6 (ix2 r 0)]
  refine h.trans ((scale_apply _ r).trans ?_)
  simp only [attn_rows, scales]

/-- Result 3: the codes. -/
theorem arr5 (c : Dev nD) (r : Fin 11520) (k : Fin 1536) :
    (dats m 0 c).arrAt 5 cfg0.N (ix2 r k : S11520x1536.Idx) = codes (m ((c : Thread nD τ).loc main_arg0)) r k := by
  have h := congrFun (Value.blocks5 m c t0 (flush_facts t0).2.1) (ix2 r k : S11520x1536.Idx)
  rw [Value.flushed5, out5_eq] at h
  rw [← emb5 (ix2 r k)]
  refine h.trans ((codes_apply _ r k).trans ?_)
  simp only [attn_rows, codes, scales]

/-- Result 1: the product. -/
theorem arr4 (c : Dev nD) (r : Fin 11520) (n : Fin 3072) :
    (dats m 0 c).arrAt 4 cfg0.N (ix2 r n : S11520x3072.Idx)
      = product (m ((c : Thread nD τ).loc main_arg0)) (m ((c : Thread nD τ).loc main_arg1)) (m ((c : Thread nD τ).loc main_arg2))
          (m ((c : Thread nD τ).loc main_arg3)) r n := by
  have h := congrFun (Value.blocks4 m c t0 (flush_facts t0).1) (ix2 r n : S11520x3072.Idx)
  rw [Value.flushed4, out4_eq] at h
  rw [← emb4 (ix2 r n)]
  refine h.trans ((y_apply _ _ _ _ r n).trans ?_)
  simp only [codes_apply, attn_rows, w_whole, product, codes, scales]
  rw [← x_rows m c t0 r n, ← ws_whole m c t0 n]

end Cert.OutRefIdeal.Array

end
-- ==== Proof.OutEq.lean ====
/-
  The output kernel and the reference leave the same four results: both hold the specification.
-/
module

public import proofs.«01_k».proof.Defs
public import proofs.«01_k».proof.Proof.OutArray
public import proofs.«01_k».proof.Proof.OutRef

@[expose] public section

set_option maxRecDepth 16384

noncomputable section

namespace Cert.OutEq

open Cert.OutSpec Idealize.ShloMosaic Idealize.ShloMosaic.TcCoe Idealize.SL.Sem

/-- The reference's run, with the attention rows (a host array the call only reads) named too. -/
theorem ref_run (m : (ℓ : Loc OutRefIdeal.nD OutRefIdeal.τ OutRefIdeal.sig) → Buf (Elt Ideal) ℓ) (ρ : Dev OutRefIdeal.nD → PrngReg) :
    θ_run OutRefIdeal.defs (onTc (τ := OutRefIdeal.τ) (OutRefIdeal.main (F := Ideal))) ⟨m, fun _ => 0, ρ⟩ fun r => ∀ c : Dev OutRefIdeal.nD,
      r.2.mem ((c : Thread OutRefIdeal.nD OutRefIdeal.τ).loc OutRefIdeal.main_v5_0) = (OutRefIdeal.Gen.dats m 0 c).arrAt 4 OutRefIdeal.cfg0.N
      ∧ r.2.mem ((c : Thread OutRefIdeal.nD OutRefIdeal.τ).loc OutRefIdeal.main_v2) = OutRefIdeal.Gen.V m c OutRefIdeal.main_v2
      ∧ r.2.mem ((c : Thread OutRefIdeal.nD OutRefIdeal.τ).loc OutRefIdeal.main_v5_1) = (OutRefIdeal.Gen.dats m 0 c).arrAt 5 OutRefIdeal.cfg0.N
      ∧ r.2.mem ((c : Thread OutRefIdeal.nD OutRefIdeal.τ).loc OutRefIdeal.main_v5_2) = (OutRefIdeal.Gen.dats m 0 c).arrAt 6 OutRefIdeal.cfg0.N
      ∧ r.2.mem ((c : Thread OutRefIdeal.nD OutRefIdeal.τ).loc OutRefIdeal.main_arg0) = m ((c : Thread OutRefIdeal.nD OutRefIdeal.τ).loc OutRefIdeal.main_arg0)
      ∧ r.2.mem ((c : Thread OutRefIdeal.nD OutRefIdeal.τ).loc OutRefIdeal.main_arg1) = m ((c : Thread OutRefIdeal.nD OutRefIdeal.τ).loc OutRefIdeal.main_arg1)
      ∧ r.2.mem ((c : Thread OutRefIdeal.nD OutRefIdeal.τ).loc OutRefIdeal.main_arg2) = m ((c : Thread OutRefIdeal.nD OutRefIdeal.τ).loc OutRefIdeal.main_arg2)
      ∧ r.2.mem ((c : Thread OutRefIdeal.nD OutRefIdeal.τ).loc OutRefIdeal.main_arg3) = m ((c : Thread OutRefIdeal.nD OutRefIdeal.τ).loc OutRefIdeal.main_arg3) :=
  (θ_run OutRefIdeal.defs _ _).mono (fun r h c => ⟨OutRefIdeal.Value.post4 m r h c,
      ((h c).1 0).trans (((OutRefIdeal.Gen.dats m 0 c).arrAt_in 0 rfl _).trans (OutRefIdeal.Gen.A_eq m c 0)),
      OutRefIdeal.Value.post5 m r h c, OutRefIdeal.Value.post6 m r h c,
      OutRefIdeal.Value.kept_main_arg0 m r h c, OutRefIdeal.Value.kept_main_arg1 m r h c,
      OutRefIdeal.Value.kept_main_arg2 m r h c, OutRefIdeal.Value.kept_main_arg3 m r h c⟩)
    (OutRefIdeal.Gen.run_main m ρ)

theorem algebraic : Cert.algebraic_OutIdeal_OutRefIdeal := by
  intro m g m' g' _ hargs
  refine ⟨fun c => (OutIdeal.Gen.dats m 0 c).arrAt 4 OutIdeal.cfg0.N, fun c => (OutIdeal.Gen.dats m 0 c).arrAt 5 OutIdeal.cfg0.N,
    fun c => (OutIdeal.Gen.dats m 0 c).arrAt 6 OutIdeal.cfg0.N, fun c => (OutIdeal.Gen.dats m 0 c).arrAt 7 OutIdeal.cfg0.N,
    OutIdeal.Value.run_blocks m g, (θ_run OutRefIdeal.defs _ _).mono (fun r h c => ?_) (ref_run m' g')⟩
  obtain ⟨h0, h1, h2, h3, hk⟩ := h c
  obtain ⟨e0, e1, e2, e3⟩ := hargs c
  refine ⟨h0.trans ?_, h1.trans ?_, h2.trans ?_, h3.trans ?_, hk⟩
  · funext i
    obtain ⟨r, n, rfl⟩ : ∃ (r : Fin 11520) (n : Fin 3072), i = ix2 r n := ⟨i 0, i 1, eq_ix2 i⟩
    refine (OutRefIdeal.Array.arr4 m' c r n).trans (Eq.trans ?_ (OutIdeal.Array.arr4 m c r n).symm)
    exact congrFun (congrFun (by rw [e0, e1, e2, e3]) r) n
  · funext i
    obtain ⟨r, n, rfl⟩ : ∃ (r : Fin 11520) (n : Fin 1536), i = ix2 r n := ⟨i 0, i 1, eq_ix2 i⟩
    refine (OutRefIdeal.Array.V_attn_apply m' c r n).trans (Eq.trans ?_ (OutIdeal.Array.arr5 m c r n).symm)
    exact congrFun (congrFun (by rw [e0]) r) n
  · funext i
    obtain ⟨r, n, rfl⟩ : ∃ (r : Fin 11520) (n : Fin 1536), i = ix2 r n := ⟨i 0, i 1, eq_ix2 i⟩
    refine (OutRefIdeal.Array.arr5 m' c r n).trans (Eq.trans ?_ (OutIdeal.Array.arr6 m c r n).symm)
    exact congrFun (congrFun (by rw [e0]) r) n
  · funext i
    obtain ⟨r, rfl⟩ : ∃ (r : Fin 11520), i = ix2 r 0 := ⟨i 0, (eq_ix2 i).trans (by congr 1; exact Subsingleton.elim (α := Fin 1) _ _)⟩
    refine (OutRefIdeal.Array.arr6 m' c r).trans (Eq.trans ?_ (OutIdeal.Array.arr7 m c r).symm)
    exact congrFun (by rw [e0]) r

end Cert.OutEq

end
-- ==== Proof.AttnWords.lean ====
module

public import proofs.«01_k».proof.Proof.Gen.AttnIdeal
public import Idealize.ShloMosaic.Lib.WordCmp
public import Idealize.ShloMosaic.Lib.Routing.Words

/-! The word arithmetic of the attention kernel: what its loop bounds, its conditions, its side conditions and its offsets
are, as natural numbers, when the positions it reads are below the number of keys. -/

@[expose] public section

set_option maxRecDepth 16384

noncomputable section

namespace Cert.AttnIdeal.Hand

open Cert.AttnIdeal
open Idealize.ShloMosaic Idealize.ShloMosaic.TcCoe

/-- The quotient by 512, rounded down, as the kernel spells it. -/
def qd (v : BitVec 32) : BitVec 32 :=
  Scalar.select
    (Scalar.andi
      (Scalar.cmpi .ne
        (Scalar.subi (Scalar.extui (Scalar.cmpi .sgt v 0#32) : BitVec 32) (Scalar.extui (Scalar.cmpi .slt v 0#32) : BitVec 32))
        (Scalar.subi (Scalar.extui (Scalar.cmpi .sgt 512#32 0#32) : BitVec 32) (Scalar.extui (Scalar.cmpi .slt 512#32 0#32) : BitVec 32)))
      (Scalar.cmpi .ne (Scalar.remsi v 512#32) 0#32))
    (Scalar.subi (Scalar.divsi v 512#32) 1#32) (Scalar.divsi v 512#32)

theorem qd_ofNat {n : Nat} (h : n < 2 ^ 31) : qd (BitVec.ofNat 32 n) = BitVec.ofNat 32 (n / 512) := by
  have hd : Scalar.divsi (BitVec.ofNat 32 n) 512#32 = BitVec.ofNat 32 (n / 512) :=
    Routing.divsi_word _ h (by decide) (by decide)
  rcases Nat.eq_zero_or_pos n with rfl | hp
  · decide
  · have h1 : Scalar.cmpi .sgt (BitVec.ofNat 32 n) 0#32 = 1#1 :=
      (WordCmp.cmpi_sgt_ofNat_eq_one_iff (a := n) (b := 0) h (by decide)).mpr hp
    have h2 : Scalar.cmpi .slt (BitVec.ofNat 32 n) 0#32 = 0#1 :=
      (WordCmp.cmpi_slt_ofNat_eq_zero_iff (a := n) (b := 0) h (by decide)).mpr (by omega)
    unfold qd
    rw [hd, h1, h2]
    have h3 : Scalar.cmpi .ne
        (Scalar.subi (Scalar.extui (1#1 : BitVec 1) : BitVec 32) (Scalar.extui (0#1 : BitVec 1) : BitVec 32))
        (Scalar.subi (Scalar.extui (Scalar.cmpi .sgt 512#32 0#32) : BitVec 32) (Scalar.extui (Scalar.cmpi .slt 512#32 0#32) : BitVec 32)) = 0#1 := by
      decide
    rw [h3]
    have h4 : ∀ x : BitVec 1, Scalar.andi (0#1 : BitVec 1) x = 0#1 := by decide
    rw [h4]
    rfl

theorem qd_of_lt {v : BitVec 32} (h : v.toNat < 12288) : qd v = BitVec.ofNat 32 (v.toNat / 512) := by
  have := qd_ofNat (n := v.toNat) (by omega)
  rwa [BitVec.ofNat_toNat, BitVec.setWidth_eq] at this

theorem qd_succ_of_lt {v : BitVec 32} (h : v.toNat < 12288) :
    qd (Scalar.addi v 1#32) = BitVec.ofNat 32 ((v.toNat + 1) / 512) := by
  have e : Scalar.addi v 1#32 = BitVec.ofNat 32 (v.toNat + 1) := by
    apply BitVec.eq_of_toNat_eq
    show (v + 1#32).toNat = _
    rw [BitVec.toNat_add, BitVec.toNat_ofNat]; rfl
  rw [e]
  exact qd_ofNat (by omega)

theorem iv_eq (k : Nat) : Scf.iv 0#32 1#32 k = BitVec.ofNat 32 k := by
  simp [Scf.iv]

/-! ### The loops -/

theorem t5_loop_eq {v : BitVec 32} (h : v.toNat < 12288) :
    k0_t5_loop v = ⟨0#32, BitVec.ofNat 32 (v.toNat / 512 + 1), 1#32⟩ := by
  have key : ∀ q : Fin 24, Scalar.addi 0#32 (Scalar.muli (Scalar.divsi (Scalar.subi (Scalar.addi (BitVec.ofNat 32 q.val) 1#32) 0#32) 1#32) 1#32)
      = BitVec.ofNat 32 (q.val + 1) := by decide +kernel
  show (⟨0#32, Scalar.addi 0#32 (Scalar.muli (Scalar.divsi (Scalar.subi (Scalar.addi (qd v) 1#32) 0#32) 1#32) 1#32), 1#32⟩ : Scf.Loop 32) = _
  rw [qd_of_lt h, key ⟨v.toNat / 512, by omega⟩]

theorem t6_loop_eq {v : BitVec 32} (h : v.toNat < 12288) :
    k0_t6_loop v = ⟨BitVec.ofNat 32 (v.toNat / 512 + 1), BitVec.ofNat 32 (v.toNat / 512 + 1), 1#32⟩ := by
  have key : ∀ q : Fin 24, Scalar.addi 0#32 (Scalar.muli (Scalar.divsi (Scalar.subi (Scalar.addi (BitVec.ofNat 32 q.val) 1#32) 0#32) 1#32) 1#32)
      = BitVec.ofNat 32 (q.val + 1) ∧ Scalar.addi 0#32 (Scalar.subi (Scalar.addi (BitVec.ofNat 32 q.val) 1#32) 0#32) = BitVec.ofNat 32 (q.val + 1) := by decide +kernel
  show (⟨Scalar.addi 0#32 (Scalar.muli (Scalar.divsi (Scalar.subi (Scalar.addi (qd v) 1#32) 0#32) 1#32) 1#32), Scalar.addi 0#32 (Scalar.subi (Scalar.addi (qd v) 1#32) 0#32), 1#32⟩ : Scf.Loop 32) = _
  rw [qd_of_lt h, (key ⟨v.toNat / 512, by omega⟩).1, (key ⟨v.toNat / 512, by omega⟩).2]

theorem t2_loop_eq {v : BitVec 32} (h : v.toNat < 12288) :
    k0_t2_loop v = ⟨0#32, BitVec.ofNat 32 (2 * (v.toNat / 512 + 1)), 1#32⟩ := by
  have key : ∀ q : Fin 24, Scalar.addi 0#32 (Scalar.muli (Scalar.divsi (Scalar.subi (Scalar.muli (Scalar.addi (BitVec.ofNat 32 q.val) 1#32) 2#32) 0#32) 1#32) 1#32)
      = BitVec.ofNat 32 (2 * (q.val + 1)) := by decide +kernel
  show (⟨0#32, Scalar.addi 0#32 (Scalar.muli (Scalar.divsi (Scalar.subi (Scalar.muli (Scalar.addi (qd v) 1#32) 2#32) 0#32) 1#32) 1#32), 1#32⟩ : Scf.Loop 32) = _
  rw [qd_of_lt h, key ⟨v.toNat / 512, by omega⟩]

theorem t3_loop_eq {v : BitVec 32} (h : v.toNat < 12288) :
    k0_t3_loop v = ⟨BitVec.ofNat 32 (2 * (v.toNat / 512 + 1)), BitVec.ofNat 32 (2 * (v.toNat / 512 + 1)), 1#32⟩ := by
  have key : ∀ q : Fin 24, Scalar.addi 0#32 (Scalar.muli (Scalar.divsi (Scalar.subi (Scalar.muli (Scalar.addi (BitVec.ofNat 32 q.val) 1#32) 2#32) 0#32) 1#32) 1#32)
      = BitVec.ofNat 32 (2 * (q.val + 1)) ∧ Scalar.addi 0#32 (Scalar.subi (Scalar.muli (Scalar.addi (BitVec.ofNat 32 q.val) 1#32) 2#32) 0#32) = BitVec.ofNat 32 (2 * (q.val + 1)) := by decide +kernel
  show (⟨Scalar.addi 0#32 (Scalar.muli (Scalar.divsi (Scalar.subi (Scalar.muli (Scalar.addi (qd v) 1#32) 2#32) 0#32) 1#32) 1#32), Scalar.addi 0#32 (Scalar.subi (Scalar.muli (Scalar.addi (qd v) 1#32) 2#32) 0#32), 1#32⟩ : Scf.Loop 32) = _
  rw [qd_of_lt h, (key ⟨v.toNat / 512, by omega⟩).1, (key ⟨v.toNat / 512, by omega⟩).2]

/-- A loop from 0 in steps of one. -/
theorem loop_up : ∀ n : Fin 49, (⟨0#32, BitVec.ofNat 32 n.val, 1#32⟩ : Scf.Loop 32).OK ∧ (⟨0#32, BitVec.ofNat 32 n.val, 1#32⟩ : Scf.Loop 32).trips = n.val := by
  decide +kernel

/-- A loop whose bounds agree. -/
theorem loop_none : ∀ n : Fin 49, (⟨BitVec.ofNat 32 n.val, BitVec.ofNat 32 n.val, 1#32⟩ : Scf.Loop 32).OK ∧ (⟨BitVec.ofNat 32 n.val, BitVec.ofNat 32 n.val, 1#32⟩ : Scf.Loop 32).trips = 0 := by
  decide +kernel

theorem t5_ok {v : BitVec 32} (h : v.toNat < 12288) : (k0_t5_loop v).OK := by
  rw [t5_loop_eq h]; exact (loop_up ⟨v.toNat / 512 + 1, by omega⟩).1
theorem t5_trips {v : BitVec 32} (h : v.toNat < 12288) : (k0_t5_loop v).trips = v.toNat / 512 + 1 := by
  rw [t5_loop_eq h]; exact (loop_up ⟨v.toNat / 512 + 1, by omega⟩).2
theorem t6_ok {v : BitVec 32} (h : v.toNat < 12288) : (k0_t6_loop v).OK := by
  rw [t6_loop_eq h]; exact (loop_none ⟨v.toNat / 512 + 1, by omega⟩).1
theorem t6_trips {v : BitVec 32} (h : v.toNat < 12288) : (k0_t6_loop v).trips = 0 := by
  rw [t6_loop_eq h]; exact (loop_none ⟨v.toNat / 512 + 1, by omega⟩).2
theorem t2_ok {v : BitVec 32} (h : v.toNat < 12288) : (k0_t2_loop v).OK := by
  rw [t2_loop_eq h]; exact (loop_up ⟨2 * (v.toNat / 512 + 1), by omega⟩).1
theorem t2_trips {v : BitVec 32} (h : v.toNat < 12288) : (k0_t2_loop v).trips = 2 * (v.toNat / 512 + 1) := by
  rw [t2_loop_eq h]; exact (loop_up ⟨2 * (v.toNat / 512 + 1), by omega⟩).2
theorem t3_ok {v : BitVec 32} (h : v.toNat < 12288) : (k0_t3_loop v).OK := by
  rw [t3_loop_eq h]; exact (loop_none ⟨2 * (v.toNat / 512 + 1), by omega⟩).1
theorem t3_trips {v : BitVec 32} (h : v.toNat < 12288) : (k0_t3_loop v).trips = 0 := by
  rw [t3_loop_eq h]; exact (loop_none ⟨2 * (v.toNat / 512 + 1), by omega⟩).2

theorem t4_trips : k0_t4_loop.trips = 12 := by decide +kernel
theorem t1_trips : k0_t1_loop.trips = 12 := by decide +kernel

theorem t4_lt (t : Fin k0_t4_loop.trips) : t.val < 12 := t4_trips ▸ t.isLt
theorem t1_lt (t : Fin k0_t1_loop.trips) : t.val < 12 := t1_trips ▸ t.isLt
theorem t5_le {v : BitVec 32} (h : v.toNat < 12288) (k : Fin (k0_t5_loop v).trips) : k.val ≤ v.toNat / 512 :=
  Nat.lt_succ_iff.mp (Nat.lt_of_lt_of_eq k.isLt (t5_trips h))
theorem t2_le {v : BitVec 32} (h : v.toNat < 12288) (k : Fin (k0_t2_loop v).trips) : k.val < 2 * (v.toNat / 512 + 1) :=
  Nat.lt_of_lt_of_eq k.isLt (t2_trips h)

/-! ### The conditions -/

theorem cond2_iff {v : BitVec 32} (h : v.toNat < 12288) (k : Fin (k0_t5_loop v).trips) : k0_cond2 v k = 1#1 ↔ k.val = 0 := by
  have key : ∀ k : Fin 24, Scalar.cmpi .ne (Scalar.extui (Scalar.cmpi .eq (BitVec.ofNat 32 k.val) 0#32) : BitVec 32) 0#32 = 1#1 ↔ k.val = 0 := by
    decide +kernel
  have := t5_le h k
  show Scalar.cmpi .ne (Scalar.extui (Scalar.cmpi .eq (Scf.iv 0#32 1#32 k.val) 0#32) : BitVec 32) 0#32 = 1#1 ↔ _
  rw [iv_eq]; exact key ⟨k.val, by omega⟩

theorem cond3_iff {v w : BitVec 32} (h : v.toNat < 12288) (hw : w.toNat < 12288) (k : Fin (k0_t5_loop v).trips) :
    k0_cond3 v k w = 1#1 ↔ k.val < (w.toNat + 1) / 512 := by
  have key : ∀ k q : Fin 25, Scalar.cmpi .ne (Scalar.extui (Scalar.cmpi .slt (BitVec.ofNat 32 k.val) (BitVec.ofNat 32 q.val)) : BitVec 32) 0#32 = 1#1 ↔ k.val < q.val := by
    decide +kernel
  have := t5_le h k
  show Scalar.cmpi .ne (Scalar.extui (Scalar.cmpi .slt (Scf.iv 0#32 1#32 k.val) (qd (Scalar.addi w 1#32))) : BitVec 32) 0#32 = 1#1 ↔ _
  rw [iv_eq, qd_succ_of_lt hw]; exact key ⟨k.val, by omega⟩ ⟨(w.toNat + 1) / 512, by omega⟩

theorem cond4_iff {v w : BitVec 32} (h : v.toNat < 12288) (hw : w.toNat < 12288) (k : Fin (k0_t5_loop v).trips) :
    k0_cond4 v k w = 1#1 ↔ (w.toNat + 1) / 512 ≤ k.val := by
  have key : ∀ k q : Fin 25, Scalar.cmpi .ne (Scalar.extui (Scalar.cmpi .sge (BitVec.ofNat 32 k.val) (BitVec.ofNat 32 q.val)) : BitVec 32) 0#32 = 1#1 ↔ q.val ≤ k.val := by
    decide +kernel
  have := t5_le h k
  show Scalar.cmpi .ne (Scalar.extui (Scalar.cmpi .sge (Scf.iv 0#32 1#32 k.val) (qd (Scalar.addi w 1#32))) : BitVec 32) 0#32 = 1#1 ↔ _
  rw [iv_eq, qd_succ_of_lt hw]; exact key ⟨k.val, by omega⟩ ⟨(w.toNat + 1) / 512, by omega⟩

/-! ### The tile of queries and the block of keys that follow -/

/-- The first query of tile `p`. -/
def row0 (p : Nat) : Nat := 512 * p - 384

theorem row0_le {p : Nat} (h : p < 12) : row0 p + 512 ≤ 5760 := by unfold row0; omega

/-- The tile whose scores trip `k` of tile `p`'s `q + 1` trips prepares. -/
def nextTile (p k q : Nat) : Nat := if k = q then min (p + 1) 11 else p
/-- The block of keys of those scores. -/
def nextBlock (k q : Nat) : Nat := if k = q then 0 else k + 1

theorem nextTile_lt {p : Nat} (h : p < 12) (k q : Nat) : nextTile p k q < 12 := by unfold nextTile; split <;> omega
theorem nextBlock_lt {k q : Nat} (h : k ≤ q) (hq : q < 24) : nextBlock k q < 24 := by unfold nextBlock; split <;> omega

/-- Whether a trip is the last, as the kernel tests it. -/
theorem last_eq {k q : Nat} (hk : k ≤ q) (hq : q < 24) :
    Scalar.cmpi .eq (BitVec.ofNat 32 k) (Scalar.subi (Scalar.addi (BitVec.ofNat 32 q) 1#32) 1#32) = if k = q then 1#1 else 0#1 := by
  have key : ∀ k q : Fin 24, Scalar.cmpi .eq (BitVec.ofNat 32 k.val) (Scalar.subi (Scalar.addi (BitVec.ofNat 32 q.val) 1#32) 1#32) = if k.val = q.val then 1#1 else 0#1 := by
    decide +kernel
  exact key ⟨k, by omega⟩ ⟨q, hq⟩

/-- The first query of a tile, as the kernel computes it. -/
def rowWord (x : BitVec 32) : BitVec 32 := Scalar.maxsi (Scalar.subi (Scalar.muli 512#32 x) 384#32) 0#32

theorem rowWord_eq : ∀ p : Fin 12, (rowWord (BitVec.ofNat 32 p.val)).toNat = row0 p.val := by decide +kernel
theorem rowWord_min_eq : ∀ p : Fin 12, (rowWord (Scalar.minsi (BitVec.ofNat 32 p.val) 11#32)).toNat = row0 p.val := by decide +kernel
theorem row0_dvd : ∀ p : Fin 12, 128 ∣ row0 p.val := by decide +kernel

/-- The next tile, as the kernel computes it. -/
def nextWord (l : BitVec 1) (t : BitVec 32) : BitVec 32 :=
  Scalar.minsi (Scalar.select l (Scalar.addi (Scalar.minsi t 11#32) 1#32) (Scalar.minsi t 11#32)) 11#32

theorem nextWord_eq {t k q : Nat} (ht : t < 12) : (rowWord (nextWord (if k = q then 1#1 else 0#1) (BitVec.ofNat 32 t))).toNat = row0 (nextTile t k q) := by
  have k1 : ∀ t : Fin 12, (rowWord (nextWord 1#1 (BitVec.ofNat 32 t.val))).toNat = row0 (min (t.val + 1) 11) := by decide +kernel
  have k0 : ∀ t : Fin 12, (rowWord (nextWord 0#1 (BitVec.ofNat 32 t.val))).toNat = row0 t.val := by decide +kernel
  unfold nextTile
  split
  · exact k1 ⟨t, ht⟩
  · exact k0 ⟨t, ht⟩

/-- The next block's keys, as the kernel computes their first. -/
theorem nextKey_eq {k q : Nat} (hk : k ≤ q) (hq : q < 24) (r : Fin 2) :
    (Scalar.addi (Scalar.muli (Scalar.select (if k = q then 1#1 else 0#1) 0#32 (Scalar.addi (BitVec.ofNat 32 k) 1#32)) 512#32) (BitVec.ofNat 32 (256 * r.val))).toNat
      = 512 * nextBlock k q + 256 * r.val := by
  have k1 : ∀ (k : Fin 24) (r : Fin 2), (Scalar.addi (Scalar.muli (Scalar.select 1#1 0#32 (Scalar.addi (BitVec.ofNat 32 k.val) 1#32)) 512#32) (BitVec.ofNat 32 (256 * r.val))).toNat
      = 256 * r.val := by decide +kernel
  have k0 : ∀ (k : Fin 24) (r : Fin 2), (Scalar.addi (Scalar.muli (Scalar.select 0#1 0#32 (Scalar.addi (BitVec.ofNat 32 k.val) 1#32)) 512#32) (BitVec.ofNat 32 (256 * r.val))).toNat
      = 512 * (k.val + 1) + 256 * r.val := by decide +kernel
  unfold nextBlock
  split
  · rw [k1 ⟨k, by omega⟩ r]; omega
  · exact k0 ⟨k, by omega⟩ r

/-! ### The offsets -/

section Trip

variable {v w u : BitVec 32} (hv : v.toNat < 12288) (k : Fin (k0_t5_loop v).trips) (hu : u.toNat = v.toNat) (t : Fin k0_t4_loop.trips)

include hv in
theorem keyWord_eq (r : Fin 2) : (Scalar.addi (Scalar.muli (Scf.iv 0#32 1#32 k.val) 512#32) (BitVec.ofNat 32 (256 * r.val))).toNat = 512 * k.val + 256 * r.val := by
  have key : ∀ (k : Fin 24) (r : Fin 2), (Scalar.addi (Scalar.muli (BitVec.ofNat 32 k.val) 512#32) (BitVec.ofNat 32 (256 * r.val))).toNat = 512 * k.val + 256 * r.val := by decide +kernel
  have := t5_le hv k
  rw [iv_eq]; exact key ⟨k.val, by omega⟩ r

include hv in
theorem off20_eq (r : Fin 2) : k0_off20 v k (BitVec.ofNat 32 (256 * r.val)) = ![0, 512 * k.val + 256 * r.val, 0] := by
  rw [← keyWord_eq hv k r]; rfl
include hv in
theorem off25_eq (r : Fin 2) : k0_off25 v k (BitVec.ofNat 32 (256 * r.val)) = ![0, 512 * k.val + 256 * r.val, 0] := by
  rw [← keyWord_eq hv k r]; rfl

include hv hu in
theorem nextRow_eq : (rowWord (nextWord (Scalar.cmpi .eq (Scf.iv 0#32 1#32 k.val) (Scalar.subi (Scalar.addi (qd u) 1#32) 1#32)) (Scf.iv 0#32 1#32 t.val))).toNat
    = row0 (nextTile t.val k.val (v.toNat / 512)) := by
  have hk := t5_le hv k
  rw [iv_eq, iv_eq, qd_of_lt (by omega), hu, last_eq hk (by omega), nextWord_eq (t4_lt t)]

include hv hu in
theorem off17_eq : k0_off17 t v k u = ![0, 0, row0 (nextTile t.val k.val (v.toNat / 512)), 0] := by
  rw [← nextRow_eq hv k hu t]; rfl
include hv hu in
theorem off22_eq : k0_off22 t v k u = ![0, 0, row0 (nextTile t.val k.val (v.toNat / 512)), 0] := by
  rw [← nextRow_eq hv k hu t]; rfl

include hv hu in
theorem nextKeyWord_eq (r : Fin 2) :
    (Scalar.addi (Scalar.muli (Scalar.select (Scalar.cmpi .eq (Scf.iv 0#32 1#32 k.val) (Scalar.subi (Scalar.addi (qd u) 1#32) 1#32)) 0#32
      (Scalar.addi (Scf.iv 0#32 1#32 k.val) 1#32)) 512#32) (BitVec.ofNat 32 (256 * r.val))).toNat = 512 * nextBlock k.val (v.toNat / 512) + 256 * r.val := by
  have hk := t5_le hv k
  rw [iv_eq, qd_of_lt (by omega), hu, last_eq hk (by omega), nextKey_eq hk (by omega)]

include hv hu in
theorem off21_eq (r : Fin 2) : k0_off21 v k u (BitVec.ofNat 32 (256 * r.val)) = ![0, 0, 512 * nextBlock k.val (v.toNat / 512) + 256 * r.val, 0] := by
  rw [← nextKeyWord_eq hv k hu r]; rfl
include hv hu in
theorem off26_eq (r : Fin 2) : k0_off26 v k u (BitVec.ofNat 32 (256 * r.val)) = ![0, 0, 512 * nextBlock k.val (v.toNat / 512) + 256 * r.val, 0] := by
  rw [← nextKeyWord_eq hv k hu r]; rfl

theorem valWord_eq {c : Nat} (hc : c < 24) (r₁ r₂ : Fin 2) :
    (Scalar.addi (Scalar.addi (Scalar.muli (BitVec.ofNat 32 c) 4#32) (BitVec.ofNat 32 (2 * r₁.val))) (BitVec.ofNat 32 r₂.val)).toNat = 4 * c + 2 * r₁.val + r₂.val := by
  have key : ∀ (c : Fin 24) (r₁ r₂ : Fin 2), (Scalar.addi (Scalar.addi (Scalar.muli (BitVec.ofNat 32 c.val) 4#32) (BitVec.ofNat 32 (2 * r₁.val))) (BitVec.ofNat 32 r₂.val)).toNat = 4 * c.val + 2 * r₁.val + r₂.val := by decide +kernel
  exact key ⟨c, hc⟩ r₁ r₂

theorem off19_eq {c : Nat} (hc : c < 24) (r₁ r₂ : Fin 2) :
    k0_off19 (BitVec.ofNat 32 c) (BitVec.ofNat 32 (2 * r₁.val)) (BitVec.ofNat 32 r₂.val) = ![0, 0, 4 * c + 2 * r₁.val + r₂.val, 0, 0] := by
  rw [← valWord_eq hc r₁ r₂]; rfl
theorem off24_eq {c : Nat} (hc : c < 24) (r₁ r₂ : Fin 2) :
    k0_off24 (BitVec.ofNat 32 c) (BitVec.ofNat 32 (2 * r₁.val)) (BitVec.ofNat 32 r₂.val) = ![0, 0, 4 * c + 2 * r₁.val + r₂.val, 0, 0] := by
  rw [← valWord_eq hc r₁ r₂]; rfl
theorem off41_eq {c : Nat} (hc : c < 24) (r₁ r₂ : Fin 2) :
    k0_off41 (BitVec.ofNat 32 c) (BitVec.ofNat 32 (2 * r₁.val)) (BitVec.ofNat 32 r₂.val) = ![0, 0, 4 * c + 2 * r₁.val + r₂.val, 0, 0] := by
  rw [← valWord_eq hc r₁ r₂]; rfl

theorem rowMin_eq : (rowWord (Scalar.minsi (Scf.iv 0#32 1#32 t.val) 11#32)).toNat = row0 t.val := by
  rw [iv_eq]; exact rowWord_min_eq ⟨t.val, t4_lt t⟩
theorem off15_eq : k0_off15 t = ![0, 0, row0 t.val] := by rw [← rowMin_eq t]; rfl
theorem off16_eq : k0_off16 t = ![0, row0 t.val] := by rw [← rowMin_eq t]; rfl
theorem off18_eq : k0_off18 t = ![0, 0, row0 t.val] := by rw [← rowMin_eq t]; rfl
theorem off23_eq : k0_off23 t = ![0, 0, row0 t.val] := by rw [← rowMin_eq t]; rfl
theorem off42_eq : k0_off42 t = ![0, 0, 0, row0 t.val] := by
  rw [← rowWord_eq ⟨t.val, t4_lt t⟩, ← iv_eq]; rfl

end Trip

/-! ### The side conditions -/

theorem chk4_of {v w : BitVec 32} (hv : v.toNat < 12288) (k : Fin (k0_t5_loop v).trips) {c : Nat} (hc : c < 24) :
    k0_chk4 v k (BitVec.ofNat 32 c) w := by
  have hk := t5_le hv k
  have m : ∀ r : Fin 2, 256 ∣ (Scalar.addi (Scalar.muli (Scf.iv 0#32 1#32 k.val) 512#32) (BitVec.ofNat 32 (256 * r.val))).toNat := fun r => by
    rw [keyWord_eq hv k r]; omega
  refine ⟨fun _ r₁ r₂ a => ?_, fun _ => m 0, fun _ r a => ?_, fun _ => m 1, fun _ r₁ r₂ a => ?_, fun _ => m 0, fun _ r a => ?_, fun _ => m 1⟩
  · rw [off19_eq hc r₁ r₂]; have := r₁.isLt; have := r₂.isLt
    fin_cases a <;> simp <;> omega
  · rw [off20_eq hv k r]; have := r.isLt
    fin_cases a <;> simp <;> omega
  · rw [off24_eq hc r₁ r₂]; have := r₁.isLt; have := r₂.isLt
    fin_cases a <;> simp <;> omega
  · rw [off25_eq hv k r]; have := r.isLt
    fin_cases a <;> simp <;> omega

theorem chk3_of {v w u : BitVec 32} (hv : v.toNat < 12288) (hu : u.toNat = v.toNat) (t : Fin k0_t4_loop.trips) (k : Fin (k0_t5_loop v).trips) :
    k0_chk3 t v k w u := by
  have hk := t5_le hv k
  have hn := nextTile_lt (t4_lt t) k.val (v.toNat / 512)
  have hb := nextBlock_lt hk (by omega)
  have m : ∀ r : Fin 2, 256 ∣ (Scalar.addi (Scalar.muli (Scalar.select (Scalar.cmpi .eq (Scf.iv 0#32 1#32 k.val) (Scalar.subi (Scalar.addi (qd u) 1#32) 1#32)) 0#32
      (Scalar.addi (Scf.iv 0#32 1#32 k.val) 1#32)) 512#32) (BitVec.ofNat 32 (256 * r.val))).toNat := fun r => by
    rw [nextKeyWord_eq hv k hu r]; omega
  have mr : 128 ∣ (rowWord (nextWord (Scalar.cmpi .eq (Scf.iv 0#32 1#32 k.val) (Scalar.subi (Scalar.addi (qd u) 1#32) 1#32)) (Scf.iv 0#32 1#32 t.val))).toNat := by
    rw [nextRow_eq hv k hu t]; exact row0_dvd ⟨_, hn⟩
  have hr := row0_le hn
  refine ⟨fun _ => mr, fun _ a => ?_, fun _ => m 0, fun _ r a => ?_, fun _ => m 1, fun _ => mr, fun _ a => ?_, fun _ => m 0, fun _ r a => ?_, fun _ => m 1⟩
  · rw [off17_eq hv k hu t]
    fin_cases a <;> simp <;> omega
  · rw [off21_eq hv k hu r]; have := r.isLt
    fin_cases a <;> simp <;> omega
  · rw [off22_eq hv k hu t]
    fin_cases a <;> simp <;> omega
  · rw [off26_eq hv k hu r]; have := r.isLt
    fin_cases a <;> simp <;> omega

theorem chk2_of {v : BitVec 32} (hv : v.toNat < 12288) (t : Fin k0_t4_loop.trips) : k0_chk2 t v := by
  have hr := row0_le (t4_lt t)
  refine ⟨t5_ok hv, fun _ _ => ?_, fun _ _ a => ?_, fun _ _ a => ?_, t6_ok hv⟩
  · show 128 ∣ (rowWord (Scalar.minsi (Scf.iv 0#32 1#32 t.val) 11#32)).toNat
    rw [rowMin_eq t]; exact row0_dvd ⟨_, t4_lt t⟩
  · rw [off15_eq t]
    fin_cases a <;> simp <;> omega
  · rw [off16_eq t]
    fin_cases a <;> simp <;> omega

theorem chk7_of {c : Nat} (hc : c < 24) : k0_chk7 (BitVec.ofNat 32 c) := fun r₁ r₂ a => by
  rw [off41_eq hc r₁ r₂]; have := r₁.isLt; have := r₂.isLt
  fin_cases a <;> simp <;> omega

section Offsets

variable {v : BitVec 32} (hv : v.toNat < 12288) (k : Fin (k0_t2_loop v).trips)

include hv in
theorem offsetKey_eq : (Scalar.muli (Scf.iv 0#32 1#32 k.val) 256#32).toNat = 256 * k.val := by
  have key : ∀ (k : Fin 48), (Scalar.muli (BitVec.ofNat 32 k.val) 256#32).toNat = 256 * k.val := by decide +kernel
  have := t2_le hv k
  rw [iv_eq]; exact key ⟨k.val, by omega⟩

include hv in
theorem off5_eq : k0_off5 v k = ![0, 0, 256 * k.val, 0] := by rw [← offsetKey_eq hv k]; rfl
include hv in
theorem off6_eq : k0_off6 v k = ![0, 256 * k.val, 0] := by rw [← offsetKey_eq hv k]; rfl

end Offsets

theorem chk1_of {a v : BitVec 32} (hv : v.toNat < 12288) : k0_chk1 a v := by
  have no : ∀ k : Fin (k0_t3_loop v).trips, False := fun k => Nat.not_lt_zero _ (Nat.lt_of_lt_of_eq k.isLt (t3_trips hv))
  refine ⟨fun _ => t2_ok hv, fun k _ => ?_, fun k _ a => ?_, fun k _ a => ?_, fun _ => t3_ok hv, fun k => (no k).elim, fun k => (no k).elim, fun k => (no k).elim⟩
  · show 256 ∣ (Scalar.muli (Scf.iv 0#32 1#32 k.val) 256#32).toNat
    rw [offsetKey_eq hv k]; omega
  · rw [off5_eq hv k]; have := t2_le hv k
    fin_cases a <;> simp <;> omega
  · rw [off6_eq hv k]; have := t2_le hv k
    fin_cases a <;> simp <;> omega

/-! ### The entries of the table a tile uses, and the offsets a tile alone decides -/

/-- The first entry of the table tile `p` of prompt `b` uses. -/
def firstAt (b p : Nat) : Nat := 1920 * b + 16 * (row0 p / 16 / 3)
/-- The last entry of the table tile `p` of prompt `b` uses. -/
def lastAt (b p : Nat) : Nat := 1920 * b + 16 * ((row0 p / 16 + 31) / 3) + 15

theorem off13_eq : ∀ (i : grid0.Coords) (t : Fin k0_t4_loop.trips), k0_off13 i t = ![firstAt (i 0).val t.val] := by decide +kernel
theorem off14_eq : ∀ (i : grid0.Coords) (t : Fin k0_t4_loop.trips), k0_off14 i t = ![lastAt (i 0).val t.val] := by decide +kernel
theorem off12_eq : ∀ (i : grid0.Coords) (t : Fin k0_t4_loop.trips), k0_off12 i t = ![lastAt (i 0).val t.val] := by decide +kernel
theorem off4_eq : ∀ (i : grid0.Coords) (t : Fin k0_t1_loop.trips), k0_off4 i t = ![lastAt (i 0).val t.val] := by decide +kernel
theorem off1_eq : ∀ (t : Fin k0_t1_loop.trips), k0_off1 t = ![0, 0, row0 t.val, 0] := by decide +kernel
theorem off2_eq : ∀ (t : Fin k0_t1_loop.trips), k0_off2 t = ![0, 0, row0 t.val] := by decide +kernel
theorem off9_eq : ∀ (t : Fin k0_t1_loop.trips), k0_off9 t = ![0, row0 t.val] := by decide +kernel
theorem off10_eq : k0_off10 = ![0, 0, 0, 0] := by decide +kernel

end Cert.AttnIdeal.Hand

end

end
-- ==== Proof.AttnTrip.lean ====
module

public import proofs.«01_k».proof.Proof.Gen.AttnIdeal.Loops
public import proofs.«01_k».proof.Proof.Gen.AttnIdeal.Launch
public import proofs.«01_k».proof.Proof.AttnWords
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The memrefs the kernel body is called with: the table of positions, the five inputs' blocks, the result's block and the
    eight scratch buffers, each a whole buffer. -/
structure Refs where
  arg2 : Memref sig .tc .smem S11520 .i32
  harg2 : arg2.IsWhole
  arg3 : Memref sig .tc .vmem S1x1x5760x128 .bf16
  harg3 : arg3.IsWhole
  arg4 : Memref sig .tc .vmem S1x1x12288x128 .bf16
  harg4 : arg4.IsWhole
  arg5 : Memref sig .tc .vmem S1x1x96x128x128 .bf16
  harg5 : arg5.IsWhole
  arg6 : Memref sig .tc .vmem S1x12288x128 .f32
  harg6 : arg6.IsWhole
  arg7 : Memref sig .tc .vmem S1x1x5760 .i32
  harg7 : arg7.IsWhole
  arg8 : Memref sig .tc .vmem S1x1x128x5760 .f32
  harg8 : arg8.IsWhole
  arg9 : Memref sig .tc .vmem S128x512 .f32
  harg9 : arg9.IsWhole
  arg10 : Memref sig .tc .vmem S8x512 .f32
  harg10 : arg10.IsWhole
  arg11 : Memref sig .tc .vmem S512x512 .f32
  harg11 : arg11.IsWhole
  arg12 : Memref sig .tc .vmem S4x512x128 .bf16
  harg12 : arg12.IsWhole
  arg13 : Memref sig .tc .vmem S1x512 .f32
  harg13 : arg13.IsWhole
  arg14 : Memref sig .tc .vmem S1x5760 .f32
  harg14 : arg14.IsWhole
  arg15 : Memref sig .tc .vmem S1x512 .f32
  harg15 : arg15.IsWhole
  arg16 : Memref sig .tc .smem S1 .i32
  harg16 : arg16.IsWhole

variable (R : Refs)

/-- What the buffer behind a memref may hold. -/
abbrev Co {sp : Space} {s : Shape} {e : EltTy} (F : FTy → Type) (a : Memref sig .tc sp s e) := a.view.ty.Contents (Elt F)

/-- What the table and the inputs' blocks hold. -/
structure Ins (F : FTy → Type) (R : Refs) where
  t : Co F R.arg2
  q : Co F R.arg3
  k : Co F R.arg4
  v : Co F R.arg5
  s : Co F R.arg6
  p : Co F R.arg7

/-- The word of the table at an offset. -/
abbrev Ins.word {R : Refs} (X : Ins F R) (o : Fin 1 → Nat) (h : ∀ a, o a + S1.size a ≤ S11520.size a) : BitVec 32 :=
  R.arg2.view.readAt (Elt F) (Rect.unit (s := S11520) o S1.size h).toLoadRect X.t (Shape.Idx.first (numel1_S1.symm ▸ Nat.one_pos))

/-- The table and the inputs' blocks, held at their contents. -/
abbrev HeldIn (c : Dev nD) (X : Ins F R) : sProp (MT nD τ sig Unit (Elt F) ℕ (UR sig nD τ) ℕ) :=
  iprop((R.arg2.view.loc (c : Thread nD τ) ↦{fullShare.right} X.t) ∗ (R.arg3.view.loc (c : Thread nD τ) ↦[R.arg3.view.set]{fullShare} X.q)
    ∗ (R.arg4.view.loc (c : Thread nD τ) ↦[R.arg4.view.set]{fullShare} X.k) ∗ (R.arg5.view.loc (c : Thread nD τ) ↦[R.arg5.view.set]{fullShare} X.v)
    ∗ (R.arg6.view.loc (c : Thread nD τ) ↦[R.arg6.view.set]{fullShare} X.s) ∗ (R.arg7.view.loc (c : Thread nD τ) ↦[R.arg7.view.set]{fullShare} X.p))

/-- The offsets, held. -/
abbrev HeldM (c : Dev nD) (f14 : Co F R.arg14) : sProp (MT nD τ sig Unit (Elt F) ℕ (UR sig nD τ) ℕ) :=
  iprop(R.arg14.view.loc (c : Thread nD τ) ↦[R.arg14.view.set]{fullShare} f14)

/-- The buffers a trip over the keys writes: the running products, the denominators, the scores, the weights and the offsets
    in force. -/
abbrev HeldS (c : Dev nD) (f9 : Co F R.arg9) (f10 : Co F R.arg10) (f11 : Co F R.arg11) (f12 : Co F R.arg12) (f13 : Co F R.arg13) : sProp (MT nD τ sig Unit (Elt F) ℕ (UR sig nD τ) ℕ) :=
  iprop((R.arg9.view.loc (c : Thread nD τ) ↦[R.arg9.view.set]{fullShare} f9) ∗ (R.arg10.view.loc (c : Thread nD τ) ↦[R.arg10.view.set]{fullShare} f10)
    ∗ (R.arg11.view.loc (c : Thread nD τ) ↦[R.arg11.view.set]{fullShare} f11) ∗ (R.arg12.view.loc (c : Thread nD τ) ↦[R.arg12.view.set]{fullShare} f12)
    ∗ (R.arg13.view.loc (c : Thread nD τ) ↦[R.arg13.view.set]{fullShare} f13))

/-- The trip over a block of keys, as the kernel calls it. -/
abbrev tripBody (i : grid0.Coords) (a0 a1 arg17 arg18 : BitVec 32) (k0_t4 : Fin k0_t4_loop.trips) (arg20 arg19 v113 v119 : BitVec 32) (v133 : BitVec 1) (v139 : Elt F .i32)
    (hw2 : k0_chk2 k0_t4 v139) :=
  k0_t5_body (F := F) i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 a1 k0_t4 arg20 arg19 v113 v119 v133 v139 hw2

variable (c : Dev nD) (𝒱 : Variants) (bd : Option 𝒱.V) (X : Ins F R) (i : grid0.Coords) (a0 a1 arg17 arg18 : BitVec 32) (k0_t4 : Fin k0_t4_loop.trips)
  (arg20 arg19 v113 v119 : BitVec 32) (v133 : BitVec 1) (v139 : Elt F .i32) (hw2 : k0_chk2 k0_t4 v139)

set_option maxHeartbeats 4000000 in
/-- A later trip over a block of keys no query of the tile masks. -/
def tripU (k0_t5 : Fin (k0_t5_loop v139).trips) (arg22 : BitVec 32)
    (h2 : ¬ k0_cond2 v139 k0_t5 = 1#1)
    (h3 : k0_cond3 v139 k0_t5 (X.word (k0_off13 i k0_t4) (k0_off13_inb i k0_t4)) = 1#1)
    (h4 : ¬ k0_cond4 v139 k0_t5 (X.word (k0_off13 i k0_t4) (k0_off13_inb i k0_t4)) = 1#1)
    (hc4 : k0_chk4 v139 k0_t5 arg22 (X.word (k0_off13 i k0_t4) (k0_off13_inb i k0_t4)))
    (hc3 : k0_chk3 k0_t4 v139 k0_t5 (X.word (k0_off13 i k0_t4) (k0_off13_inb i k0_t4)) (X.word (k0_off14 i k0_t4) (k0_off14_inb i k0_t4)))
    (f14 : Co F R.arg14) (f9 : Co F R.arg9) (f10 : Co F R.arg10) (f11 : Co F R.arg11) (f12 : Co F R.arg12) (f13 : Co F R.arg13) :
    Σ' (L9 : List (View.Piece (Elt F) S128x512 .f32)) (L10 : List (View.Piece (Elt F) S8x512 .f32))
      (L11 : List (View.Piece (Elt F) S512x512 .f32)), { L12 : List (View.Piece (Elt F) S4x512x128 .bf16) //
    ∀ (E : Set ℕ), iprop(HeldIn R c X ∗ HeldM R c f14 ∗ HeldS R c f9 f10 f11 f12 f13)
      ⊢ wp frame (wpE (defs₀ (F := F)) 𝒱 (c : Thread nD τ) bd) E
        (tripBody R i a0 a1 arg17 arg18 k0_t4 arg20 arg19 v113 v119 v133 v139 hw2 k0_t5 arg22)
        (fun y => iprop(⌜y = Scf.iv 0#32 1#32 k0_t5⌝ ∗ HeldIn R c X ∗ HeldM R c f14
          ∗ HeldS R c (R.arg9.view.writes (Elt F) f9 L9) (R.arg10.view.writes (Elt F) f10 L10) (R.arg11.view.writes (Elt F) f11 L11)
            (R.arg12.view.writes (Elt F) f12 L12) f13)) } := by
  refine ⟨?_, ?_, ?_, ?_, fun E => ?run⟩
  case run =>
    unfold tripBody k0_t5_body
    iintro ⟨⟨H2, H3, H4, H5, H6, H7⟩, H14, H9, H10, H11, H12, H13⟩
    sl_exec
    sl_step
    sl_close

set_option maxHeartbeats 4000000 in
/-- A later trip over a block of keys some query of the tile masks. -/
def tripM (k0_t5 : Fin (k0_t5_loop v139).trips) (arg22 : BitVec 32)
    (h2 : ¬ k0_cond2 v139 k0_t5 = 1#1)
    (h3 : ¬ k0_cond3 v139 k0_t5 (X.word (k0_off13 i k0_t4) (k0_off13_inb i k0_t4)) = 1#1)
    (h4 : k0_cond4 v139 k0_t5 (X.word (k0_off13 i k0_t4) (k0_off13_inb i k0_t4)) = 1#1)
    (hc4 : k0_chk4 v139 k0_t5 arg22 (X.word (k0_off13 i k0_t4) (k0_off13_inb i k0_t4)))
    (hc3 : k0_chk3 k0_t4 v139 k0_t5 (X.word (k0_off13 i k0_t4) (k0_off13_inb i k0_t4)) (X.word (k0_off14 i k0_t4) (k0_off14_inb i k0_t4)))
    (f14 : Co F R.arg14) (f9 : Co F R.arg9) (f10 : Co F R.arg10) (f11 : Co F R.arg11) (f12 : Co F R.arg12) (f13 : Co F R.arg13) :
    Σ' (L9 : List (View.Piece (Elt F) S128x512 .f32)) (L10 : List (View.Piece (Elt F) S8x512 .f32))
      (L11 : List (View.Piece (Elt F) S512x512 .f32)), { L12 : List (View.Piece (Elt F) S4x512x128 .bf16) //
    ∀ (E : Set ℕ), iprop(HeldIn R c X ∗ HeldM R c f14 ∗ HeldS R c f9 f10 f11 f12 f13)
      ⊢ wp frame (wpE (defs₀ (F := F)) 𝒱 (c : Thread nD τ) bd) E
        (tripBody R i a0 a1 arg17 arg18 k0_t4 arg20 arg19 v113 v119 v133 v139 hw2 k0_t5 arg22)
        (fun y => iprop(⌜y = Scf.iv 0#32 1#32 k0_t5⌝ ∗ HeldIn R c X ∗ HeldM R c f14
          ∗ HeldS R c (R.arg9.view.writes (Elt F) f9 L9) (R.arg10.view.writes (Elt F) f10 L10) (R.arg11.view.writes (Elt F) f11 L11)
            (R.arg12.view.writes (Elt F) f12 L12) f13)) } := by
  refine ⟨?_, ?_, ?_, ?_, fun E => ?run⟩
  case run =>
    unfold tripBody k0_t5_body
    iintro ⟨⟨H2, H3, H4, H5, H6, H7⟩, H14, H9, H10, H11, H12, H13⟩
    sl_exec
    sl_step
    sl_close

set_option maxHeartbeats 4000000 in
/-- The first trip of a tile, over a block of keys no query of the tile masks: it sets the offsets in force. -/
def tripFU (k0_t5 : Fin (k0_t5_loop v139).trips) (arg22 : BitVec 32)
    (h2 : k0_cond2 v139 k0_t5 = 1#1)
    (h3 : k0_cond3 v139 k0_t5 (X.word (k0_off13 i k0_t4) (k0_off13_inb i k0_t4)) = 1#1)
    (h4 : ¬ k0_cond4 v139 k0_t5 (X.word (k0_off13 i k0_t4) (k0_off13_inb i k0_t4)) = 1#1)
    (hc4 : k0_chk4 v139 k0_t5 arg22 (X.word (k0_off13 i k0_t4) (k0_off13_inb i k0_t4)))
    (hc3 : k0_chk3 k0_t4 v139 k0_t5 (X.word (k0_off13 i k0_t4) (k0_off13_inb i k0_t4)) (X.word (k0_off14 i k0_t4) (k0_off14_inb i k0_t4)))
    (f14 : Co F R.arg14) (f9 : Co F R.arg9) (f10 : Co F R.arg10) (f11 : Co F R.arg11) (f12 : Co F R.arg12) (f13 : Co F R.arg13) :
    Σ' (L9 : List (View.Piece (Elt F) S128x512 .f32)) (L10 : List (View.Piece (Elt F) S8x512 .f32))
      (L11 : List (View.Piece (Elt F) S512x512 .f32)) (L12 : List (View.Piece (Elt F) S4x512x128 .bf16)), { L13 : List (View.Piece (Elt F) S1x512 .f32) //
    ∀ (E : Set ℕ), iprop(HeldIn R c X ∗ HeldM R c f14 ∗ HeldS R c f9 f10 f11 f12 f13)
      ⊢ wp frame (wpE (defs₀ (F := F)) 𝒱 (c : Thread nD τ) bd) E
        (tripBody R i a0 a1 arg17 arg18 k0_t4 arg20 arg19 v113 v119 v133 v139 hw2 k0_t5 arg22)
        (fun y => iprop(⌜y = Scf.iv 0#32 1#32 k0_t5⌝ ∗ HeldIn R c X ∗ HeldM R c f14
          ∗ HeldS R c (R.arg9.view.writes (Elt F) f9 L9) (R.arg10.view.writes (Elt F) f10 L10) (R.arg11.view.writes (Elt F) f11 L11)
            (R.arg12.view.writes (Elt F) f12 L12) (R.arg13.view.writes (Elt F) f13 L13))) } := by
  refine ⟨?_, ?_, ?_, ?_, ?_, fun E => ?run⟩
  case run =>
    unfold tripBody k0_t5_body
    iintro ⟨⟨H2, H3, H4, H5, H6, H7⟩, H14, H9, H10, H11, H12, H13⟩
    sl_exec
    sl_step
    sl_close

set_option maxHeartbeats 4000000 in
/-- The first trip of a tile, over a block of keys some query of the tile masks. -/
def tripFM (k0_t5 : Fin (k0_t5_loop v139).trips) (arg22 : BitVec 32)
    (h2 : k0_cond2 v139 k0_t5 = 1#1)
    (h3 : ¬ k0_cond3 v139 k0_t5 (X.word (k0_off13 i k0_t4) (k0_off13_inb i k0_t4)) = 1#1)
    (h4 : k0_cond4 v139 k0_t5 (X.word (k0_off13 i k0_t4) (k0_off13_inb i k0_t4)) = 1#1)
    (hc4 : k0_chk4 v139 k0_t5 arg22 (X.word (k0_off13 i k0_t4) (k0_off13_inb i k0_t4)))
    (hc3 : k0_chk3 k0_t4 v139 k0_t5 (X.word (k0_off13 i k0_t4) (k0_off13_inb i k0_t4)) (X.word (k0_off14 i k0_t4) (k0_off14_inb i k0_t4)))
    (f14 : Co F R.arg14) (f9 : Co F R.arg9) (f10 : Co F R.arg10) (f11 : Co F R.arg11) (f12 : Co F R.arg12) (f13 : Co F R.arg13) :
    Σ' (L9 : List (View.Piece (Elt F) S128x512 .f32)) (L10 : List (View.Piece (Elt F) S8x512 .f32))
      (L11 : List (View.Piece (Elt F) S512x512 .f32)) (L12 : List (View.Piece (Elt F) S4x512x128 .bf16)), { L13 : List (View.Piece (Elt F) S1x512 .f32) //
    ∀ (E : Set ℕ), iprop(HeldIn R c X ∗ HeldM R c f14 ∗ HeldS R c f9 f10 f11 f12 f13)
      ⊢ wp frame (wpE (defs₀ (F := F)) 𝒱 (c : Thread nD τ) bd) E
        (tripBody R i a0 a1 arg17 arg18 k0_t4 arg20 arg19 v113 v119 v133 v139 hw2 k0_t5 arg22)
        (fun y => iprop(⌜y = Scf.iv 0#32 1#32 k0_t5⌝ ∗ HeldIn R c X ∗ HeldM R c f14
          ∗ HeldS R c (R.arg9.view.writes (Elt F) f9 L9) (R.arg10.view.writes (Elt F) f10 L10) (R.arg11.view.writes (Elt F) f11 L11)
            (R.arg12.view.writes (Elt F) f12 L12) (R.arg13.view.writes (Elt F) f13 L13))) } := by
  refine ⟨?_, ?_, ?_, ?_, ?_, fun E => ?run⟩
  case run =>
    unfold tripBody k0_t5_body
    iintro ⟨⟨H2, H3, H4, H5, H6, H7⟩, H14, H9, H10, H11, H12, H13⟩
    sl_exec
    sl_step
    sl_close

end Cert.AttnIdeal.Hand

end

end
-- ==== Proof.AttnOffsets.lean ====
module

public import proofs.«01_k».proof.Proof.AttnTrip

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (R : Refs) (c : Dev nD) (𝒱 : Variants) (bd : Option 𝒱.V) (X : Ins F R) (i : grid0.Coords) (a0 a1 arg17 arg18 : BitVec 32)

/-- The trip that computes a tile's offsets exactly, as the kernel calls it. -/
abbrev offsetsBody (h1 : k0_cond1 arg17 = 1#1) :=
  k0_t1_body (F := F) i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 a1 h1

set_option maxHeartbeats 4000000 in
/-- A trip that computes a tile's offsets exactly: it takes the largest score of every query over the keys below. -/
def tripO (h1 : k0_cond1 arg17 = 1#1) (k0_t1 : Fin k0_t1_loop.trips) (arg20 : BitVec 32)
    (hc1 : k0_chk1 arg17 (X.word (k0_off4 i k0_t1) (k0_off4_inb i k0_t1)))
    (f14 : Co F R.arg14) :
    { L14 : List (View.Piece (Elt F) S1x5760 .f32) //
    ∀ (E : Set ℕ), iprop(HeldIn R c X ∗ HeldM R c f14)
      ⊢ wp frame (wpE (defs₀ (F := F)) 𝒱 (c : Thread nD τ) bd) E
        (offsetsBody R i a0 a1 arg17 arg18 h1 k0_t1 arg20)
        (fun y => iprop(⌜y = 0#32⌝ ∗ HeldIn R c X ∗ HeldM R c (R.arg14.view.writes (Elt F) f14 L14))) } := by
  refine ⟨?_, fun E => ?run⟩
  case run =>
    unfold offsetsBody k0_t1_body
    iintro ⟨⟨H2, H3, H4, H5, H6, H7⟩, H14⟩
    sl_exec
    sl_step
    sl_close

end Cert.AttnIdeal.Hand

end

end
-- ==== Proof.AttnRun.lean ====
module

public import proofs.«01_k».proof.Proof.AttnOffsets

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A grid coordinate as the word the kernel is handed. -/
abbrev w0 (i : grid0.Coords) : BitVec 32 := BitVec.ofNat 32 (i 0).val
abbrev w1 (i : grid0.Coords) : BitVec 32 := BitVec.ofNat 32 (i 1).val

/-- A tile's products with the last block of values added. -/
abbrev lastProd {R : Refs} (X : Ins F R) (z : BitVec 32) (hz : k0_chk7 z) (f9 : Co F R.arg9) (f12 : Co F R.arg12) : Vec F S128x512 .f32 :=
  k0_pay180 (k0_pay178 (R.arg9.view.readAt (Elt F) (Rect.unit (s := S128x512) ![0, 0] S128x512.size inb_S128x512_S128x512_0_0).toLoadRect f9)
      (R.arg5.view.readAt (Elt F) (Rect.unit (s := S1x1x96x128x128) (k0_off41 z 0#32 0#32) S1x1x1x128x128.size (k0_off41_inb z hz 0 0)).toLoadRect X.v)
      (R.arg5.view.readAt (Elt F) (Rect.unit (s := S1x1x96x128x128) (k0_off41 z 0#32 1#32) S1x1x1x128x128.size (k0_off41_inb z hz 0 1)).toLoadRect X.v)
      (R.arg12.view.readAt (Elt F) (Rect.unit (s := S4x512x128) ![0, 0, 0] S1x256x128.size inb_S4x512x128_S1x256x128_0_0_0).toLoadRect f12) (R.arg12.view.readAt (Elt F) (Rect.unit (s := S4x512x128) ![1, 0, 0] S1x256x128.size inb_S4x512x128_S1x256x128_1_0_0).toLoadRect f12)
      (R.arg12.view.readAt (Elt F) (Rect.unit (s := S4x512x128) ![2, 0, 0] S1x256x128.size inb_S4x512x128_S1x256x128_2_0_0).toLoadRect f12) (R.arg12.view.readAt (Elt F) (Rect.unit (s := S4x512x128) ![3, 0, 0] S1x256x128.size inb_S4x512x128_S1x256x128_3_0_0).toLoadRect f12))
    (k0_pay179 (R.arg5.view.readAt (Elt F) (Rect.unit (s := S1x1x96x128x128) (k0_off41 z 2#32 0#32) S1x1x1x128x128.size (k0_off41_inb z hz 1 0)).toLoadRect X.v)
      (R.arg5.view.readAt (Elt F) (Rect.unit (s := S1x1x96x128x128) (k0_off41 z 2#32 1#32) S1x1x1x128x128.size (k0_off41_inb z hz 1 1)).toLoadRect X.v))
    (R.arg12.view.readAt (Elt F) (Rect.unit (s := S4x512x128) ![0, 256, 0] S1x256x128.size inb_S4x512x128_S1x256x128_0_256_0).toLoadRect f12) (R.arg12.view.readAt (Elt F) (Rect.unit (s := S4x512x128) ![1, 256, 0] S1x256x128.size inb_S4x512x128_S1x256x128_1_256_0).toLoadRect f12)
    (R.arg12.view.readAt (Elt F) (Rect.unit (s := S4x512x128) ![2, 256, 0] S1x256x128.size inb_S4x512x128_S1x256x128_2_256_0).toLoadRect f12) (R.arg12.view.readAt (Elt F) (Rect.unit (s := S4x512x128) ![3, 256, 0] S1x256x128.size inb_S4x512x128_S1x256x128_3_256_0).toLoadRect f12)

/-- What a certificate states of the buffers' contents along the run: of the offsets, of the buffers before trip `k` of tile
    `t`, and of the result after `t` tiles; and that the kernel's steps keep it. -/
structure Hooks (F : FTy → Type) [FloatOps F] (R : Refs) (X : Ins F R) (i : grid0.Coords) where
  /-- the offsets -/
  M : Co F R.arg14 → Prop
  /-- the buffers before trip `k` of tile `t` -/
  I : ℕ → ℕ → Co F R.arg9 → Co F R.arg10 → Co F R.arg11 → Co F R.arg12 → Co F R.arg13 → Prop
  /-- the result after `t` tiles -/
  A : ℕ → Co F R.arg8 → Prop
  zero : ∀ f14, M (R.arg14.view.writes (Elt F) f14 [⟨Rect.unit (s := S1x5760) ![0, 0] S1x5760.size inb_S1x5760_S1x5760_0_0, k0_pay1 (F := F)⟩])
  offsets : ∀ (c : Dev nD) (𝒱 : Variants) (bd : Option 𝒱.V) (arg17 arg18 : BitVec 32) (h1 : k0_cond1 arg17 = 1#1) (t : Fin k0_t1_loop.trips) (arg20 : BitVec 32)
    (hc1 : k0_chk1 arg17 (X.word (k0_off4 i t) (k0_off4_inb i t))) (f14 : Co F R.arg14), M f14 →
    M (R.arg14.view.writes (Elt F) f14 (tripO R c 𝒱 bd X i (w0 i) (w1 i) arg17 arg18 h1 t arg20 hc1 f14).1)
  start : ∀ (f8 : Co F R.arg8), A 0 f8
  fill : ∀ (f9 : Co F R.arg9) (f10 : Co F R.arg10) (f11 : Co F R.arg11) (f12 : Co F R.arg12) (f13 : Co F R.arg13),
    I 0 0 (R.arg9.view.writes (Elt F) f9 [⟨Rect.unit (s := S128x512) ![0, 0] S128x512.size inb_S128x512_S128x512_0_0, k0_pay187 (F := F)⟩])
      (R.arg10.view.writes (Elt F) f10 [⟨Rect.unit (s := S8x512) ![0, 0] S8x512.size inb_S8x512_S8x512_0_0, k0_pay188 (F := F)⟩])
      (R.arg11.view.writes (Elt F) f11
        [⟨Rect.unit (s := S512x512) ![256, 0] S256x512.size inb_S512x512_S256x512_256_0, k0_pay3
          (k0_pay191 (R.arg3.view.readAt (Elt F) (Rect.unit (s := S1x1x5760x128) k0_off10 S1x1x512x128.size k0_off10_inb).toLoadRect X.q))
          (R.arg4.view.readAt (Elt F) (Rect.unit (s := S1x1x12288x128) ![0, 0, 256, 0] S1x1x256x128.size inb_S1x1x12288x128_S1x1x256x128_0_0_256_0).toLoadRect X.k)⟩,
         ⟨Rect.unit (s := S512x512) ![0, 0] S256x512.size inb_S512x512_S256x512_0_0, k0_pay2 (k0_pay192
          (R.arg3.view.readAt (Elt F) (Rect.unit (s := S1x1x5760x128) k0_off10 S1x1x512x128.size k0_off10_inb).toLoadRect X.q)
          (R.arg4.view.readAt (Elt F) (Rect.unit (s := S1x1x12288x128) ![0, 0, 0, 0] S1x1x256x128.size inb_S1x1x12288x128_S1x1x256x128_0_0_0_0).toLoadRect X.k))⟩])
      (R.arg12.view.writes (Elt F) f12 [⟨Rect.unit (s := S4x512x128) ![0, 0, 0] S4x512x128.size inb_S4x512x128_S4x512x128_0_0_0, k0_pay189 (F := F)⟩]) f13
  laterU : ∀ (c : Dev nD) (𝒱 : Variants) (bd : Option 𝒱.V) (arg17 arg18 : BitVec 32) (t : Fin k0_t4_loop.trips) (arg19 v113 v119 : BitVec 32) (v133 : BitVec 1)
    (hw2 : k0_chk2 t (X.word (k0_off12 i t) (k0_off12_inb i t))) (k : Fin (k0_t5_loop (X.word (k0_off12 i t) (k0_off12_inb i t))).trips)
    (h2 : ¬ k0_cond2 (X.word (k0_off12 i t) (k0_off12_inb i t)) k = 1#1) (h3 : k0_cond3 (X.word (k0_off12 i t) (k0_off12_inb i t)) k (X.word (k0_off13 i t) (k0_off13_inb i t)) = 1#1) (h4 : ¬ k0_cond4 (X.word (k0_off12 i t) (k0_off12_inb i t)) k (X.word (k0_off13 i t) (k0_off13_inb i t)) = 1#1)
    (hc4 : k0_chk4 (X.word (k0_off12 i t) (k0_off12_inb i t)) k (BitVec.ofNat 32 (k.val - 1)) (X.word (k0_off13 i t) (k0_off13_inb i t))) (hc3 : k0_chk3 t (X.word (k0_off12 i t) (k0_off12_inb i t)) k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13),
    M f14 → I t.val k.val f9 f10 f11 f12 f13 →
    I t.val (k.val + 1) (R.arg9.view.writes (Elt F) f9 (tripU R c 𝒱 bd X i (w0 i) (w1 i) arg17 arg18 t 0#32 arg19 v113 v119 v133 _ hw2 k (BitVec.ofNat 32 (k.val - 1)) h2 h3 h4 hc4 hc3 f14 f9 f10 f11 f12 f13).1)
      (R.arg10.view.writes (Elt F) f10 (tripU R c 𝒱 bd X i (w0 i) (w1 i) arg17 arg18 t 0#32 arg19 v113 v119 v133 _ hw2 k (BitVec.ofNat 32 (k.val - 1)) h2 h3 h4 hc4 hc3 f14 f9 f10 f11 f12 f13).2.1)
      (R.arg11.view.writes (Elt F) f11 (tripU R c 𝒱 bd X i (w0 i) (w1 i) arg17 arg18 t 0#32 arg19 v113 v119 v133 _ hw2 k (BitVec.ofNat 32 (k.val - 1)) h2 h3 h4 hc4 hc3 f14 f9 f10 f11 f12 f13).2.2.1)
      (R.arg12.view.writes (Elt F) f12 (tripU R c 𝒱 bd X i (w0 i) (w1 i) arg17 arg18 t 0#32 arg19 v113 v119 v133 _ hw2 k (BitVec.ofNat 32 (k.val - 1)) h2 h3 h4 hc4 hc3 f14 f9 f10 f11 f12 f13).2.2.2.1) f13
  laterM : ∀ (c : Dev nD) (𝒱 : Variants) (bd : Option 𝒱.V) (arg17 arg18 : BitVec 32) (t : Fin k0_t4_loop.trips) (arg19 v113 v119 : BitVec 32) (v133 : BitVec 1)
    (hw2 : k0_chk2 t (X.word (k0_off12 i t) (k0_off12_inb i t))) (k : Fin (k0_t5_loop (X.word (k0_off12 i t) (k0_off12_inb i t))).trips)
    (h2 : ¬ k0_cond2 (X.word (k0_off12 i t) (k0_off12_inb i t)) k = 1#1) (h3 : ¬ k0_cond3 (X.word (k0_off12 i t) (k0_off12_inb i t)) k (X.word (k0_off13 i t) (k0_off13_inb i t)) = 1#1) (h4 : k0_cond4 (X.word (k0_off12 i t) (k0_off12_inb i t)) k (X.word (k0_off13 i t) (k0_off13_inb i t)) = 1#1)
    (hc4 : k0_chk4 (X.word (k0_off12 i t) (k0_off12_inb i t)) k (BitVec.ofNat 32 (k.val - 1)) (X.word (k0_off13 i t) (k0_off13_inb i t))) (hc3 : k0_chk3 t (X.word (k0_off12 i t) (k0_off12_inb i t)) k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13),
    M f14 → I t.val k.val f9 f10 f11 f12 f13 →
    I t.val (k.val + 1) (R.arg9.view.writes (Elt F) f9 (tripM R c 𝒱 bd X i (w0 i) (w1 i) arg17 arg18 t 0#32 arg19 v113 v119 v133 _ hw2 k (BitVec.ofNat 32 (k.val - 1)) h2 h3 h4 hc4 hc3 f14 f9 f10 f11 f12 f13).1)
      (R.arg10.view.writes (Elt F) f10 (tripM R c 𝒱 bd X i (w0 i) (w1 i) arg17 arg18 t 0#32 arg19 v113 v119 v133 _ hw2 k (BitVec.ofNat 32 (k.val - 1)) h2 h3 h4 hc4 hc3 f14 f9 f10 f11 f12 f13).2.1)
      (R.arg11.view.writes (Elt F) f11 (tripM R c 𝒱 bd X i (w0 i) (w1 i) arg17 arg18 t 0#32 arg19 v113 v119 v133 _ hw2 k (BitVec.ofNat 32 (k.val - 1)) h2 h3 h4 hc4 hc3 f14 f9 f10 f11 f12 f13).2.2.1)
      (R.arg12.view.writes (Elt F) f12 (tripM R c 𝒱 bd X i (w0 i) (w1 i) arg17 arg18 t 0#32 arg19 v113 v119 v133 _ hw2 k (BitVec.ofNat 32 (k.val - 1)) h2 h3 h4 hc4 hc3 f14 f9 f10 f11 f12 f13).2.2.2.1) f13
  firstU : ∀ (c : Dev nD) (𝒱 : Variants) (bd : Option 𝒱.V) (arg17 arg18 : BitVec 32) (t : Fin k0_t4_loop.trips) (arg19 v113 v119 : BitVec 32) (v133 : BitVec 1)
    (hw2 : k0_chk2 t (X.word (k0_off12 i t) (k0_off12_inb i t))) (k : Fin (k0_t5_loop (X.word (k0_off12 i t) (k0_off12_inb i t))).trips)
    (h2 : k0_cond2 (X.word (k0_off12 i t) (k0_off12_inb i t)) k = 1#1) (h3 : k0_cond3 (X.word (k0_off12 i t) (k0_off12_inb i t)) k (X.word (k0_off13 i t) (k0_off13_inb i t)) = 1#1) (h4 : ¬ k0_cond4 (X.word (k0_off12 i t) (k0_off12_inb i t)) k (X.word (k0_off13 i t) (k0_off13_inb i t)) = 1#1)
    (hc4 : k0_chk4 (X.word (k0_off12 i t) (k0_off12_inb i t)) k (BitVec.ofNat 32 (k.val - 1)) (X.word (k0_off13 i t) (k0_off13_inb i t))) (hc3 : k0_chk3 t (X.word (k0_off12 i t) (k0_off12_inb i t)) k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13),
    M f14 → I t.val k.val f9 f10 f11 f12 f13 →
    I t.val (k.val + 1) (R.arg9.view.writes (Elt F) f9 (tripFU R c 𝒱 bd X i (w0 i) (w1 i) arg17 arg18 t 0#32 arg19 v113 v119 v133 _ hw2 k (BitVec.ofNat 32 (k.val - 1)) h2 h3 h4 hc4 hc3 f14 f9 f10 f11 f12 f13).1)
      (R.arg10.view.writes (Elt F) f10 (tripFU R c 𝒱 bd X i (w0 i) (w1 i) arg17 arg18 t 0#32 arg19 v113 v119 v133 _ hw2 k (BitVec.ofNat 32 (k.val - 1)) h2 h3 h4 hc4 hc3 f14 f9 f10 f11 f12 f13).2.1)
      (R.arg11.view.writes (Elt F) f11 (tripFU R c 𝒱 bd X i (w0 i) (w1 i) arg17 arg18 t 0#32 arg19 v113 v119 v133 _ hw2 k (BitVec.ofNat 32 (k.val - 1)) h2 h3 h4 hc4 hc3 f14 f9 f10 f11 f12 f13).2.2.1)
      (R.arg12.view.writes (Elt F) f12 (tripFU R c 𝒱 bd X i (w0 i) (w1 i) arg17 arg18 t 0#32 arg19 v113 v119 v133 _ hw2 k (BitVec.ofNat 32 (k.val - 1)) h2 h3 h4 hc4 hc3 f14 f9 f10 f11 f12 f13).2.2.2.1)
      (R.arg13.view.writes (Elt F) f13 (tripFU R c 𝒱 bd X i (w0 i) (w1 i) arg17 arg18 t 0#32 arg19 v113 v119 v133 _ hw2 k (BitVec.ofNat 32 (k.val - 1)) h2 h3 h4 hc4 hc3 f14 f9 f10 f11 f12 f13).2.2.2.2.1)
  firstM : ∀ (c : Dev nD) (𝒱 : Variants) (bd : Option 𝒱.V) (arg17 arg18 : BitVec 32) (t : Fin k0_t4_loop.trips) (arg19 v113 v119 : BitVec 32) (v133 : BitVec 1)
    (hw2 : k0_chk2 t (X.word (k0_off12 i t) (k0_off12_inb i t))) (k : Fin (k0_t5_loop (X.word (k0_off12 i t) (k0_off12_inb i t))).trips)
    (h2 : k0_cond2 (X.word (k0_off12 i t) (k0_off12_inb i t)) k = 1#1) (h3 : ¬ k0_cond3 (X.word (k0_off12 i t) (k0_off12_inb i t)) k (X.word (k0_off13 i t) (k0_off13_inb i t)) = 1#1) (h4 : k0_cond4 (X.word (k0_off12 i t) (k0_off12_inb i t)) k (X.word (k0_off13 i t) (k0_off13_inb i t)) = 1#1)
    (hc4 : k0_chk4 (X.word (k0_off12 i t) (k0_off12_inb i t)) k (BitVec.ofNat 32 (k.val - 1)) (X.word (k0_off13 i t) (k0_off13_inb i t))) (hc3 : k0_chk3 t (X.word (k0_off12 i t) (k0_off12_inb i t)) k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13),
    M f14 → I t.val k.val f9 f10 f11 f12 f13 →
    I t.val (k.val + 1) (R.arg9.view.writes (Elt F) f9 (tripFM R c 𝒱 bd X i (w0 i) (w1 i) arg17 arg18 t 0#32 arg19 v113 v119 v133 _ hw2 k (BitVec.ofNat 32 (k.val - 1)) h2 h3 h4 hc4 hc3 f14 f9 f10 f11 f12 f13).1)
      (R.arg10.view.writes (Elt F) f10 (tripFM R c 𝒱 bd X i (w0 i) (w1 i) arg17 arg18 t 0#32 arg19 v113 v119 v133 _ hw2 k (BitVec.ofNat 32 (k.val - 1)) h2 h3 h4 hc4 hc3 f14 f9 f10 f11 f12 f13).2.1)
      (R.arg11.view.writes (Elt F) f11 (tripFM R c 𝒱 bd X i (w0 i) (w1 i) arg17 arg18 t 0#32 arg19 v113 v119 v133 _ hw2 k (BitVec.ofNat 32 (k.val - 1)) h2 h3 h4 hc4 hc3 f14 f9 f10 f11 f12 f13).2.2.1)
      (R.arg12.view.writes (Elt F) f12 (tripFM R c 𝒱 bd X i (w0 i) (w1 i) arg17 arg18 t 0#32 arg19 v113 v119 v133 _ hw2 k (BitVec.ofNat 32 (k.val - 1)) h2 h3 h4 hc4 hc3 f14 f9 f10 f11 f12 f13).2.2.2.1)
      (R.arg13.view.writes (Elt F) f13 (tripFM R c 𝒱 bd X i (w0 i) (w1 i) arg17 arg18 t 0#32 arg19 v113 v119 v133 _ hw2 k (BitVec.ofNat 32 (k.val - 1)) h2 h3 h4 hc4 hc3 f14 f9 f10 f11 f12 f13).2.2.2.2.1)
  finish : ∀ (t : Fin k0_t4_loop.trips) (hz : k0_chk7 (BitVec.ofNat 32 ((k0_t5_loop (X.word (k0_off12 i t) (k0_off12_inb i t))).trips - 1)))
    (f8 : Co F R.arg8) (f9 : Co F R.arg9) (f10 : Co F R.arg10) (f11 : Co F R.arg11) (f12 : Co F R.arg12) (f13 : Co F R.arg13),
    I t.val (k0_t5_loop (X.word (k0_off12 i t) (k0_off12_inb i t))).trips f9 f10 f11 f12 f13 →
    (A t.val f8 → A (t.val + 1) (R.arg8.view.writes (Elt F) f8 [⟨Rect.unit (s := S1x1x128x5760) (k0_off42 t) S1x1x128x512.size (k0_off42_inb t),
      k0_pay4 (k0_pay183 (R.arg10.view.readAt (Elt F) (Rect.unit (s := S8x512) ![0, 0] S8x512.size inb_S8x512_S8x512_0_0).toLoadRect f10)
        (lastProd X _ hz f9 f12))⟩])) ∧
    I (t.val + 1) 0 (R.arg9.view.writes (Elt F) f9 [⟨Rect.unit (s := S128x512) ![0, 0] S128x512.size inb_S128x512_S128x512_0_0, k0_pay5 (F := F)⟩,
        ⟨Rect.unit (s := S128x512) ![0, 0] S128x512.size inb_S128x512_S128x512_0_0, lastProd X _ hz f9 f12⟩])
      (R.arg10.view.writes (Elt F) f10 [⟨Rect.unit (s := S8x512) ![0, 0] S8x512.size inb_S8x512_S8x512_0_0, k0_pay6 (F := F)⟩]) f11
      (R.arg12.view.writes (Elt F) f12 [⟨Rect.unit (s := S4x512x128) ![0, 0, 0] S4x512x128.size inb_S4x512x128_S4x512x128_0_0_0, k0_pay7 (F := F)⟩]) f13

variable {R : Refs} {X : Ins F R} {i : grid0.Coords} (H : Hooks F R X i)

/-- A run's postcondition, weakened. -/
theorem wand {c : Dev nD} {𝒱 : Variants} {bd : Option 𝒱.V} {E : Set ℕ} {α : Type} {p : Prog (TpuEff nD τ sig (Elt F) (Λ₀ F) .tc) α} {Q Q' : α → sProp (MT nD τ sig Unit (Elt F) ℕ (UR sig nD τ) ℕ)} :
    iprop(wp frame (wpE (defs₀ (F := F)) 𝒱 (c : Thread nD τ) bd) E p Q ∗ (∀ a, Q a -∗ Q' a))
      ⊢ wp frame (wpE (defs₀ (F := F)) 𝒱 (c : Thread nD τ) bd) E p Q' := wp_wand_r _ _ _

/-- The loop over a tile's blocks of keys keeps the certificate's statement of its buffers. -/
@[sl_loop, instance_reducible] def loop5 (hX : ∀ o h, (X.word o h).toNat < 12288) (c : Dev nD) (𝒱 : Variants) (bd : Option 𝒱.V) (E : Set ℕ) (arg17 arg18 : BitVec 32)
    (t : Fin k0_t4_loop.trips) (arg19 v113 v119 : BitVec 32) (v133 : BitVec 1) (hw2 : k0_chk2 t (X.word (k0_off12 i t) (k0_off12_inb i t)))
    (f14 : Co F R.arg14) (hM : H.M f14) :
    Gen.LoopInvTy_k0_t5 (F := F) Unit ℕ (UR sig nD τ) ℕ 𝒱 c bd E i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16
      arg17 arg18 (w0 i) (w1 i) t 0#32 arg19 v113 v119 v133 (X.word (k0_off12 i t) (k0_off12_inb i t)) hw2 0#32 where
  inv k acc := iprop(∃ f9 f10 f11 f12 f13, ⌜acc = BitVec.ofNat 32 (k - 1)⌝ ∗ ⌜H.I t.val k f9 f10 f11 f12 f13⌝ ∗ HeldIn R c X ∗ HeldM R c f14 ∗ HeldS R c f9 f10 f11 f12 f13)
  step k acc := by
    have hv := hX (k0_off12 i t) (k0_off12_inb i t)
    have hw := hX (k0_off13 i t) (k0_off13_inb i t)
    have hu : (X.word (k0_off14 i t) (k0_off14_inb i t)).toNat = (X.word (k0_off12 i t) (k0_off12_inb i t)).toNat := by
      have e : ∀ (o o' : Fin 1 → Nat) (h h'), o = o' → X.word o h = X.word o' h' := fun o o' h h' e => by subst e; rfl
      rw [e _ _ _ (k0_off12_inb i t) ((off14_eq i t).trans (off12_eq i t).symm)]
    have hk := t5_le hv k
    have hc4 := chk4_of (w := X.word (k0_off13 i t) (k0_off13_inb i t)) hv k (c := k.val - 1) (by omega)
    have hc3 := chk3_of (w := X.word (k0_off13 i t) (k0_off13_inb i t)) hv hu t k
    iintro ⟨%f9, %f10, %f11, %f12, %f13, %ha, %hI, Hi, Hm, Hs⟩
    subst ha
    by_cases h2 : k0_cond2 (X.word (k0_off12 i t) (k0_off12_inb i t)) k = 1#1 <;> by_cases h3 : k0_cond3 (X.word (k0_off12 i t) (k0_off12_inb i t)) k (X.word (k0_off13 i t) (k0_off13_inb i t)) = 1#1
    · have h4 : ¬ k0_cond4 (X.word (k0_off12 i t) (k0_off12_inb i t)) k (X.word (k0_off13 i t) (k0_off13_inb i t)) = 1#1 := fun h => by
        have := (cond3_iff hv hw k).mp h3; have := (cond4_iff hv hw k).mp h; omega
      iapply (wand (p := tripBody R i (w0 i) (w1 i) arg17 arg18 t 0#32 arg19 v113 v119 v133 _ hw2 k (BitVec.ofNat 32 (k.val - 1))))
      isplitl
      · iapply ((tripFU R c 𝒱 bd X i (w0 i) (w1 i) arg17 arg18 t 0#32 arg19 v113 v119 v133 _ hw2 k (BitVec.ofNat 32 (k.val - 1)) h2 h3 h4 hc4 hc3 f14 f9 f10 f11 f12 f13).2.2.2.2.2 E)
        isplitl [Hi]; · iexact Hi
        isplitl [Hm]; · iexact Hm
        iexact Hs
      iintro %y ⟨%hy, Hi, Hm, Hs⟩
      iexists _, _, _, _, _
      isplitr
      · ipureintro; rw [hy, iv_eq]; rfl
      isplitr; swap
      · isplitl [Hi]; · iexact Hi
        isplitl [Hm]; · iexact Hm
        iexact Hs
      ipureintro
      exact H.firstU c 𝒱 bd arg17 arg18 t arg19 v113 v119 v133 hw2 k h2 h3 h4 hc4 hc3 f14 f9 f10 f11 f12 f13 hM hI
    · have h4 : k0_cond4 (X.word (k0_off12 i t) (k0_off12_inb i t)) k (X.word (k0_off13 i t) (k0_off13_inb i t)) = 1#1 :=
        (cond4_iff hv hw k).mpr (not_lt.mp fun h => h3 ((cond3_iff hv hw k).mpr h))
      iapply (wand (p := tripBody R i (w0 i) (w1 i) arg17 arg18 t 0#32 arg19 v113 v119 v133 _ hw2 k (BitVec.ofNat 32 (k.val - 1))))
      isplitl
      · iapply ((tripFM R c 𝒱 bd X i (w0 i) (w1 i) arg17 arg18 t 0#32 arg19 v113 v119 v133 _ hw2 k (BitVec.ofNat 32 (k.val - 1)) h2 h3 h4 hc4 hc3 f14 f9 f10 f11 f12 f13).2.2.2.2.2 E)
        isplitl [Hi]; · iexact Hi
        isplitl [Hm]; · iexact Hm
        iexact Hs
      iintro %y ⟨%hy, Hi, Hm, Hs⟩
      iexists _, _, _, _, _
      isplitr
      · ipureintro; rw [hy, iv_eq]; rfl
      isplitr; swap
      · isplitl [Hi]; · iexact Hi
        isplitl [Hm]; · iexact Hm
        iexact Hs
      ipureintro
      exact H.firstM c 𝒱 bd arg17 arg18 t arg19 v113 v119 v133 hw2 k h2 h3 h4 hc4 hc3 f14 f9 f10 f11 f12 f13 hM hI
    · have h4 : ¬ k0_cond4 (X.word (k0_off12 i t) (k0_off12_inb i t)) k (X.word (k0_off13 i t) (k0_off13_inb i t)) = 1#1 := fun h => by
        have := (cond3_iff hv hw k).mp h3; have := (cond4_iff hv hw k).mp h; omega
      iapply (wand (p := tripBody R i (w0 i) (w1 i) arg17 arg18 t 0#32 arg19 v113 v119 v133 _ hw2 k (BitVec.ofNat 32 (k.val - 1))))
      isplitl
      · iapply ((tripU R c 𝒱 bd X i (w0 i) (w1 i) arg17 arg18 t 0#32 arg19 v113 v119 v133 _ hw2 k (BitVec.ofNat 32 (k.val - 1)) h2 h3 h4 hc4 hc3 f14 f9 f10 f11 f12 f13).2.2.2.2 E)
        isplitl [Hi]; · iexact Hi
        isplitl [Hm]; · iexact Hm
        iexact Hs
      iintro %y ⟨%hy, Hi, Hm, Hs⟩
      iexists _, _, _, _, _
      isplitr
      · ipureintro; rw [hy, iv_eq]; rfl
      isplitr; swap
      · isplitl [Hi]; · iexact Hi
        isplitl [Hm]; · iexact Hm
        iexact Hs
      ipureintro
      exact H.laterU c 𝒱 bd arg17 arg18 t arg19 v113 v119 v133 hw2 k h2 h3 h4 hc4 hc3 f14 f9 f10 f11 f12 f13 hM hI
    · have h4 : k0_cond4 (X.word (k0_off12 i t) (k0_off12_inb i t)) k (X.word (k0_off13 i t) (k0_off13_inb i t)) = 1#1 :=
        (cond4_iff hv hw k).mpr (not_lt.mp fun h => h3 ((cond3_iff hv hw k).mpr h))
      iapply (wand (p := tripBody R i (w0 i) (w1 i) arg17 arg18 t 0#32 arg19 v113 v119 v133 _ hw2 k (BitVec.ofNat 32 (k.val - 1))))
      isplitl
      · iapply ((tripM R c 𝒱 bd X i (w0 i) (w1 i) arg17 arg18 t 0#32 arg19 v113 v119 v133 _ hw2 k (BitVec.ofNat 32 (k.val - 1)) h2 h3 h4 hc4 hc3 f14 f9 f10 f11 f12 f13).2.2.2.2 E)
        isplitl [Hi]; · iexact Hi
        isplitl [Hm]; · iexact Hm
        iexact Hs
      iintro %y ⟨%hy, Hi, Hm, Hs⟩
      iexists _, _, _, _, _
      isplitr
      · ipureintro; rw [hy, iv_eq]; rfl
      isplitr; swap
      · isplitl [Hi]; · iexact Hi
        isplitl [Hm]; · iexact Hm
        iexact Hs
      ipureintro
      exact H.laterM c 𝒱 bd arg17 arg18 t arg19 v113 v119 v133 hw2 k h2 h3 h4 hc4 hc3 f14 f9 f10 f11 f12 f13 hM hI

/-- A loop that runs no trip goes straight on. -/
theorem exec_none {c : Dev nD} {𝒱 : Variants} {bd : Option 𝒱.V} {E : Set ℕ} {w : Nat} {σ : Type} (lb ub st : BitVec w) (hok : Scf.OK lb ub st) (init : σ)
    {body : Fin (Scf.trips lb ub st) → σ → Prog (TpuEff nD τ sig (Elt F) (Λ₀ F) .tc) σ} (htr : Scf.trips lb ub st = 0)
    {β : Type} {kk : σ → Prog (TpuEff nD τ sig (Elt F) (Λ₀ F) .tc) β} {Q : β → sProp (MT nD τ sig Unit (Elt F) ℕ (UR sig nD τ) ℕ)} :
    wp frame (wpE (defs₀ (F := F)) 𝒱 (c : Thread nD τ) bd) E (kk init) Q
      ⊢ wp frame (wpE (defs₀ (F := F)) 𝒱 (c : Thread nD τ) bd) E (Scf.for lb ub st hok init body >>= kk) Q := by
  iintro H
  iapply (Scf.wp_for_bind frame (wpE (defs₀ (F := F)) 𝒱 (c : Thread nD τ) bd) E lb ub st hok init body (fun _ acc => iprop(⌜acc = init⌝))
    (fun k _ => absurd k.isLt (by omega))) $$ []
  · ipureintro; rfl
  iintro %acc %h
  subst h
  iexact H

/-- The work on a tile of queries: its blocks of keys, then the result's columns, as the kernel spells it. -/
def pairBody (R : Refs) (i : grid0.Coords) (a0 a1 arg17 arg18 : BitVec 32) (k0_t4 : Fin k0_t4_loop.trips) (arg20 : BitVec 32) :
    Prog (TpuEff nD τ sig (Elt F) (Λ₀ F) .tc) (BitVec 32) := do
  let ⟨arg19, v91, v92⟩ : Σ' (arg19 : BitVec 32) (v91 : BitVec 32), BitVec 32 ← k0_part50 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 0#32 1#32 k0_t4
  let ⟨v113, v119, v133⟩ : Σ' (v113 : BitVec 32) (v119 : BitVec 32), BitVec 1 ← k0_part51 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 k0_t4 v91 v92
  let ⟨v164, k0_hw7, v165, v167⟩ : Σ' (v164 : BitVec 32) (k0_hw7 : k0_chk7 v164) (v165 : Vec F S128x512 .f32), BitVec 32 ← k0_part52 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 a1 k0_t4 arg20 arg19 v113 v119 v133
  let ⟨v187, v198⟩ : Σ' (v187 : FVec F S128x512 .f32), FVec F S128x256 .bf16 ← k0_part53 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 v164 k0_hw7 v165 v167
  let ⟨v228, c512_i32_151⟩ : Σ' (v228 : FVec F S128x512 .f32), BitVec 32 ← k0_part54 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 v187 v198
  let v234 : Vec F S1x1x128x512 .f32 ← Prog.lift (.load R.arg8 (Rect.unit (s := S1x1x128x5760) (k0_off42 k0_t4) S1x1x128x512.size (k0_off42_inb k0_t4)).toLoadRect (View.loadsAt_vmem h_S1x1x128x512))
  Prog.lift (.store R.arg8 (Rect.unit (s := S1x1x128x5760) (k0_off42 k0_t4) S1x1x128x512.size (k0_off42_inb k0_t4)) (k0_pay4 v228) Finset.univ (View.stores_vmem_bits_univ h_S1x1x128x512 rfl) (.inl rfl))
  let v238 : Vec F S128x512 .f32 ← Prog.lift (.load R.arg9 (Rect.unit (s := S128x512) ![0, 0] S128x512.size inb_S128x512_S128x512_0_0).toLoadRect (View.loadsAt_vmem h_S128x512))
  Prog.lift (.store R.arg9 (Rect.unit (s := S128x512) ![0, 0] S128x512.size inb_S128x512_S128x512_0_0) (k0_pay5 (F := F)) Finset.univ (View.stores_vmem_bits_univ h_S128x512 rfl) (.inl rfl))
  let v242 : Vec F S8x512 .f32 ← Prog.lift (.load R.arg10 (Rect.unit (s := S8x512) ![0, 0] S8x512.size inb_S8x512_S8x512_0_0).toLoadRect (View.loadsAt_vmem h_S8x512))
  Prog.lift (.store R.arg10 (Rect.unit (s := S8x512) ![0, 0] S8x512.size inb_S8x512_S8x512_0_0) (k0_pay6 (F := F)) Finset.univ (View.stores_vmem_bits_univ h_S8x512 rfl) (.inl rfl))
  let v246 : Vec F S4x512x128 .bf16 ← Prog.lift (.load R.arg12 (Rect.unit (s := S4x512x128) ![0, 0, 0] S4x512x128.size inb_S4x512x128_S4x512x128_0_0_0).toLoadRect (View.loadsAt_vmem h_S4x512x128))
  Prog.lift (.store R.arg12 (Rect.unit (s := S4x512x128) ![0, 0, 0] S4x512x128.size inb_S4x512x128_S4x512x128_0_0_0) (k0_pay7 (F := F)) Finset.univ (View.stores_vmem h_S4x512x128 (R.harg12.storeExact_slice rfl _ packedbf16_S4x512x128_S4x512x128_0_0_0) (fun _ => rfl)) (.inl rfl))
  pure 0#32

set_option maxHeartbeats 4000000 in
theorem pair (hX : ∀ o h, (X.word o h).toNat < 12288) (c : Dev nD) (𝒱 : Variants) (bd : Option 𝒱.V) (E : Set ℕ) (arg17 arg18 : BitVec 32)
    (t : Fin k0_t4_loop.trips) (f14 : Co F R.arg14) (hM : H.M f14)
    (f9 : Co F R.arg9) (f10 : Co F R.arg10) (f11 : Co F R.arg11) (f12 : Co F R.arg12) (f13 : Co F R.arg13) (f8 : Co F R.arg8) (f15 : Co F R.arg15)
    (hI : H.I t.val 0 f9 f10 f11 f12 f13) (hA : H.A t.val f8) :
    iprop(HeldIn R c X ∗ HeldM R c f14 ∗ HeldS R c f9 f10 f11 f12 f13 ∗ (R.arg8.view.loc (c : Thread nD τ) ↦[R.arg8.view.set]{fullShare} f8)
        ∗ (R.arg15.view.loc (c : Thread nD τ) ↦[R.arg15.view.set]{fullShare} f15))
      ⊢ wp frame (wpE (defs₀ (F := F)) 𝒱 (c : Thread nD τ) bd) E (pairBody R i (w0 i) (w1 i) arg17 arg18 t 0#32)
        (fun y => iprop(⌜y = 0#32⌝ ∗ ∃ f9 f10 f11 f12 f13 f8 f15, ⌜H.I (t.val + 1) 0 f9 f10 f11 f12 f13⌝ ∗ ⌜H.A (t.val + 1) f8⌝
          ∗ HeldIn R c X ∗ HeldM R c f14 ∗ HeldS R c f9 f10 f11 f12 f13 ∗ (R.arg8.view.loc (c : Thread nD τ) ↦[R.arg8.view.set]{fullShare} f8)
          ∗ (R.arg15.view.loc (c : Thread nD τ) ↦[R.arg15.view.set]{fullShare} f15))) := by
  have hv := hX (k0_off12 i t) (k0_off12_inb i t)
  have hw2 := chk2_of hv t
  have ht6 := t6_trips hv
  have ht5 := t5_trips hv
  have hw7 : k0_chk7 (BitVec.ofNat 32 (Scf.trips (k0_t5_loop (X.word (k0_off12 i t) (k0_off12_inb i t))).lb (k0_t5_loop (X.word (k0_off12 i t) (k0_off12_inb i t))).ub
      (k0_t5_loop (X.word (k0_off12 i t) (k0_off12_inb i t))).st - 1)) := by
    refine chk7_of ?_
    show (k0_t5_loop (X.word (k0_off12 i t) (k0_off12_inb i t))).trips - 1 < 24
    omega
  unfold pairBody
  iintro ⟨⟨H2, H3, H4, H5, H6, H7⟩, H14, ⟨H9, H10, H11, H12, H13⟩, H8, H15⟩
  sl_exec
  iapply (exec_none _ _ _ _ _ ht6)
  sl_exec
  sl_step
  have hv224 : pair.sl.v224 t hw7 f9L0 f12L3 = lastProd X _ hw7 f9L0 f12L3 := by
    unfold pair.sl.v224 pair.sl.H9_1 pair.sl.r_3 pair.sl.r_4
    exact View.readCov_unit_zero _ (by decide) _ _
  have hfin := H.finish t hw7 f8 _ _ _ _ _ hL1
  isplitr
  · ipureintro; rfl
  iexists _, _, _, _, _, _, _
  isplitr; swap
  · isplitr; swap
    · isplitl [H2 H3 H4 H5 H6 H7]; · sl_close
      isplitl [H14]; · iexact H14
      isplitl [H9 H10 H11 H12 H13]; · sl_close
      isplitl [H8]; · iexact H8
      iexact H15
    ipureintro
    have h := hfin.1 hA
    rw [← hv224] at h
    exact h
  ipureintro
  exact hfin.2

/-- The loop that computes the offsets exactly keeps the certificate's statement of them. -/
@[sl_loop, instance_reducible] def loop1 (hX : ∀ o h, (X.word o h).toNat < 12288) (c : Dev nD) (𝒱 : Variants) (bd : Option 𝒱.V) (E : Set ℕ) (arg17 arg18 : BitVec 32)
    (h1 : k0_cond1 arg17 = 1#1) :
    Gen.LoopInvTy_k0_t1 (F := F) Unit ℕ (UR sig nD τ) ℕ 𝒱 c bd E i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16
      arg17 arg18 (w0 i) (w1 i) h1 0#32 where
  inv k acc := iprop(∃ f14, ⌜H.M f14⌝ ∗ HeldIn R c X ∗ HeldM R c f14)
  step k acc := by
    have hc1 := chk1_of (a := arg17) (hX (k0_off4 i k) (k0_off4_inb i k))
    iintro ⟨%f14, %hM, Hi, Hm⟩
    iapply (wand (p := offsetsBody R i (w0 i) (w1 i) arg17 arg18 h1 k acc))
    isplitl
    · iapply ((tripO R c 𝒱 bd X i (w0 i) (w1 i) arg17 arg18 h1 k acc hc1 f14).2 E)
      isplitl [Hi]; · iexact Hi
      iexact Hm
    iintro %y ⟨%hy, Hi, Hm⟩
    iexists _
    isplitr; swap
    · isplitl [Hi]; · iexact Hi
      iexact Hm
    ipureintro
    exact H.offsets c 𝒱 bd arg17 arg18 h1 k acc hc1 f14 hM

/-- Every buffer of the kernel, held: the offsets as the certificate states them, the result finished if `b`. -/
def Held (c : Dev nD) (b : Prop) : sProp (MT nD τ sig Unit (Elt F) ℕ (UR sig nD τ) ℕ) :=
  iprop(∃ f14 f9 f10 f11 f12 f13 f8 f15 f16, ⌜H.M f14⌝ ∗ ⌜b → H.A 12 f8⌝ ∗ HeldIn R c X ∗ HeldM R c f14 ∗ HeldS R c f9 f10 f11 f12 f13
    ∗ (R.arg8.view.loc (c : Thread nD τ) ↦[R.arg8.view.set]{fullShare} f8) ∗ (R.arg15.view.loc (c : Thread nD τ) ↦[R.arg15.view.set]{fullShare} f15)
    ∗ (R.arg16.view.loc (c : Thread nD τ) ↦[R.arg16.view.set]{fullShare} f16))

/-- The attempts from the `j`-th on: whatever they are handed, they leave the result finished. -/
def spec (c : Dev nD) (j : ℕ) : sWPT (MT nD τ sig Unit (Elt F) ℕ (UR sig nD τ) ℕ) (BitVec 32 × BitVec 32) := do
  sWPT.consume (Held H c (1 ≤ j))
  let r ← sWPT.arbitrary
  sWPT.produce (Held H c True)
  pure r

theorem spec_apply (c : Dev nD) (j : ℕ) (K : BitVec 32 × BitVec 32 → sProp (MT nD τ sig Unit (Elt F) ℕ (UR sig nD τ) ℕ)) :
    spec H c j K = iprop(Held H c (1 ≤ j) ∗ ∀ r : BitVec 32 × BitVec 32, Held H c True -∗ K r) := rfl

abbrev 𝒱₀ : Variants := Variants.nat

/-- The kernel's attempts, as the label's record. -/
abbrev attempts (R : Refs) (i : grid0.Coords) (arg17 arg18 : BitVec 32) : Cc0While1 F :=
  ⟨i, R.arg3, R.harg3, R.arg7, R.harg7, R.arg2, R.harg2, R.arg4, R.harg4, R.arg6, R.harg6, R.arg14, R.harg14, R.arg9, R.harg9, R.arg10, R.harg10, R.arg12, R.harg12, R.arg15, R.harg15, R.arg11, R.harg11, R.arg13, R.harg13, R.arg5, R.harg5, R.arg8, R.harg8, R.arg16, R.harg16, arg17, arg18⟩

/-- The invariant of the loop over the tiles. -/
def inv4 (c : Dev nD) (k : ℕ) (acc : BitVec 32) : sProp (MT nD τ sig Unit (Elt F) ℕ (UR sig nD τ) ℕ) :=
  iprop(∃ f14 f9 f10 f11 f12 f13 f8 f15, ⌜acc = 0#32⌝ ∗ ⌜H.M f14⌝ ∗ ⌜H.I k 0 f9 f10 f11 f12 f13⌝ ∗ ⌜H.A k f8⌝ ∗ HeldIn R c X ∗ HeldM R c f14 ∗ HeldS R c f9 f10 f11 f12 f13
    ∗ (R.arg8.view.loc (c : Thread nD τ) ↦[R.arg8.view.set]{fullShare} f8) ∗ (R.arg15.view.loc (c : Thread nD τ) ↦[R.arg15.view.set]{fullShare} f15))

theorem inv4_step (hX : ∀ o h, (X.word o h).toNat < 12288) (c : Dev nD) (𝒱 : Variants) (bd : Option 𝒱.V) (E : Set ℕ) (arg17 arg18 : BitVec 32)
    (t : Fin k0_t4_loop.trips) (acc : BitVec 32) :
    inv4 H c t.val acc ⊢ wp frame (wpE (defs₀ (F := F)) 𝒱 (c : Thread nD τ) bd) E (pairBody R i (w0 i) (w1 i) arg17 arg18 t acc) (inv4 H c (t.val + 1)) := by
  unfold inv4
  iintro ⟨%f14, %f9, %f10, %f11, %f12, %f13, %f8, %f15, %ha, %hM, %hI, %hA, Hi, Hm, Hs, H8, H15⟩
  subst ha
  iapply (wand (p := pairBody R i (w0 i) (w1 i) arg17 arg18 t 0#32))
  isplitl
  · iapply (pair H hX c 𝒱 bd E arg17 arg18 t f14 hM f9 f10 f11 f12 f13 f8 f15 hI hA)
    isplitl [Hi]; · iexact Hi
    isplitl [Hm]; · iexact Hm
    isplitl [Hs]; · iexact Hs
    isplitl [H8]; · iexact H8
    iexact H15
  iintro %y ⟨%hy, %f9, %f10, %f11, %f12, %f13, %f8, %f15, %hI, %hA, Hi, Hm, Hs, H8, H15⟩
  iexists _, _, _, _, _, _, _, _
  isplitr; · (ipureintro; exact hy)
  isplitr; · (ipureintro; exact hM)
  isplitr; · (ipureintro; exact hI)
  isplitr; · (ipureintro; exact hA)
  isplitl [Hi]; · iexact Hi
  isplitl [Hm]; · iexact Hm
  isplitl [Hs]; · iexact Hs
  isplitl [H8]; · iexact H8
  iexact H15

/-- The call of the next attempt, by what the attempts from it on leave. -/
theorem recur (c : Dev nD) (E : Set ℕ) (n j : ℕ)
    (ih : ∀ (arg18 : BitVec 32) (K : BitVec 32 × BitVec 32 → sProp (MT nD τ sig Unit (Elt F) ℕ (UR sig nD τ) ℕ)), spec H c (j + 1) K
      ⊢ wp frame (wpE (defs₀ (F := F)) 𝒱₀ (c : Thread nD τ) (some n)) E (defs₀ (F := F) .tc 1 (attempts R i (BitVec.ofNat 32 (j + 1)) arg18)) K)
    (a17 a18 : BitVec 32) (ha : a17 = BitVec.ofNat 32 (j + 1)) (K : BitVec 32 × BitVec 32 → sProp (MT nD τ sig Unit (Elt F) ℕ (UR sig nD τ) ℕ)) :
    iprop(Held H c True ∗ ∀ r : BitVec 32 × BitVec 32, Held H c True -∗ K r)
      ⊢ wp frame (wpE (defs₀ (F := F)) 𝒱₀ (c : Thread nD τ) (some (n + 1))) E ((Prog.op (TpuEff.call (1 : (Λ₀ F).Label) (attempts R i a17 a18)) Prog.ret : Prog (TpuEff nD τ sig (Elt F) (Λ₀ F) .tc) (BitVec 32 × BitVec 32))) K := by
  subst ha
  iintro ⟨H, Hk⟩
  iapply (wp_call_spec 𝒱₀ (c : Thread nD τ) (some (n + 1)) E (spec H c (j + 1)) n (fun u hu => by cases hu; exact Nat.lt_succ_self n) (ih a18))
  rw [spec_apply]
  isplitl [H]
  · unfold Held
    icases H with ⟨%f14, %f9, %f10, %f11, %f12, %f13, %f8, %f15, %f16, %hM, %hA, H⟩
    iexists f14, f9, f10, f11, f12, f13, f8, f15, f16
    isplitr; · (ipureintro; exact hM)
    isplitr; · (ipureintro; exact fun _ => hA trivial)
    iexact H
  iintro %r H
  rw [wp_ret]; imodintro
  iapply Hk
  iexact H

set_option maxHeartbeats 2000000 in
/-- Two attempts are enough, and whatever the last one tried is the result. -/
theorem spec_le (hX : ∀ o h, (X.word o h).toNat < 12288) (c : Dev nD) (E : Set ℕ) :
    ∀ n j, j + n = 2 → ∀ (arg18 : BitVec 32) (K : BitVec 32 × BitVec 32 → sProp (MT nD τ sig Unit (Elt F) ℕ (UR sig nD τ) ℕ)), spec H c j K
      ⊢ wp frame (wpE (defs₀ (F := F)) 𝒱₀ (c : Thread nD τ) (some n)) E (defs₀ (F := F) .tc 1 (attempts R i (BitVec.ofNat 32 j) arg18)) K := by
  intro n
  induction n with
  | zero =>
    intro j hj arg18 K
    obtain rfl : j = 2 := by omega
    rw [spec_apply]
    show _ ⊢ wp frame (wpE (defs₀ (F := F)) 𝒱₀ (c : Thread nD τ) (some 0)) E
      (cc0_while1 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 (BitVec.ofNat 32 2) arg18) K
    rw [cc0_while1_eq_skeleton]; unfold cc0_while1_skel
    have ht : ¬ Scalar.ori (Scalar.cmpi .eq (BitVec.ofNat 32 2) 0#32) (Scalar.andi (Scalar.cmpi .eq (BitVec.ofNat 32 2) 1#32) (Scalar.cmpi .ne arg18 0#32)) = 1#1 := by
      have : ∀ x : BitVec 1, ¬ Scalar.ori (Scalar.cmpi .eq (BitVec.ofNat 32 2) 0#32) (Scalar.andi (Scalar.cmpi .eq (BitVec.ofNat 32 2) 1#32) x) = 1#1 := by decide +kernel
      exact this _
    simp only [ht, ↓reduceIte, Prog.pure_eq_ret]
    unfold Held
    iintro ⟨⟨%f14, %f9, %f10, %f11, %f12, %f13, %f8, %f15, %f16, %hM, %hA, H⟩, Hk⟩
    rw [wp_ret]; imodintro
    iapply Hk
    iexists f14, f9, f10, f11, f12, f13, f8, f15, f16
    isplitr; · (ipureintro; exact hM)
    isplitr; · (ipureintro; exact fun _ => hA (by decide))
    iexact H
  | succ n ih =>
    intro j hj arg18 K
    rw [spec_apply]
    show _ ⊢ wp frame (wpE (defs₀ (F := F)) 𝒱₀ (c : Thread nD τ) (some (n + 1))) E
      (cc0_while1 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 (BitVec.ofNat 32 j) arg18) K
    rw [cc0_while1_eq_skeleton]; unfold cc0_while1_skel
    by_cases ht : Scalar.ori (Scalar.cmpi .eq (BitVec.ofNat 32 j) 0#32) (Scalar.andi (Scalar.cmpi .eq (BitVec.ofNat 32 j) 1#32) (Scalar.cmpi .ne arg18 0#32)) = 1#1
    · rw [if_pos ht]
      unfold Held
      iintro ⟨⟨%f14, %f9, %f10, %f11, %f12, %f13, %f8, %f15, %f16, %hM, %hA, ⟨H2, H3, H4, H5, H6, H7⟩, H14, ⟨H9, H10, H11, H12, H13⟩, H8, H15, H16⟩, Hk⟩
      have hsucc : Scalar.addi (BitVec.ofNat 32 j) 1#32 = BitVec.ofNat 32 (j + 1) := by
        obtain rfl | rfl : j = 0 ∨ j = 1 := by omega
        all_goals rfl
      by_cases h1 : k0_cond1 (BitVec.ofNat 32 j) = 1#1
      · let L := loop1 H hX c 𝒱₀ (some (n + 1)) E (BitVec.ofNat 32 j) arg18 h1
        sl_exec
        iapply (Scf.wp_for_bind frame (wpE (defs₀ (F := F)) 𝒱₀ (c : Thread nD τ) (some (n + 1))) E k0_t4_loop.lb k0_t4_loop.ub k0_t4_loop.st k0_t4_ok 0#32
          (pairBody R i (w0 i) (w1 i) (BitVec.ofNat 32 j) arg18) (inv4 H c) (fun t acc => inv4_step H hX c 𝒱₀ (some (n + 1)) E (BitVec.ofNat 32 j) arg18 t acc)) $$ [H2 H3 H4 H5 H6 H7 H14 H9 H10 H11 H12 H13 H8 H15]
        · unfold inv4
          iexists _, _, _, _, _, _, _, _
          isplitr; · (ipureintro; rfl)
          isplitr; swap
          · isplitr; swap
            · isplitr; · (ipureintro; exact H.start f8)
              isplitl [H2 H3 H4 H5 H6 H7]; · sl_close
              isplitl [H14]; · iexact H14
              isplitl [H9 H10 H11 H12 H13]; · sl_close
              isplitl [H8]; · iexact H8
              iexact H15
            ipureintro
            exact H.fill _ _ _ _ f13
          ipureintro
          assumption
        unfold inv4
        iintro %acc ⟨%f14', %f9', %f10', %f11', %f12', %f13', %f8', %f15', %ha, %hM', %hI', %hA', ⟨H2, H3, H4, H5, H6, H7⟩, H14, ⟨H9, H10, H11, H12, H13⟩, H8, H15⟩
        subst ha
        sl_exec
        iapply (recur H c E n j (ih (j + 1) (by omega)) _ _ (by unfold spec_le.sl.v51; exact hsucc) K)
        unfold Held
        isplitr [Hk]; swap
        · iexact Hk
        iexists f14', f9', f10', f11', f12', f13', f8', f15', _
        isplitr; · (ipureintro; exact hM')
        isplitr; · (ipureintro; intro _; have h := hA'; rwa [show Scf.trips k0_t4_loop.lb k0_t4_loop.ub k0_t4_loop.st = 12 from t4_trips] at h)
        isplitl [H2 H3 H4 H5 H6 H7]; · sl_close
        isplitl [H14]; · iexact H14
        isplitl [H9 H10 H11 H12 H13]; · sl_close
        isplitl [H8]; · iexact H8
        isplitl [H15]; · iexact H15
        iexact H16
      · sl_exec
        iapply (Scf.wp_for_bind frame (wpE (defs₀ (F := F)) 𝒱₀ (c : Thread nD τ) (some (n + 1))) E k0_t4_loop.lb k0_t4_loop.ub k0_t4_loop.st k0_t4_ok 0#32
          (pairBody R i (w0 i) (w1 i) (BitVec.ofNat 32 j) arg18) (inv4 H c) (fun t acc => inv4_step H hX c 𝒱₀ (some (n + 1)) E (BitVec.ofNat 32 j) arg18 t acc)) $$ [H2 H3 H4 H5 H6 H7 H14 H9 H10 H11 H12 H13 H8 H15]
        · unfold inv4
          iexists _, _, _, _, _, _, _, _
          isplitr; · (ipureintro; rfl)
          isplitr; swap
          · isplitr; swap
            · isplitr; · (ipureintro; exact H.start f8)
              isplitl [H2 H3 H4 H5 H6 H7]; · sl_close
              isplitl [H14]; · iexact H14
              isplitl [H9 H10 H11 H12 H13]; · sl_close
              isplitl [H8]; · iexact H8
              iexact H15
            ipureintro
            exact H.fill _ _ _ _ f13
          ipureintro
          assumption
        unfold inv4
        iintro %acc ⟨%f14', %f9', %f10', %f11', %f12', %f13', %f8', %f15', %ha, %hM', %hI', %hA', ⟨H2, H3, H4, H5, H6, H7⟩, H14, ⟨H9, H10, H11, H12, H13⟩, H8, H15⟩
        subst ha
        sl_exec
        iapply (recur H c E n j (ih (j + 1) (by omega)) _ _ (by unfold spec_le.sl.v51_1; exact hsucc) K)
        unfold Held
        isplitr [Hk]; swap
        · iexact Hk
        iexists f14', f9', f10', f11', f12', f13', f8', f15', _
        isplitr; · (ipureintro; exact hM')
        isplitr; · (ipureintro; intro _; have h := hA'; rwa [show Scf.trips k0_t4_loop.lb k0_t4_loop.ub k0_t4_loop.st = 12 from t4_trips] at h)
        isplitl [H2 H3 H4 H5 H6 H7]; · sl_close
        isplitl [H14]; · iexact H14
        isplitl [H9 H10 H11 H12 H13]; · sl_close
        isplitl [H8]; · iexact H8
        isplitl [H15]; · iexact H15
        iexact H16
    · have hj1 : j = 1 := by
        have h0 : ∀ x : BitVec 1, Scalar.ori (Scalar.cmpi .eq (BitVec.ofNat 32 0) 0#32) (Scalar.andi (Scalar.cmpi .eq (BitVec.ofNat 32 0) 1#32) x) = 1#1 := by decide +kernel
        by_contra h
        obtain rfl : j = 0 := by omega
        exact ht (h0 _)
      subst hj1
      simp only [ht, ↓reduceIte, Prog.pure_eq_ret]
      unfold Held
      iintro ⟨⟨%f14, %f9, %f10, %f11, %f12, %f13, %f8, %f15, %f16, %hM, %hA, H⟩, Hk⟩
      rw [wp_ret]; imodintro
      iapply Hk
      iexists f14, f9, f10, f11, f12, f13, f8, f15, f16
      isplitr; · (ipureintro; exact hM)
      isplitr; · (ipureintro; exact fun _ => hA (by decide))
      iexact H

end Cert.AttnIdeal.Hand

end

end
-- ==== Proof.AttnPoints.lean ====
module

public import proofs.«01_k».proof.Proof.AttnRun

@[expose] public section

/-! The attention call's windows: when each is fetched and written back, the staging buffers and the body at a grid point, the
    arrays' blocks, and what the launch theorem asks of the program around the call. -/

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%arg3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 4 (%arg4)) is fetched at the points ≡ 0 (mod 4), at any contents of the tables (its index map reads none). -/
theorem fetch0_3 (a : (pcfg0 (F := F)).Adm) : ∀ t : Fin (cfg0 a).N, ((cfg0 a).win 3).fetch t = true ↔ t.val % 4 = 0 :=
  (fun t => Pipeline.Window.fetchOf_reads cc0_transform_3 reads0_3 hreads0_3 0 (by decide) (by decide) (Pipeline.Window.sep_of_coord cc0_transform_3 0 0 (fun _ => rfl) (by decide)) (P := 4) (by decide) t : ∀ t : Fin grid0.N, Pipeline.Window.fetchOf grid0 false cc0_transform_3 t = true ↔ t.val % 4 = 0)
/-- Window 4 (operand 5 (%arg5)) is fetched at the points ≡ 0 (mod 4), at any contents of the tables (its index map reads none). -/
theorem fetch0_4 (a : (pcfg0 (F := F)).Adm) : ∀ t : Fin (cfg0 a).N, ((cfg0 a).win 4).fetch t = true ↔ t.val % 4 = 0 :=
  (fun t => Pipeline.Window.fetchOf_reads cc0_transform_4 reads0_4 hreads0_4 0 (by decide) (by decide) (Pipeline.Window.sep_of_coord cc0_transform_4 0 0 (fun _ => rfl) (by decide)) (P := 4) (by decide) t : ∀ t : Fin grid0.N, Pipeline.Window.fetchOf grid0 false cc0_transform_4 t = true ↔ t.val % 4 = 0)
/-- Window 5 (result 0 (%0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) (Λ₀ F) .tc) PUnit :=
  cc0_attn (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig (Λ₀ F) := cfg0 (adm m hO)

/-- Each table as the body is handed it: its whole buffer as a memref, and that memref's wholeness. -/
abbrev tbM0_0 : Memref sig .tc .smem S11520 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_AttnIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c)))⟩) h

/-! ## The kernel body on any staging memrefs: a subtype the run finds -/

/-- One staging buffer of output window 5, through which its contents are stated (`View.read_writes_of_cover`: the
    choice does not matter). -/
abbrev VO0_5 : View sig .tc .vmem S1x1x128x5760 .f32 := (Memref.whole cc0_stg5_0 : Memref sig .tc .vmem S1x1x128x5760 .f32).view
/-- Each window's current staging memref at point `t`, spelled as the pipeline passes it (`bodyAt0`), and its wholeness. -/
abbrev ms0_0 (hO : Ok m) (t : Fin (cfgM m hO).N) : Memref sig .tc .vmem S1x1x5760x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x12288x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x96x128x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x12288x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x5760 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x128x5760 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S128x512 .f32 := Memref.whole cc0_scratch0
abbrev scM0_1 : Memref sig .tc .vmem S8x512 .f32 := Memref.whole cc0_scratch1
abbrev scM0_2 : Memref sig .tc .vmem S512x512 .f32 := Memref.whole cc0_scratch2
abbrev scM0_3 : Memref sig .tc .vmem S4x512x128 .bf16 := Memref.whole cc0_scratch3
abbrev scM0_4 : Memref sig .tc .vmem S1x512 .f32 := Memref.whole cc0_scratch4
abbrev scM0_5 : Memref sig .tc .vmem S1x5760 .f32 := Memref.whole cc0_scratch5
abbrev scM0_6 : Memref sig .tc .vmem S1x512 .f32 := Memref.whole cc0_scratch6
abbrev scM0_7 : Memref sig .tc .smem S1 .i32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.AttnIdeal.Hand
-- ==== Proof.AttnBody.lean ====
module

public import proofs.«01_k».proof.Proof.AttnPoints

@[expose] public section

/-! The attention kernel's body as a whole: from any contents of its scratch it ends, whatever the attempts did, with its inputs
    as they were and its result's block finished as the certificate's statement says. -/

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {R : Refs} {X : Ins F R} {i : grid0.Coords} (H : Hooks F R X i)

set_option maxHeartbeats 1000000 in
/-- The kernel's body. -/
theorem attn_run (hX : ∀ o h, (X.word o h).toNat < 12288) (c : Dev nD) (E : Set ℕ) (K : PUnit → sProp (MT nD τ sig Unit (Elt F) ℕ (UR sig nD τ) ℕ)) :
    iprop((∃ f14 f9 f10 f11 f12 f13 f8 f15 f16, HeldIn R c X ∗ HeldM R c f14 ∗ HeldS R c f9 f10 f11 f12 f13
        ∗ (R.arg8.view.loc (c : Thread nD τ) ↦[R.arg8.view.set]{fullShare} f8) ∗ (R.arg15.view.loc (c : Thread nD τ) ↦[R.arg15.view.set]{fullShare} f15)
        ∗ (R.arg16.view.loc (c : Thread nD τ) ↦[R.arg16.view.set]{fullShare} f16)) ∗ (Held H c True -∗ K ⟨⟩))
      ⊢ wp frame (wpE (defs₀ (F := F)) 𝒱₀ (c : Thread nD τ) none) E
        (cc0_attn i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16) K := by
  simp only [cc0_attn_eq_skeleton]; unfold cc0_attn_skel
  iintro ⟨⟨%f14, %f9, %f10, %f11, %f12, %f13, %f8, %f15, %f16, ⟨H2, H3, H4, H5, H6, H7⟩, H14, ⟨H9, H10, H11, H12, H13⟩, H8, H15, H16⟩, Hk⟩
  sl_exec
  iapply (wp_call_spec 𝒱₀ (c : Thread nD τ) none E (spec H c 0) 2 (fun u hu => nomatch hu) (spec_le H hX c E 2 0 rfl 0#32))
  rw [spec_apply]
  isplitr [Hk]
  · unfold Held
    iexists _, f9, f10, f11, f12, f13, f8, f15, f16
    isplitr; swap
    · isplitr; · (ipureintro; exact fun h => absurd h (by decide))
      isplitl [H2 H3 H4 H5 H6 H7]; · sl_close
      isplitl [H14]; · iexact H14
      isplitl [H9 H10 H11 H12 H13]; · sl_close
      isplitl [H8]; · iexact H8
      isplitl [H15]; · iexact H15
      iexact H16
    ipureintro
    exact H.zero _
  iintro %r H
  rcases r with ⟨a, b⟩
  sl_exec
  sl_step
  iapply Hk
  iexact H

end Cert.AttnIdeal.Hand
-- ==== Proof.AttnLaunch.lean ====
module

public import proofs.«01_k».proof.Proof.AttnBody
public import Idealize.ShloMosaic.Lib.Claim

@[expose] public section

/-! The attention call launched: its body at every grid point, the run with the result's array named block by block, and the run
    that says nothing of the result. -/

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No index map reads the table, so any contents of it are admissible. -/
theorem hO : Ok m := trivial

/-- The memrefs at a grid point. -/
abbrev refsAt (hO : Ok m) (t : Fin (cfgM m hO).N) : Refs := ⟨tbM0_0, htbM0_0, ms0_0 m hO t, hs0_0 m hO t, ms0_1 m hO t, hs0_1 m hO t, ms0_2 m hO t, hs0_2 m hO t, ms0_3 m hO t, hs0_3 m hO t, ms0_4 m hO t, hs0_4 m hO t, ms0_5 m hO t, hs0_5 m hO t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _, scM0_7, Memref.isWhole_whole _⟩
/-- The table and the inputs' blocks at a grid point. -/
abbrev insAt (hO : Ok m) (c : Dev nD) (t : Fin (cfgM m hO).N) : Ins F (refsAt m hO t) := ⟨tbl m 0, (hs0_0 m hO t).unread (iblk m hO c 0 t), (hs0_1 m hO t).unread (iblk m hO c 1 t), (hs0_2 m hO t).unread (iblk m hO c 2 t), (hs0_3 m hO t).unread (iblk m hO c 3 t), (hs0_4 m hO t).unread (iblk m hO c 4 t)⟩

/-- The table's words are positions of keys. -/
def Small (hO : Ok m) : Prop := ∀ (c : Dev nD) (t : Fin (cfgM m hO).N) o h, ((insAt m hO c t).word o h).toNat < 12288

set_option maxHeartbeats 1200000 in
/-- The body at a grid point. -/
theorem body_run (hO : Ok m) (hX : Small m hO) (c : Dev nD) (t : Fin (cfgM m hO).N) (H : Hooks F (refsAt m hO t) (insAt m hO c t) (grid0.coords t)) (K : PUnit → sProp (MT nD τ sig Unit (Elt F) ℕ (UR sig nD τ) ℕ)) :
    iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ tbPt0 c tbM0_0 (tbl m 0) ∗ (owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t)) ∗ (∃ d, owns (c : Thread nD τ) (ms0_5 m hO t) fullShare d)
        ∗ (((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) -∗ tbPt0 c tbM0_0 (tbl m 0) -∗ (owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t)) -∗ (∃ f8, ⌜H.A 12 f8⌝ ∗ ((ms0_5 m hO t).view.loc (c : Thread nD τ) ↦[(ms0_5 m hO t).view.set]{fullShare} f8)) -∗ K ⟨⟩))
      ⊢ wp frame (wpE (defs₀ (F := F)) 𝒱₀ (c : Thread nD τ) none) Set.univ (bodyAt0 (adm m hO) t) K := by
  unfold owns
  iintro ⟨⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩⟩, HT0,
    ⟨⟨%f0, %hf0, H0⟩, ⟨%f1, %hf1, H1⟩, ⟨%f2, %hf2, H2⟩, ⟨%f3, %hf3, H3⟩, ⟨%f4, %hf4, H4⟩⟩, ⟨%d5, %f5, -, H5⟩, Hk⟩
  obtain rfl := (hs0_0 m hO t).eq_unread hf0; obtain rfl := (hs0_1 m hO t).eq_unread hf1; obtain rfl := (hs0_2 m hO t).eq_unread hf2
  obtain rfl := (hs0_3 m hO t).eq_unread hf3; obtain rfl := (hs0_4 m hO t).eq_unread hf4
  iapply (attn_run H (hX c t) c Set.univ K)
  isplitr [Hk]
  · iexists fs5, fs0, fs1, fs2, fs3, fs4, f5, fs6, fs7
    isplitl [HT0 H0 H1 H2 H3 H4]; · sl_close
    isplitl [HS5]; · iexact HS5
    isplitl [HS0 HS1 HS2 HS3 HS4]; · sl_close
    isplitl [H5]; · iexact H5
    isplitl [HS6]; · iexact HS6
    iexact HS7
  unfold Held
  iintro ⟨%f14, %f9, %f10, %f11, %f12, %f13, %f8, %f15, %f16, %hM, %hA, ⟨HT0, H0, H1, H2, H3, H4⟩, HS5, ⟨HS0, HS1, HS2, HS3, HS4⟩, H5, HS6, HS7⟩
  iapply Hk $$ [HS0 HS1 HS2 HS3 HS4 HS5 HS6 HS7] [HT0] [H0 H1 H2 H3 H4] [H5]
  · isplitl [HS0]; · (iexists _, _; isplitr; swap; (· iexact HS0); ipureintro; rfl)
    isplitl [HS1]; · (iexists _, _; isplitr; swap; (· iexact HS1); ipureintro; rfl)
    isplitl [HS2]; · (iexists _, _; isplitr; swap; (· iexact HS2); ipureintro; rfl)
    isplitl [HS3]; · (iexists _, _; isplitr; swap; (· iexact HS3); ipureintro; rfl)
    isplitl [HS4]; · (iexists _, _; isplitr; swap; (· iexact HS4); ipureintro; rfl)
    isplitl [HS5]; · (iexists _, _; isplitr; swap; (· iexact HS5); ipureintro; rfl)
    isplitl [HS6]; · (iexists _, _; isplitr; swap; (· iexact HS6); ipureintro; rfl)
    iexists _, _; isplitr; swap; · iexact HS7
    ipureintro; rfl
  · iexact HT0
  · isplitl [H0]; (iexists _; isplitr; (· ipureintro; exact (hs0_0 m hO t).read_unread _); iexact H0)
    isplitl [H1]; (iexists _; isplitr; (· ipureintro; exact (hs0_1 m hO t).read_unread _); iexact H1)
    isplitl [H2]; (iexists _; isplitr; (· ipureintro; exact (hs0_2 m hO t).read_unread _); iexact H2)
    isplitl [H3]; (iexists _; isplitr; (· ipureintro; exact (hs0_3 m hO t).read_unread _); iexact H3)
    iexists _; isplitr; · (ipureintro; exact (hs0_4 m hO t).read_unread _)
    iexact H4
  · iexists f8
    isplitr; · (ipureintro; exact hA trivial)
    iexact H5

end Cert.AttnIdeal.Hand
-- ==== Proof.AttnData.lean ====
module

public import proofs.«01_k».proof.Proof.AttnLaunch
public import Idealize.ShloMosaic.Lib.Claim

@[expose] public section

/-! The attention call's proof data, common to the run that names its result and the run that does not. -/

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The proof data: the arrays as the region finds them; after the body at a point each input's buffer at its block and the
    result's at `out`; the kernel's scratch and the table's half; nothing owed; full shares. -/
def dats (hO : Ok m) (out : (c : Dev nD) → (t : Fin (cfgM m hO).N) → Vec F S1x1x128x5760 .f32) (_ : Fin 1) (c : Dev nD) :
    Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => out c t
  Φ _ := iprop(Pipeline.ΦA spec0 c ∗ Pipeline.ΦT pre0 (tbl m) c)
  q _ := fullShare
  owed _ := 0

variable (hO : Ok m) (out : (c : Dev nD) → (t : Fin (cfgM m hO).N) → Vec F S1x1x128x5760 .f32)

theorem A_eq (c : Dev nD) (w : Fin (cfgM m hO).W) : (dats m hO out 0 c).A w = V m c (Pipeline.arrRef spec0 w) := by
  dsimp only [dats]

/-- What the body leaves, window by window. -/
theorem after0_0 (c : Dev nD) (t : Fin (cfgM m hO).N) : (dats m hO out 0 c).after 0 t = iblk m hO c 0 t := by dsimp only [dats]; try rfl
theorem after0_1 (c : Dev nD) (t : Fin (cfgM m hO).N) : (dats m hO out 0 c).after 1 t = iblk m hO c 1 t := by dsimp only [dats]; try rfl
theorem after0_2 (c : Dev nD) (t : Fin (cfgM m hO).N) : (dats m hO out 0 c).after 2 t = iblk m hO c 2 t := by dsimp only [dats]; try rfl
theorem after0_3 (c : Dev nD) (t : Fin (cfgM m hO).N) : (dats m hO out 0 c).after 3 t = iblk m hO c 3 t := by dsimp only [dats]; try rfl
theorem after0_4 (c : Dev nD) (t : Fin (cfgM m hO).N) : (dats m hO out 0 c).after 4 t = iblk m hO c 4 t := by dsimp only [dats]; try rfl
theorem after0_5 (c : Dev nD) (t : Fin (cfgM m hO).N) : (dats m hO out 0 c).after 5 t = out c t := by dsimp only [dats]; try rfl

/-- Each input's staging buffer holds its block at every point, fetched there or not. -/
theorem before0_0 (c : Dev nD) (t : Fin (cfgM m hO).N) (d) : (dats m hO out 0 c).before 0 t d = iblk m hO c 0 t :=
  before0_0_of m hO (dats m hO out 0 c) (A_eq m hO out c 0) (after0_0 m hO out c) t d
theorem before0_1 (c : Dev nD) (t : Fin (cfgM m hO).N) (d) : (dats m hO out 0 c).before 1 t d = iblk m hO c 1 t :=
  before0_1_of m hO (dats m hO out 0 c) (A_eq m hO out c 1) (after0_1 m hO out c) t d
theorem before0_2 (c : Dev nD) (t : Fin (cfgM m hO).N) (d) : (dats m hO out 0 c).before 2 t d = iblk m hO c 2 t :=
  before0_2_of m hO (dats m hO out 0 c) (A_eq m hO out c 2) (after0_2 m hO out c) t d
theorem before0_3 (c : Dev nD) (t : Fin (cfgM m hO).N) (d) : (dats m hO out 0 c).before 3 t d = iblk m hO c 3 t :=
  before0_3_of m hO (dats m hO out 0 c) (A_eq m hO out c 3) (after0_3 m hO out c) t d
theorem before0_4 (c : Dev nD) (t : Fin (cfgM m hO).N) (d) : (dats m hO out 0 c).before 4 t d = iblk m hO c 4 t :=
  before0_4_of m hO (dats m hO out 0 c) (A_eq m hO out c 4) (after0_4 m hO out c) t d

/-- The body table's row at point `t`'s slots is the body. -/
theorem defs₀_row (t : Fin (cfgM m hO).N) :
    defs₀ (F := F) .tc (cfgM m hO).body ((cfgM m hO).bodyArgs t ((cfgM m hO).slots t)) = bodyAt0 (adm m hO) t := by
  unfold defs₀; rw [Defs.onTc_tc]

end Cert.AttnIdeal.Hand
-- ==== Proof.AttnForget.lean ====
module

public import proofs.«01_k».proof.Proof.AttnData

@[expose] public section

/-! The attention call's run, nothing said of its result: it ends, and its arguments are as they were. -/

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

variable (hO : Ok m) (out : (c : Dev nD) → (t : Fin (cfgM m hO).N) → Vec F S1x1x128x5760 .f32)

/-- The result's window, of which nothing is said. -/
def fgt0 : Fin 6 → Bool
  | 5 => true
  | _ => false

/-- What the body is called with at a point, and what it returns, nothing said of its result. -/
def bodyPreF (c : Dev nD) (t : Fin (cfgM m hO).N) : sProp (MT nD τ sig Unit (Elt F) ℕ (UR sig nD τ) ℕ) :=
  iprop((dats m hO out 0 c).Φ t.castSucc ∗ (dats m hO out 0 c).owesAt () t.castSucc
    ∗ (∃ d, owns (c : Thread nD τ) (ms0_0 m hO t) fullShare ((dats m hO out 0 c).before 0 t d))
    ∗ (∃ d, owns (c : Thread nD τ) (ms0_1 m hO t) fullShare ((dats m hO out 0 c).before 1 t d))
    ∗ (∃ d, owns (c : Thread nD τ) (ms0_2 m hO t) fullShare ((dats m hO out 0 c).before 2 t d))
    ∗ (∃ d, owns (c : Thread nD τ) (ms0_3 m hO t) fullShare ((dats m hO out 0 c).before 3 t d))
    ∗ (∃ d, owns (c : Thread nD τ) (ms0_4 m hO t) fullShare ((dats m hO out 0 c).before 4 t d))
    ∗ (∃ d, owns (c : Thread nD τ) (ms0_5 m hO t) fullShare d))
def bodyPostF (c : Dev nD) (t : Fin (cfgM m hO).N) : sProp (MT nD τ sig Unit (Elt F) ℕ (UR sig nD τ) ℕ) :=
  iprop((dats m hO out 0 c).Φ t.succ ∗ (dats m hO out 0 c).owesAt () t.succ
    ∗ owns (c : Thread nD τ) (ms0_0 m hO t) fullShare ((dats m hO out 0 c).after 0 t)
    ∗ owns (c : Thread nD τ) (ms0_1 m hO t) fullShare ((dats m hO out 0 c).after 1 t)
    ∗ owns (c : Thread nD τ) (ms0_2 m hO t) fullShare ((dats m hO out 0 c).after 2 t)
    ∗ owns (c : Thread nD τ) (ms0_3 m hO t) fullShare ((dats m hO out 0 c).after 3 t)
    ∗ owns (c : Thread nD τ) (ms0_4 m hO t) fullShare ((dats m hO out 0 c).after 4 t)
    ∗ (∃ d, owns (c : Thread nD τ) (ms0_5 m hO t) fullShare d))

set_option maxHeartbeats 1200000 in
/-- The body at any point. -/
theorem sound_bodyF (hX : Small m hO) (H : (c : Dev nD) → (t : Fin (cfgM m hO).N) → Hooks F (refsAt m hO t) (insAt m hO c t) (grid0.coords t))
    (c : Dev nD) (t : Fin (cfgM m hO).N) :
    bodyPreF m hO out c t ⊢ wp frame (wpE (defs₀ (F := F)) 𝒱₀ c none) Set.univ (bodyAt0 (adm m hO) t) (fun _ => bodyPostF m hO out c t) := by
  unfold bodyPreF bodyPostF
  simp only [before0_0, before0_1, before0_2, before0_3, before0_4]
  rw [show (dats m hO out 0 c).Φ t.succ = (dats m hO out 0 c).Φ t.castSucc from rfl,
    show (dats m hO out 0 c).owesAt () t.succ = (dats m hO out 0 c).owesAt () t.castSucc from rfl,
    after0_0, after0_1, after0_2, after0_3, after0_4]
  rw [show (dats m hO out 0 c).Φ t.castSucc = iprop(Pipeline.ΦA spec0 c ∗ Pipeline.ΦT pre0 (tbl m) c) from rfl, PhiT0_eq, PhiA0_eq]
  iintro ⟨⟨⟨HS, Hg⟩, HT0⟩, Ho, ⟨%d0, H0⟩, ⟨%d1, H1⟩, ⟨%d2, H2⟩, ⟨%d3, H3⟩, ⟨%d4, H4⟩, ⟨%d5, H5⟩⟩
  iapply (body_run m hO hX c t (H c t) _)
  isplitl [HS]; · iexact HS
  isplitl [HT0]; · iexact HT0
  isplitl [H0 H1 H2 H3 H4]; · sl_close
  isplitl [H5]; · iexists _; iexact H5
  iintro HS HT0 ⟨H0, H1, H2, H3, H4⟩ ⟨%f8, %hA, H5⟩
  isplitl [HS Hg HT0]
  · isplitl [HS Hg]
    · isplitl [HS]; · iexact HS
      iexact Hg
    iexact HT0
  isplitl [Ho]; · iexact Ho
  isplitl [H0]; · iexact H0
  isplitl [H1]; · iexact H1
  isplitl [H2]; · iexact H2
  isplitl [H3]; · iexact H3
  isplitl [H4]; · iexact H4
  iexists _
  unfold owns; iexists _; isplitr
  swap; · iexact H5
  ipureintro; rfl

theorem body_obligationF (hX : Small m hO) (H : (c : Dev nD) → (t : Fin (cfgM m hO).N) → Hooks F (refsAt m hO t) (insAt m hO c t) (grid0.coords t)) (c : Dev nD) :
    BodyObligation (dats (F := F) m hO out 0 c) (defs₀ (F := F)) 𝒱₀ () Set.univ fgt0 := fun t => by
  rw [bigSep_W0, bigSep_W0, defs₀_row m hO]
  exact triple_restated (sound_bodyF m hO out hX H c t) rfl .rfl fun _ => .rfl

set_option backward.isDefEq.respectTransparency.types false in
/-- The launch. -/
theorem run_forget (hX : Small m hO) (H : (c : Dev nD) → (t : Fin (cfgM m hO).N) → Hooks F (refsAt m hO t) (insAt m hO c t) (grid0.coords t)) :
    θ_run defs (onTc (τ := τ) (main (F := F))) (s₀ m ρ)
      (fun r => Pipeline.RDat.FramePost (cfgM m hO) (fun c => (dats m hO out 0 c).toRForget fgt0) (V m) r ∧ r.2.sem = fun _ => 0) :=
  Pipeline.θ_run_frameP_forget (Q' := _) pcfgs (fun _ => adm m hO) (dats m hO out) (0 : Fin 1) launch0 defs₀ 𝒱₀ fgt0 m ρ main
    (hbody := fun c => (body_obligationF m hO out hX H c).loose) (hshare := fun c => (dats m hO out 0 c).share_full fun _ => rfl)
    (howed := fun _ _ => rfl) (V := V m) (hmain := hmain m 𝒱₀) (hA := A_eq m hO out) (hpf := V_pre m)
    (hΦ := fun _ _ => rfl)

/-- Any contents of the result, where nothing is said of them. -/
def noOut : (c : Dev nD) → (t : Fin (cfgM m hO).N) → Vec F S1x1x128x5760 .f32 := fun _ _ => constant (F := F) S1x1x128x5760 .f32 (0#32)

/-- The frame: every fair run ends, the arguments unchanged and every semaphore at zero. -/
theorem frame_forget (hX : Small m hO) (H : (c : Dev nD) → (t : Fin (cfgM m hO).N) → Hooks F (refsAt m hO t) (insAt m hO c t) (grid0.coords t)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (by decide : main_arg0 ∈ Pipeline.restRefs sig spec0)).trans (V_main_arg0 m c),
      (h.1.arr_in c 0 rfl).trans ((A_eq m hO (noOut m hO) c 0).trans (V_main_arg1 m c)),
      (h.1.arr_in c 1 rfl).trans ((A_eq m hO (noOut m hO) c 1).trans (V_main_arg2 m c)),
      (h.1.arr_in c 2 rfl).trans ((A_eq m hO (noOut m hO) c 2).trans (V_main_arg3 m c)),
      (h.1.arr_in c 3 rfl).trans ((A_eq m hO (noOut m hO) c 3).trans (V_main_arg4 m c)),
      (h.1.arr_in c 4 rfl).trans ((A_eq m hO (noOut m hO) c 4).trans (V_main_arg5 m c))⟩, h.2⟩)
    (run_forget m ρ hO (noOut m hO) hX H)

end Cert.AttnIdeal.Hand
-- ==== Proof.AttnPre.lean ====
module

public import proofs.«01_k».proof.Proof.Gen.Pre_selected
public import proofs.«01_k».proof.Proof.Gen.Pre_in_range
public import proofs.«01_k».proof.Pre_selected
public import proofs.«01_k».proof.Pre_in_range

/-! The two preconditions' conjunct about the range read: every selected position is a position of a key. -/

@[expose] public section

noncomputable section

namespace Cert.Sel

open Idealize.ShloMosaic Cert.Pre_selected

variable {F : FTy → Type} [FloatOps F] [Cert.Pre_selected.Facts]

/-- The word the printed comparison `0 ≤ v < 12288` holds of is below 12288. -/
theorem lt_of_range {v : BitVec 32} (h : IntOp.andi (IntOp.cmpi .sge v 0#32) (IntOp.cmpi .slt v 12288#32) = 1#1) : v.toNat < 12288 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true] at h
  obtain ⟨hge, hlt⟩ := h
  simp only [BitVec.sle, BitVec.slt, decide_eq_true_eq, BitVec.toInt, BitVec.toNat_ofNat] at hge hlt
  omega

/-- Every selected position is below the number of keys. -/
theorem sel_lt {a0 : IVec S11520 32} {a1 : FVec F S6x4x5760x128 .bf16} {a2 : FVec F S6x4x12288x128 .bf16} {a3 : FVec F S6x4x96x128x128 .bf16}
    {a4 : FVec F S6x12288x128 .f32} {a5 : IVec S6x1x5760 32} (h : (Cert.Pre_selected.fn (F := F) a0 a1 a2 a3 a4 a5).1 = fun _ => 1#1) (y : S11520.Idx) :
    (a0 y).toNat < 12288 := lt_of_range (congrFun h y)

/-- The same of the precondition that says no more than that. -/
theorem range_lt [Cert.Pre_in_range.Facts] {a0 : IVec S11520 32} {a1 : FVec F S6x4x5760x128 .bf16} {a2 : FVec F S6x4x12288x128 .bf16}
    {a3 : FVec F S6x4x96x128x128 .bf16} {a4 : FVec F S6x12288x128 .f32} {a5 : IVec S6x1x5760 32}
    (h : Cert.Pre_in_range.fn (F := F) a0 a1 a2 a3 a4 a5 = fun _ => 1#1) (y : S11520.Idx) :
    (a0 y).toNat < 12288 := lt_of_range (congrFun h y)

end Cert.Sel
-- ==== Proof.AttnFrame.lean ====
module

public import proofs.«01_k».proof.Defs
public import proofs.«01_k».proof.Proof.AttnForget
public import proofs.«01_k».proof.Proof.AttnPre

/-! The attention call's frame: under the precondition every word the kernel reads of the table is a position of a key, so every
fair run ends, its arguments as they were. -/

@[expose] public section

noncomputable section

namespace Cert.AttnIdeal.Hand

open Cert.AttnIdeal Cert.AttnIdeal.Gen
open Idealize.ShloMosaic Idealize.ShloMosaic.TcCoe

variable {F : FTy → Type} [FloatOps F]

/-- Nothing stated of the buffers' contents. -/
def noHooks (R : Refs) (X : Ins F R) (i : grid0.Coords) : Hooks F R X i where
  M _ := True
  I _ _ _ _ _ _ _ := True
  A _ _ := True
  zero _ := trivial
  offsets := by intros; trivial
  start _ := trivial
  fill := by intros; trivial
  laterU := by intros; trivial
  laterM := by intros; trivial
  firstU := by intros; trivial
  firstM := by intros; trivial
  finish := by intros; exact ⟨fun _ => trivial, trivial⟩

variable (m : (ℓ : Loc nD τ sig) → Buf (Elt F) ℓ)

/-- A word the kernel reads of the table is the argument's word at the offset. -/
theorem word_eq (hO : Ok m) (c : Dev nD) (t : Fin (cfgM m hO).N) (o : Fin 1 → Nat) (h) (y : S11520.Idx) (hy : (y 0).val = o 0) :
    (insAt m hO c t).word o h = m ((c.tc : Thread nD τ).loc main_arg0) y := by
  obtain rfl : c = 0 := Subsingleton.elim _ _
  refine Eq.trans ?_ (congrFun (V_main_arg0 m 0) y)
  show (V m (0 : Dev nD) main_arg0) _ = _
  refine congrArg _ (funext fun a => ?_)
  obtain rfl : a = (0 : Fin 1) := Subsingleton.elim (α := Fin 1) _ _
  refine Fin.ext ?_
  show o 0 + 1 * 0 = _
  omega

/-- Words of a table of positions of keys. -/
theorem small_of (hO : Ok m) (h : ∀ (c : Dev nD) (y : S11520.Idx), (m ((c.tc : Thread nD τ).loc main_arg0) y).toNat < 12288) : Small m hO := fun c t o ho => by
  have h0 : o 0 < 11520 := by have := ho 0; simpa using this
  rw [word_eq m hO c t o ho (fun a => match a with | ⟨0, _⟩ => ⟨o 0, h0⟩) rfl]; exact h c _

end Cert.AttnIdeal.Hand

namespace Cert.AttnFrame

open Cert.AttnIdeal Cert.AttnIdeal.Gen Cert.AttnIdeal.Hand

/-- The frame of the attention call. -/
theorem frame : Cert.quiescent_AttnIdeal := fun m ρ h =>
  frame_forget m ρ (hO m) (small_of m (hO m) fun c y => Cert.Sel.range_lt (h c) y) fun _ _ => noHooks _ _ _

/-- The same under the precondition of the value claim. -/
theorem frame_selected : Cert.quiescent_AttnIdeal_pre_selected := fun m ρ h =>
  frame_forget m ρ (hO m) (small_of m (hO m) fun c y => Cert.Sel.sel_lt (h c).1 y) fun _ _ => noHooks _ _ _

end Cert.AttnFrame
-- ==== Proof.AttnNamed.lean ====
module

public import proofs.«01_k».proof.Proof.AttnData

@[expose] public section

/-! The attention call's run with its result's array named: what every grid point leaves of it. -/

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

variable (hO : Ok m) (out : (c : Dev nD) → (t : Fin (cfgM m hO).N) → Vec F S1x1x128x5760 .f32)

/-- What the body is called with at a point, and what it returns. -/
def bodyPreN (c : Dev nD) (t : Fin (cfgM m hO).N) : sProp (MT nD τ sig Unit (Elt F) ℕ (UR sig nD τ) ℕ) :=
  iprop((dats m hO out 0 c).Φ t.castSucc ∗ (dats m hO out 0 c).owesAt () t.castSucc
    ∗ (∃ d, owns (c : Thread nD τ) (ms0_0 m hO t) fullShare ((dats m hO out 0 c).before 0 t d))
    ∗ (∃ d, owns (c : Thread nD τ) (ms0_1 m hO t) fullShare ((dats m hO out 0 c).before 1 t d))
    ∗ (∃ d, owns (c : Thread nD τ) (ms0_2 m hO t) fullShare ((dats m hO out 0 c).before 2 t d))
    ∗ (∃ d, owns (c : Thread nD τ) (ms0_3 m hO t) fullShare ((dats m hO out 0 c).before 3 t d))
    ∗ (∃ d, owns (c : Thread nD τ) (ms0_4 m hO t) fullShare ((dats m hO out 0 c).before 4 t d))
    ∗ (∃ d, owns (c : Thread nD τ) (ms0_5 m hO t) fullShare ((dats m hO out 0 c).before 5 t d)))
def bodyPostN (c : Dev nD) (t : Fin (cfgM m hO).N) : sProp (MT nD τ sig Unit (Elt F) ℕ (UR sig nD τ) ℕ) :=
  iprop((dats m hO out 0 c).Φ t.succ ∗ (dats m hO out 0 c).owesAt () t.succ
    ∗ owns (c : Thread nD τ) (ms0_0 m hO t) fullShare ((dats m hO out 0 c).after 0 t)
    ∗ owns (c : Thread nD τ) (ms0_1 m hO t) fullShare ((dats m hO out 0 c).after 1 t)
    ∗ owns (c : Thread nD τ) (ms0_2 m hO t) fullShare ((dats m hO out 0 c).after 2 t)
    ∗ owns (c : Thread nD τ) (ms0_3 m hO t) fullShare ((dats m hO out 0 c).after 3 t)
    ∗ owns (c : Thread nD τ) (ms0_4 m hO t) fullShare ((dats m hO out 0 c).after 4 t)
    ∗ owns (c : Thread nD τ) (ms0_5 m hO t) fullShare ((dats m hO out 0 c).after 5 t))

set_option maxHeartbeats 1200000 in
/-- The body at any point. -/
theorem sound_bodyN (hX : Small m hO) (H : (c : Dev nD) → (t : Fin (cfgM m hO).N) → Hooks F (refsAt m hO t) (insAt m hO c t) (grid0.coords t))
    (hout : ∀ c t f8, (H c t).A 12 f8 → (ms0_5 m hO t).view.read (Elt F) f8 = out c t)
    (c : Dev nD) (t : Fin (cfgM m hO).N) :
    bodyPreN m hO out c t ⊢ wp frame (wpE (defs₀ (F := F)) 𝒱₀ c none) Set.univ (bodyAt0 (adm m hO) t) (fun _ => bodyPostN m hO out c t) := by
  unfold bodyPreN bodyPostN
  simp only [before0_0, before0_1, before0_2, before0_3, before0_4]
  rw [show (dats m hO out 0 c).Φ t.succ = (dats m hO out 0 c).Φ t.castSucc from rfl,
    show (dats m hO out 0 c).owesAt () t.succ = (dats m hO out 0 c).owesAt () t.castSucc from rfl,
    after0_0, after0_1, after0_2, after0_3, after0_4, after0_5]
  rw [show (dats m hO out 0 c).Φ t.castSucc = iprop(Pipeline.ΦA spec0 c ∗ Pipeline.ΦT pre0 (tbl m) c) from rfl, PhiT0_eq, PhiA0_eq]
  iintro ⟨⟨⟨HS, Hg⟩, HT0⟩, Ho, ⟨%d0, H0⟩, ⟨%d1, H1⟩, ⟨%d2, H2⟩, ⟨%d3, H3⟩, ⟨%d4, H4⟩, ⟨%d5, H5⟩⟩
  iapply (body_run m hO hX c t (H c t) _)
  isplitl [HS]; · iexact HS
  isplitl [HT0]; · iexact HT0
  isplitl [H0 H1 H2 H3 H4]; · sl_close
  isplitl [H5]; · iexists _; iexact H5
  iintro HS HT0 ⟨H0, H1, H2, H3, H4⟩ ⟨%f8, %hA, H5⟩
  isplitl [HS Hg HT0]
  · isplitl [HS Hg]
    · isplitl [HS]; · iexact HS
      iexact Hg
    iexact HT0
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact hout c t f8 hA

theorem body_obligationN (hX : Small m hO) (H : (c : Dev nD) → (t : Fin (cfgM m hO).N) → Hooks F (refsAt m hO t) (insAt m hO c t) (grid0.coords t))
    (hout : ∀ c t f8, (H c t).A 12 f8 → (ms0_5 m hO t).view.read (Elt F) f8 = out c t) (c : Dev nD) :
    BodyObligation (dats (F := F) m hO out 0 c) (defs₀ (F := F)) 𝒱₀ () Set.univ := fun t => by
  rw [bigSep_W0, bigSep_W0, defs₀_row m hO]
  exact triple_restated (sound_bodyN m hO out hX H hout c t) rfl .rfl fun _ => .rfl

set_option backward.isDefEq.respectTransparency.types false in
/-- The launch. -/
theorem run_named (hX : Small m hO) (H : (c : Dev nD) → (t : Fin (cfgM m hO).N) → Hooks F (refsAt m hO t) (insAt m hO c t) (grid0.coords t))
    (hout : ∀ c t f8, (H c t).A 12 f8 → (ms0_5 m hO t).view.read (Elt F) f8 = out c t) :
    θ_run defs (onTc (τ := τ) (main (F := F))) (s₀ m ρ)
      (fun r => (Pipeline.FramePost (Pipeline.pin pcfgs fun _ => adm m hO) (dats m hO out) 0 (V m)) r ∧ r.2.sem = fun _ => 0) :=
  Pipeline.θ_run_frameP (Q' := _) pcfgs (fun _ => adm m hO) (dats m hO out) (0 : Fin 1) launch0 defs₀ 𝒱₀ m ρ main
    (hbody := fun c => (body_obligationN m hO out hX H hout c).loose) (hshare := fun c => (dats m hO out 0 c).share_full fun _ => rfl)
    (howed := fun _ _ => rfl) (V := V m) (hmain := hmain m 𝒱₀) (hA := A_eq m hO out) (hpf := V_pre m)
    (hΦ := fun _ _ => rfl)

end Cert.AttnIdeal.Hand
-- ==== Proof.AttnBlocks.lean ====
/-
  The attention call's blocks: what a grid point is handed of the arguments, and where its result goes.
-/
module

public import proofs.«01_k».proof.Proof.AttnNamed
public import Idealize.ShloMosaic.Lib.Pipeline.Value
public import Idealize.ShloMosaic.Lib.Pointwise

@[expose] public section

set_option maxRecDepth 16384

noncomputable section

namespace Cert.AttnIdeal.Arr

open Cert.AttnIdeal Cert.AttnIdeal.Gen Cert.AttnIdeal.Hand Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (hO : Ok m)

/-- The batch row and the key head of a grid point. -/
def bOf (i : grid0.Coords) : Fin 6 := ⟨(i 0).val, (i 0).isLt⟩
def hOf (i : grid0.Coords) : Fin 4 := ⟨(i 1).val, (i 1).isLt⟩
/-- The grid point of a batch row and a key head. -/
def pt (b : Fin 6) (h : Fin 4) : Fin grid0.N := ⟨4 * b.val + h.val, by show 4 * b.val + h.val < 24; omega⟩

theorem bOf_pt : ∀ b h, bOf (grid0.coords (pt b h)) = b := by decide +kernel
theorem hOf_pt : ∀ b h, hOf (grid0.coords (pt b h)) = h := by decide +kernel

theorem at_one (x : ℕ) : x * 1 + 0 = x := by omega
theorem at_zero (n x : ℕ) : 0 * n + x = x := by omega

theorem tr0 : ∀ i : grid0.Coords, cc0_transform_0 i = ![(i 0).val, (i 1).val, 0, 0] := by decide +kernel
theorem tr1 : ∀ i : grid0.Coords, cc0_transform_1 i = ![(i 0).val, (i 1).val, 0, 0] := by decide +kernel
theorem tr2 : ∀ i : grid0.Coords, cc0_transform_2 i = ![(i 0).val, (i 1).val, 0, 0, 0] := by decide +kernel
theorem tr3 : ∀ i : grid0.Coords, cc0_transform_3 i = ![(i 0).val, 0, 0] := by decide +kernel
theorem tr4 : ∀ i : grid0.Coords, cc0_transform_4 i = ![(i 0).val, 0, 0] := by decide +kernel
theorem tr5 : ∀ i : grid0.Coords, cc0_transform_5 i = ![(i 0).val, (i 1).val, 0, 0] := by decide +kernel

theorem blk0 (c : Dev nD) (t : Fin (cfgM m hO).N) (r : Fin 5760) (d : Fin 128) :
    iblk m hO c 0 t (ix4 0 0 r d : S1x1x5760x128.Idx) = m ((c.tc : Thread nD τ).loc main_arg1) (ix4 (bOf (grid0.coords t)) (hOf (grid0.coords t)) r d : S6x4x5760x128.Idx) := by
  show V m c main_arg1 ((((cfgM m hO).win 0).rect t).emb _) = _
  refine congrArg (V m c main_arg1) (funext fun a => Fin.ext ?_)
  refine (Pipeline.Window.rect_emb_val ((cfgM m hO).win 0) t (ix4 0 0 r d : S1x1x5760x128.Idx) a rfl).trans ?_
  show cc0_transform_0 (grid0.coords t) a * _ + _ = _
  rw [tr0]
  fin_cases a
  · exact at_one _
  · exact at_one _
  · exact at_zero _ _
  · exact at_zero _ _

theorem blk1 (c : Dev nD) (t : Fin (cfgM m hO).N) (r : Fin 12288) (d : Fin 128) :
    iblk m hO c 1 t (ix4 0 0 r d : S1x1x12288x128.Idx) = m ((c.tc : Thread nD τ).loc main_arg2) (ix4 (bOf (grid0.coords t)) (hOf (grid0.coords t)) r d : S6x4x12288x128.Idx) := by
  show V m c main_arg2 ((((cfgM m hO).win 1).rect t).emb _) = _
  refine congrArg (V m c main_arg2) (funext fun a => Fin.ext ?_)
  refine (Pipeline.Window.rect_emb_val ((cfgM m hO).win 1) t (ix4 0 0 r d : S1x1x12288x128.Idx) a rfl).trans ?_
  show cc0_transform_1 (grid0.coords t) a * _ + _ = _
  rw [tr1]
  fin_cases a
  · exact at_one _
  · exact at_one _
  · exact at_zero _ _
  · exact at_zero _ _

theorem blk2 (c : Dev nD) (t : Fin (cfgM m hO).N) (n : Fin 96) (d r : Fin 128) :
    iblk m hO c 2 t (ix5 0 0 n d r : S1x1x96x128x128.Idx) = m ((c.tc : Thread nD τ).loc main_arg3) (ix5 (bOf (grid0.coords t)) (hOf (grid0.coords t)) n d r : S6x4x96x128x128.Idx) := by
  show V m c main_arg3 ((((cfgM m hO).win 2).rect t).emb _) = _
  refine congrArg (V m c main_arg3) (funext fun a => Fin.ext ?_)
  refine (Pipeline.Window.rect_emb_val ((cfgM m hO).win 2) t (ix5 0 0 n d r : S1x1x96x128x128.Idx) a rfl).trans ?_
  show cc0_transform_2 (grid0.coords t) a * _ + _ = _
  rw [tr2]
  fin_cases a
  · exact at_one _
  · exact at_one _
  · exact at_zero _ _
  · exact at_zero _ _
  · exact at_zero _ _

theorem blk3 (c : Dev nD) (t : Fin (cfgM m hO).N) (n : Fin 12288) (j : Fin 128) :
    iblk m hO c 3 t (ix3 0 n j : S1x12288x128.Idx) = m ((c.tc : Thread nD τ).loc main_arg4) (ix3 (bOf (grid0.coords t)) n j : S6x12288x128.Idx) := by
  show V m c main_arg4 ((((cfgM m hO).win 3).rect t).emb _) = _
  refine congrArg (V m c main_arg4) (funext fun a => Fin.ext ?_)
  refine (Pipeline.Window.rect_emb_val ((cfgM m hO).win 3) t (ix3 0 n j : S1x12288x128.Idx) a rfl).trans ?_
  show cc0_transform_3 (grid0.coords t) a * _ + _ = _
  rw [tr3]
  fin_cases a
  · exact at_one _
  · exact at_zero _ _
  · exact at_zero _ _

theorem blk4 (c : Dev nD) (t : Fin (cfgM m hO).N) (r : Fin 5760) :
    iblk m hO c 4 t (ix3 0 0 r : S1x1x5760.Idx) = m ((c.tc : Thread nD τ).loc main_arg5) (ix3 (bOf (grid0.coords t)) 0 r : S6x1x5760.Idx) := by
  show V m c main_arg5 ((((cfgM m hO).win 4).rect t).emb _) = _
  refine congrArg (V m c main_arg5) (funext fun a => Fin.ext ?_)
  refine (Pipeline.Window.rect_emb_val ((cfgM m hO).win 4) t (ix3 0 0 r : S1x1x5760.Idx) a rfl).trans ?_
  show cc0_transform_4 (grid0.coords t) a * _ + _ = _
  rw [tr4]
  fin_cases a
  · exact at_one _
  · exact at_zero _ _
  · exact at_zero _ _

theorem emb5 (b : Fin 6) (h : Fin 4) (d : Fin 128) (r : Fin 5760) :
    (((cfgM m hO).win 5).rect (pt b h)).emb (ix4 0 0 d r : S1x1x128x5760.Idx) = (ix4 b h d r : S6x4x128x5760.Idx) := by
  funext a
  apply Fin.ext
  refine (Pipeline.Window.rect_emb_val ((cfgM m hO).win 5) (pt b h) (ix4 0 0 d r : S1x1x128x5760.Idx) a rfl).trans ?_
  show cc0_transform_5 (grid0.coords (pt b h)) a * _ + _ = _
  have e1 : (grid0.coords (pt b h) 0).val = b.val := congrArg Fin.val (bOf_pt b h)
  have e2 : (grid0.coords (pt b h) 1).val = h.val := congrArg Fin.val (hOf_pt b h)
  rw [tr5, e1, e2]
  fin_cases a
  · exact at_one _
  · exact at_one _
  · exact at_zero _ _
  · exact at_zero _ _

theorem idx_inj5 : ∀ t t' : Fin grid0.N, cc0_transform_5 (grid0.coords t) = cc0_transform_5 (grid0.coords t') → t = t' := by decide +kernel

theorem disjoint5 (t t' : Fin (cfgM m hO).N) (_ : ((cfgM m hO).win 5).flush t = true) (_ : ((cfgM m hO).win 5).flush t' = true) (hne : t ≠ t') :
    Disjoint (((cfgM m hO).win 5).blk t).view.set (((cfgM m hO).win 5).blk t').view.set :=
  ((cfgM m hO).win 5).disjoint_blk fun h => hne (idx_inj5 t t' h)

variable (out : (c : Dev nD) → (t : Fin (cfgM m hO).N) → Vec F S1x1x128x5760 .f32)

/-- An array of the result's type, read through a block. -/
theorem read5 (c : Dev nD) (f : Buf (Elt F) ((c.tc : Thread nD τ).loc main_v0)) (b : Fin 6) (h : Fin 4) (d : Fin 128) (r : Fin 5760) :
    (((cfgM m hO).win 5).blk (pt b h)).view.read (Elt F) f (ix4 0 0 d r : S1x1x128x5760.Idx) = f (ix4 b h d r : S6x4x128x5760.Idx) := by
  show f ((((cfgM m hO).win 5).rect (pt b h)).emb _) = _
  exact congrArg f (emb5 m hO b h d r)

/-- The result's array after the run, block by block. -/
theorem arr5 (c : Dev nD) (b : Fin 6) (h : Fin 4) (d : Fin 128) (r : Fin 5760) :
    (dats m hO out 0 c).arrAt 5 (cfgM m hO).N (ix4 b h d r : S6x4x128x5760.Idx) = out c (pt b h) (ix4 0 0 d r) := by
  have e := congrFun ((dats m hO out 0 c).read_blk_arrAt_eq_flushed 5 (disjoint5 m hO) (cfgM m hO).N (pt b h) (pt b h).isLt (flush0_5 _ _)) (ix4 0 0 d r : S1x1x128x5760.Idx)
  refine (read5 m hO c ((dats m hO out 0 c).arrAt 5 (cfgM m hO).N) b h d r).symm.trans (e.trans ?_)
  show ((cfgM m hO).win 5).cut (grid0.coords (pt b h)) ((dats m hO out 0 c).after 5 (pt b h)) _ = _
  rw [after0_5]
  rfl

end Cert.AttnIdeal.Arr
-- ==== Proof.AttnPay.lean ====
/-
  The kernel's vector expressions at an index, over the extended reals: the weights of a block of keys for 128 query rows,
  with and without the mask, the running denominators, the weighted block handed to the next trip, the products with the
  values, and the scores.
-/
module

public import proofs.«01_k».proof.Proof.AttnRun
public import Idealize.ShloMosaic.Lib.Pointwise
public import Idealize.ShloMosaic.Lib.MatmulPlain

@[expose] public section

set_option maxRecDepth 16384

noncomputable section

namespace Cert.AttnIdeal.Val

open Cert.AttnIdeal Cert.AttnIdeal.Gen Idealize.ShloMosaic

/-- The literal −∞. -/
theorem ofBits_negInf : Ideal.ofBits .f32 0xFF800000#32 = ⊥ := by
  simp [Ideal.ofBits, Ideal.ieee]

/-- Column `128 l + x` of a tile of 512 query rows. -/
def col (l : Fin 4) (x : Fin 128) : Fin 512 := ⟨128 * l.val + x.val, by omega⟩

/-- Row `256 h + n` of a block of 512 keys. -/
def key (h : Fin 2) (n : Fin 256) : Fin 512 := ⟨256 * h.val + n.val, by omega⟩

theorem exists_col (x : Fin 512) : ∃ l y, x = col l y :=
  ⟨⟨x.val / 128, by omega⟩, ⟨x.val % 128, by omega⟩, Fin.ext (by simp only [col]; omega)⟩

theorem exists_key (n : Fin 512) : ∃ h y, n = key h y :=
  ⟨⟨n.val / 256, by omega⟩, ⟨n.val % 256, by omega⟩, Fin.ext (by simp only [key]; omega)⟩

section
variable {F : FTy → Type} [FloatOps F]

/-- The weights of 256 keys for 128 query rows, from column `o` of the tile. -/
def wtU (o : Nat) (h : S1x512.Slices ![0, o] S1x128) (m : Vec F S1x512 .f32) (ks s : Vec F S256x128 .f32) : FVec F S256x128 .f32 :=
  exp2 (subf (mulf s ks) (broadcastTo S256x128 (extractStridedSlice S1x128 ![0, o] m h) broadcasts_S1x128_S256x128))

/-- The same, masked: key `k0 + n` is left out of the rows it lies past. -/
def wtM (o : Nat) (h : S1x512.Slices ![0, o] S1x128) (pos : IVec S1x512 32) (k0 : BitVec 32) (m : Vec F S1x512 .f32)
    (ks s : Vec F S256x128 .f32) : FVec F S256x128 .f32 :=
  exp2 (subf (select (cmpi .sgt (addi (iota .tc S256x128 32 [0] iota_S256x128_d0_w32) (broadcast S256x128 k0))
      (broadcastTo S256x128 (extractStridedSlice S1x128 ![0, o] pos h) broadcasts_S1x128_S256x128))
    (broadcast S256x128 (Scalar.ofBits .f32 0xFF800000#32)) (mulf s ks))
    (broadcastTo S256x128 (extractStridedSlice S1x128 ![0, o] m h) broadcasts_S1x128_S256x128))

/-- The denominators with the weights of 256 keys added. -/
def addDen (d : Vec F S8x128 .f32) (w : FVec F S256x128 .f32) : FVec F S8x128 .f32 :=
  shapeCast S8x128 (addf d (multiReduction .add [0] S8x128 (shapeCast S32x8x128 w shapeCasts_S256x128_S32x8x128) 0x00000000#32
    reduces_S32x8x128_S8x128 (.inl rfl) rfl)) shapeCasts_S8x128_S8x128

/-- The weights times the values' scales. -/
def pBlk (w vs : FVec F S256x128 .f32) : FVec F S1x256x128 .bf16 :=
  shapeCast S1x256x128 (truncf .bf16 (mulf w vs) bitsLt_bf16_f32) shapeCasts_S256x128_S1x256x128

/-- The scores of 256 keys for a tile of query rows. -/
def scores (q : FVec F S512x128 .bf16) (k : Vec F S1x1x256x128 .bf16) : FVec F S256x512 .f32 :=
  shapeCast S256x512 (matmul dot_S256x128_S512x128_S256x512_1_1_0_0_n_n none
    (shapeCast S256x128 k shapeCasts_S1x1x256x128_S256x128 : FVec F S256x128 .bf16) q (constant S256x512 .f32 0x00000000#32)) shapeCasts_S256x512_S256x512

/-- A half block of values times the weights. -/
def vCat (a b : Vec F S1x1x1x128x128 .bf16) : FVec F S128x256 .bf16 :=
  concatenate S128x256 1 [⟨S128x128, shapeCast S128x128 a shapeCasts_S1x1x1x128x128_S128x128⟩,
    ⟨S128x128, shapeCast S128x128 b shapeCasts_S1x1x1x128x128_S128x128⟩] concatenates_S128x128_S128x128_S128x256_d1

def pCat (a b c d : Vec F S1x256x128 .bf16) : FVec F S256x512 .bf16 :=
  concatenate S256x512 1 [⟨S256x128, shapeCast S256x128 a shapeCasts_S1x256x128_S256x128⟩,
    ⟨S256x128, shapeCast S256x128 b shapeCasts_S1x256x128_S256x128⟩, ⟨S256x128, shapeCast S256x128 c shapeCasts_S1x256x128_S256x128⟩,
    ⟨S256x128, shapeCast S256x128 d shapeCasts_S1x256x128_S256x128⟩] concatenates_S256x128_S256x128_S256x128_S256x128_S256x512_d1

def addProd (o : FVec F S128x512 .f32) (v : FVec F S128x256 .bf16) (p : FVec F S256x512 .bf16) : FVec F S128x512 .f32 :=
  addf o (matmul dot_S128x256_S256x512_S128x512_1_0_0_1_n_n none v p (constant S128x512 .f32 0x00000000#32))

/-- The running products with a whole block added. -/
def accNext (o : Vec F S128x512 .f32) (v : Fin 2 → Fin 2 → Vec F S1x1x1x128x128 .bf16) (p : Fin 2 → Fin 4 → Vec F S1x256x128 .bf16) :
    FVec F S128x512 .f32 :=
  addProd (addProd o (vCat (v 0 0) (v 0 1)) (pCat (p 0 0) (p 0 1) (p 0 2) (p 0 3))) (vCat (v 1 0) (v 1 1)) (pCat (p 1 0) (p 1 1) (p 1 2) (p 1 3))

end

/-! ## At an index, over the extended reals -/

theorem row_apply {α : Type} (o : Nat) (h : S1x512.Slices ![0, o] S1x128) (v : S1x512.Idx → α) (n : Fin 256) (x : Fin 128) (l : Fin 4)
    (ho : o = 128 * l.val) :
    broadcastTo S256x128 (extractStridedSlice S1x128 ![0, o] v h) broadcasts_S1x128_S256x128 (ix2 n x) = v (ix2 0 (col l x)) := by
  refine (broadcastTo_apply _ _ (ix2 n x) (ix2 (0 : Fin 1) x) fun a => ?_).trans ?_
  · fin_cases a <;> simp
  rw [extractStridedSlice_apply _ _ _ _ (ix2 (0 : Fin 1) (col l x)) (by intro b; fin_cases b <;> simp [col, ho])]

theorem wtU_apply (o : Nat) (h : S1x512.Slices ![0, o] S1x128) (m : Vec Ideal S1x512 .f32) (ks s : Vec Ideal S256x128 .f32)
    (n : Fin 256) (x : Fin 128) (l : Fin 4) (ho : o = 128 * l.val) :
    wtU o h m ks s (ix2 n x) = Ideal.exp2 (s (ix2 n x) * ks (ix2 n x) - m (ix2 0 (col l x))) := by
  rw [← row_apply o h m n x l ho]
  rfl

theorem iota_apply (n : Fin 256) (x : Fin 128) :
    iota .tc S256x128 32 [0] iota_S256x128_d0_w32 (ix2 n x) = BitVec.ofNat 32 n.val := by
  pointwise

theorem wtM_apply (o : Nat) (h : S1x512.Slices ![0, o] S1x128) (pos : IVec S1x512 32) (k0 : BitVec 32) (m : Vec Ideal S1x512 .f32)
    (ks s : Vec Ideal S256x128 .f32) (n : Fin 256) (x : Fin 128) (l : Fin 4) (ho : o = 128 * l.val) :
    wtM o h pos k0 m ks s (ix2 n x)
      = Ideal.exp2 (Scalar.select (IntOp.cmpi .sgt (BitVec.ofNat 32 n.val + k0) (pos (ix2 0 (col l x)))) ⊥ (s (ix2 n x) * ks (ix2 n x))
          - m (ix2 0 (col l x))) := by
  rw [← row_apply o h m n x l ho, ← row_apply o h pos n x l ho, ← iota_apply n x, ← ofBits_negInf]
  rfl

theorem addDen_apply (d : Vec Ideal S8x128 .f32) (w : FVec Ideal S256x128 .f32) (a : Fin 8) (x : Fin 128) :
    addDen d w (ix2 a x) = d (ix2 a x) + ∑ j : Fin 32, w (ix2 ⟨j.val * 8 + a.val, by omega⟩ x) := by
  unfold addDen
  pointwise

theorem pBlk_apply (w vs : FVec Ideal S256x128 .f32) (n : Fin 256) (x : Fin 128) :
    pBlk w vs (ix3 0 n x) = w (ix2 n x) * vs (ix2 n x) := by
  unfold pBlk
  pointwise

theorem scores_apply (q : FVec Ideal S512x128 .bf16) (k : Vec Ideal S1x1x256x128 .bf16) (n : Fin 256) (x : Fin 512) :
    scores q k (ix2 n x) = ∑ d : Fin 128, (k (ix4 0 0 n d) : EReal) * q (ix2 x d) := by
  unfold scores
  pointwise

theorem vCat_apply (a b : Vec Ideal S1x1x1x128x128 .bf16) (d : Fin 128) (c : Fin 256) :
    vCat a b (ix2 d c) = if h : c.val < 128 then a (ix5 0 0 0 d ⟨c.val, h⟩) else b (ix5 0 0 0 d ⟨c.val - 128, by omega⟩) := by
  unfold vCat
  pointwise

theorem pCat_apply (p : Fin 4 → Vec Ideal S1x256x128 .bf16) (c : Fin 256) (l : Fin 4) (x : Fin 128) :
    pCat (p 0) (p 1) (p 2) (p 3) (ix2 c (col l x)) = p l (ix3 0 c x) := by
  unfold pCat col
  have hx := x.isLt
  fin_cases l <;> pointwise
  · rw [dif_neg (by omega), dif_neg (by omega), dif_pos (by omega)]
    exact congrArg (fun z => p 2 (ix3 0 c z)) (Fin.ext (by simp only []; omega))
  · rw [dif_neg (by omega), dif_neg (by omega), dif_neg (by omega)]
    exact congrArg (fun z => p 3 (ix3 0 c z)) (Fin.ext (by simp only []; omega))

theorem addProd_apply (o : FVec Ideal S128x512 .f32) (v : FVec Ideal S128x256 .bf16) (p : FVec Ideal S256x512 .bf16) (d : Fin 128) (x : Fin 512) :
    addProd o v p (ix2 d x) = o (ix2 d x) + ∑ c : Fin 256, (v (ix2 d c) : EReal) * p (ix2 c x) := by
  unfold addProd
  pointwise

/-- The lane of a block of scales. -/
theorem lane_apply (j : Nat) (hj : j < 8) (v : Vec Ideal S1x256x128 .f32) (n : Fin 256) (x : Fin 128) :
    k0_pay17 (F := Ideal) (BitVec.ofNat 32 j) v (ix2 n x) = v (ix3 0 n ⟨j, by omega⟩) := by
  unfold k0_pay17
  pointwise
  interval_cases j <;> rfl

end Cert.AttnIdeal.Val
-- ==== Proof.AttnRead.lean ====
/-
  What a trip's stores leave in the buffers, read at an index: the scores in two halves, the denominators in four lane blocks
  stored twice over, and the weighted block in eight pieces.
-/
module

public import proofs.«01_k».proof.Proof.AttnPay
public import Idealize.ShloMosaic.Lib.WritesUnit
public import Idealize.ShloMosaic.Lib.VecWindow
public import Idealize.ShloMosaic.Lib.Pipeline.ValueKit.Tiles

@[expose] public section

set_option maxRecDepth 16384

noncomputable section

namespace Cert.AttnIdeal.Val

open Cert.AttnIdeal Cert.AttnIdeal.Gen Idealize.ShloMosaic

section
variable {F : FTy → Type} [FloatOps F]

/-! ## Four lane blocks of denominators -/

section
variable (a : Memref sig .tc .vmem S8x512 .f32)

/-- A lane block of the denominators, loaded. -/
def denAt (f : a.view.ty.Contents (Elt F)) (l : Fin 4) : Vec F S8x128 .f32 := match l with
  | 0 => a.view.readAt (Elt F) (Rect.unit (s := S8x512) ![0, 0] S8x128.size inb_S8x512_S8x128_0_0).toLoadRect f
  | 1 => a.view.readAt (Elt F) (Rect.unit (s := S8x512) ![0, 128] S8x128.size inb_S8x512_S8x128_0_128).toLoadRect f
  | 2 => a.view.readAt (Elt F) (Rect.unit (s := S8x512) ![0, 256] S8x128.size inb_S8x512_S8x128_0_256).toLoadRect f
  | 3 => a.view.readAt (Elt F) (Rect.unit (s := S8x512) ![0, 384] S8x128.size inb_S8x512_S8x128_0_384).toLoadRect f

/-- The four lane blocks stored, the last first. -/
def lanes4 (g0 g1 g2 g3 : Vec F S8x128 .f32) (L : List (View.Piece (Elt F) S8x512 .f32)) : List (View.Piece (Elt F) S8x512 .f32) :=
  ⟨Rect.unit ![0, 384] S8x128.size inb_S8x512_S8x128_0_384, g3⟩ :: ⟨Rect.unit ![0, 256] S8x128.size inb_S8x512_S8x128_0_256, g2⟩
    :: ⟨Rect.unit ![0, 128] S8x128.size inb_S8x512_S8x128_0_128, g1⟩ :: ⟨Rect.unit ![0, 0] S8x128.size inb_S8x512_S8x128_0_0, g0⟩ :: L

theorem denAt_apply (f : a.view.ty.Contents (Elt F)) (l : Fin 4) (r : Fin 8) (x : Fin 128) :
    denAt a f l (ix2 r x) = a.view.read (Elt F) f (ix2 r (col l x)) := by
  fin_cases l
  all_goals
    refine congrArg (a.view.read (Elt F) f) (funext fun b => Fin.ext ?_)
    refine (Rect.idx_unit_val _ _ _ _ _).trans ?_
    fin_cases b <;> simp [col]

theorem lane_hit (f : a.view.ty.Contents (Elt F)) (L : List (View.Piece (Elt F) S8x512 .f32)) (o : Nat)
    (inb : ∀ b, (![0, o] : Fin 2 → Nat) b + S8x128.size b ≤ S8x512.size b) (g : Vec F S8x128 .f32) (l : Fin 4) (ho : o = 128 * l.val)
    (r : Fin 8) (x : Fin 128) :
    a.view.read (Elt F) (a.view.writes (Elt F) f (⟨Rect.unit (s := S8x512) ![0, o] S8x128.size inb, g⟩ :: L)) (ix2 r (col l x)) = g (ix2 r x) :=
  View.read_writes_cons_unit_of_mem (s := S8x512) a.view f inb g L (ix2 r (col l x)) (ix2 r x) rfl
    (by intro b; fin_cases b <;> simp [col, ho])

theorem lane_miss (f : a.view.ty.Contents (Elt F)) (L : List (View.Piece (Elt F) S8x512 .f32)) (o : Nat)
    (inb : ∀ b, (![0, o] : Fin 2 → Nat) b + S8x128.size b ≤ S8x512.size b) (g : Vec F S8x128 .f32) (l : Fin 4)
    (ho : 128 * l.val + 128 ≤ o ∨ o + 128 ≤ 128 * l.val) (r : Fin 8) (x : Fin 128) :
    a.view.read (Elt F) (a.view.writes (Elt F) f (⟨Rect.unit (s := S8x512) ![0, o] S8x128.size inb, g⟩ :: L)) (ix2 r (col l x))
      = a.view.read (Elt F) (a.view.writes (Elt F) f L) (ix2 r (col l x)) :=
  have hx := x.isLt
  View.read_writes_cons_unit_of_not_mem (s := S8x512) a.view f inb g L (ix2 r (col l x)) rfl (1 : Fin 2)
    (by show 128 * l.val + x.val < o ∨ o + 128 ≤ 128 * l.val + x.val; omega)

theorem lanes4_read (f : a.view.ty.Contents (Elt F)) (g : Fin 4 → Vec F S8x128 .f32) (L : List (View.Piece (Elt F) S8x512 .f32))
    (l : Fin 4) (r : Fin 8) (x : Fin 128) :
    a.view.read (Elt F) (a.view.writes (Elt F) f (lanes4 (g 0) (g 1) (g 2) (g 3) L)) (ix2 r (col l x)) = g l (ix2 r x) :=
  match l with
  | 0 => (lane_miss a f _ 384 _ _ 0 (by decide) r x).trans <| (lane_miss a f _ 256 _ _ 0 (by decide) r x).trans <|
      (lane_miss a f _ 128 _ _ 0 (by decide) r x).trans <| lane_hit a f _ 0 _ _ 0 rfl r x
  | 1 => (lane_miss a f _ 384 _ _ 1 (by decide) r x).trans <| (lane_miss a f _ 256 _ _ 1 (by decide) r x).trans <|
      lane_hit a f _ 128 _ _ 1 rfl r x
  | 2 => (lane_miss a f _ 384 _ _ 2 (by decide) r x).trans <| lane_hit a f _ 256 _ _ 2 rfl r x
  | 3 => lane_hit a f _ 384 _ _ 3 rfl r x

/-- The trip's stores to the denominators: the four lane blocks with the first half's weights, then with the second half's,
    each of these over what the first left. -/
def denFirst (f : a.view.ty.Contents (Elt F)) (w : Fin 2 → Fin 4 → FVec F S256x128 .f32) : List (View.Piece (Elt F) S8x512 .f32) :=
  lanes4 (addDen (denAt a f 0) (w 0 0)) (addDen (denAt a f 1) (w 0 1)) (addDen (denAt a f 2) (w 0 2)) (addDen (denAt a f 3) (w 0 3)) []

def den5 (f : a.view.ty.Contents (Elt F)) (w : Fin 2 → Fin 4 → FVec F S256x128 .f32) : List (View.Piece (Elt F) S8x512 .f32) :=
  ⟨Rect.unit ![0, 0] S8x128.size inb_S8x512_S8x128_0_0, addDen (a.view.readCov (denFirst a f w)
    (Rect.unit (s := S8x512) ![0, 0] S8x128.size inb_S8x512_S8x128_0_0).toLoadRect) (w 1 0)⟩ :: denFirst a f w

def den6 (f : a.view.ty.Contents (Elt F)) (w : Fin 2 → Fin 4 → FVec F S256x128 .f32) : List (View.Piece (Elt F) S8x512 .f32) :=
  ⟨Rect.unit ![0, 128] S8x128.size inb_S8x512_S8x128_0_128, addDen (a.view.readCov (den5 a f w)
    (Rect.unit (s := S8x512) ![0, 128] S8x128.size inb_S8x512_S8x128_0_128).toLoadRect) (w 1 1)⟩ :: den5 a f w

def den7 (f : a.view.ty.Contents (Elt F)) (w : Fin 2 → Fin 4 → FVec F S256x128 .f32) : List (View.Piece (Elt F) S8x512 .f32) :=
  ⟨Rect.unit ![0, 256] S8x128.size inb_S8x512_S8x128_0_256, addDen (a.view.readCov (den6 a f w)
    (Rect.unit (s := S8x512) ![0, 256] S8x128.size inb_S8x512_S8x128_0_256).toLoadRect) (w 1 2)⟩ :: den6 a f w

def denList (f : a.view.ty.Contents (Elt F)) (w : Fin 2 → Fin 4 → FVec F S256x128 .f32) : List (View.Piece (Elt F) S8x512 .f32) :=
  ⟨Rect.unit ![0, 384] S8x128.size inb_S8x512_S8x128_0_384, addDen (a.view.readCov (den7 a f w)
    (Rect.unit (s := S8x512) ![0, 384] S8x128.size inb_S8x512_S8x128_0_384).toLoadRect) (w 1 3)⟩ :: den7 a f w

variable (f : a.view.ty.Contents (Elt F)) (w : Fin 2 → Fin 4 → FVec F S256x128 .f32)

theorem denFirst_read (f' : a.view.ty.Contents (Elt F)) (l : Fin 4) (r : Fin 8) (x : Fin 128) :
    a.view.read (Elt F) (a.view.writes (Elt F) f' (denFirst a f w)) (ix2 r (col l x)) = addDen (denAt a f l) (w 0 l) (ix2 r x) :=
  lanes4_read a f' (fun l => addDen (denAt a f l) (w 0 l)) [] l r x

/-- What a later load of a lane block reads through the stores so far. -/
theorem cov_apply (L : List (View.Piece (Elt F) S8x512 .f32)) (o : Nat) (l : Fin 4) (ho : o = 128 * l.val)
    (inb : ∀ b, (![0, o] : Fin 2 → Nat) b + S8x128.size b ≤ S8x512.size b) (g : Vec F S8x128 .f32)
    (h : ∀ (f' : a.view.ty.Contents (Elt F)) (r : Fin 8) (x : Fin 128), a.view.read (Elt F) (a.view.writes (Elt F) f' L) (ix2 r (col l x)) = g (ix2 r x)) :
    a.view.readCov L (Rect.unit (s := S8x512) ![0, o] S8x128.size inb).toLoadRect = g := by
  funext y
  obtain ⟨r, x, rfl⟩ : ∃ (r : Fin 8) (x : Fin 128), y = ix2 r x := ⟨y 0, y 1, eq_ix2 y⟩
  rw [← h a.view.junk r x]
  refine congrArg (a.view.read (Elt F) (a.view.writes (Elt F) a.view.junk L)) (funext fun b => Fin.ext ?_)
  refine (Rect.idx_unit_val _ _ _ _ _).trans ?_
  fin_cases b <;> simp [col, ho]

theorem cov5 : a.view.readCov (denFirst a f w) (Rect.unit (s := S8x512) ![0, 0] S8x128.size inb_S8x512_S8x128_0_0).toLoadRect
    = addDen (denAt a f 0) (w 0 0) :=
  cov_apply a _ 0 0 rfl _ _ fun f' r x => denFirst_read a f w f' 0 r x

theorem den5_read (f' : a.view.ty.Contents (Elt F)) (l : Fin 4) (hl : 0 < l.val) (r : Fin 8) (x : Fin 128) :
    a.view.read (Elt F) (a.view.writes (Elt F) f' (den5 a f w)) (ix2 r (col l x)) = addDen (denAt a f l) (w 0 l) (ix2 r x) := by
  rw [← denFirst_read a f w f']
  exact lane_miss a f' _ _ _ _ l (by omega) r x

theorem cov6 : a.view.readCov (den5 a f w) (Rect.unit (s := S8x512) ![0, 128] S8x128.size inb_S8x512_S8x128_0_128).toLoadRect
    = addDen (denAt a f 1) (w 0 1) :=
  cov_apply a _ 128 1 rfl _ _ fun f' r x => den5_read a f w f' 1 (by decide) r x

theorem den6_read (f' : a.view.ty.Contents (Elt F)) (l : Fin 4) (hl : 1 < l.val) (r : Fin 8) (x : Fin 128) :
    a.view.read (Elt F) (a.view.writes (Elt F) f' (den6 a f w)) (ix2 r (col l x)) = addDen (denAt a f l) (w 0 l) (ix2 r x) := by
  rw [← den5_read a f w f' l (by omega)]
  exact lane_miss a f' _ _ _ _ l (by omega) r x

theorem cov7 : a.view.readCov (den6 a f w) (Rect.unit (s := S8x512) ![0, 256] S8x128.size inb_S8x512_S8x128_0_256).toLoadRect
    = addDen (denAt a f 2) (w 0 2) :=
  cov_apply a _ 256 2 rfl _ _ fun f' r x => den6_read a f w f' 2 (by decide) r x

theorem den7_read (f' : a.view.ty.Contents (Elt F)) (l : Fin 4) (hl : 2 < l.val) (r : Fin 8) (x : Fin 128) :
    a.view.read (Elt F) (a.view.writes (Elt F) f' (den7 a f w)) (ix2 r (col l x)) = addDen (denAt a f l) (w 0 l) (ix2 r x) := by
  rw [← den6_read a f w f' l (by omega)]
  exact lane_miss a f' _ _ _ _ l (by omega) r x

theorem cov8 : a.view.readCov (den7 a f w) (Rect.unit (s := S8x512) ![0, 384] S8x128.size inb_S8x512_S8x128_0_384).toLoadRect
    = addDen (denAt a f 3) (w 0 3) :=
  cov_apply a _ 384 3 rfl _ _ fun f' r x => den7_read a f w f' 3 (by decide) r x

/-- The denominators after the trip's stores. -/
theorem denList_read (l : Fin 4) (r : Fin 8) (x : Fin 128) :
    a.view.read (Elt F) (a.view.writes (Elt F) f (denList a f w)) (ix2 r (col l x))
      = addDen (addDen (denAt a f l) (w 0 l)) (w 1 l) (ix2 r x) := by
  unfold denList den7 den6 den5
  rw [cov5]
  have h6 := cov6 a f w
  have h7 := cov7 a f w
  have h8 := cov8 a f w
  unfold den7 den6 den5 at h8
  unfold den6 den5 at h7
  unfold den5 at h6
  rw [cov5] at h6 h7 h8
  rw [h6] at h7 h8 ⊢
  rw [h7] at h8 ⊢
  rw [h8]
  exact lanes4_read a f (fun l => addDen (addDen (denAt a f l) (w 0 l)) (w 1 l)) _ l r x

end

/-! ## The scores, in two halves -/

theorem halves_read (a : Memref sig .tc .vmem S512x512 .f32) (f : a.view.ty.Contents (Elt F)) (w : Fin 2 → FVec F S256x512 .f32)
    (h : Fin 2) (n : Fin 256) (x : Fin 512) :
    a.view.read (Elt F) (a.view.writes (Elt F) f
      [⟨Rect.unit (s := S512x512) ![256, 0] S256x512.size inb_S512x512_S256x512_256_0, w 1⟩,
       ⟨Rect.unit (s := S512x512) ![0, 0] S256x512.size inb_S512x512_S256x512_0_0, w 0⟩]) (ix2 (key h n) x) = w h (ix2 n x) := by
  have hn := n.isLt
  fin_cases h
  · rw [View.read_writes_cons_unit_of_not_mem _ _ _ _ _ _ rfl (0 : Fin 2) (by simp [key])]
    exact View.read_writes_cons_unit_of_mem (s := S512x512) a.view f inb_S512x512_S256x512_0_0 (w 0) [] (ix2 (key 0 n) x) (ix2 n x) rfl
      (by intro b; fin_cases b <;> simp [key])
  · exact View.read_writes_cons_unit_of_mem (s := S512x512) a.view f inb_S512x512_S256x512_256_0 (w 1) _ (ix2 (key 1 n) x) (ix2 n x) rfl
      (by intro b; fin_cases b <;> simp [key])

/-- A block of the scores, loaded. -/
theorem score_load (a : Memref sig .tc .vmem S512x512 .f32) (f : a.view.ty.Contents (Elt F)) (h : Fin 2) (l : Fin 4) (o p : Nat)
    (ho : o = 256 * h.val) (hp : p = 128 * l.val) (inb : ∀ b, (![o, p] : Fin 2 → Nat) b + S256x128.size b ≤ S512x512.size b)
    (n : Fin 256) (x : Fin 128) :
    a.view.readAt (Elt F) (Rect.unit (s := S512x512) ![o, p] S256x128.size inb).toLoadRect f (ix2 n x)
      = a.view.read (Elt F) f (ix2 (key h n) (col l x)) := by
  refine congrArg (a.view.read (Elt F) f) (funext fun b => Fin.ext ?_)
  refine (Rect.idx_unit_val _ _ _ _ _).trans ?_
  fin_cases b <;> simp [col, key, ho, hp]

/-! ## The weighted block, in eight pieces -/

/-- The trip's stores to the weighted block, the last first. -/
def pList (w : Fin 2 → Fin 4 → FVec F S1x256x128 .bf16) : List (View.Piece (Elt F) S4x512x128 .bf16) :=
  [⟨Rect.unit ![3, 256, 0] S1x256x128.size inb_S4x512x128_S1x256x128_3_256_0, w 1 3⟩,
   ⟨Rect.unit ![2, 256, 0] S1x256x128.size inb_S4x512x128_S1x256x128_2_256_0, w 1 2⟩,
   ⟨Rect.unit ![1, 256, 0] S1x256x128.size inb_S4x512x128_S1x256x128_1_256_0, w 1 1⟩,
   ⟨Rect.unit ![0, 256, 0] S1x256x128.size inb_S4x512x128_S1x256x128_0_256_0, w 1 0⟩,
   ⟨Rect.unit ![3, 0, 0] S1x256x128.size inb_S4x512x128_S1x256x128_3_0_0, w 0 3⟩,
   ⟨Rect.unit ![2, 0, 0] S1x256x128.size inb_S4x512x128_S1x256x128_2_0_0, w 0 2⟩,
   ⟨Rect.unit ![1, 0, 0] S1x256x128.size inb_S4x512x128_S1x256x128_1_0_0, w 0 1⟩,
   ⟨Rect.unit ![0, 0, 0] S1x256x128.size inb_S4x512x128_S1x256x128_0_0_0, w 0 0⟩]

theorem p_hit (a : Memref sig .tc .vmem S4x512x128 .bf16) (f : a.view.ty.Contents (Elt F)) (L : List (View.Piece (Elt F) S4x512x128 .bf16))
    (off : Fin 3 → Nat) (inb : ∀ b, off b + S1x256x128.size b ≤ S4x512x128.size b) (w : FVec F S1x256x128 .bf16)
    (h : Fin 2) (l : Fin 4) (x : Fin 128) (heq : off = ![l.val, 256 * h.val, 0]) {n : Fin 256} :
    a.view.read (Elt F) (a.view.writes (Elt F) f (⟨Rect.unit (s := S4x512x128) off S1x256x128.size inb, w⟩ :: L)) (ix3 l (key h n) x)
      = w (ix3 0 n x) :=
  View.read_writes_cons_unit_of_mem (s := S4x512x128) a.view f inb w L (ix3 l (key h n) x) (ix3 0 n x) heq
    (by intro b; fin_cases b <;> simp [key])

theorem p_miss (a : Memref sig .tc .vmem S4x512x128 .bf16) (f : a.view.ty.Contents (Elt F)) (L : List (View.Piece (Elt F) S4x512x128 .bf16))
    (off : Fin 3 → Nat) (inb : ∀ b, off b + S1x256x128.size b ≤ S4x512x128.size b) (w : FVec F S1x256x128 .bf16)
    (h : Fin 2) (l : Fin 4) (n : Fin 256) (x : Fin 128)
    (hne : off 0 ≠ l.val ∨ (off 1 = 0 ∧ h.val = 1) ∨ (off 1 = 256 ∧ h.val = 0)) :
    a.view.read (Elt F) (a.view.writes (Elt F) f (⟨Rect.unit (s := S4x512x128) off S1x256x128.size inb, w⟩ :: L)) (ix3 l (key h n) x)
      = a.view.read (Elt F) (a.view.writes (Elt F) f L) (ix3 l (key h n) x) := by
  have hn := n.isLt
  rcases hne with hne | ⟨h0, h1⟩ | ⟨h0, h1⟩
  · exact View.read_writes_cons_unit_of_not_mem _ _ _ _ _ _ rfl (0 : Fin 3) (by show l.val < off 0 ∨ off 0 + 1 ≤ l.val; omega)
  · exact View.read_writes_cons_unit_of_not_mem _ _ _ _ _ _ rfl (1 : Fin 3)
      (by show 256 * h.val + n.val < off 1 ∨ off 1 + 256 ≤ 256 * h.val + n.val; omega)
  · exact View.read_writes_cons_unit_of_not_mem _ _ _ _ _ _ rfl (1 : Fin 3)
      (by show 256 * h.val + n.val < off 1 ∨ off 1 + 256 ≤ 256 * h.val + n.val; omega)

theorem pList_read (a : Memref sig .tc .vmem S4x512x128 .bf16) (f : a.view.ty.Contents (Elt F)) (w : Fin 2 → Fin 4 → FVec F S1x256x128 .bf16)
    (h : Fin 2) (l : Fin 4) (n : Fin 256) (x : Fin 128) :
    a.view.read (Elt F) (a.view.writes (Elt F) f (pList w)) (ix3 l (key h n) x) = w h l (ix3 0 n x) :=
  match h, l with
  | 0, 0 => (p_miss a f _ ![3, 256, 0] _ _ 0 0 n x (by decide)).trans <| (p_miss a f _ ![2, 256, 0] _ _ 0 0 n x (by decide)).trans <|
      (p_miss a f _ ![1, 256, 0] _ _ 0 0 n x (by decide)).trans <| (p_miss a f _ ![0, 256, 0] _ _ 0 0 n x (by decide)).trans <|
      (p_miss a f _ ![3, 0, 0] _ _ 0 0 n x (by decide)).trans <| (p_miss a f _ ![2, 0, 0] _ _ 0 0 n x (by decide)).trans <|
      (p_miss a f _ ![1, 0, 0] _ _ 0 0 n x (by decide)).trans <| p_hit a f _ ![0, 0, 0] _ _ 0 0 x rfl
  | 0, 1 => (p_miss a f _ ![3, 256, 0] _ _ 0 1 n x (by decide)).trans <| (p_miss a f _ ![2, 256, 0] _ _ 0 1 n x (by decide)).trans <|
      (p_miss a f _ ![1, 256, 0] _ _ 0 1 n x (by decide)).trans <| (p_miss a f _ ![0, 256, 0] _ _ 0 1 n x (by decide)).trans <|
      (p_miss a f _ ![3, 0, 0] _ _ 0 1 n x (by decide)).trans <| (p_miss a f _ ![2, 0, 0] _ _ 0 1 n x (by decide)).trans <| p_hit a f _ ![1, 0, 0] _ _ 0 1 x rfl
  | 0, 2 => (p_miss a f _ ![3, 256, 0] _ _ 0 2 n x (by decide)).trans <| (p_miss a f _ ![2, 256, 0] _ _ 0 2 n x (by decide)).trans <|
      (p_miss a f _ ![1, 256, 0] _ _ 0 2 n x (by decide)).trans <| (p_miss a f _ ![0, 256, 0] _ _ 0 2 n x (by decide)).trans <|
      (p_miss a f _ ![3, 0, 0] _ _ 0 2 n x (by decide)).trans <| p_hit a f _ ![2, 0, 0] _ _ 0 2 x rfl
  | 0, 3 => (p_miss a f _ ![3, 256, 0] _ _ 0 3 n x (by decide)).trans <| (p_miss a f _ ![2, 256, 0] _ _ 0 3 n x (by decide)).trans <|
      (p_miss a f _ ![1, 256, 0] _ _ 0 3 n x (by decide)).trans <| (p_miss a f _ ![0, 256, 0] _ _ 0 3 n x (by decide)).trans <| p_hit a f _ ![3, 0, 0] _ _ 0 3 x rfl
  | 1, 0 => (p_miss a f _ ![3, 256, 0] _ _ 1 0 n x (by decide)).trans <| (p_miss a f _ ![2, 256, 0] _ _ 1 0 n x (by decide)).trans <|
      (p_miss a f _ ![1, 256, 0] _ _ 1 0 n x (by decide)).trans <| p_hit a f _ ![0, 256, 0] _ _ 1 0 x rfl
  | 1, 1 => (p_miss a f _ ![3, 256, 0] _ _ 1 1 n x (by decide)).trans <| (p_miss a f _ ![2, 256, 0] _ _ 1 1 n x (by decide)).trans <| p_hit a f _ ![1, 256, 0] _ _ 1 1 x rfl
  | 1, 2 => (p_miss a f _ ![3, 256, 0] _ _ 1 2 n x (by decide)).trans <| p_hit a f _ ![2, 256, 0] _ _ 1 2 x rfl
  | 1, 3 => p_hit a f _ ![3, 256, 0] _ _ 1 3 x rfl

/-- A piece of the weighted block, loaded. -/
theorem p_load (a : Memref sig .tc .vmem S4x512x128 .bf16) (f : a.view.ty.Contents (Elt F)) (h : Fin 2) (l : Fin 4) (o p : Nat)
    (ho : o = l.val) (hp : p = 256 * h.val) (inb : ∀ b, (![o, p, 0] : Fin 3 → Nat) b + S1x256x128.size b ≤ S4x512x128.size b)
    (n : Fin 256) (x : Fin 128) :
    a.view.readAt (Elt F) (Rect.unit (s := S4x512x128) ![o, p, 0] S1x256x128.size inb).toLoadRect f (ix3 0 n x)
      = a.view.read (Elt F) f (ix3 l (key h n) x) := by
  refine congrArg (a.view.read (Elt F) f) (funext fun b => Fin.ext ?_)
  refine (Rect.idx_unit_val _ _ _ _ _).trans ?_
  fin_cases b <;> simp [key, ho, hp]

end

end Cert.AttnIdeal.Val
-- ==== Proof.AttnLists.lean ====
/-
  What the four kinds of trip store, in one shape: the running products with the last block added, the denominators with the
  block's weights added, the next block's scores in two halves, and the block's weights times the values' scales in eight
  pieces. The kinds differ in the offsets they read and in whether the weights are masked.
-/
module

public import proofs.«01_k».proof.Proof.AttnRead

@[expose] public section

set_option maxRecDepth 16384

noncomputable section

namespace Cert.AttnIdeal.Val

open Cert.AttnIdeal Cert.AttnIdeal.Gen Cert.AttnIdeal.Hand Idealize.ShloMosaic

variable {F : FTy → Type} [FloatOps F]

theorem slcs (l : Fin 4) : S1x512.Slices ![0, 128 * l.val] S1x128 := match l with
  | 0 => slices_S1x512_o0_0_S1x128
  | 1 => slices_S1x512_o0_128_S1x128
  | 2 => slices_S1x512_o0_256_S1x128
  | 3 => slices_S1x512_o0_384_S1x128

variable (R : Refs)

theorem sAt_inb (h : Fin 2) (l : Fin 4) : ∀ b, (![256 * h.val, 128 * l.val] : Fin 2 → Nat) b + S256x128.size b ≤ S512x512.size b := by
  intro b; fin_cases b <;> simp <;> omega

theorem pAt_inb (h : Fin 2) (l : Fin 4) : ∀ b, (![l.val, 256 * h.val, 0] : Fin 3 → Nat) b + S1x256x128.size b ≤ S4x512x128.size b := by
  intro b; fin_cases b <;> simp <;> omega

/-- The scores of half `h` of the keys for the queries of lane block `l`, loaded. -/
def sAt (f : Co F R.arg11) (h : Fin 2) (l : Fin 4) : Vec F S256x128 .f32 :=
  R.arg11.view.readAt (Elt F) (Rect.unit (s := S512x512) ![256 * h.val, 128 * l.val] S256x128.size (sAt_inb h l)).toLoadRect f

/-- The weighted block of half `h` of the keys for the queries of lane block `l`, loaded. -/
def pAt (f : Co F R.arg12) (h : Fin 2) (l : Fin 4) : Vec F S1x256x128 .bf16 :=
  R.arg12.view.readAt (Elt F) (Rect.unit (s := S4x512x128) ![l.val, 256 * h.val, 0] S1x256x128.size (pAt_inb h l)).toLoadRect f

/-- The running products, loaded. -/
def accAt (f : Co F R.arg9) : Vec F S128x512 .f32 :=
  R.arg9.view.readAt (Elt F) (Rect.unit (s := S128x512) ![0, 0] S128x512.size inb_S128x512_S128x512_0_0).toLoadRect f

theorem one9 {w w' : FVec F S128x512 .f32} (h : w = w') :
    ([⟨Rect.unit (s := S128x512) ![0, 0] S128x512.size inb_S128x512_S128x512_0_0, w⟩] : List (View.Piece (Elt F) S128x512 .f32))
      = [⟨Rect.unit (s := S128x512) ![0, 0] S128x512.size inb_S128x512_S128x512_0_0, w'⟩] := by rw [h]

theorem one13 {w w' : FVec F S1x512 .f32} (h : w = w') :
    ([⟨Rect.unit (s := S1x512) ![0, 0] S1x512.size inb_S1x512_S1x512_0_0, w⟩] : List (View.Piece (Elt F) S1x512 .f32))
      = [⟨Rect.unit (s := S1x512) ![0, 0] S1x512.size inb_S1x512_S1x512_0_0, w'⟩] := by rw [h]

/-- The shape of a trip's stores. -/
structure Lists (f9 : Co F R.arg9) (f10 : Co F R.arg10) (f12 : Co F R.arg12) (v : Fin 2 → Fin 2 → Vec F S1x1x1x128x128 .bf16)
    (w : Fin 2 → Fin 4 → FVec F S256x128 .f32) (vs : Fin 2 → FVec F S256x128 .f32) (q : FVec F S512x128 .bf16)
    (k : Fin 2 → Vec F S1x1x256x128 .bf16) (L9 : List (View.Piece (Elt F) S128x512 .f32)) (L10 : List (View.Piece (Elt F) S8x512 .f32))
    (L11 : List (View.Piece (Elt F) S512x512 .f32)) (L12 : List (View.Piece (Elt F) S4x512x128 .bf16)) : Prop where
  acc : L9 = [⟨Rect.unit (s := S128x512) ![0, 0] S128x512.size inb_S128x512_S128x512_0_0, accNext (accAt R f9) v (pAt R f12)⟩]
  den : L10 = denList R.arg10 f10 w
  sc : L11 = [⟨Rect.unit (s := S512x512) ![256, 0] S256x512.size inb_S512x512_S256x512_256_0, scores q (k 1)⟩,
    ⟨Rect.unit (s := S512x512) ![0, 0] S256x512.size inb_S512x512_S256x512_0_0, scores q (k 0)⟩]
  p : L12 = pList fun h l => pBlk (w h l) (vs h)

variable (c : Dev nD) (𝒱 : Variants) (bd : Option 𝒱.V) (X : Ins F R) (i : grid0.Coords) (a0 a1 arg17 arg18 : BitVec 32) (t : Fin k0_t4_loop.trips)
  (arg20 arg19 v113 v119 : BitVec 32) (v133 : BitVec 1) (v139 : Elt F .i32) (hw2 : k0_chk2 t v139)

/-- The offsets in force, loaded. -/
def mAt (f : Co F R.arg13) : Vec F S1x512 .f32 :=
  R.arg13.view.readAt (Elt F) (Rect.unit (s := S1x512) ![0, 0] S1x512.size inb_S1x512_S1x512_0_0).toLoadRect f

/-- The offsets a first trip sets, computed. -/
def mFirst (k : Fin (k0_t5_loop v139).trips) (h2 : k0_cond2 v139 k = 1#1) (f14 : Co F R.arg14) (f11 : Co F R.arg11) : FVec F S1x512 .f32 :=
  k0_pay12 arg17 a1 (R.arg11.view.readAt (Elt F) (Rect.unit (s := S512x512) ![0, 0] S16x512.size inb_S512x512_S16x512_0_0).toLoadRect f11)
    (R.arg6.view.readAt (Elt F) (Rect.unit (s := S1x12288x128) ![0, 0, 0] S1x16x128.size inb_S1x12288x128_S1x16x128_0_0_0).toLoadRect X.s)
    (R.arg7.view.readAt (Elt F) (Rect.unit (s := S1x1x5760) (k0_off15 t) S1x1x512.size (k0_off15_inb t v139 hw2 k h2)).toLoadRect X.p)
    (R.arg14.view.readAt (Elt F) (Rect.unit (s := S1x5760) (k0_off16 t) S1x512.size (k0_off16_inb t v139 hw2 k h2)).toLoadRect f14)

section
variable (k : Fin (k0_t5_loop v139).trips) (arg22 : BitVec 32)

/-! ### Unmasked blocks -/

section
variable (h3 : k0_cond3 v139 k (X.word (k0_off13 i t) (k0_off13_inb i t)) = 1#1) (hc4 : k0_chk4 v139 k arg22 (X.word (k0_off13 i t) (k0_off13_inb i t)))
  (hc3 : k0_chk3 t v139 k (X.word (k0_off13 i t) (k0_off13_inb i t)) (X.word (k0_off14 i t) (k0_off14_inb i t)))

/-- The values of the block before, loaded. -/
def vU (r₁ r₂ : Fin 2) : Vec F S1x1x1x128x128 .bf16 :=
  R.arg5.view.readAt (Elt F) (Rect.unit (s := S1x1x96x128x128) (k0_off19 arg22 (BitVec.ofNat 32 (2 * r₁.val)) (BitVec.ofNat 32 r₂.val)) S1x1x1x128x128.size
    (k0_off19_inb v139 k arg22 _ hc4 h3 r₁ r₂)).toLoadRect X.v

/-- The scales of the block's keys and values, loaded. -/
def cU (h : Fin 2) : Vec F S1x256x128 .f32 :=
  R.arg6.view.readAt (Elt F) (Rect.unit (s := S1x12288x128) (k0_off20 v139 k (BitVec.ofNat 32 (256 * h.val))) S1x256x128.size
    (k0_off20_inb v139 k arg22 _ hc4 h3 h)).toLoadRect X.s

/-- The queries the next scores are of, loaded. -/
def qU : FVec F S512x128 .bf16 :=
  shapeCast S512x128 (R.arg3.view.readAt (Elt F) (Rect.unit (s := S1x1x5760x128) (k0_off17 t v139 k (X.word (k0_off14 i t) (k0_off14_inb i t))) S1x1x512x128.size
    (k0_off17_inb t v139 k _ _ hc3 h3)).toLoadRect X.q) shapeCasts_S1x1x512x128_S512x128

/-- The keys the next scores are of, loaded. -/
def kU (h : Fin 2) : Vec F S1x1x256x128 .bf16 :=
  R.arg4.view.readAt (Elt F) (Rect.unit (s := S1x1x12288x128) (k0_off21 v139 k (X.word (k0_off14 i t) (k0_off14_inb i t)) (BitVec.ofNat 32 (256 * h.val))) S1x1x256x128.size
    (k0_off21_inb t v139 k _ _ hc3 h3 h)).toLoadRect X.k

/-- The block's weights. -/
def wU (m : Vec F S1x512 .f32) (f11 : Co F R.arg11) (h : Fin 2) (l : Fin 4) : FVec F S256x128 .f32 :=
  wtU (128 * l.val) (slcs l) m (k0_pay17 a1 (cU R X i t v139 k arg22 h3 hc4 h)) (sAt R f11 h l)

/-- The scales of the block's values. -/
def vsU (h : Fin 2) : FVec F S256x128 .f32 := k0_pay18 a1 (cU R X i t v139 k arg22 h3 hc4 h)

end

theorem tripU_lists (h2 : ¬ k0_cond2 v139 k = 1#1) (h3 : k0_cond3 v139 k (X.word (k0_off13 i t) (k0_off13_inb i t)) = 1#1) (h4 : ¬ k0_cond4 v139 k (X.word (k0_off13 i t) (k0_off13_inb i t)) = 1#1)
    (hc4 : k0_chk4 v139 k arg22 (X.word (k0_off13 i t) (k0_off13_inb i t)))
    (hc3 : k0_chk3 t v139 k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13) :
    Lists R f9 f10 f12 (vU R X i t v139 k arg22 h3 hc4) (wU R X i a1 t v139 k arg22 h3 hc4 (mAt R f13) f11) (vsU R X i a1 t v139 k arg22 h3 hc4)
      (qU R X i t v139 k h3 hc3) (kU R X i t v139 k h3 hc3) (tripU R c 𝒱 bd X i a0 a1 arg17 arg18 t arg20 arg19 v113 v119 v133 v139 hw2 k arg22 h2 h3 h4 hc4 hc3 f14 f9 f10 f11 f12 f13).1 (tripU R c 𝒱 bd X i a0 a1 arg17 arg18 t arg20 arg19 v113 v119 v133 v139 hw2 k arg22 h2 h3 h4 hc4 hc3 f14 f9 f10 f11 f12 f13).2.1 (tripU R c 𝒱 bd X i a0 a1 arg17 arg18 t arg20 arg19 v113 v119 v133 v139 hw2 k arg22 h2 h3 h4 hc4 hc3 f14 f9 f10 f11 f12 f13).2.2.1 (tripU R c 𝒱 bd X i a0 a1 arg17 arg18 t arg20 arg19 v113 v119 v133 v139 hw2 k arg22 h2 h3 h4 hc4 hc3 f14 f9 f10 f11 f12 f13).2.2.2.1 where
  acc := one9 (shapeCast_self _ _)
  den := rfl
  sc := rfl
  p := rfl

theorem tripFU_lists (h2 : k0_cond2 v139 k = 1#1) (h3 : k0_cond3 v139 k (X.word (k0_off13 i t) (k0_off13_inb i t)) = 1#1) (h4 : ¬ k0_cond4 v139 k (X.word (k0_off13 i t) (k0_off13_inb i t)) = 1#1)
    (hc4 : k0_chk4 v139 k arg22 (X.word (k0_off13 i t) (k0_off13_inb i t)))
    (hc3 : k0_chk3 t v139 k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13) :
    Lists R f9 f10 f12 (vU R X i t v139 k arg22 h3 hc4) (wU R X i a1 t v139 k arg22 h3 hc4 (R.arg13.view.readCov (tripFU R c 𝒱 bd X i a0 a1 arg17 arg18 t arg20 arg19 v113 v119 v133 v139 hw2 k arg22 h2 h3 h4 hc4 hc3 f14 f9 f10 f11 f12 f13).2.2.2.2.1 (Rect.unit (s := S1x512) ![0, 0] S1x512.size inb_S1x512_S1x512_0_0).toLoadRect) f11) (vsU R X i a1 t v139 k arg22 h3 hc4)
      (qU R X i t v139 k h3 hc3) (kU R X i t v139 k h3 hc3) (tripFU R c 𝒱 bd X i a0 a1 arg17 arg18 t arg20 arg19 v113 v119 v133 v139 hw2 k arg22 h2 h3 h4 hc4 hc3 f14 f9 f10 f11 f12 f13).1 (tripFU R c 𝒱 bd X i a0 a1 arg17 arg18 t arg20 arg19 v113 v119 v133 v139 hw2 k arg22 h2 h3 h4 hc4 hc3 f14 f9 f10 f11 f12 f13).2.1 (tripFU R c 𝒱 bd X i a0 a1 arg17 arg18 t arg20 arg19 v113 v119 v133 v139 hw2 k arg22 h2 h3 h4 hc4 hc3 f14 f9 f10 f11 f12 f13).2.2.1 (tripFU R c 𝒱 bd X i a0 a1 arg17 arg18 t arg20 arg19 v113 v119 v133 v139 hw2 k arg22 h2 h3 h4 hc4 hc3 f14 f9 f10 f11 f12 f13).2.2.2.1 where
  acc := one9 (shapeCast_self _ _)
  den := rfl
  sc := rfl
  p := rfl

theorem tripFU_offsets (h2 : k0_cond2 v139 k = 1#1) (h3 : k0_cond3 v139 k (X.word (k0_off13 i t) (k0_off13_inb i t)) = 1#1) (h4 : ¬ k0_cond4 v139 k (X.word (k0_off13 i t) (k0_off13_inb i t)) = 1#1)
    (hc4 : k0_chk4 v139 k arg22 (X.word (k0_off13 i t) (k0_off13_inb i t)))
    (hc3 : k0_chk3 t v139 k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13) :
    (tripFU R c 𝒱 bd X i a0 a1 arg17 arg18 t arg20 arg19 v113 v119 v133 v139 hw2 k arg22 h2 h3 h4 hc4 hc3 f14 f9 f10 f11 f12 f13).2.2.2.2.1 = [⟨Rect.unit (s := S1x512) ![0, 0] S1x512.size inb_S1x512_S1x512_0_0, mFirst R X a1 arg17 t v139 hw2 k h2 f14 f11⟩] :=
  one13 (shapeCast_self _ _)

/-! ### Masked blocks -/

section
variable (h4 : k0_cond4 v139 k (X.word (k0_off13 i t) (k0_off13_inb i t)) = 1#1) (hc4 : k0_chk4 v139 k arg22 (X.word (k0_off13 i t) (k0_off13_inb i t)))
  (hc3 : k0_chk3 t v139 k (X.word (k0_off13 i t) (k0_off13_inb i t)) (X.word (k0_off14 i t) (k0_off14_inb i t)))

/-- The values of the block before, loaded. -/
def vM (r₁ r₂ : Fin 2) : Vec F S1x1x1x128x128 .bf16 :=
  R.arg5.view.readAt (Elt F) (Rect.unit (s := S1x1x96x128x128) (k0_off24 arg22 (BitVec.ofNat 32 (2 * r₁.val)) (BitVec.ofNat 32 r₂.val)) S1x1x1x128x128.size
    (k0_off24_inb v139 k arg22 _ hc4 h4 r₁ r₂)).toLoadRect X.v

/-- The scales of the block's keys and values, loaded. -/
def cM (h : Fin 2) : Vec F S1x256x128 .f32 :=
  R.arg6.view.readAt (Elt F) (Rect.unit (s := S1x12288x128) (k0_off25 v139 k (BitVec.ofNat 32 (256 * h.val))) S1x256x128.size
    (k0_off25_inb v139 k arg22 _ hc4 h4 h)).toLoadRect X.s

/-- The queries the next scores are of, loaded. -/
def qM : FVec F S512x128 .bf16 :=
  shapeCast S512x128 (R.arg3.view.readAt (Elt F) (Rect.unit (s := S1x1x5760x128) (k0_off22 t v139 k (X.word (k0_off14 i t) (k0_off14_inb i t))) S1x1x512x128.size
    (k0_off22_inb t v139 k _ _ hc3 h4)).toLoadRect X.q) shapeCasts_S1x1x512x128_S512x128

/-- The keys the next scores are of, loaded. -/
def kM (h : Fin 2) : Vec F S1x1x256x128 .bf16 :=
  R.arg4.view.readAt (Elt F) (Rect.unit (s := S1x1x12288x128) (k0_off26 v139 k (X.word (k0_off14 i t) (k0_off14_inb i t)) (BitVec.ofNat 32 (256 * h.val))) S1x1x256x128.size
    (k0_off26_inb t v139 k _ _ hc3 h4 h)).toLoadRect X.k

/-- The positions of the tile's queries, loaded. -/
def posM : IVec S1x512 32 :=
  shapeCast S1x512 (R.arg7.view.readAt (Elt F) (Rect.unit (s := S1x1x5760) (k0_off23 t) S1x1x512.size (k0_off23_inb t)).toLoadRect X.p) shapeCasts_S1x1x512_S1x512

/-- The first key of a half of the block, as a word. -/
def keyM (h : Fin 2) : BitVec 32 := Scalar.addi (Scalar.muli (Scf.iv 0#32 1#32 k) 512#32) (BitVec.ofNat 32 (256 * h.val))

/-- The block's weights. -/
def wM (m : Vec F S1x512 .f32) (f11 : Co F R.arg11) (h : Fin 2) (l : Fin 4) : FVec F S256x128 .f32 :=
  wtM (128 * l.val) (slcs l) (posM R X t) (keyM v139 k h) m (k0_pay17 a1 (cM R X i t v139 k arg22 h4 hc4 h)) (sAt R f11 h l)

/-- The scales of the block's values. -/
def vsM (h : Fin 2) : FVec F S256x128 .f32 := k0_pay18 a1 (cM R X i t v139 k arg22 h4 hc4 h)

end

theorem tripM_lists (h2 : ¬ k0_cond2 v139 k = 1#1) (h3 : ¬ k0_cond3 v139 k (X.word (k0_off13 i t) (k0_off13_inb i t)) = 1#1) (h4 : k0_cond4 v139 k (X.word (k0_off13 i t) (k0_off13_inb i t)) = 1#1)
    (hc4 : k0_chk4 v139 k arg22 (X.word (k0_off13 i t) (k0_off13_inb i t)))
    (hc3 : k0_chk3 t v139 k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13) :
    Lists R f9 f10 f12 (vM R X i t v139 k arg22 h4 hc4) (wM R X i a1 t v139 k arg22 h4 hc4 (mAt R f13) f11) (vsM R X i a1 t v139 k arg22 h4 hc4)
      (qM R X i t v139 k h4 hc3) (kM R X i t v139 k h4 hc3) (tripM R c 𝒱 bd X i a0 a1 arg17 arg18 t arg20 arg19 v113 v119 v133 v139 hw2 k arg22 h2 h3 h4 hc4 hc3 f14 f9 f10 f11 f12 f13).1 (tripM R c 𝒱 bd X i a0 a1 arg17 arg18 t arg20 arg19 v113 v119 v133 v139 hw2 k arg22 h2 h3 h4 hc4 hc3 f14 f9 f10 f11 f12 f13).2.1 (tripM R c 𝒱 bd X i a0 a1 arg17 arg18 t arg20 arg19 v113 v119 v133 v139 hw2 k arg22 h2 h3 h4 hc4 hc3 f14 f9 f10 f11 f12 f13).2.2.1 (tripM R c 𝒱 bd X i a0 a1 arg17 arg18 t arg20 arg19 v113 v119 v133 v139 hw2 k arg22 h2 h3 h4 hc4 hc3 f14 f9 f10 f11 f12 f13).2.2.2.1 where
  acc := one9 (shapeCast_self _ _)
  den := rfl
  sc := rfl
  p := rfl

theorem tripFM_lists (h2 : k0_cond2 v139 k = 1#1) (h3 : ¬ k0_cond3 v139 k (X.word (k0_off13 i t) (k0_off13_inb i t)) = 1#1) (h4 : k0_cond4 v139 k (X.word (k0_off13 i t) (k0_off13_inb i t)) = 1#1)
    (hc4 : k0_chk4 v139 k arg22 (X.word (k0_off13 i t) (k0_off13_inb i t)))
    (hc3 : k0_chk3 t v139 k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13) :
    Lists R f9 f10 f12 (vM R X i t v139 k arg22 h4 hc4) (wM R X i a1 t v139 k arg22 h4 hc4 (R.arg13.view.readCov (tripFM R c 𝒱 bd X i a0 a1 arg17 arg18 t arg20 arg19 v113 v119 v133 v139 hw2 k arg22 h2 h3 h4 hc4 hc3 f14 f9 f10 f11 f12 f13).2.2.2.2.1 (Rect.unit (s := S1x512) ![0, 0] S1x512.size inb_S1x512_S1x512_0_0).toLoadRect) f11) (vsM R X i a1 t v139 k arg22 h4 hc4)
      (qM R X i t v139 k h4 hc3) (kM R X i t v139 k h4 hc3) (tripFM R c 𝒱 bd X i a0 a1 arg17 arg18 t arg20 arg19 v113 v119 v133 v139 hw2 k arg22 h2 h3 h4 hc4 hc3 f14 f9 f10 f11 f12 f13).1 (tripFM R c 𝒱 bd X i a0 a1 arg17 arg18 t arg20 arg19 v113 v119 v133 v139 hw2 k arg22 h2 h3 h4 hc4 hc3 f14 f9 f10 f11 f12 f13).2.1 (tripFM R c 𝒱 bd X i a0 a1 arg17 arg18 t arg20 arg19 v113 v119 v133 v139 hw2 k arg22 h2 h3 h4 hc4 hc3 f14 f9 f10 f11 f12 f13).2.2.1 (tripFM R c 𝒱 bd X i a0 a1 arg17 arg18 t arg20 arg19 v113 v119 v133 v139 hw2 k arg22 h2 h3 h4 hc4 hc3 f14 f9 f10 f11 f12 f13).2.2.2.1 where
  acc := one9 (shapeCast_self _ _)
  den := rfl
  sc := rfl
  p := rfl

theorem tripFM_offsets (h2 : k0_cond2 v139 k = 1#1) (h3 : ¬ k0_cond3 v139 k (X.word (k0_off13 i t) (k0_off13_inb i t)) = 1#1) (h4 : k0_cond4 v139 k (X.word (k0_off13 i t) (k0_off13_inb i t)) = 1#1)
    (hc4 : k0_chk4 v139 k arg22 (X.word (k0_off13 i t) (k0_off13_inb i t)))
    (hc3 : k0_chk3 t v139 k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13) :
    (tripFM R c 𝒱 bd X i a0 a1 arg17 arg18 t arg20 arg19 v113 v119 v133 v139 hw2 k arg22 h2 h3 h4 hc4 hc3 f14 f9 f10 f11 f12 f13).2.2.2.2.1 = [⟨Rect.unit (s := S1x512) ![0, 0] S1x512.size inb_S1x512_S1x512_0_0, mFirst R X a1 arg17 t v139 hw2 k h2 f14 f11⟩] :=
  one13 (shapeCast_self _ _)

end

end Cert.AttnIdeal.Val
-- ==== Proof.AttnReal.lean ====
/-
  Masked attention over the reals: one batch row and one key head. Keys, queries, values, scales and positions are functions
  of natural numbers, so that sums over blocks of keys are sums over ranges.
-/
module

public import Mathlib.Analysis.SpecialFunctions.Pow.Real
public import Mathlib.Data.EReal.Operations

@[expose] public section

noncomputable section

namespace Cert.AttnReal

open Finset

/-- The inputs of one batch row and one key head. -/
structure Data where
  /-- keys: key `n`, lane `d` -/
  K : ℕ → Fin 128 → ℝ
  /-- queries: row `r`, lane `d` -/
  Q : ℕ → Fin 128 → ℝ
  /-- values: lane `d` of key `n` -/
  V : Fin 128 → ℕ → ℝ
  /-- the keys' scales -/
  ks : ℕ → ℝ
  /-- the values' scales -/
  vs : ℕ → ℝ
  /-- the positions of the query rows -/
  pos : ℕ → ℕ
  /-- the first position of a tile -/
  first : ℕ → ℕ
  /-- the last position of a tile -/
  last : ℕ → ℕ

variable (D : Data)

/-- The raw score of key `n` for query row `r`. -/
def Data.score (n r : ℕ) : ℝ := ∑ d : Fin 128, D.K n d * D.Q r d

/-- The weight of key `n` for query row `r` at offset `μ`: a power of two, or nothing for a key past the row's position. -/
def Data.wt (μ : ℝ) (n r : ℕ) : ℝ := if n ≤ D.pos r then (2 : ℝ) ^ (D.score n r * D.ks n - μ) else 0

/-- The weighted sum of the first `N` values. -/
def Data.num (μ : ℝ) (N : ℕ) (d : Fin 128) (r : ℕ) : ℝ := ∑ n ∈ range N, D.V d n * (D.wt μ n r * D.vs n)

/-- The sum of the first `N` weights. -/
def Data.den (μ : ℝ) (N r : ℕ) : ℝ := ∑ n ∈ range N, D.wt μ n r

/-- Attention: the weighted mean over all the keys. -/
def Data.spec (d : Fin 128) (r : ℕ) : ℝ := D.num 0 12288 d r / D.den 0 12288 r

theorem Data.wt_shift (μ : ℝ) (n r : ℕ) : D.wt μ n r = 2 ^ (-μ) * D.wt 0 n r := by
  unfold Data.wt
  split
  · rw [← Real.rpow_add (by norm_num)]
    congr 1; ring
  · simp

theorem Data.wt_nonneg (μ : ℝ) (n r : ℕ) : 0 ≤ D.wt μ n r := by
  unfold Data.wt
  split
  · positivity
  · exact le_rfl

theorem Data.den_pos (μ : ℝ) {N : ℕ} (hN : 0 < N) (r : ℕ) : 0 < D.den μ N r := by
  refine sum_pos' (fun n _ => D.wt_nonneg μ n r) ⟨0, by simpa using hN, ?_⟩
  unfold Data.wt
  rw [if_pos (Nat.zero_le _)]
  positivity

/-- Keys past the row's position do not count. -/
theorem Data.sum_all {f : ℕ → ℝ} {N : ℕ} (hN : N ≤ 12288) (hf : ∀ n, N ≤ n → f n = 0) :
    ∑ n ∈ range N, f n = ∑ n ∈ range 12288, f n := by
  refine sum_subset (by intro a ha; simp only [mem_range] at *; omega) fun n _ hn => hf n ?_
  simpa using hn

theorem Data.wt_zero {μ : ℝ} {n r : ℕ} (h : D.pos r < n) : D.wt μ n r = 0 := if_neg (by omega)

/-- The offset cancels, and so do the keys that no row of the tile sees. -/
theorem Data.quotient (μ : ℝ) {N : ℕ} (hN : N ≤ 12288) (d : Fin 128) (r : ℕ) (hr : D.pos r < N) :
    D.num μ N d r * (1 / D.den μ N r) = D.spec d r := by
  have hw : ∀ ν n, N ≤ n → D.wt ν n r = 0 := fun ν n hn => D.wt_zero (by omega)
  have hnum : D.num μ N d r = 2 ^ (-μ) * D.num 0 12288 d r := by
    unfold Data.num
    rw [Data.sum_all (f := fun n => D.V d n * (D.wt μ n r * D.vs n)) hN (fun n hn => by simp [hw μ n hn]), mul_sum]
    exact sum_congr rfl fun n _ => by rw [D.wt_shift μ]; ring
  have hden : D.den μ N r = 2 ^ (-μ) * D.den 0 12288 r := by
    unfold Data.den
    rw [Data.sum_all (f := fun n => D.wt μ n r) hN (fun n hn => hw μ n hn), mul_sum]
    exact sum_congr rfl fun n _ => D.wt_shift μ n r
  rw [hnum, hden, Data.spec]
  have h2 : (2 : ℝ) ^ (-μ) ≠ 0 := by positivity
  have hd := (D.den_pos 0 (N := 12288) (by norm_num) r).ne'
  field_simp

/-- Another form of the same mean, as the reference takes it: any offset, weights in the quotient. -/
theorem Data.spec_eq (μ : ℝ) (d : Fin 128) (r : ℕ) (hr : D.pos r < 12288) :
    D.num μ 12288 d r / D.den μ 12288 r = D.spec d r := by
  rw [← D.quotient μ le_rfl d r hr, mul_one_div]

/-! ## Sums of reals among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-! ## Ranges cut into blocks -/

/-- A range of `M` more terms, in two halves. -/
theorem sum_range_halves (f : ℕ → ℝ) (N M : ℕ) :
    ∑ n ∈ range N, f n + ∑ c : Fin M, f (N + c.val) + ∑ c : Fin M, f (N + M + c.val) = ∑ n ∈ range (N + M + M), f n := by
  rw [sum_range_add f (N + M) M, sum_range_add f N M, sum_range (fun x => f (N + x)), sum_range (fun x => f (N + M + x))]

/-- Eight interleaved sums are the whole sum. -/
theorem sum_interleaved (f : ℕ → ℝ) (N : ℕ) : ∑ a : Fin 8, ∑ j ∈ range N, f (8 * j + a.val) = ∑ n ∈ range (8 * N), f n := by
  induction N with
  | zero => simp
  | succ N ih =>
    rw [show 8 * (N + 1) = 8 * N + 8 by ring, sum_range_add, ← ih, sum_range (fun x => f (8 * N + x)), ← sum_add_distrib]
    exact sum_congr rfl fun a _ => sum_range_succ _ _

end Cert.AttnReal
-- ==== Proof.AttnStep.lean ====
/-
  One trip over a block of keys, in real numbers: what the buffers hold before it, and that its stores bring them to what they
  hold before the next.
-/
module

public import proofs.«01_k».proof.Proof.AttnLists
public import proofs.«01_k».proof.Proof.AttnReal

@[expose] public section

set_option maxRecDepth 16384

noncomputable section

namespace Cert.AttnIdeal.Val

open Cert.AttnIdeal Cert.AttnIdeal.Gen Cert.AttnIdeal.Hand Cert.AttnReal Idealize.ShloMosaic

/-- What the buffers hold before trip `k` of tile `t`: the products of the blocks before the last, the denominators of the
    blocks so far in eight interleaved sums, the scores of the block that follows, the last block's weights times the values'
    scales, and the offsets in force. -/
structure Inv (D : Data) (R : Refs) (μ : Fin 512 → ℝ) (t k : ℕ) (f9 : Co Ideal R.arg9) (f10 : Co Ideal R.arg10) (f11 : Co Ideal R.arg11)
    (f12 : Co Ideal R.arg12) (f13 : Co Ideal R.arg13) : Prop where
  acc : ∀ d x, R.arg9.view.read (Elt Ideal) f9 (ix2 d x) = ((D.num (μ x) (512 * (k - 1)) d (row0 (min t 11) + x.val) : ℝ) : EReal)
  den : ∀ a x, R.arg10.view.read (Elt Ideal) f10 (ix2 a x)
    = ((∑ j ∈ Finset.range (64 * k), D.wt (μ x) (8 * j + a.val) (row0 (min t 11) + x.val) : ℝ) : EReal)
  sc : ∀ n x, R.arg11.view.read (Elt Ideal) f11 (ix2 n x)
    = ((D.score (512 * (if k = D.last (min t 11) / 512 + 1 then 0 else k) + n.val)
        (row0 (if k = D.last (min t 11) / 512 + 1 then min (min t 11 + 1) 11 else min t 11) + x.val) : ℝ) : EReal)
  p : ∀ l n y, R.arg12.view.read (Elt Ideal) f12 (ix3 l n y) = (((if k = 0 then 0 else
    D.wt (μ (col l y)) (512 * (k - 1) + n.val) (row0 (min t 11) + (col l y).val) * D.vs (512 * (k - 1) + n.val)) : ℝ) : EReal)
  m : 0 < k → ∀ x, R.arg13.view.read (Elt Ideal) f13 (ix2 0 x) = ((μ x : ℝ) : EReal)

/-- Before the first trip of a tile the offsets do not matter. -/
theorem Inv.fresh {D : Data} {R : Refs} {μ : Fin 512 → ℝ} {t : ℕ} {f9 : Co Ideal R.arg9} {f10 : Co Ideal R.arg10} {f11 : Co Ideal R.arg11}
    {f12 : Co Ideal R.arg12} {f13 : Co Ideal R.arg13} (h : Inv D R μ t 0 f9 f10 f11 f12 f13) (μ' : Fin 512 → ℝ) (f13' : Co Ideal R.arg13) :
    Inv D R μ' t 0 f9 f10 f11 f12 f13' where
  acc d x := (h.acc d x).trans (by simp [Data.num])
  den a x := (h.den a x).trans (by simp)
  sc := h.sc
  p l n y := (h.p l n y).trans (by simp)
  m h0 := absurd h0 (lt_irrefl 0)

theorem vCat_real (a b : Vec Ideal S1x1x1x128x128 .bf16) (f : ℕ → ℝ) (N : ℕ) (d : Fin 128)
    (ha : ∀ y, a (ix5 0 0 0 d y) = ((f (N + y.val) : ℝ) : EReal)) (hb : ∀ y, b (ix5 0 0 0 d y) = ((f (N + 128 + y.val) : ℝ) : EReal)) (c : Fin 256) :
    vCat a b (ix2 d c) = ((f (N + c.val) : ℝ) : EReal) := by
  rw [vCat_apply]
  split
  · exact ha _
  · rename_i h
    refine (hb _).trans (congrArg (fun z => ((f z : ℝ) : EReal)) ?_)
    simp only []; omega

theorem accNext_real (o : Vec Ideal S128x512 .f32) (v : Fin 2 → Fin 2 → Vec Ideal S1x1x1x128x128 .bf16) (p : Fin 2 → Fin 4 → Vec Ideal S1x256x128 .bf16)
    (f g : ℕ → ℝ) (O : ℝ) (N : ℕ) (d : Fin 128) (l : Fin 4) (y : Fin 128) (ho : o (ix2 d (col l y)) = (O : EReal))
    (hv : ∀ r₁ r₂ y, v r₁ r₂ (ix5 0 0 0 d y) = ((f (N + 256 * r₁.val + 128 * r₂.val + y.val) : ℝ) : EReal))
    (hp : ∀ h n, p h l (ix3 0 n y) = ((g (N + 256 * h.val + n.val) : ℝ) : EReal)) :
    accNext o v p (ix2 d (col l y)) = ((O + ∑ c : Fin 256, f (N + c.val) * g (N + c.val) + ∑ c : Fin 256, f (N + 256 + c.val) * g (N + 256 + c.val) : ℝ) : EReal) := by
  unfold accNext
  rw [addProd_apply, addProd_apply, ho, EReal.coe_add, EReal.coe_add, coe_sum, coe_sum]
  refine congrArg₂ (· + ·) (congrArg₂ (· + ·) rfl (Finset.sum_congr rfl fun c _ => ?_)) (Finset.sum_congr rfl fun c _ => ?_)
  · rw [vCat_real _ _ f N d (fun y => (hv 0 0 y).trans (by simp)) (fun y => (hv 0 1 y).trans (by simp)), pCat_apply (p 0), hp 0 c, EReal.coe_mul]
    simp
  · rw [vCat_real _ _ f (N + 256) d (fun y => (hv 1 0 y).trans (by simp)) (fun y => (hv 1 1 y).trans (by simp)), pCat_apply (p 1), hp 1 c, EReal.coe_mul]
    simp

theorem scores_real (q : FVec Ideal S512x128 .bf16) (k : Vec Ideal S1x1x256x128 .bf16) (D : Data) (a b : ℕ) (n : Fin 256) (x : Fin 512)
    (hq : ∀ d, q (ix2 x d) = ((D.Q b d : ℝ) : EReal)) (hk : ∀ d, k (ix4 0 0 n d) = ((D.K a d : ℝ) : EReal)) :
    scores q k (ix2 n x) = ((D.score a b : ℝ) : EReal) := by
  rw [scores_apply, Data.score, coe_sum]
  exact Finset.sum_congr rfl fun d _ => by rw [hq, hk, EReal.coe_mul]

theorem pAt_read (R : Refs) (f : Co Ideal R.arg12) (h : Fin 2) (l : Fin 4) (n : Fin 256) (y : Fin 128) :
    pAt R f h l (ix3 0 n y) = R.arg12.view.read (Elt Ideal) f (ix3 l (key h n) y) :=
  p_load R.arg12 f h l _ _ rfl rfl _ n y

theorem sAt_read (R : Refs) (f : Co Ideal R.arg11) (h : Fin 2) (l : Fin 4) (n : Fin 256) (y : Fin 128) :
    sAt R f h l (ix2 n y) = R.arg11.view.read (Elt Ideal) f (ix2 (key h n) (col l y)) :=
  score_load R.arg11 f h l _ _ rfl rfl _ n y

theorem accAt_read (R : Refs) (f : Co Ideal R.arg9) : accAt R f = R.arg9.view.read (Elt Ideal) f :=
  View.readAt_full _ _ _

/-- A trip. -/
theorem step {D : Data} {R : Refs} {μ : Fin 512 → ℝ} {t k : ℕ} (ht : t < 12) (hk : k ≤ D.last t / 512) {f9 : Co Ideal R.arg9} {f10 : Co Ideal R.arg10} {f11 : Co Ideal R.arg11}
    {f12 : Co Ideal R.arg12} {f13 f13' : Co Ideal R.arg13} (H : Inv D R μ t k f9 f10 f11 f12 f13)
    {v : Fin 2 → Fin 2 → Vec Ideal S1x1x1x128x128 .bf16} {w : Fin 2 → Fin 4 → FVec Ideal S256x128 .f32} {vs : Fin 2 → FVec Ideal S256x128 .f32}
    {q : FVec Ideal S512x128 .bf16} {kk : Fin 2 → Vec Ideal S1x1x256x128 .bf16} {L9 L10 L11 L12} (hL : Lists R f9 f10 f12 v w vs q kk L9 L10 L11 L12)
    (hv : ∀ d r₁ r₂ y, v r₁ r₂ (ix5 0 0 0 d y) = ((D.V d (512 * (k - 1) + 256 * r₁.val + 128 * r₂.val + y.val) : ℝ) : EReal))
    (hw : ∀ h l n y, w h l (ix2 n y) = ((D.wt (μ (col l y)) (512 * k + 256 * h.val + n.val) (row0 t + (col l y).val) : ℝ) : EReal))
    (hvs : ∀ h n y, vs h (ix2 n y) = ((D.vs (512 * k + 256 * h.val + n.val) : ℝ) : EReal))
    (hq : ∀ x d, q (ix2 x d) = ((D.Q (row0 (nextTile t k (D.last t / 512)) + x.val) d : ℝ) : EReal))
    (hkk : ∀ h n d, kk h (ix4 0 0 n d) = ((D.K (512 * nextBlock k (D.last t / 512) + 256 * h.val + n.val) d : ℝ) : EReal))
    (hm : ∀ x, R.arg13.view.read (Elt Ideal) f13' (ix2 0 x) = ((μ x : ℝ) : EReal)) :
    Inv D R μ t (k + 1) (R.arg9.view.writes (Elt Ideal) f9 L9) (R.arg10.view.writes (Elt Ideal) f10 L10) (R.arg11.view.writes (Elt Ideal) f11 L11)
      (R.arg12.view.writes (Elt Ideal) f12 L12) f13' := by
  have hmin : min t 11 = t := by omega
  rw [hL.acc, hL.den, hL.sc, hL.p]
  constructor
  · intro d x
    obtain ⟨l, y, rfl⟩ := exists_col x
    rw [View.read_writes_full]
    rw [accNext_real (accAt R f9) v (pAt R f12) (D.V d) (fun n => if k = 0 then 0 else D.wt (μ (col l y)) n (row0 t + (col l y).val) * D.vs n)
      (D.num (μ (col l y)) (512 * (k - 1)) d (row0 t + (col l y).val)) (512 * (k - 1)) d l y ?_ (hv d) ?_]
    · rw [hmin]
      refine congrArg _ ?_
      rcases Nat.eq_zero_or_pos k with rfl | hp
      · simp [Data.num]
      · have hk0 : k ≠ 0 := by omega
        simp only [hk0, if_false]
        unfold Data.num
        rw [sum_range_halves (fun n => D.V d n * (D.wt (μ (col l y)) n (row0 t + (col l y).val) * D.vs n)) (512 * (k - 1)) 256]
        rw [show 512 * (k - 1) + 256 + 256 = 512 * (k + 1 - 1) by omega]
    · rw [accAt_read, H.acc, hmin]
    · intro h n
      rw [pAt_read, H.p, hmin]
      simp only [key]
      refine congrArg _ ?_
      rw [Nat.add_assoc]
  · intro a x
    obtain ⟨l, y, rfl⟩ := exists_col x
    rw [denList_read, addDen_apply, addDen_apply, denAt_apply, H.den, hmin]
    have e : 64 * (k + 1) = 64 * k + 32 + 32 := by ring
    rw [e, ← sum_range_halves (fun j => D.wt (μ (col l y)) (8 * j + a.val) (row0 t + (col l y).val)) (64 * k) 32, EReal.coe_add, EReal.coe_add, coe_sum (Finset.univ),
      coe_sum (Finset.univ)]
    refine congrArg₂ (· + ·) (congrArg₂ (· + ·) rfl (Finset.sum_congr rfl fun j _ => ?_)) (Finset.sum_congr rfl fun j _ => ?_)
    · rw [hw]
      refine congrArg (fun z => ((D.wt _ z _ : ℝ) : EReal)) ?_
      simp; ring
    · rw [hw]
      refine congrArg (fun z => ((D.wt _ z _ : ℝ) : EReal)) ?_
      simp; ring
  · intro n x
    obtain ⟨h, n, rfl⟩ := exists_key n
    rw [halves_read R.arg11 f11 (fun h => scores q (kk h)) h n x, scores_real q (kk h) D _ _ n x (hq x) (hkk h n), hmin]
    refine congrArg₂ (fun a b => ((D.score a b : ℝ) : EReal)) ?_ ?_
    · unfold nextBlock key
      simp only [Nat.add_right_cancel_iff]; ring
    · unfold nextTile
      simp only [Nat.add_right_cancel_iff]
  · intro l n y
    obtain ⟨h, n, rfl⟩ := exists_key n
    rw [pList_read, pBlk_apply, hw, hvs, ← EReal.coe_mul, if_neg (by omega), hmin]
    simp only [key, Nat.add_sub_cancel, Nat.add_assoc]
  · exact fun _ => hm

end Cert.AttnIdeal.Val
-- ==== Proof.AttnFits.lean ====
/-
  What the buffers handed to the attention kernel hold, in real numbers, and what its loads read of them.
-/
module

public import proofs.«01_k».proof.Proof.AttnStep
public import proofs.«01_k».proof.Proof.AttnRun

@[expose] public section

set_option maxRecDepth 16384

noncomputable section

namespace Cert.AttnIdeal.Val

open Cert.AttnIdeal Cert.AttnIdeal.Gen Cert.AttnIdeal.Hand Cert.AttnReal Idealize.ShloMosaic

/-- The kernel's inputs hold real data: the queries, keys and values of one head, the scales of the head's keys and values in
    two lanes, the positions of the queries, and a table whose entries bound the positions of every tile. -/
structure Fits (D : Data) {R : Refs} (X : Ins Ideal R) (i : grid0.Coords) : Prop where
  lane : (i 1).val < 4
  q : ∀ (r : Fin 5760) d, R.arg3.view.read (Elt Ideal) X.q (ix4 0 0 r d) = ((D.Q r.val d : ℝ) : EReal)
  k : ∀ (n : Fin 12288) d, R.arg4.view.read (Elt Ideal) X.k (ix4 0 0 n d) = ((D.K n.val d : ℝ) : EReal)
  v : ∀ (c : Fin 96) d (n : Fin 128), R.arg5.view.read (Elt Ideal) X.v (ix5 0 0 c d n) = ((D.V d (128 * c.val + n.val) : ℝ) : EReal)
  ks : ∀ (n : Fin 12288) (j : Fin 128), j.val = (i 1).val → R.arg6.view.read (Elt Ideal) X.s (ix3 0 n j) = ((D.ks n.val : ℝ) : EReal)
  vs : ∀ (n : Fin 12288) (j : Fin 128), j.val = (i 1).val + 4 → R.arg6.view.read (Elt Ideal) X.s (ix3 0 n j) = ((D.vs n.val : ℝ) : EReal)
  p : ∀ r : Fin 5760, R.arg7.view.read (Elt Ideal) X.p (ix3 0 0 r) = BitVec.ofNat 32 (D.pos r.val)
  pos : ∀ r < 5760, D.pos r < 12288
  w12 : ∀ t : Fin k0_t4_loop.trips, (X.word (k0_off12 i t) (k0_off12_inb i t)).toNat = D.last t.val
  w13 : ∀ t : Fin k0_t4_loop.trips, (X.word (k0_off13 i t) (k0_off13_inb i t)).toNat = D.first t.val
  w14 : ∀ t : Fin k0_t4_loop.trips, (X.word (k0_off14 i t) (k0_off14_inb i t)).toNat = D.last t.val
  w4 : ∀ t : Fin k0_t1_loop.trips, (X.word (k0_off4 i t) (k0_off4_inb i t)).toNat = D.last t.val
  last : ∀ t < 12, D.last t < 12288
  firstLt : ∀ t < 12, D.first t < 12288
  ge : ∀ t < 12, ∀ x < 512, D.first t ≤ D.pos (row0 t + x)
  le : ∀ t < 12, ∀ x < 512, D.pos (row0 t + x) ≤ D.last t

/-! ## Loads -/

section
variable {R : Refs}

theorem q_load (f : Co Ideal R.arg3) {r : ℕ} {o : Fin 4 → ℕ} (ho : o = ![0, 0, r, 0]) (inb : ∀ a, o a + S1x1x512x128.size a ≤ S1x1x5760x128.size a)
    (x : Fin 512) (d : Fin 128) (hr : r + 512 ≤ 5760) :
    R.arg3.view.readAt (Elt Ideal) (Rect.unit (s := S1x1x5760x128) o S1x1x512x128.size inb).toLoadRect f (ix4 0 0 x d)
      = R.arg3.view.read (Elt Ideal) f (ix4 0 0 ⟨r + x.val, by omega⟩ d) := by
  subst ho
  refine congrArg (R.arg3.view.read (Elt Ideal) f) (funext fun b => Fin.ext ?_)
  refine (Rect.idx_unit_val _ _ _ _ _).trans ?_
  fin_cases b <;> simp

theorem k_load (f : Co Ideal R.arg4) {r : ℕ} {o : Fin 4 → ℕ} (ho : o = ![0, 0, r, 0]) (inb : ∀ a, o a + S1x1x256x128.size a ≤ S1x1x12288x128.size a)
    (x : Fin 256) (d : Fin 128) (hr : r + 256 ≤ 12288) :
    R.arg4.view.readAt (Elt Ideal) (Rect.unit (s := S1x1x12288x128) o S1x1x256x128.size inb).toLoadRect f (ix4 0 0 x d)
      = R.arg4.view.read (Elt Ideal) f (ix4 0 0 ⟨r + x.val, by omega⟩ d) := by
  subst ho
  refine congrArg (R.arg4.view.read (Elt Ideal) f) (funext fun b => Fin.ext ?_)
  refine (Rect.idx_unit_val _ _ _ _ _).trans ?_
  fin_cases b <;> simp

theorem v_load (f : Co Ideal R.arg5) {r : ℕ} {o : Fin 5 → ℕ} (ho : o = ![0, 0, r, 0, 0]) (inb : ∀ a, o a + S1x1x1x128x128.size a ≤ S1x1x96x128x128.size a)
    (d y : Fin 128) (hr : r < 96) :
    R.arg5.view.readAt (Elt Ideal) (Rect.unit (s := S1x1x96x128x128) o S1x1x1x128x128.size inb).toLoadRect f (ix5 0 0 0 d y)
      = R.arg5.view.read (Elt Ideal) f (ix5 0 0 ⟨r, hr⟩ d y) := by
  subst ho
  refine congrArg (R.arg5.view.read (Elt Ideal) f) (funext fun b => Fin.ext ?_)
  refine (Rect.idx_unit_val _ _ _ _ _).trans ?_
  fin_cases b <;> simp

theorem s_load (f : Co Ideal R.arg6) {r : ℕ} {o : Fin 3 → ℕ} (ho : o = ![0, r, 0]) (inb : ∀ a, o a + S1x256x128.size a ≤ S1x12288x128.size a)
    (n : Fin 256) (y : Fin 128) (hr : r + 256 ≤ 12288) :
    R.arg6.view.readAt (Elt Ideal) (Rect.unit (s := S1x12288x128) o S1x256x128.size inb).toLoadRect f (ix3 0 n y)
      = R.arg6.view.read (Elt Ideal) f (ix3 0 ⟨r + n.val, by omega⟩ y) := by
  subst ho
  refine congrArg (R.arg6.view.read (Elt Ideal) f) (funext fun b => Fin.ext ?_)
  refine (Rect.idx_unit_val _ _ _ _ _).trans ?_
  fin_cases b <;> simp

theorem s16_load (f : Co Ideal R.arg6) (inb : ∀ a, (![0, 0, 0] : Fin 3 → ℕ) a + S1x16x128.size a ≤ S1x12288x128.size a)
    (n : Fin 16) (y : Fin 128) :
    R.arg6.view.readAt (Elt Ideal) (Rect.unit (s := S1x12288x128) ![0, 0, 0] S1x16x128.size inb).toLoadRect f (ix3 0 n y)
      = R.arg6.view.read (Elt Ideal) f (ix3 0 ⟨n.val, by omega⟩ y) := by
  refine congrArg (R.arg6.view.read (Elt Ideal) f) (funext fun b => Fin.ext ?_)
  refine (Rect.idx_unit_val _ _ _ _ _).trans ?_
  fin_cases b <;> simp

theorem pos_load (f : Co Ideal R.arg7) {r : ℕ} {o : Fin 3 → ℕ} (ho : o = ![0, 0, r]) (inb : ∀ a, o a + S1x1x512.size a ≤ S1x1x5760.size a)
    (x : Fin 512) (hr : r + 512 ≤ 5760) :
    R.arg7.view.readAt (Elt Ideal) (Rect.unit (s := S1x1x5760) o S1x1x512.size inb).toLoadRect f (ix3 0 0 x)
      = R.arg7.view.read (Elt Ideal) f (ix3 0 0 ⟨r + x.val, by omega⟩) := by
  subst ho
  refine congrArg (R.arg7.view.read (Elt Ideal) f) (funext fun b => Fin.ext ?_)
  refine (Rect.idx_unit_val _ _ _ _ _).trans ?_
  fin_cases b <;> simp

theorem m_load (f : Co Ideal R.arg14) {r : ℕ} {o : Fin 2 → ℕ} (ho : o = ![0, r]) (inb : ∀ a, o a + S1x512.size a ≤ S1x5760.size a)
    (x : Fin 512) (hr : r + 512 ≤ 5760) :
    R.arg14.view.readAt (Elt Ideal) (Rect.unit (s := S1x5760) o S1x512.size inb).toLoadRect f (ix2 0 x)
      = R.arg14.view.read (Elt Ideal) f (ix2 0 ⟨r + x.val, by omega⟩) := by
  subst ho
  refine congrArg (R.arg14.view.read (Elt Ideal) f) (funext fun b => Fin.ext ?_)
  refine (Rect.idx_unit_val _ _ _ _ _).trans ?_
  fin_cases b <;> simp

theorem sc16_load (f : Co Ideal R.arg11) (inb : ∀ a, (![0, 0] : Fin 2 → ℕ) a + S16x512.size a ≤ S512x512.size a) (n : Fin 16) (x : Fin 512) :
    R.arg11.view.readAt (Elt Ideal) (Rect.unit (s := S512x512) ![0, 0] S16x512.size inb).toLoadRect f (ix2 n x)
      = R.arg11.view.read (Elt Ideal) f (ix2 ⟨n.val, by omega⟩ x) := by
  refine congrArg (R.arg11.view.read (Elt Ideal) f) (funext fun b => Fin.ext ?_)
  refine (Rect.idx_unit_val _ _ _ _ _).trans ?_
  fin_cases b <;> simp

theorem rows_apply (v : Vec Ideal S1x1x512x128 .bf16) (x : Fin 512) (d : Fin 128) :
    shapeCast S512x128 v shapeCasts_S1x1x512x128_S512x128 (ix2 x d) = v (ix4 0 0 x d) := by
  pointwise

theorem line_apply (v : Vec Ideal S1x1x512 .i32) (x : Fin 512) :
    shapeCast S1x512 v shapeCasts_S1x1x512_S1x512 (ix2 0 x) = v (ix3 0 0 x) := by
  pointwise

end

/-! ## Weights -/

/-- A weight of a key the query sees. -/
theorem wt_seen (D : Data) (μ : ℝ) {n r : ℕ} (h : n ≤ D.pos r) :
    Ideal.exp2 (((D.score n r : ℝ) : EReal) * ((D.ks n : ℝ) : EReal) - ((μ : ℝ) : EReal)) = ((D.wt μ n r : ℝ) : EReal) := by
  rw [← EReal.coe_mul, ← EReal.coe_sub, Ideal.exp2_coe, Data.wt, if_pos h]
  rfl

/-- A weight of a key that may be past the query's position. -/
theorem wt_masked (D : Data) (μ : ℝ) {n r : ℕ} {a b : BitVec 32} (ha : a = BitVec.ofNat 32 n) (hb : b = BitVec.ofNat 32 (D.pos r)) (hn : n < 2 ^ 31) (hp : D.pos r < 2 ^ 31) :
    Ideal.exp2 (Scalar.select (IntOp.cmpi .sgt a b) ⊥ (((D.score n r : ℝ) : EReal) * ((D.ks n : ℝ) : EReal)) - ((μ : ℝ) : EReal)) = ((D.wt μ n r : ℝ) : EReal) := by
  subst ha hb
  by_cases h : D.pos r < n
  · rw [(WordCmp.cmpi_sgt_ofNat_eq_one_iff hn hp).mpr h, Data.wt, if_neg (by omega)]
    show Ideal.exp2 (⊥ - ((μ : ℝ) : EReal)) = _
    rw [EReal.bot_sub, Ideal.exp2_bot]
    rfl
  · rw [(WordCmp.cmpi_sgt_ofNat_eq_zero_iff hn hp).mpr h]
    exact wt_seen D μ (by omega)

theorem vsLane_apply (j : Nat) (hj : j < 4) (v : Vec Ideal S1x256x128 .f32) (n : Fin 256) (x : Fin 128) :
    k0_pay18 (F := Ideal) (BitVec.ofNat 32 j) v (ix2 n x) = v (ix3 0 n ⟨j + 4, by omega⟩) := by
  have e : Scalar.addi (BitVec.ofNat 32 j) 4#32 = BitVec.ofNat 32 (j + 4) := by interval_cases j <;> rfl
  refine Eq.trans ?_ (lane_apply (j + 4) (by omega) v n x)
  rw [← e]
  rfl

end Cert.AttnIdeal.Val
-- ==== Proof.AttnMax.lean ====
/-
  The offsets are real: a maximum of masked scores is a real number as soon as one of them is not masked.
-/
module

public import proofs.«01_k».proof.Proof.AttnStep

@[expose] public section

set_option maxRecDepth 16384

noncomputable section

namespace Cert.AttnIdeal.Val

open Cert.AttnIdeal Cert.AttnIdeal.Gen Cert.AttnIdeal.Hand Cert.AttnReal Idealize.ShloMosaic

theorem bit_cases (b : BitVec 1) : b = 0#1 ∨ b = 1#1 := by revert b; decide

theorem select_one {α : Type} (x y : α) : Scalar.select 1#1 x y = x := rfl
theorem select_zero {α : Type} (x y : α) : Scalar.select 0#1 x y = y := rfl

theorem exists_real {z : EReal} (h1 : z ≠ ⊤) (h2 : z ≠ ⊥) : ∃ r : ℝ, z = (r : EReal) := ⟨z.toReal, (EReal.coe_toReal h1 h2).symm⟩

/-- A maximum of masked real numbers. -/
theorem masked_ne_top {N : ℕ} (b : Fin N → BitVec 1) (v : Fin N → EReal) (hv : ∀ x, ∃ r : ℝ, v x = (r : EReal)) :
    Finset.fold max (Ideal.ofBits .f32 0xFF800000#32) (fun x => Scalar.select (b x) (Ideal.ofBits .f32 0xFF800000#32) (v x)) Finset.univ ≠ ⊤ := by
  rw [ofBits_negInf]
  refine ne_of_lt (Finset.fold_max_lt _ |>.mpr ⟨bot_lt_top, fun x _ => ?_⟩)
  obtain ⟨r, hr⟩ := hv x
  rcases bit_cases (b x) with h | h
  · rw [h, select_zero, hr]; exact EReal.coe_lt_top r
  · rw [h, select_one]; exact bot_lt_top

theorem masked_ne_bot {N : ℕ} (b : Fin N → BitVec 1) (v : Fin N → EReal) (hv : ∀ x, ∃ r : ℝ, v x = (r : EReal)) (x : Fin N) (hx : b x = 0#1) :
    Finset.fold max (Ideal.ofBits .f32 0xFF800000#32) (fun x => Scalar.select (b x) (Ideal.ofBits .f32 0xFF800000#32) (v x)) Finset.univ ≠ ⊥ := by
  rw [ofBits_negInf]
  obtain ⟨r, hr⟩ := hv x
  refine ne_of_gt (Finset.lt_fold_max _ |>.mpr (Or.inr ⟨x, Finset.mem_univ x, ?_⟩))
  rw [hx, select_zero, hr]; exact EReal.bot_lt_coe r

/-- The lane the kernel looks up. -/
theorem lane_val {j : ℕ} (hj : j < 4) :
    (Scalar.select (IntOp.cmpi .slt (BitVec.ofNat 32 j) 0#32) (IntOp.addi (BitVec.ofNat 32 j) 128#32) (BitVec.ofNat 32 j)).toNat % 128 = j := by
  interval_cases j <;> decide

theorem mul_real {x y : EReal} (hx : ∃ r : ℝ, x = (r : EReal)) (hy : ∃ r : ℝ, y = (r : EReal)) : ∃ r : ℝ, x * y = (r : EReal) := by
  obtain ⟨r, rfl⟩ := hx
  obtain ⟨r', rfl⟩ := hy
  exact ⟨r * r', (EReal.coe_mul _ _).symm⟩

theorem sum_real {N : ℕ} (f : Fin N → EReal) (hf : ∀ x, ∃ r : ℝ, f x = (r : EReal)) : ∃ r : ℝ, (∑ x, f x) = (r : EReal) := by
  choose g hg using hf
  exact ⟨∑ x, g x, by rw [coe_sum]; exact Finset.sum_congr rfl fun x _ => hg x⟩

/-- Key 0 is masked for no query. -/
theorem zero_unmasked {w : BitVec 32} (h : ∃ n : ℕ, n < 2 ^ 31 ∧ w = BitVec.ofNat 32 n) : IntOp.cmpi .sgt (0#32) w = 0#1 := by
  obtain ⟨n, hn, rfl⟩ := h
  exact (WordCmp.cmpi_sgt_ofNat_eq_zero_iff (a := 0) (by decide) (by omega)).mpr (by omega)

theorem ceil_real {N : ℕ} (c : BitVec 1) (b : Fin N → BitVec 1) (v : Fin N → EReal) (M : EReal) (hM : ∃ r : ℝ, M = (r : EReal))
    (hv : ∀ x, ∃ r : ℝ, v x = (r : EReal)) (x : Fin N) (hx : b x = 0#1) :
    ∃ r : ℝ, Scalar.select c (Ideal.liftRound Int.ceil (Finset.fold max (Ideal.ofBits .f32 0xFF800000#32)
      (fun x => Scalar.select (b x) (Ideal.ofBits .f32 0xFF800000#32) (v x)) Finset.univ)) M = (r : EReal) := by
  rcases bit_cases c with h | h
  · rw [h, select_zero]; exact hM
  · rw [h, select_one]
    obtain ⟨r, hr⟩ := exists_real (masked_ne_top b v hv) (masked_ne_bot b v hv x hx)
    rw [hr]
    exact ⟨_, rfl⟩

theorem max_real {N : ℕ} (b : Fin N → BitVec 1) (v : Fin N → EReal) (M : EReal) (h1 : M ≠ ⊤) (hv : ∀ x, ∃ r : ℝ, v x = (r : EReal))
    (h2 : M ≠ ⊥ ∨ ∃ x, b x = 0#1) :
    max M (Finset.fold max (Ideal.ofBits .f32 0xFF800000#32) (fun x => Scalar.select (b x) (Ideal.ofBits .f32 0xFF800000#32) (v x)) Finset.univ) ≠ ⊤ ∧
    max M (Finset.fold max (Ideal.ofBits .f32 0xFF800000#32) (fun x => Scalar.select (b x) (Ideal.ofBits .f32 0xFF800000#32) (v x)) Finset.univ) ≠ ⊥ := by
  have ht := masked_ne_top b v hv
  refine ⟨ne_of_lt (max_lt (lt_top_iff_ne_top.mpr h1) (lt_top_iff_ne_top.mpr ht)), ?_⟩
  rcases h2 with h2 | ⟨x, hx⟩
  · exact ne_of_gt (lt_of_lt_of_le (bot_lt_iff_ne_bot.mpr h2) (le_max_left _ _))
  · exact ne_of_gt (lt_of_lt_of_le (bot_lt_iff_ne_bot.mpr (masked_ne_bot b v hv x hx)) (le_max_right _ _))

/-- The offsets a first trip sets are real. -/
theorem mFirst_real (a : BitVec 32) {j : ℕ} (hj : j < 4) (s : Vec Ideal S16x512 .f32) (c : Vec Ideal S1x16x128 .f32) (p : Vec Ideal S1x1x512 .i32) (m : Vec Ideal S1x512 .f32)
    (hs : ∀ n x, ∃ r : ℝ, s (ix2 n x) = (r : EReal)) (hc : ∀ n (x : Fin 128), x.val = j → ∃ r : ℝ, c (ix3 0 n x) = (r : EReal))
    (hp : ∀ x, ∃ n : ℕ, n < 2 ^ 31 ∧ p (ix3 0 0 x) = BitVec.ofNat 32 n) (hm : ∀ x, ∃ r : ℝ, m (ix2 0 x) = (r : EReal)) (x : Fin 512) :
    ∃ r : ℝ, k0_pay12 a (BitVec.ofNat 32 j) s c p m (ix2 0 x) = (r : EReal) := by
  obtain ⟨l, y, rfl⟩ := exists_col x
  unfold k0_pay12 col
  fin_cases l <;> pointwise <;>
    refine ceil_real _ _ _ _ (hm _) (fun n => ?_) (0 : Fin 16) ?_
  all_goals first
    | exact zero_unmasked (hp _)
    | (repeat' split) <;> exact mul_real (hs _ _) (hc _ _ (by exact lane_val hj))

/-- A step of the running maximum. -/
theorem maxStep_real {v : Elt Ideal .i32} (k : Fin (k0_t2_loop v).trips) {j : ℕ} (hj : j < 4) (q : FVec Ideal S512x128 .bf16) (p : IVec S1x512 32) (acc : Vec Ideal S1x512 .f32)
    (kk : Vec Ideal S1x1x256x128 .bf16) (c : Vec Ideal S1x256x128 .f32)
    (hq : ∀ x d, ∃ r : ℝ, q (ix2 x d) = (r : EReal)) (hk : ∀ n d, ∃ r : ℝ, kk (ix4 0 0 n d) = (r : EReal)) (hc : ∀ n (x : Fin 128), x.val = j → ∃ r : ℝ, c (ix3 0 n x) = (r : EReal))
    (hp : ∀ x, ∃ n : ℕ, n < 2 ^ 31 ∧ p (ix2 0 x) = BitVec.ofNat 32 n) (x : Fin 512) (h1 : acc (ix2 0 x) ≠ (⊤ : EReal)) (h2 : k.val ≠ 0 → acc (ix2 0 x) ≠ (⊥ : EReal)) :
    k0_pay184 (BitVec.ofNat 32 j) q p v 0#32 k acc kk c (ix2 0 x) ≠ (⊤ : EReal) ∧ k0_pay184 (BitVec.ofNat 32 j) q p v 0#32 k acc kk c (ix2 0 x) ≠ (⊥ : EReal) := by
  obtain ⟨l, y, rfl⟩ := exists_col x
  revert h1 h2
  unfold k0_pay184 col
  fin_cases l <;> pointwise <;> intro h1 h2 <;>
    refine max_real _ _ _ h1 (fun n => ?_) ?_
  all_goals first
    | (repeat' split) <;> exact mul_real (sum_real _ fun d => mul_real (hk _ _) (hq _ _)) (hc _ _ (by exact lane_val hj))
    | by_cases h0 : k.val = 0
      · exact Or.inr ⟨(0 : Fin 256), by rw [h0]; exact zero_unmasked (hp _)⟩
      · exact Or.inl (h2 h0)

end Cert.AttnIdeal.Val
-- ==== Proof.AttnTrips.lean ====
/-
  Every trip over a block of keys keeps the statement of its buffers, whether the block's weights are masked or not.
-/
module

public import proofs.«01_k».proof.Proof.AttnFits
public import proofs.«01_k».proof.Proof.AttnMax

@[expose] public section

set_option maxRecDepth 16384

noncomputable section

namespace Cert.AttnIdeal.Val

open Cert.AttnIdeal Cert.AttnIdeal.Gen Cert.AttnIdeal.Hand Cert.AttnReal Idealize.ShloMosaic

section
variable {D : Data} {R : Refs} {X : Ins Ideal R} {i : grid0.Coords} (F : Fits D X i) (t : Fin k0_t4_loop.trips)

include F in
/-- The number of the tile's last block, and that its trips run up to it. -/
theorem Fits.trip_le (k : Fin (k0_t5_loop (X.word (k0_off12 i t) (k0_off12_inb i t))).trips) : k.val ≤ D.last t.val / 512 := by
  have := t5_le (F.w12 t ▸ F.last t.val (t4_lt t)) k
  rwa [F.w12 t] at this

variable (k : Fin (k0_t5_loop (X.word (k0_off12 i t) (k0_off12_inb i t))).trips)

include F in
theorem Fits.small12 : (X.word (k0_off12 i t) (k0_off12_inb i t)).toNat < 12288 := F.w12 t ▸ F.last t.val (t4_lt t)
include F in
theorem Fits.small13 : (X.word (k0_off13 i t) (k0_off13_inb i t)).toNat < 12288 := F.w13 t ▸ F.firstLt t.val (t4_lt t)
include F in
theorem Fits.same14 : (X.word (k0_off14 i t) (k0_off14_inb i t)).toNat = (X.word (k0_off12 i t) (k0_off12_inb i t)).toNat := (F.w14 t).trans (F.w12 t).symm

/-! ### What both kinds of trip load -/

include F in
theorem Fits.vAt {o : Fin 5 → ℕ} (r₁ r₂ : Fin 2) {c : ℕ} (hc : c < 24) (ho : o = ![0, 0, 4 * c + 2 * r₁.val + r₂.val, 0, 0])
    (inb : ∀ a, o a + S1x1x1x128x128.size a ≤ S1x1x96x128x128.size a) (d y : Fin 128) :
    R.arg5.view.readAt (Elt Ideal) (Rect.unit (s := S1x1x96x128x128) o S1x1x1x128x128.size inb).toLoadRect X.v (ix5 0 0 0 d y)
      = ((D.V d (512 * c + 256 * r₁.val + 128 * r₂.val + y.val) : ℝ) : EReal) := by
  rw [v_load X.v ho inb d y (by omega), F.v]
  refine congrArg (fun z => ((D.V d z : ℝ) : EReal)) ?_
  simp only []; omega

include F in
theorem Fits.ksAt {o : Fin 3 → ℕ} {r : ℕ} (ho : o = ![0, r, 0]) (hr : r + 256 ≤ 12288) (inb : ∀ a, o a + S1x256x128.size a ≤ S1x12288x128.size a) (n : Fin 256) (y : Fin 128) :
    k0_pay17 (F := Ideal) (w1 i) (R.arg6.view.readAt (Elt Ideal) (Rect.unit (s := S1x12288x128) o S1x256x128.size inb).toLoadRect X.s) (ix2 n y)
      = ((D.ks (r + n.val) : ℝ) : EReal) := by
  rw [lane_apply _ (Nat.lt_of_lt_of_le F.lane (by decide)), s_load X.s ho inb _ _ hr, F.ks _ _ rfl]

include F in
theorem Fits.vsAt {o : Fin 3 → ℕ} {r : ℕ} (ho : o = ![0, r, 0]) (hr : r + 256 ≤ 12288) (inb : ∀ a, o a + S1x256x128.size a ≤ S1x12288x128.size a) (n : Fin 256) (y : Fin 128) :
    k0_pay18 (F := Ideal) (w1 i) (R.arg6.view.readAt (Elt Ideal) (Rect.unit (s := S1x12288x128) o S1x256x128.size inb).toLoadRect X.s) (ix2 n y)
      = ((D.vs (r + n.val) : ℝ) : EReal) := by
  rw [vsLane_apply _ F.lane, s_load X.s ho inb _ _ hr, F.vs _ _ rfl]

include F in
theorem Fits.qAt {o : Fin 4 → ℕ} {r : ℕ} (ho : o = ![0, 0, r, 0]) (hr : r + 512 ≤ 5760) (inb : ∀ a, o a + S1x1x512x128.size a ≤ S1x1x5760x128.size a) (x : Fin 512) (d : Fin 128) :
    shapeCast S512x128 (R.arg3.view.readAt (Elt Ideal) (Rect.unit (s := S1x1x5760x128) o S1x1x512x128.size inb).toLoadRect X.q) shapeCasts_S1x1x512x128_S512x128 (ix2 x d)
      = ((D.Q (r + x.val) d : ℝ) : EReal) := by
  rw [rows_apply, q_load X.q ho inb _ _ hr, F.q]

include F in
theorem Fits.kAt {o : Fin 4 → ℕ} {r : ℕ} (ho : o = ![0, 0, r, 0]) (hr : r + 256 ≤ 12288) (inb : ∀ a, o a + S1x1x256x128.size a ≤ S1x1x12288x128.size a) (n : Fin 256) (d : Fin 128) :
    R.arg4.view.readAt (Elt Ideal) (Rect.unit (s := S1x1x12288x128) o S1x1x256x128.size inb).toLoadRect X.k (ix4 0 0 n d) = ((D.K (r + n.val) d : ℝ) : EReal) := by
  rw [k_load X.k ho inb _ _ hr, F.k]

include F in
theorem Fits.posAt {o : Fin 3 → ℕ} {r : ℕ} (ho : o = ![0, 0, r]) (hr : r + 512 ≤ 5760) (inb : ∀ a, o a + S1x1x512.size a ≤ S1x1x5760.size a) (x : Fin 512) :
    R.arg7.view.readAt (Elt Ideal) (Rect.unit (s := S1x1x5760) o S1x1x512.size inb).toLoadRect X.p (ix3 0 0 x) = BitVec.ofNat 32 (D.pos (r + x.val)) := by
  rw [pos_load X.p ho inb _ hr, F.p]

variable {μ : Fin 512 → ℝ} {f9 : Co Ideal R.arg9} {f10 : Co Ideal R.arg10} {f11 : Co Ideal R.arg11} {f12 : Co Ideal R.arg12} {f13 f13' : Co Ideal R.arg13}
  (H : Inv D R μ t.val k.val f9 f10 f11 f12 f13)

include F H in
/-- The scores of the block at hand. -/
theorem scoreAt (h : Fin 2) (l : Fin 4) (n : Fin 256) (y : Fin 128) :
    sAt R f11 h l (ix2 n y) = ((D.score (512 * k.val + 256 * h.val + n.val) (row0 t.val + (col l y).val) : ℝ) : EReal) := by
  have hk := F.trip_le t k
  have hmin : min t.val 11 = t.val := by have := t4_lt t; omega
  rw [sAt_read, H.sc, hmin, if_neg (by omega), if_neg (by omega)]
  exact congrArg (fun z => ((D.score z _ : ℝ) : EReal)) (by simp only [key]; omega)

variable {m : Vec Ideal S1x512 .f32} (hm : ∀ x, m (ix2 0 x) = ((μ x : ℝ) : EReal)) (hm' : ∀ x, R.arg13.view.read (Elt Ideal) f13' (ix2 0 x) = ((μ x : ℝ) : EReal))
  {L9 : List (View.Piece (Elt Ideal) S128x512 .f32)} {L10 : List (View.Piece (Elt Ideal) S8x512 .f32)}
    {L11 : List (View.Piece (Elt Ideal) S512x512 .f32)} {L12 : List (View.Piece (Elt Ideal) S4x512x128 .bf16)}

include F H hm hm' in
/-- A trip over a block every query of the tile sees. -/
theorem stepU (h3 : k0_cond3 (X.word (k0_off12 i t) (k0_off12_inb i t)) k (X.word (k0_off13 i t) (k0_off13_inb i t)) = 1#1)
    (hc4 : k0_chk4 (X.word (k0_off12 i t) (k0_off12_inb i t)) k (BitVec.ofNat 32 (k.val - 1)) (X.word (k0_off13 i t) (k0_off13_inb i t)))
    (hc3 : k0_chk3 t (X.word (k0_off12 i t) (k0_off12_inb i t)) k (X.word (k0_off13 i t) (k0_off13_inb i t)) (X.word (k0_off14 i t) (k0_off14_inb i t)))
    (hL : Lists R f9 f10 f12 (vU R X i t _ k (BitVec.ofNat 32 (k.val - 1)) h3 hc4) (wU R X i (w1 i) t _ k (BitVec.ofNat 32 (k.val - 1)) h3 hc4 m f11)
      (vsU R X i (w1 i) t _ k (BitVec.ofNat 32 (k.val - 1)) h3 hc4) (qU R X i t _ k h3 hc3) (kU R X i t _ k h3 hc3) L9 L10 L11 L12) :
    Inv D R μ t.val (k.val + 1) (R.arg9.view.writes (Elt Ideal) f9 L9) (R.arg10.view.writes (Elt Ideal) f10 L10) (R.arg11.view.writes (Elt Ideal) f11 L11)
      (R.arg12.view.writes (Elt Ideal) f12 L12) f13' := by
  have hk := F.trip_le t k
  have ht := t4_lt t
  have hl := F.last t.val ht
  have hv := F.small12 t
  have hu := F.same14 t
  have hb : k.val < (D.first t.val + 1) / 512 := by
    have := (cond3_iff hv (F.small13 t) k).mp h3
    rwa [F.w13 t] at this
  have hr := row0_le (nextTile_lt ht k.val (D.last t.val / 512))
  have hn := nextBlock_lt hk (by omega : D.last t.val / 512 < 24)
  refine step ht hk H hL ?_ ?_ ?_ ?_ ?_ hm'
  · intro d r₁ r₂ y
    exact F.vAt r₁ r₂ (by omega) (off19_eq (by omega) r₁ r₂) _ d y
  · intro h l n y
    have hpos := F.ge t.val ht (col l y).val (col l y).isLt
    unfold wU cU
    rw [wtU_apply _ _ _ _ _ _ _ l rfl, scoreAt F t k H, hm, F.ksAt (off20_eq hv k h) (by omega)]
    exact wt_seen D _ (by omega)
  · intro h n y
    exact F.vsAt (off20_eq hv k h) (by omega) _ n y
  · intro x d
    refine F.qAt ?_ hr _ x d
    rw [off17_eq hv k hu t, F.w12 t]
  · intro h n d
    refine F.kAt ?_ (by omega) _ n d
    rw [off21_eq hv k hu h, F.w12 t]

include F H hm hm' in
/-- A trip over a block some query of the tile may not see whole. -/
theorem stepM (h4 : k0_cond4 (X.word (k0_off12 i t) (k0_off12_inb i t)) k (X.word (k0_off13 i t) (k0_off13_inb i t)) = 1#1)
    (hc4 : k0_chk4 (X.word (k0_off12 i t) (k0_off12_inb i t)) k (BitVec.ofNat 32 (k.val - 1)) (X.word (k0_off13 i t) (k0_off13_inb i t)))
    (hc3 : k0_chk3 t (X.word (k0_off12 i t) (k0_off12_inb i t)) k (X.word (k0_off13 i t) (k0_off13_inb i t)) (X.word (k0_off14 i t) (k0_off14_inb i t)))
    (hL : Lists R f9 f10 f12 (vM R X i t _ k (BitVec.ofNat 32 (k.val - 1)) h4 hc4) (wM R X i (w1 i) t _ k (BitVec.ofNat 32 (k.val - 1)) h4 hc4 m f11)
      (vsM R X i (w1 i) t _ k (BitVec.ofNat 32 (k.val - 1)) h4 hc4) (qM R X i t _ k h4 hc3) (kM R X i t _ k h4 hc3) L9 L10 L11 L12) :
    Inv D R μ t.val (k.val + 1) (R.arg9.view.writes (Elt Ideal) f9 L9) (R.arg10.view.writes (Elt Ideal) f10 L10) (R.arg11.view.writes (Elt Ideal) f11 L11)
      (R.arg12.view.writes (Elt Ideal) f12 L12) f13' := by
  have hk := F.trip_le t k
  have ht := t4_lt t
  have hl := F.last t.val ht
  have hv := F.small12 t
  have hu := F.same14 t
  have hr := row0_le (nextTile_lt ht k.val (D.last t.val / 512))
  have hr0 := row0_le ht
  have hn := nextBlock_lt hk (by omega : D.last t.val / 512 < 24)
  refine step ht hk H hL ?_ ?_ ?_ ?_ ?_ hm'
  · intro d r₁ r₂ y
    exact F.vAt r₁ r₂ (by omega) (off24_eq (by omega) r₁ r₂) _ d y
  · intro h l n y
    have hc := (col l y).isLt
    have hpos := F.pos (row0 t.val + (col l y).val) (by omega)
    unfold wM cM
    rw [wtM_apply _ _ _ _ _ _ _ _ _ l rfl, scoreAt F t k H, hm, F.ksAt (off25_eq hv k h) (by omega)]
    refine wt_masked D _ ?_ ?_ (by omega) (by omega)
    · have e : keyM (F := Ideal) (X.word (k0_off12 i t) (k0_off12_inb i t)) k h = BitVec.ofNat 32 (512 * k.val + 256 * h.val) :=
        BitVec.eq_of_toNat_eq ((keyWord_eq hv k h).trans (by rw [BitVec.toNat_ofNat]; omega))
      rw [e, ← BitVec.ofNat_add, Nat.add_comm n.val]
    · unfold posM
      rw [line_apply]
      exact F.posAt (off23_eq t) hr0 _ _
  · intro h n y
    exact F.vsAt (off25_eq hv k h) (by omega) _ n y
  · intro x d
    refine F.qAt ?_ hr _ x d
    rw [off22_eq hv k hu t, F.w12 t]
  · intro h n d
    refine F.kAt ?_ (by omega) _ n d
    rw [off26_eq hv k hu h, F.w12 t]

include F H in
/-- The offsets a tile's first trip sets are real. -/
theorem first_real (arg17 : BitVec 32) (hw2 : k0_chk2 t (X.word (k0_off12 i t) (k0_off12_inb i t))) (h2 : k0_cond2 (X.word (k0_off12 i t) (k0_off12_inb i t)) k = 1#1) (f14 : Co Ideal R.arg14)
    (hM : ∀ x, ∃ r : ℝ, R.arg14.view.read (Elt Ideal) f14 (ix2 0 x) = (r : EReal)) :
    ∃ ν : Fin 512 → ℝ, ∀ x, mFirst R X (w1 i) arg17 t _ hw2 k h2 f14 f11 (ix2 0 x) = ((ν x : ℝ) : EReal) := by
  have hr0 := row0_le (t4_lt t)
  suffices key : ∀ x, ∃ r : ℝ, mFirst R X (w1 i) arg17 t _ hw2 k h2 f14 f11 (ix2 0 x) = (r : EReal) from ⟨fun x => (key x).choose, fun x => (key x).choose_spec⟩
  intro x
  refine mFirst_real arg17 F.lane _ _ _ _ ?_ ?_ ?_ ?_ x
  · intro n x
    exact ⟨_, (sc16_load f11 _ n x).trans (H.sc _ _)⟩
  · intro n x hx
    exact ⟨_, (s16_load X.s _ n x).trans (F.ks _ _ hx)⟩
  · intro x
    have hx := F.pos (row0 t.val + x.val) (by omega)
    exact ⟨D.pos (row0 t.val + x.val), by omega, F.posAt (off15_eq t) hr0 _ x⟩
  · intro x
    obtain ⟨r, hr⟩ := hM ⟨row0 t.val + x.val, by omega⟩
    exact ⟨r, (m_load f14 (off16_eq t) _ x hr0).trans hr⟩

end

end Cert.AttnIdeal.Val
-- ==== Proof.AttnMaxRun.lean ====
/-
  The offsets computed exactly, by a pass over the keys, are real.
-/
module

public import proofs.«01_k».proof.Proof.AttnTrips

@[expose] public section

set_option maxRecDepth 16384

noncomputable section

namespace Cert.AttnIdeal.Val

open Cert.AttnIdeal Cert.AttnIdeal.Gen Cert.AttnIdeal.Hand Cert.AttnReal Idealize.ShloMosaic

section
variable {D : Data} {R : Refs} {X : Ins Ideal R} {i : grid0.Coords} (F : Fits D X i) (c : Dev nD) (𝒱 : Variants) (bd : Option 𝒱.V) (a0 arg17 arg18 : BitVec 32)
  (h1 : k0_cond1 arg17 = 1#1)

section
variable (v61 : FVec Ideal S512x128 .bf16) (v64 : IVec S1x512 32) (v151 : Elt Ideal .i32) (hw1 : k0_chk1 arg17 v151)

theorem maxTrip_eq (k : Fin (k0_t2_loop v151).trips) (acc : FVec Ideal S1x512 .f32) :
    tripR_k0_t2 𝒱 c bd i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 (w1 i) h1 v61 v64 v151 hw1 0#32 X.k X.s k acc
      = k0_pay184 (w1 i) v61 v64 v151 0#32 k acc
        (R.arg4.view.readAt (Elt Ideal) (Rect.unit (s := S1x1x12288x128) (k0_off5 v151 k) S1x1x256x128.size (k0_off5_inb arg17 v151 hw1 k h1)).toLoadRect X.k)
        (R.arg6.view.readAt (Elt Ideal) (Rect.unit (s := S1x12288x128) (k0_off6 v151 k) S1x256x128.size (k0_off6_inb arg17 v151 hw1 k h1)).toLoadRect X.s) := by
  unfold tripR_k0_t2 trip_k0_t2
  rfl

include F in
theorem maxRun_real (hv : v151.toNat < 12288) (hq : ∀ x d, ∃ r : ℝ, v61 (ix2 x d) = (r : EReal)) (hp : ∀ x, ∃ n : ℕ, n < 2 ^ 31 ∧ v64 (ix2 0 x) = BitVec.ofNat 32 n) (n : ℕ) :
    n ≤ (k0_t2_loop v151).trips → ∀ x : Fin 512,
      st_k0_t2 (F := Ideal) 𝒱 c bd i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 (w1 i) h1 v61 v64 v151 hw1 0#32 X.k X.s k0_pay11 n (ix2 0 x) ≠ (⊤ : EReal)
      ∧ (n ≠ 0 → st_k0_t2 (F := Ideal) 𝒱 c bd i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 (w1 i) h1 v61 v64 v151 hw1 0#32 X.k X.s k0_pay11 n (ix2 0 x) ≠ (⊥ : EReal)) := by
  induction n with
  | zero =>
    intro _ x
    refine ⟨?_, fun h => absurd rfl h⟩
    rw [st_k0_t2_zero]
    show Ideal.ofBits .f32 0xFF800000#32 ≠ ⊤
    rw [ofBits_negInf]
    exact bot_ne_top
  | succ n ih =>
    intro hn x
    have hk := t2_le hv ⟨n, hn⟩
    obtain ⟨i1, i2⟩ := ih (Nat.le_of_succ_le hn) x
    have e := st_k0_t2_succ (F := Ideal) 𝒱 c bd i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 (w1 i) h1 v61 v64 v151 hw1 0#32 X.k X.s k0_pay11 ⟨n, hn⟩
    rw [maxTrip_eq] at e
    have r := maxStep_real (⟨n, hn⟩ : Fin (k0_t2_loop v151).trips) F.lane v61 v64 _
      (R.arg4.view.readAt (Elt Ideal) (Rect.unit (s := S1x1x12288x128) (k0_off5 v151 ⟨n, hn⟩) S1x1x256x128.size (k0_off5_inb arg17 v151 hw1 ⟨n, hn⟩ h1)).toLoadRect X.k)
      (R.arg6.view.readAt (Elt Ideal) (Rect.unit (s := S1x12288x128) (k0_off6 v151 ⟨n, hn⟩) S1x256x128.size (k0_off6_inb arg17 v151 hw1 ⟨n, hn⟩ h1)).toLoadRect X.s)
      hq (fun a d => ⟨_, F.kAt (off5_eq hv _) (by simp only [] at hk ⊢; omega) _ a d⟩)
      (fun a y hy => ⟨_, (s_load X.s (off6_eq hv _) _ a y (by simp only [] at hk ⊢; omega)).trans (F.ks _ _ hy)⟩) hp x i1 i2
    exact ⟨fun h => r.1 ((congrFun e (ix2 0 x)).symm.trans h), fun _ h => r.2 ((congrFun e (ix2 0 x)).symm.trans h)⟩

end

include F in
theorem tripO_real (t : Fin k0_t1_loop.trips) (arg20 : BitVec 32) (hc1 : k0_chk1 arg17 (X.word (k0_off4 i t) (k0_off4_inb i t))) (f14 : Co Ideal R.arg14) :
    ∃ w : FVec Ideal S1x512 .f32, (tripO R c 𝒱 bd X i a0 (w1 i) arg17 arg18 h1 t arg20 hc1 f14).1
        = [⟨Rect.unit (s := S1x5760) (k0_off9 t) S1x512.size (k0_off9_inb t), w⟩] ∧ ∀ x, ∃ r : ℝ, w (ix2 0 x) = (r : EReal) := by
  have hv : (X.word (k0_off4 i t) (k0_off4_inb i t)).toNat < 12288 := F.w4 t ▸ F.last t.val (t1_lt t)
  have hr0 := row0_le (t1_lt t)
  refine ⟨_, rfl, fun x => ?_⟩
  have key : ∀ (v61 : FVec Ideal S512x128 .bf16) (v64 : IVec S1x512 32) (v151 : Elt Ideal .i32) (hw1 : k0_chk1 arg17 v151) (v172 : BitVec 32),
      v151.toNat < 12288 → (∀ x d, ∃ r : ℝ, v61 (ix2 x d) = (r : EReal)) → (∀ x, ∃ n : ℕ, n < 2 ^ 31 ∧ v64 (ix2 0 x) = BitVec.ofNat 32 n) → ∀ n, n = (k0_t3_loop v151).trips →
      ∃ r : ℝ, k0_pay186 (st_k0_t3 (F := Ideal) 𝒱 c bd i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 (w1 i) h1 v61 v64 v151 hw1 0#32 v172 X.k X.s
        (st_k0_t2 (F := Ideal) 𝒱 c bd i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 (w1 i) h1 v61 v64 v151 hw1 0#32 X.k X.s k0_pay11 (k0_t2_loop v151).trips) n) (ix2 0 x) = (r : EReal) := by
    intro v61 v64 v151 hw1 v172 hv hq hp n hn
    rw [t3_trips hv] at hn
    subst hn
    rw [st_k0_t3_zero]
    obtain ⟨r1, r2⟩ := maxRun_real F c 𝒱 bd a0 arg17 arg18 h1 v61 v64 v151 hw1 hv hq hp _ le_rfl x
    obtain ⟨r, hr⟩ := exists_real r1 (r2 (by rw [t2_trips hv]; omega))
    unfold k0_pay186
    rw [shapeCast_self]
    refine ⟨(Int.ceil r : ℤ), ?_⟩
    show Ideal.liftRound Int.ceil (st_k0_t2 (F := Ideal) 𝒱 c bd i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 (w1 i) h1 v61 v64 v151 hw1 0#32 X.k X.s k0_pay11 (k0_t2_loop v151).trips (ix2 0 x)) = _
    rw [hr, Ideal.liftRound_coe]
  refine key _ _ _ hc1 _ hv ?_ ?_ _ rfl
  · intro x d
    exact ⟨_, F.qAt (off1_eq t) hr0 _ x d⟩
  · intro x
    have hx := F.pos (row0 t.val + x.val) (by omega)
    exact ⟨D.pos (row0 t.val + x.val), by omega, (line_apply _ x).trans (F.posAt (off2_eq t) hr0 _ x)⟩

end

end Cert.AttnIdeal.Val
-- ==== Proof.AttnFinish.lean ====
/-
  The end of a tile: the last block's products are added, the quotient is stored, and the buffers are those of the next tile.
-/
module

public import proofs.«01_k».proof.Proof.AttnTrips

@[expose] public section

set_option maxRecDepth 16384

noncomputable section

namespace Cert.AttnIdeal.Val

open Cert.AttnIdeal Cert.AttnIdeal.Gen Cert.AttnIdeal.Hand Cert.AttnReal Idealize.ShloMosaic

section
variable {D : Data} {R : Refs} {X : Ins Ideal R} {i : grid0.Coords} (F : Fits D X i) (t : Fin k0_t4_loop.trips)

/-- The values of the last block, loaded. -/
def vLast (X : Ins Ideal R) (z : BitVec 32) (hz : k0_chk7 z) (r₁ r₂ : Fin 2) : Vec Ideal S1x1x1x128x128 .bf16 :=
  R.arg5.view.readAt (Elt Ideal) (Rect.unit (s := S1x1x96x128x128) (k0_off41 z (BitVec.ofNat 32 (2 * r₁.val)) (BitVec.ofNat 32 r₂.val)) S1x1x1x128x128.size (k0_off41_inb z hz r₁ r₂)).toLoadRect X.v

theorem lastProd_eq (X : Ins Ideal R) (z : BitVec 32) (hz : k0_chk7 z) (f9 : Co Ideal R.arg9) (f12 : Co Ideal R.arg12) :
    lastProd X z hz f9 f12 = accNext (accAt R f9) (vLast X z hz) (pAt R f12) :=
  shapeCast_self _ _

theorem out_apply (d : Vec Ideal S8x512 .f32) (o : Vec Ideal S128x512 .f32) (e : Fin 128) (x : Fin 512) :
    k0_pay4 (k0_pay183 d o) (ix4 0 0 e x) = (o (ix2 e x) : EReal) * Ideal.div 1 (∑ a : Fin 8, (d (ix2 a x) : EReal)) := by
  unfold k0_pay4 k0_pay183 k0_pay181
  pointwise

variable {μ : Fin 512 → ℝ} {f9 : Co Ideal R.arg9} {f10 : Co Ideal R.arg10} {f11 : Co Ideal R.arg11} {f12 : Co Ideal R.arg12} {f13 : Co Ideal R.arg13}

include F in
/-- The products over all the tile's blocks. -/
theorem last_real (hz : k0_chk7 (BitVec.ofNat 32 (D.last t.val / 512))) (H : Inv D R μ t.val (D.last t.val / 512 + 1) f9 f10 f11 f12 f13) (d : Fin 128) (x : Fin 512) :
    lastProd X _ hz f9 f12 (ix2 d x) = ((D.num (μ x) (512 * (D.last t.val / 512 + 1)) d (row0 t.val + x.val) : ℝ) : EReal) := by
  have ht := t4_lt t
  have hl := F.last t.val ht
  have hmin : min t.val 11 = t.val := by omega
  obtain ⟨l, y, rfl⟩ := exists_col x
  rw [lastProd_eq, accNext_real (accAt R f9) _ (pAt R f12) (D.V d) (fun n => D.wt (μ (col l y)) n (row0 t.val + (col l y).val) * D.vs n)
    (D.num (μ (col l y)) (512 * (D.last t.val / 512)) d (row0 t.val + (col l y).val)) (512 * (D.last t.val / 512)) d l y ?_ ?_ ?_]
  · unfold Data.num
    rw [sum_range_halves (fun n => D.V d n * (D.wt (μ (col l y)) n (row0 t.val + (col l y).val) * D.vs n)) (512 * (D.last t.val / 512)) 256]
    rw [show 512 * (D.last t.val / 512) + 256 + 256 = 512 * (D.last t.val / 512 + 1) by omega]
  · rw [accAt_read, H.acc, hmin, Nat.add_sub_cancel]
  · intro r₁ r₂ y
    exact F.vAt r₁ r₂ (by omega) (off41_eq (by omega) r₁ r₂) _ d y
  · intro h n
    rw [pAt_read, H.p, hmin, if_neg (by omega), Nat.add_sub_cancel]
    simp only [key]
    rw [Nat.add_assoc]

/-- The denominators over all the tile's blocks. -/
theorem den_real (ht : t.val < 12) {n : ℕ} (H : Inv D R μ t.val n f9 f10 f11 f12 f13) (x : Fin 512) :
    (∑ a : Fin 8, (R.arg10.view.read (Elt Ideal) f10 (ix2 a x) : EReal)) = ((D.den (μ x) (512 * n) (row0 t.val + x.val) : ℝ) : EReal) := by
  have hmin : min t.val 11 = t.val := by omega
  have e := sum_interleaved (fun j => D.wt (μ x) j (row0 t.val + x.val)) (64 * n)
  rw [show 8 * (64 * n) = 512 * n by ring] at e
  rw [Data.den, ← e, coe_sum]
  exact Finset.sum_congr rfl fun a _ => by rw [H.den, hmin]

include F in
/-- What a tile stores. -/
theorem tile_real (hz : k0_chk7 (BitVec.ofNat 32 (D.last t.val / 512))) (H : Inv D R μ t.val (D.last t.val / 512 + 1) f9 f10 f11 f12 f13) (d : Fin 128) (x : Fin 512) :
    k0_pay4 (k0_pay183 (R.arg10.view.readAt (Elt Ideal) (Rect.unit (s := S8x512) ![0, 0] S8x512.size inb_S8x512_S8x512_0_0).toLoadRect f10)
      (lastProd X _ hz f9 f12)) (ix4 0 0 d x) = ((D.spec d (row0 t.val + x.val) : ℝ) : EReal) := by
  have ht := t4_lt t
  have hl := F.last t.val ht
  have hle := F.le t.val ht x.val x.isLt
  have e : R.arg10.view.readAt (Elt Ideal) (Rect.unit (s := S8x512) ![0, 0] S8x512.size inb_S8x512_S8x512_0_0).toLoadRect f10 = R.arg10.view.read (Elt Ideal) f10 := View.readAt_full _ _ _
  rw [out_apply, e, den_real t ht H, last_real F t hz H,
    Ideal.div_coe (D.den_pos (μ x) (by omega) _).ne', one_mul, ← EReal.coe_mul, D.quotient (μ x) (by omega) d _ (by omega)]

/-- Rows of the result stored after `t` tiles. -/
def rowsDone (t : ℕ) : ℕ := if t = 0 then 0 else row0 (t - 1) + 512

/-- The result after `t` tiles. -/
def Done (D : Data) (R : Refs) (t : ℕ) (f8 : Co Ideal R.arg8) : Prop :=
  ∀ d (r : Fin 5760), r.val < rowsDone t → R.arg8.view.read (Elt Ideal) f8 (ix4 0 0 d r) = ((D.spec d r.val : ℝ) : EReal)

theorem Done.next {f8 : Co Ideal R.arg8} (h : Done D R t.val f8) (w : Vec Ideal S1x1x128x512 .f32)
    (hw : ∀ d x, w (ix4 0 0 d x) = ((D.spec d (row0 t.val + x.val) : ℝ) : EReal)) :
    Done D R (t.val + 1) (R.arg8.view.writes (Elt Ideal) f8 [⟨Rect.unit (s := S1x1x128x5760) (k0_off42 t) S1x1x128x512.size (k0_off42_inb t), w⟩]) := by
  intro d r hr
  have hr : r.val < row0 t.val + 512 := by simpa [rowsDone] using hr
  by_cases hlt : r.val < row0 t.val
  · rw [View.read_writes_cons_unit_of_not_mem R.arg8.view f8 (k0_off42_inb t) w [] (ix4 0 0 d r) (off42_eq t) (3 : Fin 4) (by simp; omega)]
    refine h d r ?_
    unfold rowsDone row0 at *
    split <;> omega
  · refine (View.read_writes_cons_unit_of_mem (s := S1x1x128x5760) R.arg8.view f8 (k0_off42_inb t) w [] (ix4 0 0 d r) (ix4 0 0 d ⟨r.val - row0 t.val, by omega⟩) (off42_eq t)
      (by intro b; fin_cases b <;> simp <;> omega)).trans ?_
    rw [hw]
    exact congrArg (fun z => ((D.spec d z : ℝ) : EReal)) (by simp only []; omega)

include F in
/-- The buffers before the next tile. -/
theorem next_inv (w : Vec Ideal S128x512 .f32) (H : Inv D R μ t.val (D.last t.val / 512 + 1) f9 f10 f11 f12 f13) :
    Inv D R μ (t.val + 1) 0 (R.arg9.view.writes (Elt Ideal) f9 [⟨Rect.unit (s := S128x512) ![0, 0] S128x512.size inb_S128x512_S128x512_0_0, k0_pay5 (F := Ideal)⟩,
        ⟨Rect.unit (s := S128x512) ![0, 0] S128x512.size inb_S128x512_S128x512_0_0, w⟩])
      (R.arg10.view.writes (Elt Ideal) f10 [⟨Rect.unit (s := S8x512) ![0, 0] S8x512.size inb_S8x512_S8x512_0_0, k0_pay6 (F := Ideal)⟩]) f11
      (R.arg12.view.writes (Elt Ideal) f12 [⟨Rect.unit (s := S4x512x128) ![0, 0, 0] S4x512x128.size inb_S4x512x128_S4x512x128_0_0_0, k0_pay7 (F := Ideal)⟩]) f13 := by
  have ht := t4_lt t
  have hmin : min t.val 11 = t.val := by omega
  constructor
  · intro d x
    rw [View.read_writes_full]
    unfold k0_pay5
    rw [shapeCast_self]
    simp only [Nat.zero_sub, Nat.mul_zero, Data.num, Finset.range_zero, Finset.sum_empty, EReal.coe_zero]
    pointwise
  · intro a x
    rw [View.read_writes_full]
    unfold k0_pay6
    rw [shapeCast_self]
    simp only [Nat.mul_zero, Finset.range_zero, Finset.sum_empty, EReal.coe_zero]
    pointwise
  · intro n x
    rw [H.sc, hmin, if_pos rfl, if_pos rfl, if_neg (by omega), if_neg (by omega)]
  · intro l n y
    rw [View.read_writes_full]
    unfold k0_pay7
    rw [shapeCast_self]
    simp only [if_true, EReal.coe_zero]
    pointwise
  · intro h
    exact absurd h (lt_irrefl 0)

theorem two11 {a a' b b' : FVec Ideal S256x512 .f32} (h : a = a') (h' : b = b') :
    ([⟨Rect.unit (s := S512x512) ![256, 0] S256x512.size inb_S512x512_S256x512_256_0, a⟩, ⟨Rect.unit (s := S512x512) ![0, 0] S256x512.size inb_S512x512_S256x512_0_0, b⟩] : List (View.Piece (Elt Ideal) S512x512 .f32))
      = [⟨Rect.unit (s := S512x512) ![256, 0] S256x512.size inb_S512x512_S256x512_256_0, a'⟩, ⟨Rect.unit (s := S512x512) ![0, 0] S256x512.size inb_S512x512_S256x512_0_0, b'⟩] := by rw [h, h']

theorem k0_inb (h : Fin 2) : ∀ a, (![0, 0, 256 * h.val, 0] : Fin 4 → ℕ) a + S1x1x256x128.size a ≤ S1x1x12288x128.size a := by
  intro a; fin_cases a <;> simp <;> omega

/-- The keys of the first block, loaded. -/
def kFirst (X : Ins Ideal R) (h : Fin 2) : Vec Ideal S1x1x256x128 .bf16 :=
  R.arg4.view.readAt (Elt Ideal) (Rect.unit (s := S1x1x12288x128) ![0, 0, 256 * h.val, 0] S1x1x256x128.size (k0_inb h)).toLoadRect X.k

include F in
/-- The buffers before the first tile. -/
theorem fill_inv (f9 : Co Ideal R.arg9) (f10 : Co Ideal R.arg10) (f11 : Co Ideal R.arg11) (f12 : Co Ideal R.arg12) (f13 : Co Ideal R.arg13) :
    Inv D R μ 0 0 (R.arg9.view.writes (Elt Ideal) f9 [⟨Rect.unit (s := S128x512) ![0, 0] S128x512.size inb_S128x512_S128x512_0_0, k0_pay187 (F := Ideal)⟩])
      (R.arg10.view.writes (Elt Ideal) f10 [⟨Rect.unit (s := S8x512) ![0, 0] S8x512.size inb_S8x512_S8x512_0_0, k0_pay188 (F := Ideal)⟩])
      (R.arg11.view.writes (Elt Ideal) f11
        [⟨Rect.unit (s := S512x512) ![256, 0] S256x512.size inb_S512x512_S256x512_256_0, k0_pay3
          (k0_pay191 (R.arg3.view.readAt (Elt Ideal) (Rect.unit (s := S1x1x5760x128) k0_off10 S1x1x512x128.size k0_off10_inb).toLoadRect X.q))
          (R.arg4.view.readAt (Elt Ideal) (Rect.unit (s := S1x1x12288x128) ![0, 0, 256, 0] S1x1x256x128.size inb_S1x1x12288x128_S1x1x256x128_0_0_256_0).toLoadRect X.k)⟩,
         ⟨Rect.unit (s := S512x512) ![0, 0] S256x512.size inb_S512x512_S256x512_0_0, k0_pay2 (k0_pay192
          (R.arg3.view.readAt (Elt Ideal) (Rect.unit (s := S1x1x5760x128) k0_off10 S1x1x512x128.size k0_off10_inb).toLoadRect X.q)
          (R.arg4.view.readAt (Elt Ideal) (Rect.unit (s := S1x1x12288x128) ![0, 0, 0, 0] S1x1x256x128.size inb_S1x1x12288x128_S1x1x256x128_0_0_0_0).toLoadRect X.k))⟩])
      (R.arg12.view.writes (Elt Ideal) f12 [⟨Rect.unit (s := S4x512x128) ![0, 0, 0] S4x512x128.size inb_S4x512x128_S4x512x128_0_0_0, k0_pay189 (F := Ideal)⟩]) f13 := by
  constructor
  · intro d x
    rw [View.read_writes_full]
    unfold k0_pay187
    rw [shapeCast_self]
    simp only [Nat.zero_sub, Nat.mul_zero, Data.num, Finset.range_zero, Finset.sum_empty, EReal.coe_zero]
    pointwise
  · intro a x
    rw [View.read_writes_full]
    unfold k0_pay188
    rw [shapeCast_self]
    simp only [Nat.mul_zero, Finset.range_zero, Finset.sum_empty, EReal.coe_zero]
    pointwise
  · intro n x
    obtain ⟨h, n, rfl⟩ := exists_key n
    refine (halves_read R.arg11 f11 (fun h => scores (shapeCast S512x128 (R.arg3.view.readAt (Elt Ideal) (Rect.unit (s := S1x1x5760x128) k0_off10 S1x1x512x128.size k0_off10_inb).toLoadRect X.q)
      shapeCasts_S1x1x512x128_S512x128) (kFirst X h)) h n x).trans ?_
    rw [scores_real _ (kFirst X h) D (256 * h.val + n.val) (0 + x.val) n x (F.qAt off10_eq (by omega) _ x) (F.kAt rfl (by omega) _ n), if_neg (by omega), if_neg (by omega)]
    refine congrArg₂ (fun a b => ((D.score a b : ℝ) : EReal)) ?_ ?_
    · simp [key]
    · simp [row0]
  · intro l n y
    rw [View.read_writes_full]
    unfold k0_pay189
    rw [shapeCast_self]
    simp only [if_true, EReal.coe_zero]
    pointwise
  · intro h
    exact absurd h (lt_irrefl 0)

end

end Cert.AttnIdeal.Val
-- ==== Proof.AttnHooks.lean ====
/-
  The certificate of the attention kernel's values: on real data the run keeps the statement of its buffers, and after the last
  tile the result is the weighted mean.
-/
module

public import proofs.«01_k».proof.Proof.AttnMaxRun
public import proofs.«01_k».proof.Proof.AttnFinish

@[expose] public section

set_option maxRecDepth 16384

noncomputable section

namespace Cert.AttnIdeal.Val

open Cert.AttnIdeal Cert.AttnIdeal.Gen Cert.AttnIdeal.Hand Cert.AttnReal Idealize.ShloMosaic

section
variable {D : Data} {R : Refs} {X : Ins Ideal R} {i : grid0.Coords}

/-- The offsets are real. -/
def Offs (R : Refs) (f14 : Co Ideal R.arg14) : Prop := ∀ x, ∃ r : ℝ, R.arg14.view.read (Elt Ideal) f14 (ix2 0 x) = (r : EReal)

theorem Offs.zero (f14 : Co Ideal R.arg14) :
    Offs R (R.arg14.view.writes (Elt Ideal) f14 [⟨Rect.unit (s := S1x5760) ![0, 0] S1x5760.size inb_S1x5760_S1x5760_0_0, k0_pay1 (F := Ideal)⟩]) := by
  intro x
  refine ⟨0, ?_⟩
  rw [View.read_writes_full]
  unfold k0_pay1
  rw [shapeCast_self, EReal.coe_zero]
  pointwise

theorem Offs.next {f14 : Co Ideal R.arg14} (h : Offs R f14) (t : Fin k0_t1_loop.trips) (w : FVec Ideal S1x512 .f32) (hw : ∀ x, ∃ r : ℝ, w (ix2 0 x) = (r : EReal)) :
    Offs R (R.arg14.view.writes (Elt Ideal) f14 [⟨Rect.unit (s := S1x5760) (k0_off9 t) S1x512.size (k0_off9_inb t), w⟩]) := by
  intro r
  by_cases hr : row0 t.val ≤ r.val ∧ r.val < row0 t.val + 512
  · obtain ⟨z, hz⟩ := hw ⟨r.val - row0 t.val, by omega⟩
    exact ⟨z, (View.read_writes_cons_unit_of_mem (s := S1x5760) R.arg14.view f14 (k0_off9_inb t) w [] (ix2 0 r) (ix2 0 ⟨r.val - row0 t.val, by omega⟩) (off9_eq t)
      (by intro b; fin_cases b <;> simp <;> omega)).trans hz⟩
  · obtain ⟨z, hz⟩ := h r
    exact ⟨z, (View.read_writes_cons_unit_of_not_mem R.arg14.view f14 (k0_off9_inb t) w [] (ix2 0 r) (off9_eq t) (1 : Fin 2) (by simp; omega)).trans hz⟩

variable (F : Fits D X i)

include F in
theorem finish_of (t : Fin k0_t4_loop.trips) {μ : Fin 512 → ℝ} {n : ℕ} (hn : n = D.last t.val / 512 + 1) (hz : k0_chk7 (BitVec.ofNat 32 (n - 1)))
    (f8 : Co Ideal R.arg8) {f9 : Co Ideal R.arg9} {f10 : Co Ideal R.arg10} {f11 : Co Ideal R.arg11} {f12 : Co Ideal R.arg12} {f13 : Co Ideal R.arg13}
    (H : Inv D R μ t.val n f9 f10 f11 f12 f13) :
    (Done D R t.val f8 → Done D R (t.val + 1) (R.arg8.view.writes (Elt Ideal) f8 [⟨Rect.unit (s := S1x1x128x5760) (k0_off42 t) S1x1x128x512.size (k0_off42_inb t),
      k0_pay4 (k0_pay183 (R.arg10.view.readAt (Elt Ideal) (Rect.unit (s := S8x512) ![0, 0] S8x512.size inb_S8x512_S8x512_0_0).toLoadRect f10)
        (lastProd X _ hz f9 f12))⟩])) ∧
    Inv D R μ (t.val + 1) 0 (R.arg9.view.writes (Elt Ideal) f9 [⟨Rect.unit (s := S128x512) ![0, 0] S128x512.size inb_S128x512_S128x512_0_0, k0_pay5 (F := Ideal)⟩,
        ⟨Rect.unit (s := S128x512) ![0, 0] S128x512.size inb_S128x512_S128x512_0_0, lastProd X _ hz f9 f12⟩])
      (R.arg10.view.writes (Elt Ideal) f10 [⟨Rect.unit (s := S8x512) ![0, 0] S8x512.size inb_S8x512_S8x512_0_0, k0_pay6 (F := Ideal)⟩]) f11
      (R.arg12.view.writes (Elt Ideal) f12 [⟨Rect.unit (s := S4x512x128) ![0, 0, 0] S4x512x128.size inb_S4x512x128_S4x512x128_0_0_0, k0_pay7 (F := Ideal)⟩]) f13 := by
  subst hn
  exact ⟨fun h => h.next t _ fun d x => tile_real F t hz H d x, next_inv F t _ H⟩

include F in
theorem trips_eq (t : Fin k0_t4_loop.trips) : (k0_t5_loop (X.word (k0_off12 i t) (k0_off12_inb i t))).trips = D.last t.val / 512 + 1 := by
  rw [t5_trips (F.small12 t), F.w12 t]

/-- The certificate. -/
def hooks : Hooks Ideal R X i where
  M := Offs R
  I t k f9 f10 f11 f12 f13 := ∃ μ, Inv D R μ t k f9 f10 f11 f12 f13
  A := Done D R
  zero := Offs.zero
  offsets c 𝒱 bd arg17 arg18 h1 t arg20 hc1 f14 hM := by
    obtain ⟨w, e, hw⟩ := tripO_real F c 𝒱 bd (w0 i) arg17 arg18 h1 t arg20 hc1 f14
    rw [e]
    exact hM.next t w hw
  start f8 d r hr := absurd hr (Nat.not_lt_zero _)
  fill f9 f10 f11 f12 f13 := ⟨fun _ => 0, fill_inv F f9 f10 f11 f12 f13⟩
  laterU c 𝒱 bd arg17 arg18 t arg19 v113 v119 v133 hw2 k h2 h3 h4 hc4 hc3 f14 f9 f10 f11 f12 f13 hM hI := by
    obtain ⟨μ, H⟩ := hI
    have hm := H.m (Nat.pos_of_ne_zero fun h0 => h2 ((cond2_iff (F.small12 t) k).mpr h0))
    exact ⟨μ, stepU F t k H (m := mAt R f13) (fun x => (congrFun (View.readAt_full _ _ _) _).trans (hm x)) hm h3 hc4 hc3
      (tripU_lists R c 𝒱 bd X i (w0 i) (w1 i) arg17 arg18 t 0#32 arg19 v113 v119 v133 _ hw2 k _ h2 h3 h4 hc4 hc3 f14 f9 f10 f11 f12 f13)⟩
  laterM c 𝒱 bd arg17 arg18 t arg19 v113 v119 v133 hw2 k h2 h3 h4 hc4 hc3 f14 f9 f10 f11 f12 f13 hM hI := by
    obtain ⟨μ, H⟩ := hI
    have hm := H.m (Nat.pos_of_ne_zero fun h0 => h2 ((cond2_iff (F.small12 t) k).mpr h0))
    exact ⟨μ, stepM F t k H (m := mAt R f13) (fun x => (congrFun (View.readAt_full _ _ _) _).trans (hm x)) hm h4 hc4 hc3
      (tripM_lists R c 𝒱 bd X i (w0 i) (w1 i) arg17 arg18 t 0#32 arg19 v113 v119 v133 _ hw2 k _ h2 h3 h4 hc4 hc3 f14 f9 f10 f11 f12 f13)⟩
  firstU c 𝒱 bd arg17 arg18 t arg19 v113 v119 v133 hw2 k h2 h3 h4 hc4 hc3 f14 f9 f10 f11 f12 f13 hM hI := by
    obtain ⟨μ, H⟩ := hI
    have hk0 := (cond2_iff (F.small12 t) k).mp h2
    obtain ⟨ν, hν⟩ := first_real F t k H arg17 hw2 h2 f14 hM
    have Hν : Inv D R ν t.val k.val f9 f10 f11 f12 f13 := by
      rw [hk0] at H ⊢
      exact H.fresh ν f13
    refine ⟨ν, stepU F t k Hν (fun x => ?_) (fun x => ?_) h3 hc4 hc3
      (tripFU_lists R c 𝒱 bd X i (w0 i) (w1 i) arg17 arg18 t 0#32 arg19 v113 v119 v133 _ hw2 k _ h2 h3 h4 hc4 hc3 f14 f9 f10 f11 f12 f13)⟩
    · rw [tripFU_offsets, View.readCov_full]
      exact hν x
    · rw [tripFU_offsets, View.read_writes_full]
      exact hν x
  firstM c 𝒱 bd arg17 arg18 t arg19 v113 v119 v133 hw2 k h2 h3 h4 hc4 hc3 f14 f9 f10 f11 f12 f13 hM hI := by
    obtain ⟨μ, H⟩ := hI
    have hk0 := (cond2_iff (F.small12 t) k).mp h2
    obtain ⟨ν, hν⟩ := first_real F t k H arg17 hw2 h2 f14 hM
    have Hν : Inv D R ν t.val k.val f9 f10 f11 f12 f13 := by
      rw [hk0] at H ⊢
      exact H.fresh ν f13
    refine ⟨ν, stepM F t k Hν (fun x => ?_) (fun x => ?_) h4 hc4 hc3
      (tripFM_lists R c 𝒱 bd X i (w0 i) (w1 i) arg17 arg18 t 0#32 arg19 v113 v119 v133 _ hw2 k _ h2 h3 h4 hc4 hc3 f14 f9 f10 f11 f12 f13)⟩
    · rw [tripFM_offsets, View.readCov_full]
      exact hν x
    · rw [tripFM_offsets, View.read_writes_full]
      exact hν x
  finish t hz f8 f9 f10 f11 f12 f13 hI := by
    obtain ⟨μ, H⟩ := hI
    obtain ⟨h1, h2⟩ := finish_of F t (trips_eq F t) hz f8 H
    exact ⟨h1, μ, h2⟩

end

end Cert.AttnIdeal.Val
-- ==== Proof.AttnRef.lean ====
/-
  The attention reference's result, index by index, over real data.
-/
module

public import proofs.«01_k».proof.Proof.Gen.AttnRefIdeal.Run
public import proofs.«01_k».proof.Proof.AttnMax
public import Idealize.ShloMosaic.Lib.Pointwise

@[expose] public section

set_option maxRecDepth 16384

noncomputable section

namespace Cert.AttnRefIdeal.Val

open Cert.AttnRefIdeal Cert.AttnRefIdeal.Gen Cert.AttnReal Idealize.ShloMosaic Idealize.ShloMosaic.TcCoe
open Cert.AttnIdeal.Val (masked_ne_top masked_ne_bot select_one select_zero exists_real ofBits_negInf zero_unmasked)

/-! ## The operations, each at an index -/

theorem score_apply (q : FVec Ideal S6x4x5760x128 .bf16) (k : FVec Ideal S6x4x12288x128 .bf16) (b : Fin 6) (h : Fin 4) (r : Fin 5760) (x : Fin 12288) :
    Host.dotGeneral (F := Ideal) dot_S6x4x5760x128_S6x4x12288x128_S6x4x5760x12288_3_3_2_2_01_01 none q k (ix4 b h r x) = ∑ d : Fin 128, (q (ix4 b h r d) * k (ix4 b h x d) : EReal) := by
  pointwise

theorem vals_apply (v : FVec Ideal S6x4x96x128x128 .bf16) (b : Fin 6) (h : Fin 4) (n : Fin 12288) (d : Fin 128) :
    shapeCast S6x4x12288x128 (transpose S6x4x96x128x128 [0, 1, 2, 4, 3] v transposes_S6x4x96x128x128_S6x4x96x128x128_0_1_2_4_3) shapeCasts_S6x4x96x128x128_S6x4x12288x128 (ix4 b h n d)
      = v (ix5 b h ⟨n.val / 128, by omega⟩ d ⟨n.val % 128, by omega⟩) := by
  pointwise

theorem keyScale_apply (s : FVec Ideal S6x12288x128 .f32) (b : Fin 6) (h : Fin 4) (r : Fin 5760) (x : Fin 12288) :
    broadcastInDim S6x4x5760x12288 ![0, 1, 2, 3] bcast_S6x4x1x12288_S6x4x5760x12288_0_1_2_3 (broadcastInDim S6x4x1x12288 ![0, 1, 3] bcast_S6x4x12288_S6x4x1x12288_0_1_3 (transpose S6x4x12288 [0, 2, 1] (extractStridedSlice S6x12288x4 ![0, 0, 0] s slices_S6x12288x128_S6x12288x4_0_0_0) transposes_S6x12288x4_S6x4x12288_0_2_1)) (ix4 b h r x)
      = s (ix3 b x ⟨h.val, by omega⟩) := by
  pointwise

theorem valScale_apply (s : FVec Ideal S6x12288x128 .f32) (b : Fin 6) (h : Fin 4) (r : Fin 5760) (x : Fin 12288) :
    broadcastInDim S6x4x5760x12288 ![0, 1, 2, 3] bcast_S6x4x1x12288_S6x4x5760x12288_0_1_2_3 (broadcastInDim S6x4x1x12288 ![0, 1, 3] bcast_S6x4x12288_S6x4x1x12288_0_1_3 (transpose S6x4x12288 [0, 2, 1] (extractStridedSlice S6x12288x4 ![0, 0, 4] s slices_S6x12288x128_S6x12288x4_0_0_4) transposes_S6x12288x4_S6x4x12288_0_2_1)) (ix4 b h r x)
      = s (ix3 b x ⟨4 + h.val, by omega⟩) := by
  pointwise

theorem mask_apply (p : IVec S6x1x5760 32) (b : Fin 6) (h : Fin 4) (r : Fin 5760) (x : Fin 12288) :
    broadcastInDim S6x4x5760x12288 ![0, 1, 2, 3] bcast_S6x1x5760x12288_S6x4x5760x12288_0_1_2_3 (cmpi .sgt (broadcastInDim S6x1x5760x12288 ![0, 1, 2, 3] bcast_S1x1x1x12288_S6x1x5760x12288_0_1_2_3 (broadcastInDim S1x1x1x12288 ![3] bcast_S12288_S1x1x1x12288_3 (iotaInDim S12288 32 0))) (broadcastInDim S6x1x5760x12288 ![0, 1, 2, 3] bcast_S6x1x5760x1_S6x1x5760x12288_0_1_2_3 (broadcastInDim S6x1x5760x1 ![0, 1, 2] bcast_S6x1x5760_S6x1x5760x1_0_1_2 p))) (ix4 b h r x)
      = IntOp.cmpi .sgt (BitVec.ofNat 32 x.val) (p (ix3 b 0 r)) := by
  pointwise

theorem max_apply (S : FVec Ideal S6x4x5760x12288 .f32) (b : Fin 6) (h : Fin 4) (r : Fin 5760) :
    Host.reduce FloatOps.maximumf S (constant S_ .f32 0xFF800000#32) reducesTo_S6x4x5760x12288_S6x4x5760_d3 h_S_ (ix3 b h r)
      = Finset.fold max (Ideal.ofBits .f32 0xFF800000#32) (fun x : Fin 12288 => (S (ix4 b h r x) : EReal)) Finset.univ := by
  pointwise

theorem den_apply (P : FVec Ideal S6x4x5760x12288 .f32) (b : Fin 6) (h : Fin 4) (r : Fin 5760) :
    Host.reduceAdd P (constant S_ .f32 0x00000000#32) reducesTo_S6x4x5760x12288_S6x4x5760_d3 h_S_ (ix3 b h r) = ∑ x : Fin 12288, (P (ix4 b h r x) : EReal) := by
  pointwise

theorem num_apply (P : FVec Ideal S6x4x5760x12288 .bf16) (V : FVec Ideal S6x4x12288x128 .bf16) (b : Fin 6) (h : Fin 4) (r : Fin 5760) (d : Fin 128) :
    Host.dotGeneral (F := Ideal) dot_S6x4x5760x12288_S6x4x12288x128_S6x4x5760x128_3_2_2_3_01_01 none P V (ix4 b h r d) = ∑ x : Fin 12288, (P (ix4 b h r x) * V (ix4 b h x d) : EReal) := by
  pointwise

theorem off_apply (M : FVec Ideal S6x4x5760 .f32) (b : Fin 6) (h : Fin 4) (r : Fin 5760) (x : Fin 12288) :
    broadcastInDim S6x4x5760x12288 ![0, 1, 2, 3] bcast_S6x4x5760x1_S6x4x5760x12288_0_1_2_3 (Host.ceil (broadcastInDim S6x4x5760x1 ![0, 1, 2] bcast_S6x4x5760_S6x4x5760x1_0_1_2 M)) (ix4 b h r x)
      = Ideal.liftRound Int.ceil (M (ix3 b h r)) := by
  pointwise

theorem weight_apply (S M : FVec Ideal S6x4x5760x12288 .f32) (b : Fin 6) (h : Fin 4) (r : Fin 5760) (x : Fin 12288) :
    Host.powf (broadcastInDim S6x4x5760x12288 ![] bcast_S_S6x4x5760x12288 (constant (F := Ideal) S_ .f32 0x40000000#32)) (subf S M) (ix4 b h r x)
      = Ideal.pow (Ideal.ofBits .f32 0x40000000#32) ((S (ix4 b h r x) : EReal) - M (ix4 b h r x)) := by
  pointwise

theorem quot_apply (N : FVec Ideal S6x4x5760x128 .f32) (E : FVec Ideal S6x4x5760 .f32) (b : Fin 6) (h : Fin 4) (d : Fin 128) (r : Fin 5760) :
    transpose S6x4x128x5760 [0, 1, 3, 2] (Host.divf N (broadcastInDim S6x4x5760x128 ![0, 1, 2, 3] bcast_S6x4x5760x1_S6x4x5760x128_0_1_2_3 (broadcastInDim S6x4x5760x1 ![0, 1, 2] bcast_S6x4x5760_S6x4x5760x1_0_1_2 E))) transposes_S6x4x5760x128_S6x4x128x5760_0_1_3_2 (ix4 b h d r)
      = Ideal.div (N (ix4 b h r d)) (E (ix3 b h r)) := by
  pointwise

theorem select_apply (c : IVec S6x4x5760x12288 1) (S T : FVec Ideal S6x4x5760x12288 .f32) (b : Fin 6) (h : Fin 4) (r : Fin 5760) (x : Fin 12288) :
    select c (broadcastInDim S6x4x5760x12288 ![] bcast_S_S6x4x5760x12288 (id (constant S_ .f32 0xFF800000#32))) (mulf S T) (ix4 b h r x)
      = Scalar.select (c (ix4 b h r x)) (Ideal.ofBits .f32 0xFF800000#32) ((S (ix4 b h r x) : EReal) * T (ix4 b h r x)) := by
  show Scalar.select _ _ _ = _
  rfl

theorem scaled_apply (P T : FVec Ideal S6x4x5760x12288 .f32) (b : Fin 6) (h : Fin 4) (r : Fin 5760) (x : Fin 12288) :
    truncf .bf16 (mulf P T) bitsLt_bf16_f32 (ix4 b h r x) = ((P (ix4 b h r x) : EReal) * T (ix4 b h r x)) := by
  rfl

/-! ## The composed term, in three steps -/

/-- The scores times the keys' scales, masked. -/
def scores (q : FVec Ideal S6x4x5760x128 .bf16) (k : FVec Ideal S6x4x12288x128 .bf16) (s : FVec Ideal S6x12288x128 .f32) (p : IVec S6x1x5760 32) : FVec Ideal S6x4x5760x12288 .f32 :=
  select (broadcastInDim S6x4x5760x12288 ![0, 1, 2, 3] bcast_S6x1x5760x12288_S6x4x5760x12288_0_1_2_3 (cmpi .sgt (broadcastInDim S6x1x5760x12288 ![0, 1, 2, 3] bcast_S1x1x1x12288_S6x1x5760x12288_0_1_2_3 (broadcastInDim S1x1x1x12288 ![3] bcast_S12288_S1x1x1x12288_3 (iotaInDim S12288 32 0))) (broadcastInDim S6x1x5760x12288 ![0, 1, 2, 3] bcast_S6x1x5760x1_S6x1x5760x12288_0_1_2_3 (broadcastInDim S6x1x5760x1 ![0, 1, 2] bcast_S6x1x5760_S6x1x5760x1_0_1_2 p))))
    (broadcastInDim S6x4x5760x12288 ![] bcast_S_S6x4x5760x12288 (id (constant S_ .f32 0xFF800000#32)))
    (mulf (Host.dotGeneral dot_S6x4x5760x128_S6x4x12288x128_S6x4x5760x12288_3_3_2_2_01_01 none q k)
      (broadcastInDim S6x4x5760x12288 ![0, 1, 2, 3] bcast_S6x4x1x12288_S6x4x5760x12288_0_1_2_3 (broadcastInDim S6x4x1x12288 ![0, 1, 3] bcast_S6x4x12288_S6x4x1x12288_0_1_3 (transpose S6x4x12288 [0, 2, 1] (extractStridedSlice S6x12288x4 ![0, 0, 0] s slices_S6x12288x128_S6x12288x4_0_0_0) transposes_S6x12288x4_S6x4x12288_0_2_1))))

/-- The weights. -/
def weights (S : FVec Ideal S6x4x5760x12288 .f32) : FVec Ideal S6x4x5760x12288 .f32 :=
  Host.powf (broadcastInDim S6x4x5760x12288 ![] bcast_S_S6x4x5760x12288 (constant (F := Ideal) S_ .f32 0x40000000#32))
    (subf S (broadcastInDim S6x4x5760x12288 ![0, 1, 2, 3] bcast_S6x4x5760x1_S6x4x5760x12288_0_1_2_3 (Host.ceil (broadcastInDim S6x4x5760x1 ![0, 1, 2] bcast_S6x4x5760_S6x4x5760x1_0_1_2
      (Host.reduce FloatOps.maximumf S (constant S_ .f32 0xFF800000#32) reducesTo_S6x4x5760x12288_S6x4x5760_d3 h_S_)))))

/-- The weighted mean. -/
def mean (P : FVec Ideal S6x4x5760x12288 .f32) (v : FVec Ideal S6x4x96x128x128 .bf16) (s : FVec Ideal S6x12288x128 .f32) : FVec Ideal S6x4x128x5760 .f32 :=
  transpose S6x4x128x5760 [0, 1, 3, 2] (Host.divf
    (Host.dotGeneral dot_S6x4x5760x12288_S6x4x12288x128_S6x4x5760x128_3_2_2_3_01_01 none
      (truncf .bf16 (mulf P (broadcastInDim S6x4x5760x12288 ![0, 1, 2, 3] bcast_S6x4x1x12288_S6x4x5760x12288_0_1_2_3 (broadcastInDim S6x4x1x12288 ![0, 1, 3] bcast_S6x4x12288_S6x4x1x12288_0_1_3 (transpose S6x4x12288 [0, 2, 1] (extractStridedSlice S6x12288x4 ![0, 0, 4] s slices_S6x12288x128_S6x12288x4_0_0_4) transposes_S6x12288x4_S6x4x12288_0_2_1)))) bitsLt_bf16_f32)
      (shapeCast S6x4x12288x128 (transpose S6x4x96x128x128 [0, 1, 2, 4, 3] v transposes_S6x4x96x128x128_S6x4x96x128x128_0_1_2_4_3) shapeCasts_S6x4x96x128x128_S6x4x12288x128))
    (broadcastInDim S6x4x5760x128 ![0, 1, 2, 3] bcast_S6x4x5760x1_S6x4x5760x128_0_1_2_3 (broadcastInDim S6x4x5760x1 ![0, 1, 2] bcast_S6x4x5760_S6x4x5760x1_0_1_2
      (Host.reduceAdd P (constant S_ .f32 0x00000000#32) reducesTo_S6x4x5760x12288_S6x4x5760_d3 h_S_)))) transposes_S6x4x5760x128_S6x4x128x5760_0_1_3_2

theorem res_eq (m : (ℓ : Loc nD τ sig) → Buf (Elt Ideal) ℓ) (c : Dev nD) :
    Value.res_out0 m c = mean (weights (scores (m ((c.tc : Thread nD τ).loc main_arg1)) (m ((c.tc : Thread nD τ).loc main_arg2)) (m ((c.tc : Thread nD τ).loc main_arg4)) (m ((c.tc : Thread nD τ).loc main_arg5))))
      (m ((c.tc : Thread nD τ).loc main_arg3)) (m ((c.tc : Thread nD τ).loc main_arg4)) := by
  unfold Value.res_out0 Value.res_main_v33 mean weights scores
  rfl

theorem scores_apply (q : FVec Ideal S6x4x5760x128 .bf16) (k : FVec Ideal S6x4x12288x128 .bf16) (s : FVec Ideal S6x12288x128 .f32) (p : IVec S6x1x5760 32)
    (b : Fin 6) (h : Fin 4) (r : Fin 5760) (x : Fin 12288) :
    scores q k s p (ix4 b h r x) = Scalar.select (IntOp.cmpi .sgt (BitVec.ofNat 32 x.val) (p (ix3 b 0 r))) (Ideal.ofBits .f32 0xFF800000#32)
      ((∑ d : Fin 128, (q (ix4 b h r d) * k (ix4 b h x d) : EReal)) * s (ix3 b x ⟨h.val, by omega⟩)) := by
  unfold scores
  rw [select_apply, mask_apply, score_apply, keyScale_apply]

theorem weights_apply (S : FVec Ideal S6x4x5760x12288 .f32) (b : Fin 6) (h : Fin 4) (r : Fin 5760) (x : Fin 12288) :
    weights S (ix4 b h r x) = Ideal.pow (Ideal.ofBits .f32 0x40000000#32) ((S (ix4 b h r x) : EReal)
      - Ideal.liftRound Int.ceil (Finset.fold max (Ideal.ofBits .f32 0xFF800000#32) (fun x : Fin 12288 => (S (ix4 b h r x) : EReal)) Finset.univ)) := by
  unfold weights
  rw [weight_apply, off_apply, max_apply]

theorem mean_apply (P : FVec Ideal S6x4x5760x12288 .f32) (v : FVec Ideal S6x4x96x128x128 .bf16) (s : FVec Ideal S6x12288x128 .f32) (b : Fin 6) (h : Fin 4) (d : Fin 128) (r : Fin 5760) :
    mean P v s (ix4 b h d r) = Ideal.div (∑ x : Fin 12288, ((P (ix4 b h r x) * s (ix3 b x ⟨4 + h.val, by omega⟩)) * v (ix5 b h ⟨x.val / 128, by omega⟩ d ⟨x.val % 128, by omega⟩) : EReal))
      (∑ x : Fin 12288, (P (ix4 b h r x) : EReal)) := by
  unfold mean
  rw [quot_apply, num_apply, den_apply]
  congr 1
  refine Finset.sum_congr rfl fun x _ => ?_
  rw [scaled_apply, valScale_apply, vals_apply]

/-! ## Over real data -/

/-- The arguments hold, for batch row `b` and key head `h`, the real data `D`. -/
structure Holds (D : Data) (q : FVec Ideal S6x4x5760x128 .bf16) (k : FVec Ideal S6x4x12288x128 .bf16) (v : FVec Ideal S6x4x96x128x128 .bf16) (s : FVec Ideal S6x12288x128 .f32)
    (p : IVec S6x1x5760 32) (b : Fin 6) (h : Fin 4) : Prop where
  q : ∀ (r : Fin 5760) d, q (ix4 b h r d) = ((D.Q r.val d : ℝ) : EReal)
  k : ∀ (n : Fin 12288) d, k (ix4 b h n d) = ((D.K n.val d : ℝ) : EReal)
  v : ∀ (c : Fin 96) d (n : Fin 128), v (ix5 b h c d n) = ((D.V d (128 * c.val + n.val) : ℝ) : EReal)
  ks : ∀ (n : Fin 12288) (j : Fin 128), j.val = h.val → s (ix3 b n j) = ((D.ks n.val : ℝ) : EReal)
  vs : ∀ (n : Fin 12288) (j : Fin 128), j.val = h.val + 4 → s (ix3 b n j) = ((D.vs n.val : ℝ) : EReal)
  p : ∀ r : Fin 5760, p (ix3 b 0 r) = BitVec.ofNat 32 (D.pos r.val)
  pos : ∀ r < 5760, D.pos r < 12288

section
variable {D : Data} {q : FVec Ideal S6x4x5760x128 .bf16} {k : FVec Ideal S6x4x12288x128 .bf16} {v : FVec Ideal S6x4x96x128x128 .bf16} {s : FVec Ideal S6x12288x128 .f32}
  {p : IVec S6x1x5760 32} {b : Fin 6} {h : Fin 4} (H : Holds D q k v s p b h)

include H in
theorem Holds.raw (r : Fin 5760) (x : Fin 12288) :
    (∑ d : Fin 128, (q (ix4 b h r d) * k (ix4 b h x d) : EReal)) * s (ix3 b x ⟨h.val, by omega⟩) = ((D.score x.val r.val * D.ks x.val : ℝ) : EReal) := by
  rw [H.ks x _ rfl, EReal.coe_mul]
  congr 1
  unfold Data.score
  rw [coe_sum]
  refine Finset.sum_congr rfl fun d _ => ?_
  rw [H.q, H.k, ← EReal.coe_mul, mul_comm]

theorem ofBits_two : Ideal.ofBits .f32 0x40000000#32 = ((2 : ℝ) : EReal) := by
  simp [Ideal.ofBits, Ideal.ieee]
  rw [← EReal.coe_mul]
  norm_num

include H in
/-- Every weight is the power of two of its score less one offset, and nothing for a masked key. -/
theorem Holds.weights (r : Fin 5760) : ∃ μ : ℝ, ∀ x : Fin 12288, weights (scores q k s p) (ix4 b h r x) = ((D.wt μ x.val r.val : ℝ) : EReal) := by
  have hp := H.pos r.val r.isLt
  have hM : ∃ M : ℝ, Finset.fold max (Ideal.ofBits .f32 0xFF800000#32) (fun x : Fin 12288 => (scores q k s p (ix4 b h r x) : EReal)) Finset.univ = (M : EReal) := by
    have e : (fun x : Fin 12288 => (scores q k s p (ix4 b h r x) : EReal)) = fun x => Scalar.select (IntOp.cmpi .sgt (BitVec.ofNat 32 x.val) (p (ix3 b 0 r))) (Ideal.ofBits .f32 0xFF800000#32)
        ((D.score x.val r.val * D.ks x.val : ℝ) : EReal) := funext fun x => by rw [scores_apply, H.raw]
    rw [e]
    have hv : ∀ x : Fin 12288, ∃ z : ℝ, ((D.score x.val r.val * D.ks x.val : ℝ) : EReal) = (z : EReal) := fun x => ⟨_, rfl⟩
    refine exists_real (masked_ne_top _ _ hv) (masked_ne_bot _ _ hv ⟨0, by norm_num⟩ ?_)
    exact zero_unmasked ⟨D.pos r.val, by omega, H.p r⟩
  obtain ⟨M, hM⟩ := hM
  refine ⟨(⌈M⌉ : ℤ), fun x => ?_⟩
  have hx := x.isLt
  rw [weights_apply, hM, Ideal.liftRound_coe, ofBits_two, scores_apply, H.raw, H.p r]
  unfold Data.wt
  by_cases hle : x.val ≤ D.pos r.val
  · rw [(WordCmp.cmpi_sgt_ofNat_eq_zero_iff (a := x.val) (b := D.pos r.val) (by omega) (by omega)).mpr (by omega), select_zero, if_pos hle, ← EReal.coe_sub, Ideal.pow_coe_coe]
    rfl
  · rw [(WordCmp.cmpi_sgt_ofNat_eq_one_iff (a := x.val) (b := D.pos r.val) (by omega) (by omega)).mpr (by omega), select_one, if_neg hle, ofBits_negInf, EReal.bot_sub, Ideal.pow_coe_bot]
    norm_num

include H in
/-- The reference's result is attention. -/
theorem Holds.mean (d : Fin 128) (r : Fin 5760) : mean (Val.weights (scores q k s p)) v s (ix4 b h d r) = ((D.spec d r.val : ℝ) : EReal) := by
  obtain ⟨μ, hμ⟩ := H.weights r
  have hden : (∑ x : Fin 12288, (Val.weights (scores q k s p) (ix4 b h r x) : EReal)) = ((D.den μ 12288 r.val : ℝ) : EReal) := by
    unfold Data.den
    rw [Finset.sum_range, coe_sum]
    exact Finset.sum_congr rfl fun x _ => hμ x
  rw [mean_apply, hden, Ideal.div_coe (D.den_pos μ (by norm_num) r.val).ne', ← D.spec_eq μ d r.val (H.pos r.val r.isLt),
    ← mul_one_div (D.num μ 12288 d r.val), EReal.coe_mul]
  congr 1
  unfold Data.num
  rw [Finset.sum_range, coe_sum]
  refine Finset.sum_congr rfl fun x _ => ?_
  rw [hμ x, H.vs x _ (by simp [add_comm]), H.v, ← EReal.coe_mul, ← EReal.coe_mul]
  congr 1
  simp only [Nat.div_add_mod]
  ring

end

end Cert.AttnRefIdeal.Val
-- ==== Proof.AttnSel.lean ====
/-
  The precondition of the attention call read: the selected positions rise within a prompt, a query row's position is the
  selected one of its token, and the floats are finite. And the real data such arguments hold.
-/
module

public import proofs.«01_k».proof.Proof.AttnPre
public import proofs.«01_k».proof.Proof.AttnRef
public import proofs.«01_k».proof.Proof.AttnWords
public import Idealize.ShloMosaic.Lib.Pointwise

@[expose] public section

set_option maxRecDepth 16384

noncomputable section

namespace Cert.Sel

open Idealize.ShloMosaic Cert.Pre_selected Cert.AttnReal Cert.AttnRefIdeal.Val Cert.AttnIdeal.Hand
open Cert.AttnIdeal.Val (exists_real)

/-- A selected position as a number. -/
def selAt (a0 : IVec S11520 32) (n : ℕ) : ℕ := if hn : n < 11520 then (a0 (ix1 ⟨n, hn⟩)).toNat else 0

theorem selAt_eq (a0 : IVec S11520 32) {n : ℕ} (hn : n < 11520) : (a0 (ix1 ⟨n, hn⟩)).toNat = selAt a0 n := by
  unfold selAt
  rw [dif_pos hn]

/-- The precondition, read. -/
structure Good (a0 : IVec S11520 32) (q : FVec Ideal S6x4x5760x128 .bf16) (k : FVec Ideal S6x4x12288x128 .bf16) (v : FVec Ideal S6x4x96x128x128 .bf16)
    (s : FVec Ideal S6x12288x128 .f32) (p : IVec S6x1x5760 32) : Prop where
  lt : ∀ n, selAt a0 n < 12288
  rise : ∀ (b : Fin 6) (j : ℕ), j + 1 < 1920 → selAt a0 (1920 * b.val + j) ≤ selAt a0 (1920 * b.val + (j + 1))
  pos : ∀ (b : Fin 6) (r : Fin 5760), p (ix3 b 0 r) = BitVec.ofNat 32 (selAt a0 (1920 * b.val + 16 * (r.val / 48) + r.val % 16))
  q : ∀ y, ∃ z : ℝ, q y = (z : EReal)
  k : ∀ y, ∃ z : ℝ, k y = (z : EReal)
  v : ∀ y, ∃ z : ℝ, v y = (z : EReal)
  s : ∀ y, ∃ z : ℝ, s y = (z : EReal)

theorem ofBool_eq_one (p : Bool) : (BitVec.ofBool p = 1#1) ↔ p = true := by cases p <;> decide

theorem finite_of_lt {x : EReal} (h : max x (-x) < ⊤) : ∃ z : ℝ, x = (z : EReal) := by
  refine exists_real (fun e => ?_) (fun e => ?_) <;> subst e <;> simp at h

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

theorem finite_bf16 {x : EReal} (h : Ideal.cmp .olt (max x (-x)) (Ideal.ofBits .bf16 0x7F80#16) = 1#1) : ∃ z : ℝ, x = (z : EReal) := by
  rw [inf_bf16] at h
  exact finite_of_lt (of_decide_eq_true ((ofBool_eq_one _).mp h))
theorem finite_f32 {x : EReal} (h : Ideal.cmp .olt (max x (-x)) (Ideal.ofBits .f32 0x7F800000#32) = 1#1) : ∃ z : ℝ, x = (z : EReal) := by
  rw [inf_f32] at h
  exact finite_of_lt (of_decide_eq_true ((ofBool_eq_one _).mp h))

section
variable [Cert.Pre_selected.Facts]
open Facts

theorem row_apply (a0 : IVec S11520 32) (b : Fin 6) (j : Fin 1919) :
    extractStridedSlice S6x1919 ![0, 0] (shapeCast S6x1920 a0 shapeCasts_S11520_S6x1920) slices_S6x1920_S6x1919_0_0 (ix2 b j) = a0 (ix1 ⟨1920 * b.val + j.val, by omega⟩) := by
  refine (extractStridedSlice_apply _ _ _ _ (ix2 b (⟨j.val, by omega⟩ : Fin 1920)) (by intro a; fin_cases a <;> simp)).trans ?_
  exact shapeCast_apply _ _ _ (ix1 (⟨1920 * b.val + j.val, by omega⟩ : Fin 11520)) (by simp [Shape.rowMajor_val_two, Shape.rowMajor_val_one]; omega)

theorem row_succ_apply (a0 : IVec S11520 32) (b : Fin 6) (j : Fin 1919) :
    extractStridedSlice S6x1919 ![0, 1] (shapeCast S6x1920 a0 shapeCasts_S11520_S6x1920) slices_S6x1920_S6x1919_0_1 (ix2 b j) = a0 (ix1 ⟨1920 * b.val + (j.val + 1), by omega⟩) := by
  refine (extractStridedSlice_apply _ _ _ _ (ix2 b (⟨j.val + 1, by omega⟩ : Fin 1920)) (by intro a; fin_cases a <;> simp [add_comm])).trans ?_
  exact shapeCast_apply _ _ _ (ix1 (⟨1920 * b.val + (j.val + 1), by omega⟩ : Fin 11520)) (by simp [Shape.rowMajor_val_two, Shape.rowMajor_val_one]; omega)

theorem token_apply (a0 : IVec S11520 32) (b : Fin 6) (r : Fin 5760) :
    shapeCast S6x1x5760 (broadcastInDim S6x120x3x16 ![0, 1, 2, 3] bcast_S6x120x1x16_S6x120x3x16_0_1_2_3 (shapeCast S6x120x1x16 a0 shapeCasts_S11520_S6x120x1x16)) shapeCasts_S6x120x3x16_S6x1x5760 (ix3 b 0 r)
      = a0 (ix1 ⟨1920 * b.val + 16 * (r.val / 48) + r.val % 16, by omega⟩) := by
  refine (shapeCast_apply _ _ _ (ix4 b (⟨r.val / 48, by omega⟩ : Fin 120) (⟨r.val % 48 / 16, by omega⟩ : Fin 3) (⟨r.val % 16, by omega⟩ : Fin 16))
    (by simp [Shape.rowMajor_val_four, Shape.rowMajor_val_three]; omega)).trans ?_
  refine Eq.trans (b := shapeCast S6x120x1x16 a0 shapeCasts_S11520_S6x120x1x16 (ix4 b (⟨r.val / 48, by omega⟩ : Fin 120) (0 : Fin 1) (⟨r.val % 16, by omega⟩ : Fin 16))) ?_ ?_
  · pointwise
  · exact shapeCast_apply _ _ _ (ix1 (⟨1920 * b.val + 16 * (r.val / 48) + r.val % 16, by omega⟩ : Fin 11520))
      (by simp [Shape.rowMajor_val_four, Shape.rowMajor_val_one]; omega)

theorem good_of {a0 : IVec S11520 32} {q : FVec Ideal S6x4x5760x128 .bf16} {k : FVec Ideal S6x4x12288x128 .bf16} {v : FVec Ideal S6x4x96x128x128 .bf16}
    {s : FVec Ideal S6x12288x128 .f32} {p : IVec S6x1x5760 32}
    (h1 : (Cert.Pre_selected.fn (F := Ideal) a0 q k v s p).1 = fun _ => 1#1) (h2 : (Cert.Pre_selected.fn (F := Ideal) a0 q k v s p).2.1 = fun _ => 1#1)
    (h3 : (Cert.Pre_selected.fn (F := Ideal) a0 q k v s p).2.2.1 = fun _ => 1#1) (h4 : (Cert.Pre_selected.fn (F := Ideal) a0 q k v s p).2.2.2.1 = fun _ => 1#1)
    (h5 : (Cert.Pre_selected.fn (F := Ideal) a0 q k v s p).2.2.2.2.1 = fun _ => 1#1) (h6 : (Cert.Pre_selected.fn (F := Ideal) a0 q k v s p).2.2.2.2.2.1 = fun _ => 1#1)
    (h7 : (Cert.Pre_selected.fn (F := Ideal) a0 q k v s p).2.2.2.2.2.2 = fun _ => 1#1) : Good a0 q k v s p where
  lt n := by
    unfold selAt
    split
    · exact sel_lt h1 _
    · norm_num
  rise b j hj := by
    have h : IntOp.cmpi .sle (extractStridedSlice S6x1919 ![0, 0] (shapeCast S6x1920 a0 shapeCasts_S11520_S6x1920) slices_S6x1920_S6x1919_0_0 (ix2 b (⟨j, by omega⟩ : Fin 1919)))
        (extractStridedSlice S6x1919 ![0, 1] (shapeCast S6x1920 a0 shapeCasts_S11520_S6x1920) slices_S6x1920_S6x1919_0_1 (ix2 b (⟨j, by omega⟩ : Fin 1919))) = 1#1 := congrFun h2 (ix2 b (⟨j, by omega⟩ : Fin 1919))
    rw [row_apply, row_succ_apply] at h
    have hb := b.isLt
    have l1 := sel_lt h1 (ix1 (⟨1920 * b.val + j, by omega⟩ : Fin 11520))
    have l2 := sel_lt h1 (ix1 (⟨1920 * b.val + (j + 1), by omega⟩ : Fin 11520))
    rw [← selAt_eq a0 (n := 1920 * b.val + j) (by omega), ← selAt_eq a0 (n := 1920 * b.val + (j + 1)) (by omega)]
    simp only [IntOp.cmpi, ofBool_eq_one] at h
    simp only [BitVec.sle, decide_eq_true_eq, BitVec.toInt] at h
    omega
  pos b r := by
    have h : IntOp.cmpi .eq (p (ix3 b 0 r)) (shapeCast S6x1x5760 (broadcastInDim S6x120x3x16 ![0, 1, 2, 3] bcast_S6x120x1x16_S6x120x3x16_0_1_2_3 (shapeCast S6x120x1x16 a0 shapeCasts_S11520_S6x120x1x16)) shapeCasts_S6x120x3x16_S6x1x5760 (ix3 b 0 r)) = 1#1 :=
      congrFun h3 (ix3 b 0 r)
    rw [token_apply] at h
    simp only [IntOp.cmpi, ofBool_eq_one, beq_iff_eq] at h
    rw [h, ← selAt_eq a0 (n := 1920 * b.val + 16 * (r.val / 48) + r.val % 16) (by omega)]
    simp
  q y := finite_bf16 (congrFun h4 y)
  k y := finite_bf16 (congrFun h5 y)
  v y := finite_bf16 (congrFun h6 y)
  s y := finite_f32 (congrFun h7 y)

end

section
variable (a0 : IVec S11520 32) (q : FVec Ideal S6x4x5760x128 .bf16) (k : FVec Ideal S6x4x12288x128 .bf16) (v : FVec Ideal S6x4x96x128x128 .bf16)
  (s : FVec Ideal S6x12288x128 .f32) (p : IVec S6x1x5760 32) (b : Fin 6) (h : Fin 4)

/-- The real data of batch row `b` and key head `h`. -/
def dataOf : Data where
  K n d := if hn : n < 12288 then (k (ix4 b h ⟨n, hn⟩ d) : EReal).toReal else 0
  Q r d := if hr : r < 5760 then (q (ix4 b h ⟨r, hr⟩ d) : EReal).toReal else 0
  V d n := if hn : n < 12288 then (v (ix5 b h ⟨n / 128, by omega⟩ d ⟨n % 128, by omega⟩) : EReal).toReal else 0
  ks n := if hn : n < 12288 then (s (ix3 b ⟨n, hn⟩ ⟨h.val, by omega⟩) : EReal).toReal else 0
  vs n := if hn : n < 12288 then (s (ix3 b ⟨n, hn⟩ ⟨h.val + 4, by omega⟩) : EReal).toReal else 0
  pos r := selAt a0 (1920 * b.val + 16 * (r / 48) + r % 16)
  first t := selAt a0 (firstAt b.val t)
  last t := selAt a0 (lastAt b.val t)

theorem coe_of_real {x : EReal} (h : ∃ z : ℝ, x = (z : EReal)) : x = ((x.toReal : ℝ) : EReal) := by
  obtain ⟨z, rfl⟩ := h
  rw [EReal.toReal_coe]

variable {a0 q k v s p}

theorem Good.holds (G : Good a0 q k v s p) : Holds (dataOf a0 q k v s b h) q k v s p b h where
  q r d := by
    simp only [dataOf, dif_pos r.isLt]
    exact coe_of_real (G.q _)
  k n d := by
    simp only [dataOf, dif_pos n.isLt]
    exact coe_of_real (G.k _)
  v c d n := by
    have hc : 128 * c.val + n.val < 12288 := by omega
    have e1 : (⟨(128 * c.val + n.val) / 128, by omega⟩ : Fin 96) = c := Fin.ext (by show _ / 128 = _; omega)
    have e2 : (⟨(128 * c.val + n.val) % 128, by omega⟩ : Fin 128) = n := Fin.ext (by show _ % 128 = _; omega)
    simp only [dataOf, dif_pos hc, e1, e2]
    exact coe_of_real (G.v _)
  ks n j hj := by
    have e : j = ⟨h.val, by omega⟩ := Fin.ext hj
    simp only [e, dataOf, dif_pos n.isLt]
    exact coe_of_real (G.s _)
  vs n j hj := by
    have e : j = ⟨h.val + 4, by omega⟩ := Fin.ext hj
    simp only [e, dataOf, dif_pos n.isLt]
    exact coe_of_real (G.s _)
  p r := G.pos b r
  pos r hr := G.lt _

/-- The positions of a prompt rise. -/
theorem Good.mono (G : Good a0 q k v s p) {i j : ℕ} (hij : i ≤ j) (hj : j < 1920) : selAt a0 (1920 * b.val + i) ≤ selAt a0 (1920 * b.val + j) := by
  induction j with
  | zero => obtain rfl : i = 0 := by omega
            exact le_rfl
  | succ j ih =>
    rcases Nat.lt_or_ge i (j + 1) with h | h
    · exact (ih (by omega) (by omega)).trans (G.rise b j hj)
    · obtain rfl : i = j + 1 := by omega
      exact le_rfl

theorem Good.ge (G : Good a0 q k v s p) {t x : ℕ} (ht : t < 12) (hx : x < 512) : (dataOf a0 q k v s b h).first t ≤ (dataOf a0 q k v s b h).pos (row0 t + x) := by
  simp only [dataOf, firstAt, add_assoc]
  unfold row0
  exact G.mono b (by omega) (by omega)

theorem Good.le (G : Good a0 q k v s p) {t x : ℕ} (ht : t < 12) (hx : x < 512) : (dataOf a0 q k v s b h).pos (row0 t + x) ≤ (dataOf a0 q k v s b h).last t := by
  simp only [dataOf, lastAt, add_assoc]
  unfold row0
  exact G.mono b (by omega) (by omega)

end

end Cert.Sel
-- ==== Proof.AttnArray.lean ====
/-
  The attention call's result over the reals: what a grid point is handed holds one head's data, and the array holds every
  head's attention.
-/
module

public import proofs.«01_k».proof.Proof.AttnFrame
public import proofs.«01_k».proof.Proof.AttnBlocks
public import proofs.«01_k».proof.Proof.AttnHooks
public import proofs.«01_k».proof.Proof.AttnSel

@[expose] public section

set_option maxRecDepth 16384

noncomputable section

namespace Cert.AttnIdeal.Arr

open Cert.AttnIdeal Cert.AttnIdeal.Gen Cert.AttnIdeal.Hand Cert.AttnIdeal.Val Cert.AttnReal Cert.Sel
open Idealize.ShloMosaic Idealize.ShloMosaic.TcCoe Idealize.SL.Sem
open Idealize.ShloMosaic.Pipeline (Dat)

variable (m : (ℓ : Loc nD τ sig) → Buf (Elt Ideal) ℓ) (c : Dev nD)

abbrev aSel : IVec S11520 32 := m ((c.tc : Thread nD τ).loc main_arg0)
abbrev aQ : FVec Ideal S6x4x5760x128 .bf16 := m ((c.tc : Thread nD τ).loc main_arg1)
abbrev aK : FVec Ideal S6x4x12288x128 .bf16 := m ((c.tc : Thread nD τ).loc main_arg2)
abbrev aV : FVec Ideal S6x4x96x128x128 .bf16 := m ((c.tc : Thread nD τ).loc main_arg3)
abbrev aS : FVec Ideal S6x12288x128 .f32 := m ((c.tc : Thread nD τ).loc main_arg4)
abbrev aP : IVec S6x1x5760 32 := m ((c.tc : Thread nD τ).loc main_arg5)

/-- The precondition on a device's arguments, read. -/
abbrev GoodAt : Prop := Good (aSel m c) (aQ m c) (aK m c) (aV m c) (aS m c) (aP m c)

/-- A head's data. -/
abbrev dataAt (b : Fin 6) (h : Fin 4) : Data := dataOf (aSel m c) (aQ m c) (aK m c) (aV m c) (aS m c) b h

theorem firstAt_lt {b t : ℕ} (hb : b < 6) (ht : t < 12) : firstAt b t < 11520 := by
  unfold firstAt row0; omega
theorem lastAt_lt {b t : ℕ} (hb : b < 6) (ht : t < 12) : lastAt b t < 11520 := by
  unfold lastAt row0; omega

variable {m c}
variable (hO : Ok m)

theorem word_sel (t : Fin (cfgM m hO).N) {o : Fin 1 → ℕ} {n : ℕ} (ho : o = ![n]) (hn : n < 11520) (h) :
    ((insAt m hO c t).word o h).toNat = selAt (aSel m c) n := by
  rw [word_eq m hO c t o h (ix1 ⟨n, hn⟩) (by subst ho; rfl)]
  exact selAt_eq (aSel m c) hn

/-- A grid point's inputs hold its head's data. -/
theorem fits (G : GoodAt m c) (t : Fin (cfgM m hO).N) :
    Fits (dataAt m c (bOf (grid0.coords t)) (hOf (grid0.coords t))) (insAt m hO c t) (grid0.coords t) where
  lane := (grid0.coords t 1).isLt
  q r d := (congrFun ((hs0_0 m hO t).read_unread _) _).trans ((blk0 m hO c t r d).trans ((G.holds _ _).q r d))
  k n d := (congrFun ((hs0_1 m hO t).read_unread _) _).trans ((blk1 m hO c t n d).trans ((G.holds _ _).k n d))
  v a d n := (congrFun ((hs0_2 m hO t).read_unread _) _).trans ((blk2 m hO c t a d n).trans ((G.holds _ _).v a d n))
  ks n j hj := (congrFun ((hs0_3 m hO t).read_unread _) _).trans ((blk3 m hO c t n j).trans ((G.holds _ _).ks n j hj))
  vs n j hj := (congrFun ((hs0_3 m hO t).read_unread _) _).trans ((blk3 m hO c t n j).trans ((G.holds _ _).vs n j hj))
  p r := (congrFun ((hs0_4 m hO t).read_unread _) _).trans ((blk4 m hO c t r).trans ((G.holds _ _).p r))
  pos r hr := G.lt _
  w12 i := word_sel hO t (off12_eq _ i) (lastAt_lt (grid0.coords t 0).isLt (t4_lt i)) _
  w13 i := word_sel hO t (off13_eq _ i) (firstAt_lt (grid0.coords t 0).isLt (t4_lt i)) _
  w14 i := word_sel hO t (off14_eq _ i) (lastAt_lt (grid0.coords t 0).isLt (t4_lt i)) _
  w4 i := word_sel hO t (off4_eq _ i) (lastAt_lt (grid0.coords t 0).isLt (t1_lt i)) _
  last i hi := G.lt _
  firstLt i hi := G.lt _
  ge i hi x hx := G.ge _ _ hi hx
  le i hi x hx := G.le _ _ hi hx

variable (m)

/-- A grid point's attention. -/
def outOf (c : Dev nD) (t : Fin (cfgM m hO).N) : Vec Ideal S1x1x128x5760 .f32 :=
  fun y => (((dataAt m c (bOf (grid0.coords t)) (hOf (grid0.coords t))).spec (y 2) (y 3).val : ℝ) : EReal)

theorem out_of_done (c : Dev nD) (t : Fin (cfgM m hO).N) (f8)
    (h : Done (dataAt m c (bOf (grid0.coords t)) (hOf (grid0.coords t))) (refsAt m hO t) 12 f8) :
    (ms0_5 m hO t).view.read (Elt Ideal) f8 = outOf m hO c t := by
  funext y
  have e : y = (ix4 0 0 (y 2) (y 3) : S1x1x128x5760.Idx) := (eq_ix4 y).trans
    (congrArg₂ (fun a b => (ix4 a b (y 2) (y 3) : S1x1x128x5760.Idx)) (Subsingleton.elim (α := Fin 1) _ _) (Subsingleton.elim (α := Fin 1) _ _))
  rw [e]
  exact h (y 2) (y 3) (y 3).isLt

/-- The call's run, with every element of the result. -/
theorem run (ρ : Dev nD → PrngReg) (hG : ∀ c, GoodAt m c) :
    θ_run defs (onTc (τ := τ) (main (F := Ideal))) (s₀ m ρ)
      (fun r => (Pipeline.FramePost (Pipeline.pin pcfgs fun _ => adm m hO) (dats m hO (outOf m hO)) 0 (V m)) r ∧ r.2.sem = fun _ => 0) :=
  run_named m ρ hO (outOf m hO) (small_of m hO fun c y => by
      obtain ⟨n, rfl⟩ : ∃ n : Fin 11520, y = ix1 n := ⟨y 0, eq_ix1 y⟩
      exact (selAt_eq (aSel m c) n.isLt).trans_lt ((hG c).lt n.val))
    (fun c t => hooks (fits hO (hG c) t)) fun c t f8 h => out_of_done m hO c t f8 h

theorem arr (c : Dev nD) (b : Fin 6) (h : Fin 4) (d : Fin 128) (r : Fin 5760) :
    (dats m hO (outOf m hO) 0 c).arrAt 5 (cfgM m hO).N (ix4 b h d r : S6x4x128x5760.Idx) = (((dataAt m c b h).spec d r.val : ℝ) : EReal) := by
  refine (arr5 m hO (outOf m hO) c b h d r).trans ?_
  show (((dataAt m c (bOf (grid0.coords (pt b h))) (hOf (grid0.coords (pt b h)))).spec d r.val : ℝ) : EReal) = _
  rw [bOf_pt, hOf_pt]

end Cert.AttnIdeal.Arr
-- ==== Proof.AttnEq.lean ====
/-
  The attention kernel and the reference leave the same array: both hold every head's attention. And the reference's frame.
-/
module

public import proofs.«01_k».proof.Defs
public import proofs.«01_k».proof.Proof.AttnArray
public import Idealize.ShloMosaic.Lib.Quiescent

@[expose] public section

set_option maxRecDepth 16384

noncomputable section

namespace Cert.AttnEq

open Idealize.ShloMosaic Idealize.ShloMosaic.TcCoe Idealize.SL.Sem
open Cert.AttnIdeal.Hand Cert.AttnIdeal.Arr

/-- The reference's frame. -/
theorem ref_frame : Cert.quiescent_AttnRefIdeal := fun m ρ _ =>
  (θ_run AttnRefIdeal.defs _ _).mono (fun r h => ⟨fun c => (h c).2, sem_eq_zero_of_no_sems rfl _⟩) (AttnRefIdeal.Value.run m ρ)

theorem algebraic : Cert.algebraic_AttnIdeal_AttnRefIdeal_pre_selected := by
  intro m g m' g' hpre hargs
  have hG : ∀ c, GoodAt m c := fun c =>
    Cert.Sel.good_of (hpre c).1 (hpre c).2.1 (hpre c).2.2.1 (hpre c).2.2.2.1 (hpre c).2.2.2.2.1 (hpre c).2.2.2.2.2.1 (hpre c).2.2.2.2.2.2
  refine ⟨fun c => (dats m (hO m) (outOf m (hO m)) 0 c).arrAt 5 (cfgM m (hO m)).N,
    (θ_run AttnIdeal.defs _ _).mono (fun r h c => ⟨(h.1 c).1 5,
      ((h.1 c).2 AttnIdeal.main_arg0 (by decide : AttnIdeal.main_arg0 ∈ Pipeline.restRefs AttnIdeal.sig AttnIdeal.spec0)).trans (V_main_arg0 m c),
      ((h.1 c).1 0).trans (((dats m (hO m) (outOf m (hO m)) 0 c).arrAt_in 0 rfl _).trans ((A_eq m (hO m) (outOf m (hO m)) c 0).trans (V_main_arg1 m c))),
      ((h.1 c).1 1).trans (((dats m (hO m) (outOf m (hO m)) 0 c).arrAt_in 1 rfl _).trans ((A_eq m (hO m) (outOf m (hO m)) c 1).trans (V_main_arg2 m c))),
      ((h.1 c).1 2).trans (((dats m (hO m) (outOf m (hO m)) 0 c).arrAt_in 2 rfl _).trans ((A_eq m (hO m) (outOf m (hO m)) c 2).trans (V_main_arg3 m c))),
      ((h.1 c).1 3).trans (((dats m (hO m) (outOf m (hO m)) 0 c).arrAt_in 3 rfl _).trans ((A_eq m (hO m) (outOf m (hO m)) c 3).trans (V_main_arg4 m c))),
      ((h.1 c).1 4).trans (((dats m (hO m) (outOf m (hO m)) 0 c).arrAt_in 4 rfl _).trans ((A_eq m (hO m) (outOf m (hO m)) c 4).trans (V_main_arg5 m c)))⟩)
      (run m (hO m) g hG),
    (θ_run AttnRefIdeal.defs _ _).mono (fun r h c => ⟨(h c).1.trans ?_, (h c).2⟩) (AttnRefIdeal.Value.run m' g')⟩
  obtain ⟨-, e1, e2, e3, e4, e5⟩ := hargs c
  refine (AttnRefIdeal.Val.res_eq m' c).trans ?_
  rw [e1, e2, e3, e4, e5]
  funext y
  obtain ⟨b, hd, d, n, rfl⟩ : ∃ (b : Fin 6) (hd : Fin 4) (d : Fin 128) (n : Fin 5760), y = ix4 b hd d n := ⟨y 0, y 1, y 2, y 3, eq_ix4 y⟩
  exact (((hG c).holds b hd).mean d n).trans (arr m (hO m) c b hd d n).symm

end Cert.AttnEq
-- ==== Proof.BitsWords.lean ====
module

public import proofs.«01_k».proof.Proof.Gen.Attn
public import Idealize.ShloMosaic.Lib.WordCmp
public import Idealize.ShloMosaic.Lib.Routing.Words

/-! The word arithmetic of the attention kernel: what its loop bounds, its conditions, its side conditions and its offsets
are, as natural numbers, when the positions it reads are below the number of keys. -/

@[expose] public section

set_option maxRecDepth 16384

noncomputable section

namespace Cert.Attn.Hand

open Cert.Attn
open Idealize.ShloMosaic Idealize.ShloMosaic.TcCoe

/-- The quotient by 512, rounded down, as the kernel spells it. -/
def qd (v : BitVec 32) : BitVec 32 :=
  Scalar.select
    (Scalar.andi
      (Scalar.cmpi .ne
        (Scalar.subi (Scalar.extui (Scalar.cmpi .sgt v 0#32) : BitVec 32) (Scalar.extui (Scalar.cmpi .slt v 0#32) : BitVec 32))
        (Scalar.subi (Scalar.extui (Scalar.cmpi .sgt 512#32 0#32) : BitVec 32) (Scalar.extui (Scalar.cmpi .slt 512#32 0#32) : BitVec 32)))
      (Scalar.cmpi .ne (Scalar.remsi v 512#32) 0#32))
    (Scalar.subi (Scalar.divsi v 512#32) 1#32) (Scalar.divsi v 512#32)

theorem qd_ofNat {n : Nat} (h : n < 2 ^ 31) : qd (BitVec.ofNat 32 n) = BitVec.ofNat 32 (n / 512) := by
  have hd : Scalar.divsi (BitVec.ofNat 32 n) 512#32 = BitVec.ofNat 32 (n / 512) :=
    Routing.divsi_word _ h (by decide) (by decide)
  rcases Nat.eq_zero_or_pos n with rfl | hp
  · decide
  · have h1 : Scalar.cmpi .sgt (BitVec.ofNat 32 n) 0#32 = 1#1 :=
      (WordCmp.cmpi_sgt_ofNat_eq_one_iff (a := n) (b := 0) h (by decide)).mpr hp
    have h2 : Scalar.cmpi .slt (BitVec.ofNat 32 n) 0#32 = 0#1 :=
      (WordCmp.cmpi_slt_ofNat_eq_zero_iff (a := n) (b := 0) h (by decide)).mpr (by omega)
    unfold qd
    rw [hd, h1, h2]
    have h3 : Scalar.cmpi .ne
        (Scalar.subi (Scalar.extui (1#1 : BitVec 1) : BitVec 32) (Scalar.extui (0#1 : BitVec 1) : BitVec 32))
        (Scalar.subi (Scalar.extui (Scalar.cmpi .sgt 512#32 0#32) : BitVec 32) (Scalar.extui (Scalar.cmpi .slt 512#32 0#32) : BitVec 32)) = 0#1 := by
      decide
    rw [h3]
    have h4 : ∀ x : BitVec 1, Scalar.andi (0#1 : BitVec 1) x = 0#1 := by decide
    rw [h4]
    rfl

theorem qd_of_lt {v : BitVec 32} (h : v.toNat < 12288) : qd v = BitVec.ofNat 32 (v.toNat / 512) := by
  have := qd_ofNat (n := v.toNat) (by omega)
  rwa [BitVec.ofNat_toNat, BitVec.setWidth_eq] at this

theorem qd_succ_of_lt {v : BitVec 32} (h : v.toNat < 12288) :
    qd (Scalar.addi v 1#32) = BitVec.ofNat 32 ((v.toNat + 1) / 512) := by
  have e : Scalar.addi v 1#32 = BitVec.ofNat 32 (v.toNat + 1) := by
    apply BitVec.eq_of_toNat_eq
    show (v + 1#32).toNat = _
    rw [BitVec.toNat_add, BitVec.toNat_ofNat]; rfl
  rw [e]
  exact qd_ofNat (by omega)

theorem iv_eq (k : Nat) : Scf.iv 0#32 1#32 k = BitVec.ofNat 32 k := by
  simp [Scf.iv]

/-! ### The loops -/

theorem t5_loop_eq {v : BitVec 32} (h : v.toNat < 12288) :
    k0_t5_loop v = ⟨0#32, BitVec.ofNat 32 (v.toNat / 512 + 1), 1#32⟩ := by
  have key : ∀ q : Fin 24, Scalar.addi 0#32 (Scalar.muli (Scalar.divsi (Scalar.subi (Scalar.addi (BitVec.ofNat 32 q.val) 1#32) 0#32) 1#32) 1#32)
      = BitVec.ofNat 32 (q.val + 1) := by decide +kernel
  show (⟨0#32, Scalar.addi 0#32 (Scalar.muli (Scalar.divsi (Scalar.subi (Scalar.addi (qd v) 1#32) 0#32) 1#32) 1#32), 1#32⟩ : Scf.Loop 32) = _
  rw [qd_of_lt h, key ⟨v.toNat / 512, by omega⟩]

theorem t6_loop_eq {v : BitVec 32} (h : v.toNat < 12288) :
    k0_t6_loop v = ⟨BitVec.ofNat 32 (v.toNat / 512 + 1), BitVec.ofNat 32 (v.toNat / 512 + 1), 1#32⟩ := by
  have key : ∀ q : Fin 24, Scalar.addi 0#32 (Scalar.muli (Scalar.divsi (Scalar.subi (Scalar.addi (BitVec.ofNat 32 q.val) 1#32) 0#32) 1#32) 1#32)
      = BitVec.ofNat 32 (q.val + 1) ∧ Scalar.addi 0#32 (Scalar.subi (Scalar.addi (BitVec.ofNat 32 q.val) 1#32) 0#32) = BitVec.ofNat 32 (q.val + 1) := by decide +kernel
  show (⟨Scalar.addi 0#32 (Scalar.muli (Scalar.divsi (Scalar.subi (Scalar.addi (qd v) 1#32) 0#32) 1#32) 1#32), Scalar.addi 0#32 (Scalar.subi (Scalar.addi (qd v) 1#32) 0#32), 1#32⟩ : Scf.Loop 32) = _
  rw [qd_of_lt h, (key ⟨v.toNat / 512, by omega⟩).1, (key ⟨v.toNat / 512, by omega⟩).2]

theorem t2_loop_eq {v : BitVec 32} (h : v.toNat < 12288) :
    k0_t2_loop v = ⟨0#32, BitVec.ofNat 32 (2 * (v.toNat / 512 + 1)), 1#32⟩ := by
  have key : ∀ q : Fin 24, Scalar.addi 0#32 (Scalar.muli (Scalar.divsi (Scalar.subi (Scalar.muli (Scalar.addi (BitVec.ofNat 32 q.val) 1#32) 2#32) 0#32) 1#32) 1#32)
      = BitVec.ofNat 32 (2 * (q.val + 1)) := by decide +kernel
  show (⟨0#32, Scalar.addi 0#32 (Scalar.muli (Scalar.divsi (Scalar.subi (Scalar.muli (Scalar.addi (qd v) 1#32) 2#32) 0#32) 1#32) 1#32), 1#32⟩ : Scf.Loop 32) = _
  rw [qd_of_lt h, key ⟨v.toNat / 512, by omega⟩]

theorem t3_loop_eq {v : BitVec 32} (h : v.toNat < 12288) :
    k0_t3_loop v = ⟨BitVec.ofNat 32 (2 * (v.toNat / 512 + 1)), BitVec.ofNat 32 (2 * (v.toNat / 512 + 1)), 1#32⟩ := by
  have key : ∀ q : Fin 24, Scalar.addi 0#32 (Scalar.muli (Scalar.divsi (Scalar.subi (Scalar.muli (Scalar.addi (BitVec.ofNat 32 q.val) 1#32) 2#32) 0#32) 1#32) 1#32)
      = BitVec.ofNat 32 (2 * (q.val + 1)) ∧ Scalar.addi 0#32 (Scalar.subi (Scalar.muli (Scalar.addi (BitVec.ofNat 32 q.val) 1#32) 2#32) 0#32) = BitVec.ofNat 32 (2 * (q.val + 1)) := by decide +kernel
  show (⟨Scalar.addi 0#32 (Scalar.muli (Scalar.divsi (Scalar.subi (Scalar.muli (Scalar.addi (qd v) 1#32) 2#32) 0#32) 1#32) 1#32), Scalar.addi 0#32 (Scalar.subi (Scalar.muli (Scalar.addi (qd v) 1#32) 2#32) 0#32), 1#32⟩ : Scf.Loop 32) = _
  rw [qd_of_lt h, (key ⟨v.toNat / 512, by omega⟩).1, (key ⟨v.toNat / 512, by omega⟩).2]

/-- A loop from 0 in steps of one. -/
theorem loop_up : ∀ n : Fin 49, (⟨0#32, BitVec.ofNat 32 n.val, 1#32⟩ : Scf.Loop 32).OK ∧ (⟨0#32, BitVec.ofNat 32 n.val, 1#32⟩ : Scf.Loop 32).trips = n.val := by
  decide +kernel

/-- A loop whose bounds agree. -/
theorem loop_none : ∀ n : Fin 49, (⟨BitVec.ofNat 32 n.val, BitVec.ofNat 32 n.val, 1#32⟩ : Scf.Loop 32).OK ∧ (⟨BitVec.ofNat 32 n.val, BitVec.ofNat 32 n.val, 1#32⟩ : Scf.Loop 32).trips = 0 := by
  decide +kernel

theorem t5_ok {v : BitVec 32} (h : v.toNat < 12288) : (k0_t5_loop v).OK := by
  rw [t5_loop_eq h]; exact (loop_up ⟨v.toNat / 512 + 1, by omega⟩).1
theorem t5_trips {v : BitVec 32} (h : v.toNat < 12288) : (k0_t5_loop v).trips = v.toNat / 512 + 1 := by
  rw [t5_loop_eq h]; exact (loop_up ⟨v.toNat / 512 + 1, by omega⟩).2
theorem t6_ok {v : BitVec 32} (h : v.toNat < 12288) : (k0_t6_loop v).OK := by
  rw [t6_loop_eq h]; exact (loop_none ⟨v.toNat / 512 + 1, by omega⟩).1
theorem t6_trips {v : BitVec 32} (h : v.toNat < 12288) : (k0_t6_loop v).trips = 0 := by
  rw [t6_loop_eq h]; exact (loop_none ⟨v.toNat / 512 + 1, by omega⟩).2
theorem t2_ok {v : BitVec 32} (h : v.toNat < 12288) : (k0_t2_loop v).OK := by
  rw [t2_loop_eq h]; exact (loop_up ⟨2 * (v.toNat / 512 + 1), by omega⟩).1
theorem t2_trips {v : BitVec 32} (h : v.toNat < 12288) : (k0_t2_loop v).trips = 2 * (v.toNat / 512 + 1) := by
  rw [t2_loop_eq h]; exact (loop_up ⟨2 * (v.toNat / 512 + 1), by omega⟩).2
theorem t3_ok {v : BitVec 32} (h : v.toNat < 12288) : (k0_t3_loop v).OK := by
  rw [t3_loop_eq h]; exact (loop_none ⟨2 * (v.toNat / 512 + 1), by omega⟩).1
theorem t3_trips {v : BitVec 32} (h : v.toNat < 12288) : (k0_t3_loop v).trips = 0 := by
  rw [t3_loop_eq h]; exact (loop_none ⟨2 * (v.toNat / 512 + 1), by omega⟩).2

theorem t4_trips : k0_t4_loop.trips = 12 := by decide +kernel
theorem t1_trips : k0_t1_loop.trips = 12 := by decide +kernel

theorem t4_lt (t : Fin k0_t4_loop.trips) : t.val < 12 := t4_trips ▸ t.isLt
theorem t1_lt (t : Fin k0_t1_loop.trips) : t.val < 12 := t1_trips ▸ t.isLt
theorem t5_le {v : BitVec 32} (h : v.toNat < 12288) (k : Fin (k0_t5_loop v).trips) : k.val ≤ v.toNat / 512 :=
  Nat.lt_succ_iff.mp (Nat.lt_of_lt_of_eq k.isLt (t5_trips h))
theorem t2_le {v : BitVec 32} (h : v.toNat < 12288) (k : Fin (k0_t2_loop v).trips) : k.val < 2 * (v.toNat / 512 + 1) :=
  Nat.lt_of_lt_of_eq k.isLt (t2_trips h)

/-! ### The conditions -/

theorem cond2_iff {v : BitVec 32} (h : v.toNat < 12288) (k : Fin (k0_t5_loop v).trips) : k0_cond2 v k = 1#1 ↔ k.val = 0 := by
  have key : ∀ k : Fin 24, Scalar.cmpi .ne (Scalar.extui (Scalar.cmpi .eq (BitVec.ofNat 32 k.val) 0#32) : BitVec 32) 0#32 = 1#1 ↔ k.val = 0 := by
    decide +kernel
  have := t5_le h k
  show Scalar.cmpi .ne (Scalar.extui (Scalar.cmpi .eq (Scf.iv 0#32 1#32 k.val) 0#32) : BitVec 32) 0#32 = 1#1 ↔ _
  rw [iv_eq]; exact key ⟨k.val, by omega⟩

theorem cond3_iff {v w : BitVec 32} (h : v.toNat < 12288) (hw : w.toNat < 12288) (k : Fin (k0_t5_loop v).trips) :
    k0_cond3 v k w = 1#1 ↔ k.val < (w.toNat + 1) / 512 := by
  have key : ∀ k q : Fin 25, Scalar.cmpi .ne (Scalar.extui (Scalar.cmpi .slt (BitVec.ofNat 32 k.val) (BitVec.ofNat 32 q.val)) : BitVec 32) 0#32 = 1#1 ↔ k.val < q.val := by
    decide +kernel
  have := t5_le h k
  show Scalar.cmpi .ne (Scalar.extui (Scalar.cmpi .slt (Scf.iv 0#32 1#32 k.val) (qd (Scalar.addi w 1#32))) : BitVec 32) 0#32 = 1#1 ↔ _
  rw [iv_eq, qd_succ_of_lt hw]; exact key ⟨k.val, by omega⟩ ⟨(w.toNat + 1) / 512, by omega⟩

theorem cond4_iff {v w : BitVec 32} (h : v.toNat < 12288) (hw : w.toNat < 12288) (k : Fin (k0_t5_loop v).trips) :
    k0_cond4 v k w = 1#1 ↔ (w.toNat + 1) / 512 ≤ k.val := by
  have key : ∀ k q : Fin 25, Scalar.cmpi .ne (Scalar.extui (Scalar.cmpi .sge (BitVec.ofNat 32 k.val) (BitVec.ofNat 32 q.val)) : BitVec 32) 0#32 = 1#1 ↔ q.val ≤ k.val := by
    decide +kernel
  have := t5_le h k
  show Scalar.cmpi .ne (Scalar.extui (Scalar.cmpi .sge (Scf.iv 0#32 1#32 k.val) (qd (Scalar.addi w 1#32))) : BitVec 32) 0#32 = 1#1 ↔ _
  rw [iv_eq, qd_succ_of_lt hw]; exact key ⟨k.val, by omega⟩ ⟨(w.toNat + 1) / 512, by omega⟩

/-! ### The tile of queries and the block of keys that follow -/

/-- The first query of tile `p`. -/
def row0 (p : Nat) : Nat := 512 * p - 384

theorem row0_le {p : Nat} (h : p < 12) : row0 p + 512 ≤ 5760 := by unfold row0; omega

/-- The tile whose scores trip `k` of tile `p`'s `q + 1` trips prepares. -/
def nextTile (p k q : Nat) : Nat := if k = q then min (p + 1) 11 else p
/-- The block of keys of those scores. -/
def nextBlock (k q : Nat) : Nat := if k = q then 0 else k + 1

theorem nextTile_lt {p : Nat} (h : p < 12) (k q : Nat) : nextTile p k q < 12 := by unfold nextTile; split <;> omega
theorem nextBlock_lt {k q : Nat} (h : k ≤ q) (hq : q < 24) : nextBlock k q < 24 := by unfold nextBlock; split <;> omega

/-- Whether a trip is the last, as the kernel tests it. -/
theorem last_eq {k q : Nat} (hk : k ≤ q) (hq : q < 24) :
    Scalar.cmpi .eq (BitVec.ofNat 32 k) (Scalar.subi (Scalar.addi (BitVec.ofNat 32 q) 1#32) 1#32) = if k = q then 1#1 else 0#1 := by
  have key : ∀ k q : Fin 24, Scalar.cmpi .eq (BitVec.ofNat 32 k.val) (Scalar.subi (Scalar.addi (BitVec.ofNat 32 q.val) 1#32) 1#32) = if k.val = q.val then 1#1 else 0#1 := by
    decide +kernel
  exact key ⟨k, by omega⟩ ⟨q, hq⟩

/-- The first query of a tile, as the kernel computes it. -/
def rowWord (x : BitVec 32) : BitVec 32 := Scalar.maxsi (Scalar.subi (Scalar.muli 512#32 x) 384#32) 0#32

theorem rowWord_eq : ∀ p : Fin 12, (rowWord (BitVec.ofNat 32 p.val)).toNat = row0 p.val := by decide +kernel
theorem rowWord_min_eq : ∀ p : Fin 12, (rowWord (Scalar.minsi (BitVec.ofNat 32 p.val) 11#32)).toNat = row0 p.val := by decide +kernel
theorem row0_dvd : ∀ p : Fin 12, 128 ∣ row0 p.val := by decide +kernel

/-- The next tile, as the kernel computes it. -/
def nextWord (l : BitVec 1) (t : BitVec 32) : BitVec 32 :=
  Scalar.minsi (Scalar.select l (Scalar.addi (Scalar.minsi t 11#32) 1#32) (Scalar.minsi t 11#32)) 11#32

theorem nextWord_eq {t k q : Nat} (ht : t < 12) : (rowWord (nextWord (if k = q then 1#1 else 0#1) (BitVec.ofNat 32 t))).toNat = row0 (nextTile t k q) := by
  have k1 : ∀ t : Fin 12, (rowWord (nextWord 1#1 (BitVec.ofNat 32 t.val))).toNat = row0 (min (t.val + 1) 11) := by decide +kernel
  have k0 : ∀ t : Fin 12, (rowWord (nextWord 0#1 (BitVec.ofNat 32 t.val))).toNat = row0 t.val := by decide +kernel
  unfold nextTile
  split
  · exact k1 ⟨t, ht⟩
  · exact k0 ⟨t, ht⟩

/-- The next block's keys, as the kernel computes their first. -/
theorem nextKey_eq {k q : Nat} (hk : k ≤ q) (hq : q < 24) (r : Fin 2) :
    (Scalar.addi (Scalar.muli (Scalar.select (if k = q then 1#1 else 0#1) 0#32 (Scalar.addi (BitVec.ofNat 32 k) 1#32)) 512#32) (BitVec.ofNat 32 (256 * r.val))).toNat
      = 512 * nextBlock k q + 256 * r.val := by
  have k1 : ∀ (k : Fin 24) (r : Fin 2), (Scalar.addi (Scalar.muli (Scalar.select 1#1 0#32 (Scalar.addi (BitVec.ofNat 32 k.val) 1#32)) 512#32) (BitVec.ofNat 32 (256 * r.val))).toNat
      = 256 * r.val := by decide +kernel
  have k0 : ∀ (k : Fin 24) (r : Fin 2), (Scalar.addi (Scalar.muli (Scalar.select 0#1 0#32 (Scalar.addi (BitVec.ofNat 32 k.val) 1#32)) 512#32) (BitVec.ofNat 32 (256 * r.val))).toNat
      = 512 * (k.val + 1) + 256 * r.val := by decide +kernel
  unfold nextBlock
  split
  · rw [k1 ⟨k, by omega⟩ r]; omega
  · exact k0 ⟨k, by omega⟩ r

/-! ### The offsets -/

section Trip

variable {v w u : BitVec 32} (hv : v.toNat < 12288) (k : Fin (k0_t5_loop v).trips) (hu : u.toNat = v.toNat) (t : Fin k0_t4_loop.trips)

include hv in
theorem keyWord_eq (r : Fin 2) : (Scalar.addi (Scalar.muli (Scf.iv 0#32 1#32 k.val) 512#32) (BitVec.ofNat 32 (256 * r.val))).toNat = 512 * k.val + 256 * r.val := by
  have key : ∀ (k : Fin 24) (r : Fin 2), (Scalar.addi (Scalar.muli (BitVec.ofNat 32 k.val) 512#32) (BitVec.ofNat 32 (256 * r.val))).toNat = 512 * k.val + 256 * r.val := by decide +kernel
  have := t5_le hv k
  rw [iv_eq]; exact key ⟨k.val, by omega⟩ r

include hv in
theorem off20_eq (r : Fin 2) : k0_off20 v k (BitVec.ofNat 32 (256 * r.val)) = ![0, 512 * k.val + 256 * r.val, 0] := by
  rw [← keyWord_eq hv k r]; rfl
include hv in
theorem off25_eq (r : Fin 2) : k0_off25 v k (BitVec.ofNat 32 (256 * r.val)) = ![0, 512 * k.val + 256 * r.val, 0] := by
  rw [← keyWord_eq hv k r]; rfl

include hv hu in
theorem nextRow_eq : (rowWord (nextWord (Scalar.cmpi .eq (Scf.iv 0#32 1#32 k.val) (Scalar.subi (Scalar.addi (qd u) 1#32) 1#32)) (Scf.iv 0#32 1#32 t.val))).toNat
    = row0 (nextTile t.val k.val (v.toNat / 512)) := by
  have hk := t5_le hv k
  rw [iv_eq, iv_eq, qd_of_lt (by omega), hu, last_eq hk (by omega), nextWord_eq (t4_lt t)]

include hv hu in
theorem off17_eq : k0_off17 t v k u = ![0, 0, row0 (nextTile t.val k.val (v.toNat / 512)), 0] := by
  rw [← nextRow_eq hv k hu t]; rfl
include hv hu in
theorem off22_eq : k0_off22 t v k u = ![0, 0, row0 (nextTile t.val k.val (v.toNat / 512)), 0] := by
  rw [← nextRow_eq hv k hu t]; rfl

include hv hu in
theorem nextKeyWord_eq (r : Fin 2) :
    (Scalar.addi (Scalar.muli (Scalar.select (Scalar.cmpi .eq (Scf.iv 0#32 1#32 k.val) (Scalar.subi (Scalar.addi (qd u) 1#32) 1#32)) 0#32
      (Scalar.addi (Scf.iv 0#32 1#32 k.val) 1#32)) 512#32) (BitVec.ofNat 32 (256 * r.val))).toNat = 512 * nextBlock k.val (v.toNat / 512) + 256 * r.val := by
  have hk := t5_le hv k
  rw [iv_eq, qd_of_lt (by omega), hu, last_eq hk (by omega), nextKey_eq hk (by omega)]

include hv hu in
theorem off21_eq (r : Fin 2) : k0_off21 v k u (BitVec.ofNat 32 (256 * r.val)) = ![0, 0, 512 * nextBlock k.val (v.toNat / 512) + 256 * r.val, 0] := by
  rw [← nextKeyWord_eq hv k hu r]; rfl
include hv hu in
theorem off26_eq (r : Fin 2) : k0_off26 v k u (BitVec.ofNat 32 (256 * r.val)) = ![0, 0, 512 * nextBlock k.val (v.toNat / 512) + 256 * r.val, 0] := by
  rw [← nextKeyWord_eq hv k hu r]; rfl

theorem valWord_eq {c : Nat} (hc : c < 24) (r₁ r₂ : Fin 2) :
    (Scalar.addi (Scalar.addi (Scalar.muli (BitVec.ofNat 32 c) 4#32) (BitVec.ofNat 32 (2 * r₁.val))) (BitVec.ofNat 32 r₂.val)).toNat = 4 * c + 2 * r₁.val + r₂.val := by
  have key : ∀ (c : Fin 24) (r₁ r₂ : Fin 2), (Scalar.addi (Scalar.addi (Scalar.muli (BitVec.ofNat 32 c.val) 4#32) (BitVec.ofNat 32 (2 * r₁.val))) (BitVec.ofNat 32 r₂.val)).toNat = 4 * c.val + 2 * r₁.val + r₂.val := by decide +kernel
  exact key ⟨c, hc⟩ r₁ r₂

theorem off19_eq {c : Nat} (hc : c < 24) (r₁ r₂ : Fin 2) :
    k0_off19 (BitVec.ofNat 32 c) (BitVec.ofNat 32 (2 * r₁.val)) (BitVec.ofNat 32 r₂.val) = ![0, 0, 4 * c + 2 * r₁.val + r₂.val, 0, 0] := by
  rw [← valWord_eq hc r₁ r₂]; rfl
theorem off24_eq {c : Nat} (hc : c < 24) (r₁ r₂ : Fin 2) :
    k0_off24 (BitVec.ofNat 32 c) (BitVec.ofNat 32 (2 * r₁.val)) (BitVec.ofNat 32 r₂.val) = ![0, 0, 4 * c + 2 * r₁.val + r₂.val, 0, 0] := by
  rw [← valWord_eq hc r₁ r₂]; rfl
theorem off41_eq {c : Nat} (hc : c < 24) (r₁ r₂ : Fin 2) :
    k0_off41 (BitVec.ofNat 32 c) (BitVec.ofNat 32 (2 * r₁.val)) (BitVec.ofNat 32 r₂.val) = ![0, 0, 4 * c + 2 * r₁.val + r₂.val, 0, 0] := by
  rw [← valWord_eq hc r₁ r₂]; rfl

theorem rowMin_eq : (rowWord (Scalar.minsi (Scf.iv 0#32 1#32 t.val) 11#32)).toNat = row0 t.val := by
  rw [iv_eq]; exact rowWord_min_eq ⟨t.val, t4_lt t⟩
theorem off15_eq : k0_off15 t = ![0, 0, row0 t.val] := by rw [← rowMin_eq t]; rfl
theorem off16_eq : k0_off16 t = ![0, row0 t.val] := by rw [← rowMin_eq t]; rfl
theorem off18_eq : k0_off18 t = ![0, 0, row0 t.val] := by rw [← rowMin_eq t]; rfl
theorem off23_eq : k0_off23 t = ![0, 0, row0 t.val] := by rw [← rowMin_eq t]; rfl
theorem off42_eq : k0_off42 t = ![0, 0, 0, row0 t.val] := by
  rw [← rowWord_eq ⟨t.val, t4_lt t⟩, ← iv_eq]; rfl

end Trip

/-! ### The side conditions -/

theorem chk4_of {v w : BitVec 32} (hv : v.toNat < 12288) (k : Fin (k0_t5_loop v).trips) {c : Nat} (hc : c < 24) :
    k0_chk4 v k (BitVec.ofNat 32 c) w := by
  have hk := t5_le hv k
  have m : ∀ r : Fin 2, 256 ∣ (Scalar.addi (Scalar.muli (Scf.iv 0#32 1#32 k.val) 512#32) (BitVec.ofNat 32 (256 * r.val))).toNat := fun r => by
    rw [keyWord_eq hv k r]; omega
  refine ⟨fun _ r₁ r₂ a => ?_, fun _ => m 0, fun _ r a => ?_, fun _ => m 1, fun _ r₁ r₂ a => ?_, fun _ => m 0, fun _ r a => ?_, fun _ => m 1⟩
  · rw [off19_eq hc r₁ r₂]; have := r₁.isLt; have := r₂.isLt
    fin_cases a <;> simp <;> omega
  · rw [off20_eq hv k r]; have := r.isLt
    fin_cases a <;> simp <;> omega
  · rw [off24_eq hc r₁ r₂]; have := r₁.isLt; have := r₂.isLt
    fin_cases a <;> simp <;> omega
  · rw [off25_eq hv k r]; have := r.isLt
    fin_cases a <;> simp <;> omega

theorem chk3_of {v w u : BitVec 32} (hv : v.toNat < 12288) (hu : u.toNat = v.toNat) (t : Fin k0_t4_loop.trips) (k : Fin (k0_t5_loop v).trips) :
    k0_chk3 t v k w u := by
  have hk := t5_le hv k
  have hn := nextTile_lt (t4_lt t) k.val (v.toNat / 512)
  have hb := nextBlock_lt hk (by omega)
  have m : ∀ r : Fin 2, 256 ∣ (Scalar.addi (Scalar.muli (Scalar.select (Scalar.cmpi .eq (Scf.iv 0#32 1#32 k.val) (Scalar.subi (Scalar.addi (qd u) 1#32) 1#32)) 0#32
      (Scalar.addi (Scf.iv 0#32 1#32 k.val) 1#32)) 512#32) (BitVec.ofNat 32 (256 * r.val))).toNat := fun r => by
    rw [nextKeyWord_eq hv k hu r]; omega
  have mr : 128 ∣ (rowWord (nextWord (Scalar.cmpi .eq (Scf.iv 0#32 1#32 k.val) (Scalar.subi (Scalar.addi (qd u) 1#32) 1#32)) (Scf.iv 0#32 1#32 t.val))).toNat := by
    rw [nextRow_eq hv k hu t]; exact row0_dvd ⟨_, hn⟩
  have hr := row0_le hn
  refine ⟨fun _ => mr, fun _ a => ?_, fun _ => m 0, fun _ r a => ?_, fun _ => m 1, fun _ => mr, fun _ a => ?_, fun _ => m 0, fun _ r a => ?_, fun _ => m 1⟩
  · rw [off17_eq hv k hu t]
    fin_cases a <;> simp <;> omega
  · rw [off21_eq hv k hu r]; have := r.isLt
    fin_cases a <;> simp <;> omega
  · rw [off22_eq hv k hu t]
    fin_cases a <;> simp <;> omega
  · rw [off26_eq hv k hu r]; have := r.isLt
    fin_cases a <;> simp <;> omega

theorem chk2_of {v : BitVec 32} (hv : v.toNat < 12288) (t : Fin k0_t4_loop.trips) : k0_chk2 t v := by
  have hr := row0_le (t4_lt t)
  refine ⟨t5_ok hv, fun _ _ => ?_, fun _ _ a => ?_, fun _ _ a => ?_, t6_ok hv⟩
  · show 128 ∣ (rowWord (Scalar.minsi (Scf.iv 0#32 1#32 t.val) 11#32)).toNat
    rw [rowMin_eq t]; exact row0_dvd ⟨_, t4_lt t⟩
  · rw [off15_eq t]
    fin_cases a <;> simp <;> omega
  · rw [off16_eq t]
    fin_cases a <;> simp <;> omega

theorem chk7_of {c : Nat} (hc : c < 24) : k0_chk7 (BitVec.ofNat 32 c) := fun r₁ r₂ a => by
  rw [off41_eq hc r₁ r₂]; have := r₁.isLt; have := r₂.isLt
  fin_cases a <;> simp <;> omega

section Offsets

variable {v : BitVec 32} (hv : v.toNat < 12288) (k : Fin (k0_t2_loop v).trips)

include hv in
theorem offsetKey_eq : (Scalar.muli (Scf.iv 0#32 1#32 k.val) 256#32).toNat = 256 * k.val := by
  have key : ∀ (k : Fin 48), (Scalar.muli (BitVec.ofNat 32 k.val) 256#32).toNat = 256 * k.val := by decide +kernel
  have := t2_le hv k
  rw [iv_eq]; exact key ⟨k.val, by omega⟩

include hv in
theorem off5_eq : k0_off5 v k = ![0, 0, 256 * k.val, 0] := by rw [← offsetKey_eq hv k]; rfl
include hv in
theorem off6_eq : k0_off6 v k = ![0, 256 * k.val, 0] := by rw [← offsetKey_eq hv k]; rfl

end Offsets

theorem chk1_of {a v : BitVec 32} (hv : v.toNat < 12288) : k0_chk1 a v := by
  have no : ∀ k : Fin (k0_t3_loop v).trips, False := fun k => Nat.not_lt_zero _ (Nat.lt_of_lt_of_eq k.isLt (t3_trips hv))
  refine ⟨fun _ => t2_ok hv, fun k _ => ?_, fun k _ a => ?_, fun k _ a => ?_, fun _ => t3_ok hv, fun k => (no k).elim, fun k => (no k).elim, fun k => (no k).elim⟩
  · show 256 ∣ (Scalar.muli (Scf.iv 0#32 1#32 k.val) 256#32).toNat
    rw [offsetKey_eq hv k]; omega
  · rw [off5_eq hv k]; have := t2_le hv k
    fin_cases a <;> simp <;> omega
  · rw [off6_eq hv k]; have := t2_le hv k
    fin_cases a <;> simp <;> omega

/-! ### The entries of the table a tile uses, and the offsets a tile alone decides -/

/-- The first entry of the table tile `p` of prompt `b` uses. -/
def firstAt (b p : Nat) : Nat := 1920 * b + 16 * (row0 p / 16 / 3)
/-- The last entry of the table tile `p` of prompt `b` uses. -/
def lastAt (b p : Nat) : Nat := 1920 * b + 16 * ((row0 p / 16 + 31) / 3) + 15

theorem off13_eq : ∀ (i : grid0.Coords) (t : Fin k0_t4_loop.trips), k0_off13 i t = ![firstAt (i 0).val t.val] := by decide +kernel
theorem off14_eq : ∀ (i : grid0.Coords) (t : Fin k0_t4_loop.trips), k0_off14 i t = ![lastAt (i 0).val t.val] := by decide +kernel
theorem off12_eq : ∀ (i : grid0.Coords) (t : Fin k0_t4_loop.trips), k0_off12 i t = ![lastAt (i 0).val t.val] := by decide +kernel
theorem off4_eq : ∀ (i : grid0.Coords) (t : Fin k0_t1_loop.trips), k0_off4 i t = ![lastAt (i 0).val t.val] := by decide +kernel
theorem off1_eq : ∀ (t : Fin k0_t1_loop.trips), k0_off1 t = ![0, 0, row0 t.val, 0] := by decide +kernel
theorem off2_eq : ∀ (t : Fin k0_t1_loop.trips), k0_off2 t = ![0, 0, row0 t.val] := by decide +kernel
theorem off9_eq : ∀ (t : Fin k0_t1_loop.trips), k0_off9 t = ![0, row0 t.val] := by decide +kernel
theorem off10_eq : k0_off10 = ![0, 0, 0, 0] := by decide +kernel

end Cert.Attn.Hand

end

end
-- ==== Proof.BitsTrip.lean ====
module

public import proofs.«01_k».proof.Proof.Gen.Attn.Loops
public import proofs.«01_k».proof.Proof.Gen.Attn.Launch
public import proofs.«01_k».proof.Proof.BitsWords
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The memrefs the kernel body is called with: the table of positions, the five inputs' blocks, the result's block and the
    eight scratch buffers, each a whole buffer. -/
structure Refs where
  arg2 : Memref sig .tc .smem S11520 .i32
  harg2 : arg2.IsWhole
  arg3 : Memref sig .tc .vmem S1x1x5760x128 .bf16
  harg3 : arg3.IsWhole
  arg4 : Memref sig .tc .vmem S1x1x12288x128 .bf16
  harg4 : arg4.IsWhole
  arg5 : Memref sig .tc .vmem S1x1x96x128x128 .bf16
  harg5 : arg5.IsWhole
  arg6 : Memref sig .tc .vmem S1x12288x128 .f32
  harg6 : arg6.IsWhole
  arg7 : Memref sig .tc .vmem S1x1x5760 .i32
  harg7 : arg7.IsWhole
  arg8 : Memref sig .tc .vmem S1x1x128x5760 .f32
  harg8 : arg8.IsWhole
  arg9 : Memref sig .tc .vmem S128x512 .f32
  harg9 : arg9.IsWhole
  arg10 : Memref sig .tc .vmem S8x512 .f32
  harg10 : arg10.IsWhole
  arg11 : Memref sig .tc .vmem S512x512 .f32
  harg11 : arg11.IsWhole
  arg12 : Memref sig .tc .vmem S4x512x128 .bf16
  harg12 : arg12.IsWhole
  arg13 : Memref sig .tc .vmem S1x512 .f32
  harg13 : arg13.IsWhole
  arg14 : Memref sig .tc .vmem S1x5760 .f32
  harg14 : arg14.IsWhole
  arg15 : Memref sig .tc .vmem S1x512 .f32
  harg15 : arg15.IsWhole
  arg16 : Memref sig .tc .smem S1 .i32
  harg16 : arg16.IsWhole

variable (R : Refs)

/-- What the buffer behind a memref may hold. -/
abbrev Co {sp : Space} {s : Shape} {e : EltTy} (F : FTy → Type) (a : Memref sig .tc sp s e) := a.view.ty.Contents (Elt F)

/-- What the table and the inputs' blocks hold. -/
structure Ins (F : FTy → Type) (R : Refs) where
  t : Co F R.arg2
  q : Co F R.arg3
  k : Co F R.arg4
  v : Co F R.arg5
  s : Co F R.arg6
  p : Co F R.arg7

/-- The word of the table at an offset. -/
abbrev Ins.word {R : Refs} (X : Ins F R) (o : Fin 1 → Nat) (h : ∀ a, o a + S1.size a ≤ S11520.size a) : BitVec 32 :=
  R.arg2.view.readAt (Elt F) (Rect.unit (s := S11520) o S1.size h).toLoadRect X.t (Shape.Idx.first (numel1_S1.symm ▸ Nat.one_pos))

/-- The table and the inputs' blocks, held at their contents. -/
abbrev HeldIn (c : Dev nD) (X : Ins F R) : sProp (MT nD τ sig Unit (Elt F) ℕ (UR sig nD τ) ℕ) :=
  iprop((R.arg2.view.loc (c : Thread nD τ) ↦{fullShare.right} X.t) ∗ (R.arg3.view.loc (c : Thread nD τ) ↦[R.arg3.view.set]{fullShare} X.q)
    ∗ (R.arg4.view.loc (c : Thread nD τ) ↦[R.arg4.view.set]{fullShare} X.k) ∗ (R.arg5.view.loc (c : Thread nD τ) ↦[R.arg5.view.set]{fullShare} X.v)
    ∗ (R.arg6.view.loc (c : Thread nD τ) ↦[R.arg6.view.set]{fullShare} X.s) ∗ (R.arg7.view.loc (c : Thread nD τ) ↦[R.arg7.view.set]{fullShare} X.p))

/-- The offsets, held. -/
abbrev HeldM (c : Dev nD) (f14 : Co F R.arg14) : sProp (MT nD τ sig Unit (Elt F) ℕ (UR sig nD τ) ℕ) :=
  iprop(R.arg14.view.loc (c : Thread nD τ) ↦[R.arg14.view.set]{fullShare} f14)

/-- The buffers a trip over the keys writes: the running products, the denominators, the scores, the weights and the offsets
    in force. -/
abbrev HeldS (c : Dev nD) (f9 : Co F R.arg9) (f10 : Co F R.arg10) (f11 : Co F R.arg11) (f12 : Co F R.arg12) (f13 : Co F R.arg13) : sProp (MT nD τ sig Unit (Elt F) ℕ (UR sig nD τ) ℕ) :=
  iprop((R.arg9.view.loc (c : Thread nD τ) ↦[R.arg9.view.set]{fullShare} f9) ∗ (R.arg10.view.loc (c : Thread nD τ) ↦[R.arg10.view.set]{fullShare} f10)
    ∗ (R.arg11.view.loc (c : Thread nD τ) ↦[R.arg11.view.set]{fullShare} f11) ∗ (R.arg12.view.loc (c : Thread nD τ) ↦[R.arg12.view.set]{fullShare} f12)
    ∗ (R.arg13.view.loc (c : Thread nD τ) ↦[R.arg13.view.set]{fullShare} f13))

/-- The trip over a block of keys, as the kernel calls it. -/
abbrev tripBody (i : grid0.Coords) (a0 a1 arg17 arg18 : BitVec 32) (k0_t4 : Fin k0_t4_loop.trips) (arg20 arg19 v113 v119 : BitVec 32) (v133 : BitVec 1) (v139 : Elt F .i32)
    (hw2 : k0_chk2 k0_t4 v139) :=
  k0_t5_body (F := F) i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 a1 k0_t4 arg20 arg19 v113 v119 v133 v139 hw2

variable (c : Dev nD) (𝒱 : Variants) (bd : Option 𝒱.V) (X : Ins F R) (i : grid0.Coords) (a0 a1 arg17 arg18 : BitVec 32) (k0_t4 : Fin k0_t4_loop.trips)
  (arg20 arg19 v113 v119 : BitVec 32) (v133 : BitVec 1) (v139 : Elt F .i32) (hw2 : k0_chk2 k0_t4 v139)

set_option maxHeartbeats 4000000 in
/-- A later trip over a block of keys no query of the tile masks. -/
def tripU (k0_t5 : Fin (k0_t5_loop v139).trips) (arg22 : BitVec 32)
    (h2 : ¬ k0_cond2 v139 k0_t5 = 1#1)
    (h3 : k0_cond3 v139 k0_t5 (X.word (k0_off13 i k0_t4) (k0_off13_inb i k0_t4)) = 1#1)
    (h4 : ¬ k0_cond4 v139 k0_t5 (X.word (k0_off13 i k0_t4) (k0_off13_inb i k0_t4)) = 1#1)
    (hc4 : k0_chk4 v139 k0_t5 arg22 (X.word (k0_off13 i k0_t4) (k0_off13_inb i k0_t4)))
    (hc3 : k0_chk3 k0_t4 v139 k0_t5 (X.word (k0_off13 i k0_t4) (k0_off13_inb i k0_t4)) (X.word (k0_off14 i k0_t4) (k0_off14_inb i k0_t4)))
    (f14 : Co F R.arg14) (f9 : Co F R.arg9) (f10 : Co F R.arg10) (f11 : Co F R.arg11) (f12 : Co F R.arg12) (f13 : Co F R.arg13) :
    Σ' (L9 : List (View.Piece (Elt F) S128x512 .f32)) (L10 : List (View.Piece (Elt F) S8x512 .f32))
      (L11 : List (View.Piece (Elt F) S512x512 .f32)), { L12 : List (View.Piece (Elt F) S4x512x128 .bf16) //
    ∀ (E : Set ℕ), iprop(HeldIn R c X ∗ HeldM R c f14 ∗ HeldS R c f9 f10 f11 f12 f13)
      ⊢ wp frame (wpE (defs₀ (F := F)) 𝒱 (c : Thread nD τ) bd) E
        (tripBody R i a0 a1 arg17 arg18 k0_t4 arg20 arg19 v113 v119 v133 v139 hw2 k0_t5 arg22)
        (fun y => iprop(⌜y = Scf.iv 0#32 1#32 k0_t5⌝ ∗ HeldIn R c X ∗ HeldM R c f14
          ∗ HeldS R c (R.arg9.view.writes (Elt F) f9 L9) (R.arg10.view.writes (Elt F) f10 L10) (R.arg11.view.writes (Elt F) f11 L11)
            (R.arg12.view.writes (Elt F) f12 L12) f13)) } := by
  refine ⟨?_, ?_, ?_, ?_, fun E => ?run⟩
  case run =>
    unfold tripBody k0_t5_body
    iintro ⟨⟨H2, H3, H4, H5, H6, H7⟩, H14, H9, H10, H11, H12, H13⟩
    sl_exec
    sl_step
    sl_close

set_option maxHeartbeats 4000000 in
/-- A later trip over a block of keys some query of the tile masks. -/
def tripM (k0_t5 : Fin (k0_t5_loop v139).trips) (arg22 : BitVec 32)
    (h2 : ¬ k0_cond2 v139 k0_t5 = 1#1)
    (h3 : ¬ k0_cond3 v139 k0_t5 (X.word (k0_off13 i k0_t4) (k0_off13_inb i k0_t4)) = 1#1)
    (h4 : k0_cond4 v139 k0_t5 (X.word (k0_off13 i k0_t4) (k0_off13_inb i k0_t4)) = 1#1)
    (hc4 : k0_chk4 v139 k0_t5 arg22 (X.word (k0_off13 i k0_t4) (k0_off13_inb i k0_t4)))
    (hc3 : k0_chk3 k0_t4 v139 k0_t5 (X.word (k0_off13 i k0_t4) (k0_off13_inb i k0_t4)) (X.word (k0_off14 i k0_t4) (k0_off14_inb i k0_t4)))
    (f14 : Co F R.arg14) (f9 : Co F R.arg9) (f10 : Co F R.arg10) (f11 : Co F R.arg11) (f12 : Co F R.arg12) (f13 : Co F R.arg13) :
    Σ' (L9 : List (View.Piece (Elt F) S128x512 .f32)) (L10 : List (View.Piece (Elt F) S8x512 .f32))
      (L11 : List (View.Piece (Elt F) S512x512 .f32)), { L12 : List (View.Piece (Elt F) S4x512x128 .bf16) //
    ∀ (E : Set ℕ), iprop(HeldIn R c X ∗ HeldM R c f14 ∗ HeldS R c f9 f10 f11 f12 f13)
      ⊢ wp frame (wpE (defs₀ (F := F)) 𝒱 (c : Thread nD τ) bd) E
        (tripBody R i a0 a1 arg17 arg18 k0_t4 arg20 arg19 v113 v119 v133 v139 hw2 k0_t5 arg22)
        (fun y => iprop(⌜y = Scf.iv 0#32 1#32 k0_t5⌝ ∗ HeldIn R c X ∗ HeldM R c f14
          ∗ HeldS R c (R.arg9.view.writes (Elt F) f9 L9) (R.arg10.view.writes (Elt F) f10 L10) (R.arg11.view.writes (Elt F) f11 L11)
            (R.arg12.view.writes (Elt F) f12 L12) f13)) } := by
  refine ⟨?_, ?_, ?_, ?_, fun E => ?run⟩
  case run =>
    unfold tripBody k0_t5_body
    iintro ⟨⟨H2, H3, H4, H5, H6, H7⟩, H14, H9, H10, H11, H12, H13⟩
    sl_exec
    sl_step
    sl_close

set_option maxHeartbeats 4000000 in
/-- The first trip of a tile, over a block of keys no query of the tile masks: it sets the offsets in force. -/
def tripFU (k0_t5 : Fin (k0_t5_loop v139).trips) (arg22 : BitVec 32)
    (h2 : k0_cond2 v139 k0_t5 = 1#1)
    (h3 : k0_cond3 v139 k0_t5 (X.word (k0_off13 i k0_t4) (k0_off13_inb i k0_t4)) = 1#1)
    (h4 : ¬ k0_cond4 v139 k0_t5 (X.word (k0_off13 i k0_t4) (k0_off13_inb i k0_t4)) = 1#1)
    (hc4 : k0_chk4 v139 k0_t5 arg22 (X.word (k0_off13 i k0_t4) (k0_off13_inb i k0_t4)))
    (hc3 : k0_chk3 k0_t4 v139 k0_t5 (X.word (k0_off13 i k0_t4) (k0_off13_inb i k0_t4)) (X.word (k0_off14 i k0_t4) (k0_off14_inb i k0_t4)))
    (f14 : Co F R.arg14) (f9 : Co F R.arg9) (f10 : Co F R.arg10) (f11 : Co F R.arg11) (f12 : Co F R.arg12) (f13 : Co F R.arg13) :
    Σ' (L9 : List (View.Piece (Elt F) S128x512 .f32)) (L10 : List (View.Piece (Elt F) S8x512 .f32))
      (L11 : List (View.Piece (Elt F) S512x512 .f32)) (L12 : List (View.Piece (Elt F) S4x512x128 .bf16)), { L13 : List (View.Piece (Elt F) S1x512 .f32) //
    ∀ (E : Set ℕ), iprop(HeldIn R c X ∗ HeldM R c f14 ∗ HeldS R c f9 f10 f11 f12 f13)
      ⊢ wp frame (wpE (defs₀ (F := F)) 𝒱 (c : Thread nD τ) bd) E
        (tripBody R i a0 a1 arg17 arg18 k0_t4 arg20 arg19 v113 v119 v133 v139 hw2 k0_t5 arg22)
        (fun y => iprop(⌜y = Scf.iv 0#32 1#32 k0_t5⌝ ∗ HeldIn R c X ∗ HeldM R c f14
          ∗ HeldS R c (R.arg9.view.writes (Elt F) f9 L9) (R.arg10.view.writes (Elt F) f10 L10) (R.arg11.view.writes (Elt F) f11 L11)
            (R.arg12.view.writes (Elt F) f12 L12) (R.arg13.view.writes (Elt F) f13 L13))) } := by
  refine ⟨?_, ?_, ?_, ?_, ?_, fun E => ?run⟩
  case run =>
    unfold tripBody k0_t5_body
    iintro ⟨⟨H2, H3, H4, H5, H6, H7⟩, H14, H9, H10, H11, H12, H13⟩
    sl_exec
    sl_step
    sl_close

set_option maxHeartbeats 4000000 in
/-- The first trip of a tile, over a block of keys some query of the tile masks. -/
def tripFM (k0_t5 : Fin (k0_t5_loop v139).trips) (arg22 : BitVec 32)
    (h2 : k0_cond2 v139 k0_t5 = 1#1)
    (h3 : ¬ k0_cond3 v139 k0_t5 (X.word (k0_off13 i k0_t4) (k0_off13_inb i k0_t4)) = 1#1)
    (h4 : k0_cond4 v139 k0_t5 (X.word (k0_off13 i k0_t4) (k0_off13_inb i k0_t4)) = 1#1)
    (hc4 : k0_chk4 v139 k0_t5 arg22 (X.word (k0_off13 i k0_t4) (k0_off13_inb i k0_t4)))
    (hc3 : k0_chk3 k0_t4 v139 k0_t5 (X.word (k0_off13 i k0_t4) (k0_off13_inb i k0_t4)) (X.word (k0_off14 i k0_t4) (k0_off14_inb i k0_t4)))
    (f14 : Co F R.arg14) (f9 : Co F R.arg9) (f10 : Co F R.arg10) (f11 : Co F R.arg11) (f12 : Co F R.arg12) (f13 : Co F R.arg13) :
    Σ' (L9 : List (View.Piece (Elt F) S128x512 .f32)) (L10 : List (View.Piece (Elt F) S8x512 .f32))
      (L11 : List (View.Piece (Elt F) S512x512 .f32)) (L12 : List (View.Piece (Elt F) S4x512x128 .bf16)), { L13 : List (View.Piece (Elt F) S1x512 .f32) //
    ∀ (E : Set ℕ), iprop(HeldIn R c X ∗ HeldM R c f14 ∗ HeldS R c f9 f10 f11 f12 f13)
      ⊢ wp frame (wpE (defs₀ (F := F)) 𝒱 (c : Thread nD τ) bd) E
        (tripBody R i a0 a1 arg17 arg18 k0_t4 arg20 arg19 v113 v119 v133 v139 hw2 k0_t5 arg22)
        (fun y => iprop(⌜y = Scf.iv 0#32 1#32 k0_t5⌝ ∗ HeldIn R c X ∗ HeldM R c f14
          ∗ HeldS R c (R.arg9.view.writes (Elt F) f9 L9) (R.arg10.view.writes (Elt F) f10 L10) (R.arg11.view.writes (Elt F) f11 L11)
            (R.arg12.view.writes (Elt F) f12 L12) (R.arg13.view.writes (Elt F) f13 L13))) } := by
  refine ⟨?_, ?_, ?_, ?_, ?_, fun E => ?run⟩
  case run =>
    unfold tripBody k0_t5_body
    iintro ⟨⟨H2, H3, H4, H5, H6, H7⟩, H14, H9, H10, H11, H12, H13⟩
    sl_exec
    sl_step
    sl_close

end Cert.Attn.Hand

end

end
-- ==== Proof.BitsOffsets.lean ====
module

public import proofs.«01_k».proof.Proof.BitsTrip

@[expose] public section

set_option maxRecDepth 16384

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (R : Refs) (c : Dev nD) (𝒱 : Variants) (bd : Option 𝒱.V) (X : Ins F R) (i : grid0.Coords) (a0 a1 arg17 arg18 : BitVec 32)

/-- The trip that computes a tile's offsets exactly, as the kernel calls it. -/
abbrev offsetsBody (h1 : k0_cond1 arg17 = 1#1) :=
  k0_t1_body (F := F) i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 a1 h1

set_option maxHeartbeats 4000000 in
/-- A trip that computes a tile's offsets exactly: it takes the largest score of every query over the keys below. -/
def tripO (h1 : k0_cond1 arg17 = 1#1) (k0_t1 : Fin k0_t1_loop.trips) (arg20 : BitVec 32)
    (hc1 : k0_chk1 arg17 (X.word (k0_off4 i k0_t1) (k0_off4_inb i k0_t1)))
    (f14 : Co F R.arg14) :
    { L14 : List (View.Piece (Elt F) S1x5760 .f32) //
    ∀ (E : Set ℕ), iprop(HeldIn R c X ∗ HeldM R c f14)
      ⊢ wp frame (wpE (defs₀ (F := F)) 𝒱 (c : Thread nD τ) bd) E
        (offsetsBody R i a0 a1 arg17 arg18 h1 k0_t1 arg20)
        (fun y => iprop(⌜y = 0#32⌝ ∗ HeldIn R c X ∗ HeldM R c (R.arg14.view.writes (Elt F) f14 L14))) } := by
  refine ⟨?_, fun E => ?run⟩
  case run =>
    unfold offsetsBody k0_t1_body
    iintro ⟨⟨H2, H3, H4, H5, H6, H7⟩, H14⟩
    sl_exec
    sl_step
    sl_close

end Cert.Attn.Hand

end

end
-- ==== Proof.BitsRun.lean ====
module

public import proofs.«01_k».proof.Proof.BitsOffsets

@[expose] public section

set_option maxRecDepth 16384

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A grid coordinate as the word the kernel is handed. -/
abbrev w0 (i : grid0.Coords) : BitVec 32 := BitVec.ofNat 32 (i 0).val
abbrev w1 (i : grid0.Coords) : BitVec 32 := BitVec.ofNat 32 (i 1).val

/-- A tile's products with the last block of values added. -/
abbrev lastProd {R : Refs} (X : Ins F R) (z : BitVec 32) (hz : k0_chk7 z) (f9 : Co F R.arg9) (f12 : Co F R.arg12) : Vec F S128x512 .f32 :=
  k0_pay180 (k0_pay178 (R.arg9.view.readAt (Elt F) (Rect.unit (s := S128x512) ![0, 0] S128x512.size inb_S128x512_S128x512_0_0).toLoadRect f9)
      (R.arg5.view.readAt (Elt F) (Rect.unit (s := S1x1x96x128x128) (k0_off41 z 0#32 0#32) S1x1x1x128x128.size (k0_off41_inb z hz 0 0)).toLoadRect X.v)
      (R.arg5.view.readAt (Elt F) (Rect.unit (s := S1x1x96x128x128) (k0_off41 z 0#32 1#32) S1x1x1x128x128.size (k0_off41_inb z hz 0 1)).toLoadRect X.v)
      (R.arg12.view.readAt (Elt F) (Rect.unit (s := S4x512x128) ![0, 0, 0] S1x256x128.size inb_S4x512x128_S1x256x128_0_0_0).toLoadRect f12) (R.arg12.view.readAt (Elt F) (Rect.unit (s := S4x512x128) ![1, 0, 0] S1x256x128.size inb_S4x512x128_S1x256x128_1_0_0).toLoadRect f12)
      (R.arg12.view.readAt (Elt F) (Rect.unit (s := S4x512x128) ![2, 0, 0] S1x256x128.size inb_S4x512x128_S1x256x128_2_0_0).toLoadRect f12) (R.arg12.view.readAt (Elt F) (Rect.unit (s := S4x512x128) ![3, 0, 0] S1x256x128.size inb_S4x512x128_S1x256x128_3_0_0).toLoadRect f12))
    (k0_pay179 (R.arg5.view.readAt (Elt F) (Rect.unit (s := S1x1x96x128x128) (k0_off41 z 2#32 0#32) S1x1x1x128x128.size (k0_off41_inb z hz 1 0)).toLoadRect X.v)
      (R.arg5.view.readAt (Elt F) (Rect.unit (s := S1x1x96x128x128) (k0_off41 z 2#32 1#32) S1x1x1x128x128.size (k0_off41_inb z hz 1 1)).toLoadRect X.v))
    (R.arg12.view.readAt (Elt F) (Rect.unit (s := S4x512x128) ![0, 256, 0] S1x256x128.size inb_S4x512x128_S1x256x128_0_256_0).toLoadRect f12) (R.arg12.view.readAt (Elt F) (Rect.unit (s := S4x512x128) ![1, 256, 0] S1x256x128.size inb_S4x512x128_S1x256x128_1_256_0).toLoadRect f12)
    (R.arg12.view.readAt (Elt F) (Rect.unit (s := S4x512x128) ![2, 256, 0] S1x256x128.size inb_S4x512x128_S1x256x128_2_256_0).toLoadRect f12) (R.arg12.view.readAt (Elt F) (Rect.unit (s := S4x512x128) ![3, 256, 0] S1x256x128.size inb_S4x512x128_S1x256x128_3_256_0).toLoadRect f12)

/-- What a certificate states of the buffers' contents along the run: of the offsets, of the buffers before trip `k` of tile
    `t`, and of the result after `t` tiles; and that the kernel's steps keep it. -/
structure Hooks (F : FTy → Type) [FloatOps F] (R : Refs) (X : Ins F R) (i : grid0.Coords) where
  /-- the offsets -/
  M : Co F R.arg14 → Prop
  /-- the buffers before trip `k` of tile `t` -/
  I : ℕ → ℕ → Co F R.arg9 → Co F R.arg10 → Co F R.arg11 → Co F R.arg12 → Co F R.arg13 → Prop
  /-- the result after `t` tiles -/
  A : ℕ → Co F R.arg8 → Prop
  zero : ∀ f14, M (R.arg14.view.writes (Elt F) f14 [⟨Rect.unit (s := S1x5760) ![0, 0] S1x5760.size inb_S1x5760_S1x5760_0_0, k0_pay1 (F := F)⟩])
  offsets : ∀ (c : Dev nD) (𝒱 : Variants) (bd : Option 𝒱.V) (arg17 arg18 : BitVec 32) (h1 : k0_cond1 arg17 = 1#1) (t : Fin k0_t1_loop.trips) (arg20 : BitVec 32)
    (hc1 : k0_chk1 arg17 (X.word (k0_off4 i t) (k0_off4_inb i t))) (f14 : Co F R.arg14), M f14 →
    M (R.arg14.view.writes (Elt F) f14 (tripO R c 𝒱 bd X i (w0 i) (w1 i) arg17 arg18 h1 t arg20 hc1 f14).1)
  start : ∀ (f8 : Co F R.arg8), A 0 f8
  fill : ∀ (f9 : Co F R.arg9) (f10 : Co F R.arg10) (f11 : Co F R.arg11) (f12 : Co F R.arg12) (f13 : Co F R.arg13),
    I 0 0 (R.arg9.view.writes (Elt F) f9 [⟨Rect.unit (s := S128x512) ![0, 0] S128x512.size inb_S128x512_S128x512_0_0, k0_pay187 (F := F)⟩])
      (R.arg10.view.writes (Elt F) f10 [⟨Rect.unit (s := S8x512) ![0, 0] S8x512.size inb_S8x512_S8x512_0_0, k0_pay188 (F := F)⟩])
      (R.arg11.view.writes (Elt F) f11
        [⟨Rect.unit (s := S512x512) ![256, 0] S256x512.size inb_S512x512_S256x512_256_0, k0_pay3
          (k0_pay191 (R.arg3.view.readAt (Elt F) (Rect.unit (s := S1x1x5760x128) k0_off10 S1x1x512x128.size k0_off10_inb).toLoadRect X.q))
          (R.arg4.view.readAt (Elt F) (Rect.unit (s := S1x1x12288x128) ![0, 0, 256, 0] S1x1x256x128.size inb_S1x1x12288x128_S1x1x256x128_0_0_256_0).toLoadRect X.k)⟩,
         ⟨Rect.unit (s := S512x512) ![0, 0] S256x512.size inb_S512x512_S256x512_0_0, k0_pay2 (k0_pay192
          (R.arg3.view.readAt (Elt F) (Rect.unit (s := S1x1x5760x128) k0_off10 S1x1x512x128.size k0_off10_inb).toLoadRect X.q)
          (R.arg4.view.readAt (Elt F) (Rect.unit (s := S1x1x12288x128) ![0, 0, 0, 0] S1x1x256x128.size inb_S1x1x12288x128_S1x1x256x128_0_0_0_0).toLoadRect X.k))⟩])
      (R.arg12.view.writes (Elt F) f12 [⟨Rect.unit (s := S4x512x128) ![0, 0, 0] S4x512x128.size inb_S4x512x128_S4x512x128_0_0_0, k0_pay189 (F := F)⟩]) f13
  laterU : ∀ (c : Dev nD) (𝒱 : Variants) (bd : Option 𝒱.V) (arg17 arg18 : BitVec 32) (t : Fin k0_t4_loop.trips) (arg19 v113 v119 : BitVec 32) (v133 : BitVec 1)
    (hw2 : k0_chk2 t (X.word (k0_off12 i t) (k0_off12_inb i t))) (k : Fin (k0_t5_loop (X.word (k0_off12 i t) (k0_off12_inb i t))).trips)
    (h2 : ¬ k0_cond2 (X.word (k0_off12 i t) (k0_off12_inb i t)) k = 1#1) (h3 : k0_cond3 (X.word (k0_off12 i t) (k0_off12_inb i t)) k (X.word (k0_off13 i t) (k0_off13_inb i t)) = 1#1) (h4 : ¬ k0_cond4 (X.word (k0_off12 i t) (k0_off12_inb i t)) k (X.word (k0_off13 i t) (k0_off13_inb i t)) = 1#1)
    (hc4 : k0_chk4 (X.word (k0_off12 i t) (k0_off12_inb i t)) k (BitVec.ofNat 32 (k.val - 1)) (X.word (k0_off13 i t) (k0_off13_inb i t))) (hc3 : k0_chk3 t (X.word (k0_off12 i t) (k0_off12_inb i t)) k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13),
    M f14 → I t.val k.val f9 f10 f11 f12 f13 →
    I t.val (k.val + 1) (R.arg9.view.writes (Elt F) f9 (tripU R c 𝒱 bd X i (w0 i) (w1 i) arg17 arg18 t 0#32 arg19 v113 v119 v133 _ hw2 k (BitVec.ofNat 32 (k.val - 1)) h2 h3 h4 hc4 hc3 f14 f9 f10 f11 f12 f13).1)
      (R.arg10.view.writes (Elt F) f10 (tripU R c 𝒱 bd X i (w0 i) (w1 i) arg17 arg18 t 0#32 arg19 v113 v119 v133 _ hw2 k (BitVec.ofNat 32 (k.val - 1)) h2 h3 h4 hc4 hc3 f14 f9 f10 f11 f12 f13).2.1)
      (R.arg11.view.writes (Elt F) f11 (tripU R c 𝒱 bd X i (w0 i) (w1 i) arg17 arg18 t 0#32 arg19 v113 v119 v133 _ hw2 k (BitVec.ofNat 32 (k.val - 1)) h2 h3 h4 hc4 hc3 f14 f9 f10 f11 f12 f13).2.2.1)
      (R.arg12.view.writes (Elt F) f12 (tripU R c 𝒱 bd X i (w0 i) (w1 i) arg17 arg18 t 0#32 arg19 v113 v119 v133 _ hw2 k (BitVec.ofNat 32 (k.val - 1)) h2 h3 h4 hc4 hc3 f14 f9 f10 f11 f12 f13).2.2.2.1) f13
  laterM : ∀ (c : Dev nD) (𝒱 : Variants) (bd : Option 𝒱.V) (arg17 arg18 : BitVec 32) (t : Fin k0_t4_loop.trips) (arg19 v113 v119 : BitVec 32) (v133 : BitVec 1)
    (hw2 : k0_chk2 t (X.word (k0_off12 i t) (k0_off12_inb i t))) (k : Fin (k0_t5_loop (X.word (k0_off12 i t) (k0_off12_inb i t))).trips)
    (h2 : ¬ k0_cond2 (X.word (k0_off12 i t) (k0_off12_inb i t)) k = 1#1) (h3 : ¬ k0_cond3 (X.word (k0_off12 i t) (k0_off12_inb i t)) k (X.word (k0_off13 i t) (k0_off13_inb i t)) = 1#1) (h4 : k0_cond4 (X.word (k0_off12 i t) (k0_off12_inb i t)) k (X.word (k0_off13 i t) (k0_off13_inb i t)) = 1#1)
    (hc4 : k0_chk4 (X.word (k0_off12 i t) (k0_off12_inb i t)) k (BitVec.ofNat 32 (k.val - 1)) (X.word (k0_off13 i t) (k0_off13_inb i t))) (hc3 : k0_chk3 t (X.word (k0_off12 i t) (k0_off12_inb i t)) k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13),
    M f14 → I t.val k.val f9 f10 f11 f12 f13 →
    I t.val (k.val + 1) (R.arg9.view.writes (Elt F) f9 (tripM R c 𝒱 bd X i (w0 i) (w1 i) arg17 arg18 t 0#32 arg19 v113 v119 v133 _ hw2 k (BitVec.ofNat 32 (k.val - 1)) h2 h3 h4 hc4 hc3 f14 f9 f10 f11 f12 f13).1)
      (R.arg10.view.writes (Elt F) f10 (tripM R c 𝒱 bd X i (w0 i) (w1 i) arg17 arg18 t 0#32 arg19 v113 v119 v133 _ hw2 k (BitVec.ofNat 32 (k.val - 1)) h2 h3 h4 hc4 hc3 f14 f9 f10 f11 f12 f13).2.1)
      (R.arg11.view.writes (Elt F) f11 (tripM R c 𝒱 bd X i (w0 i) (w1 i) arg17 arg18 t 0#32 arg19 v113 v119 v133 _ hw2 k (BitVec.ofNat 32 (k.val - 1)) h2 h3 h4 hc4 hc3 f14 f9 f10 f11 f12 f13).2.2.1)
      (R.arg12.view.writes (Elt F) f12 (tripM R c 𝒱 bd X i (w0 i) (w1 i) arg17 arg18 t 0#32 arg19 v113 v119 v133 _ hw2 k (BitVec.ofNat 32 (k.val - 1)) h2 h3 h4 hc4 hc3 f14 f9 f10 f11 f12 f13).2.2.2.1) f13
  firstU : ∀ (c : Dev nD) (𝒱 : Variants) (bd : Option 𝒱.V) (arg17 arg18 : BitVec 32) (t : Fin k0_t4_loop.trips) (arg19 v113 v119 : BitVec 32) (v133 : BitVec 1)
    (hw2 : k0_chk2 t (X.word (k0_off12 i t) (k0_off12_inb i t))) (k : Fin (k0_t5_loop (X.word (k0_off12 i t) (k0_off12_inb i t))).trips)
    (h2 : k0_cond2 (X.word (k0_off12 i t) (k0_off12_inb i t)) k = 1#1) (h3 : k0_cond3 (X.word (k0_off12 i t) (k0_off12_inb i t)) k (X.word (k0_off13 i t) (k0_off13_inb i t)) = 1#1) (h4 : ¬ k0_cond4 (X.word (k0_off12 i t) (k0_off12_inb i t)) k (X.word (k0_off13 i t) (k0_off13_inb i t)) = 1#1)
    (hc4 : k0_chk4 (X.word (k0_off12 i t) (k0_off12_inb i t)) k (BitVec.ofNat 32 (k.val - 1)) (X.word (k0_off13 i t) (k0_off13_inb i t))) (hc3 : k0_chk3 t (X.word (k0_off12 i t) (k0_off12_inb i t)) k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13),
    M f14 → I t.val k.val f9 f10 f11 f12 f13 →
    I t.val (k.val + 1) (R.arg9.view.writes (Elt F) f9 (tripFU R c 𝒱 bd X i (w0 i) (w1 i) arg17 arg18 t 0#32 arg19 v113 v119 v133 _ hw2 k (BitVec.ofNat 32 (k.val - 1)) h2 h3 h4 hc4 hc3 f14 f9 f10 f11 f12 f13).1)
      (R.arg10.view.writes (Elt F) f10 (tripFU R c 𝒱 bd X i (w0 i) (w1 i) arg17 arg18 t 0#32 arg19 v113 v119 v133 _ hw2 k (BitVec.ofNat 32 (k.val - 1)) h2 h3 h4 hc4 hc3 f14 f9 f10 f11 f12 f13).2.1)
      (R.arg11.view.writes (Elt F) f11 (tripFU R c 𝒱 bd X i (w0 i) (w1 i) arg17 arg18 t 0#32 arg19 v113 v119 v133 _ hw2 k (BitVec.ofNat 32 (k.val - 1)) h2 h3 h4 hc4 hc3 f14 f9 f10 f11 f12 f13).2.2.1)
      (R.arg12.view.writes (Elt F) f12 (tripFU R c 𝒱 bd X i (w0 i) (w1 i) arg17 arg18 t 0#32 arg19 v113 v119 v133 _ hw2 k (BitVec.ofNat 32 (k.val - 1)) h2 h3 h4 hc4 hc3 f14 f9 f10 f11 f12 f13).2.2.2.1)
      (R.arg13.view.writes (Elt F) f13 (tripFU R c 𝒱 bd X i (w0 i) (w1 i) arg17 arg18 t 0#32 arg19 v113 v119 v133 _ hw2 k (BitVec.ofNat 32 (k.val - 1)) h2 h3 h4 hc4 hc3 f14 f9 f10 f11 f12 f13).2.2.2.2.1)
  firstM : ∀ (c : Dev nD) (𝒱 : Variants) (bd : Option 𝒱.V) (arg17 arg18 : BitVec 32) (t : Fin k0_t4_loop.trips) (arg19 v113 v119 : BitVec 32) (v133 : BitVec 1)
    (hw2 : k0_chk2 t (X.word (k0_off12 i t) (k0_off12_inb i t))) (k : Fin (k0_t5_loop (X.word (k0_off12 i t) (k0_off12_inb i t))).trips)
    (h2 : k0_cond2 (X.word (k0_off12 i t) (k0_off12_inb i t)) k = 1#1) (h3 : ¬ k0_cond3 (X.word (k0_off12 i t) (k0_off12_inb i t)) k (X.word (k0_off13 i t) (k0_off13_inb i t)) = 1#1) (h4 : k0_cond4 (X.word (k0_off12 i t) (k0_off12_inb i t)) k (X.word (k0_off13 i t) (k0_off13_inb i t)) = 1#1)
    (hc4 : k0_chk4 (X.word (k0_off12 i t) (k0_off12_inb i t)) k (BitVec.ofNat 32 (k.val - 1)) (X.word (k0_off13 i t) (k0_off13_inb i t))) (hc3 : k0_chk3 t (X.word (k0_off12 i t) (k0_off12_inb i t)) k (X.word (k0_off13 i t) (k0_off13_inb i t)) (X.word (k0_off14 i t) (k0_off14_inb i t)))
    (f14 : Co F R.arg14) (f9 : Co F R.arg9) (f10 : Co F R.arg10) (f11 : Co F R.arg11) (f12 : Co F R.arg12) (f13 : Co F R.arg13),
    M f14 → I t.val k.val f9 f10 f11 f12 f13 →
    I t.val (k.val + 1) (R.arg9.view.writes (Elt F) f9 (tripFM R c 𝒱 bd X i (w0 i) (w1 i) arg17 arg18 t 0#32 arg19 v113 v119 v133 _ hw2 k (BitVec.ofNat 32 (k.val - 1)) h2 h3 h4 hc4 hc3 f14 f9 f10 f11 f12 f13).1)
      (R.arg10.view.writes (Elt F) f10 (tripFM R c 𝒱 bd X i (w0 i) (w1 i) arg17 arg18 t 0#32 arg19 v113 v119 v133 _ hw2 k (BitVec.ofNat 32 (k.val - 1)) h2 h3 h4 hc4 hc3 f14 f9 f10 f11 f12 f13).2.1)
      (R.arg11.view.writes (Elt F) f11 (tripFM R c 𝒱 bd X i (w0 i) (w1 i) arg17 arg18 t 0#32 arg19 v113 v119 v133 _ hw2 k (BitVec.ofNat 32 (k.val - 1)) h2 h3 h4 hc4 hc3 f14 f9 f10 f11 f12 f13).2.2.1)
      (R.arg12.view.writes (Elt F) f12 (tripFM R c 𝒱 bd X i (w0 i) (w1 i) arg17 arg18 t 0#32 arg19 v113 v119 v133 _ hw2 k (BitVec.ofNat 32 (k.val - 1)) h2 h3 h4 hc4 hc3 f14 f9 f10 f11 f12 f13).2.2.2.1)
      (R.arg13.view.writes (Elt F) f13 (tripFM R c 𝒱 bd X i (w0 i) (w1 i) arg17 arg18 t 0#32 arg19 v113 v119 v133 _ hw2 k (BitVec.ofNat 32 (k.val - 1)) h2 h3 h4 hc4 hc3 f14 f9 f10 f11 f12 f13).2.2.2.2.1)
  finish : ∀ (t : Fin k0_t4_loop.trips) (hz : k0_chk7 (BitVec.ofNat 32 ((k0_t5_loop (X.word (k0_off12 i t) (k0_off12_inb i t))).trips - 1)))
    (f8 : Co F R.arg8) (f9 : Co F R.arg9) (f10 : Co F R.arg10) (f11 : Co F R.arg11) (f12 : Co F R.arg12) (f13 : Co F R.arg13),
    I t.val (k0_t5_loop (X.word (k0_off12 i t) (k0_off12_inb i t))).trips f9 f10 f11 f12 f13 →
    (A t.val f8 → A (t.val + 1) (R.arg8.view.writes (Elt F) f8 [⟨Rect.unit (s := S1x1x128x5760) (k0_off42 t) S1x1x128x512.size (k0_off42_inb t),
      k0_pay4 (k0_pay183 (R.arg10.view.readAt (Elt F) (Rect.unit (s := S8x512) ![0, 0] S8x512.size inb_S8x512_S8x512_0_0).toLoadRect f10)
        (lastProd X _ hz f9 f12))⟩])) ∧
    I (t.val + 1) 0 (R.arg9.view.writes (Elt F) f9 [⟨Rect.unit (s := S128x512) ![0, 0] S128x512.size inb_S128x512_S128x512_0_0, k0_pay5 (F := F)⟩,
        ⟨Rect.unit (s := S128x512) ![0, 0] S128x512.size inb_S128x512_S128x512_0_0, lastProd X _ hz f9 f12⟩])
      (R.arg10.view.writes (Elt F) f10 [⟨Rect.unit (s := S8x512) ![0, 0] S8x512.size inb_S8x512_S8x512_0_0, k0_pay6 (F := F)⟩]) f11
      (R.arg12.view.writes (Elt F) f12 [⟨Rect.unit (s := S4x512x128) ![0, 0, 0] S4x512x128.size inb_S4x512x128_S4x512x128_0_0_0, k0_pay7 (F := F)⟩]) f13

variable {R : Refs} {X : Ins F R} {i : grid0.Coords} (H : Hooks F R X i)

/-- A run's postcondition, weakened. -/
theorem wand {c : Dev nD} {𝒱 : Variants} {bd : Option 𝒱.V} {E : Set ℕ} {α : Type} {p : Prog (TpuEff nD τ sig (Elt F) (Λ₀ F) .tc) α} {Q Q' : α → sProp (MT nD τ sig Unit (Elt F) ℕ (UR sig nD τ) ℕ)} :
    iprop(wp frame (wpE (defs₀ (F := F)) 𝒱 (c : Thread nD τ) bd) E p Q ∗ (∀ a, Q a -∗ Q' a))
      ⊢ wp frame (wpE (defs₀ (F := F)) 𝒱 (c : Thread nD τ) bd) E p Q' := wp_wand_r _ _ _

/-- The loop over a tile's blocks of keys keeps the certificate's statement of its buffers. -/
@[sl_loop, instance_reducible] def loop5 (hX : ∀ o h, (X.word o h).toNat < 12288) (c : Dev nD) (𝒱 : Variants) (bd : Option 𝒱.V) (E : Set ℕ) (arg17 arg18 : BitVec 32)
    (t : Fin k0_t4_loop.trips) (arg19 v113 v119 : BitVec 32) (v133 : BitVec 1) (hw2 : k0_chk2 t (X.word (k0_off12 i t) (k0_off12_inb i t)))
    (f14 : Co F R.arg14) (hM : H.M f14) :
    Gen.LoopInvTy_k0_t5 (F := F) Unit ℕ (UR sig nD τ) ℕ 𝒱 c bd E i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16
      arg17 arg18 (w0 i) (w1 i) t 0#32 arg19 v113 v119 v133 (X.word (k0_off12 i t) (k0_off12_inb i t)) hw2 0#32 where
  inv k acc := iprop(∃ f9 f10 f11 f12 f13, ⌜acc = BitVec.ofNat 32 (k - 1)⌝ ∗ ⌜H.I t.val k f9 f10 f11 f12 f13⌝ ∗ HeldIn R c X ∗ HeldM R c f14 ∗ HeldS R c f9 f10 f11 f12 f13)
  step k acc := by
    have hv := hX (k0_off12 i t) (k0_off12_inb i t)
    have hw := hX (k0_off13 i t) (k0_off13_inb i t)
    have hu : (X.word (k0_off14 i t) (k0_off14_inb i t)).toNat = (X.word (k0_off12 i t) (k0_off12_inb i t)).toNat := by
      have e : ∀ (o o' : Fin 1 → Nat) (h h'), o = o' → X.word o h = X.word o' h' := fun o o' h h' e => by subst e; rfl
      rw [e _ _ _ (k0_off12_inb i t) ((off14_eq i t).trans (off12_eq i t).symm)]
    have hk := t5_le hv k
    have hc4 := chk4_of (w := X.word (k0_off13 i t) (k0_off13_inb i t)) hv k (c := k.val - 1) (by omega)
    have hc3 := chk3_of (w := X.word (k0_off13 i t) (k0_off13_inb i t)) hv hu t k
    iintro ⟨%f9, %f10, %f11, %f12, %f13, %ha, %hI, Hi, Hm, Hs⟩
    subst ha
    by_cases h2 : k0_cond2 (X.word (k0_off12 i t) (k0_off12_inb i t)) k = 1#1 <;> by_cases h3 : k0_cond3 (X.word (k0_off12 i t) (k0_off12_inb i t)) k (X.word (k0_off13 i t) (k0_off13_inb i t)) = 1#1
    · have h4 : ¬ k0_cond4 (X.word (k0_off12 i t) (k0_off12_inb i t)) k (X.word (k0_off13 i t) (k0_off13_inb i t)) = 1#1 := fun h => by
        have := (cond3_iff hv hw k).mp h3; have := (cond4_iff hv hw k).mp h; omega
      iapply (wand (p := tripBody R i (w0 i) (w1 i) arg17 arg18 t 0#32 arg19 v113 v119 v133 _ hw2 k (BitVec.ofNat 32 (k.val - 1))))
      isplitl
      · iapply ((tripFU R c 𝒱 bd X i (w0 i) (w1 i) arg17 arg18 t 0#32 arg19 v113 v119 v133 _ hw2 k (BitVec.ofNat 32 (k.val - 1)) h2 h3 h4 hc4 hc3 f14 f9 f10 f11 f12 f13).2.2.2.2.2 E)
        isplitl [Hi]; · iexact Hi
        isplitl [Hm]; · iexact Hm
        iexact Hs
      iintro %y ⟨%hy, Hi, Hm, Hs⟩
      iexists _, _, _, _, _
      isplitr
      · ipureintro; rw [hy, iv_eq]; rfl
      isplitr; swap
      · isplitl [Hi]; · iexact Hi
        isplitl [Hm]; · iexact Hm
        iexact Hs
      ipureintro
      exact H.firstU c 𝒱 bd arg17 arg18 t arg19 v113 v119 v133 hw2 k h2 h3 h4 hc4 hc3 f14 f9 f10 f11 f12 f13 hM hI
    · have h4 : k0_cond4 (X.word (k0_off12 i t) (k0_off12_inb i t)) k (X.word (k0_off13 i t) (k0_off13_inb i t)) = 1#1 :=
        (cond4_iff hv hw k).mpr (not_lt.mp fun h => h3 ((cond3_iff hv hw k).mpr h))
      iapply (wand (p := tripBody R i (w0 i) (w1 i) arg17 arg18 t 0#32 arg19 v113 v119 v133 _ hw2 k (BitVec.ofNat 32 (k.val - 1))))
      isplitl
      · iapply ((tripFM R c 𝒱 bd X i (w0 i) (w1 i) arg17 arg18 t 0#32 arg19 v113 v119 v133 _ hw2 k (BitVec.ofNat 32 (k.val - 1)) h2 h3 h4 hc4 hc3 f14 f9 f10 f11 f12 f13).2.2.2.2.2 E)
        isplitl [Hi]; · iexact Hi
        isplitl [Hm]; · iexact Hm
        iexact Hs
      iintro %y ⟨%hy, Hi, Hm, Hs⟩
      iexists _, _, _, _, _
      isplitr
      · ipureintro; rw [hy, iv_eq]; rfl
      isplitr; swap
      · isplitl [Hi]; · iexact Hi
        isplitl [Hm]; · iexact Hm
        iexact Hs
      ipureintro
      exact H.firstM c 𝒱 bd arg17 arg18 t arg19 v113 v119 v133 hw2 k h2 h3 h4 hc4 hc3 f14 f9 f10 f11 f12 f13 hM hI
    · have h4 : ¬ k0_cond4 (X.word (k0_off12 i t) (k0_off12_inb i t)) k (X.word (k0_off13 i t) (k0_off13_inb i t)) = 1#1 := fun h => by
        have := (cond3_iff hv hw k).mp h3; have := (cond4_iff hv hw k).mp h; omega
      iapply (wand (p := tripBody R i (w0 i) (w1 i) arg17 arg18 t 0#32 arg19 v113 v119 v133 _ hw2 k (BitVec.ofNat 32 (k.val - 1))))
      isplitl
      · iapply ((tripU R c 𝒱 bd X i (w0 i) (w1 i) arg17 arg18 t 0#32 arg19 v113 v119 v133 _ hw2 k (BitVec.ofNat 32 (k.val - 1)) h2 h3 h4 hc4 hc3 f14 f9 f10 f11 f12 f13).2.2.2.2 E)
        isplitl [Hi]; · iexact Hi
        isplitl [Hm]; · iexact Hm
        iexact Hs
      iintro %y ⟨%hy, Hi, Hm, Hs⟩
      iexists _, _, _, _, _
      isplitr
      · ipureintro; rw [hy, iv_eq]; rfl
      isplitr; swap
      · isplitl [Hi]; · iexact Hi
        isplitl [Hm]; · iexact Hm
        iexact Hs
      ipureintro
      exact H.laterU c 𝒱 bd arg17 arg18 t arg19 v113 v119 v133 hw2 k h2 h3 h4 hc4 hc3 f14 f9 f10 f11 f12 f13 hM hI
    · have h4 : k0_cond4 (X.word (k0_off12 i t) (k0_off12_inb i t)) k (X.word (k0_off13 i t) (k0_off13_inb i t)) = 1#1 :=
        (cond4_iff hv hw k).mpr (not_lt.mp fun h => h3 ((cond3_iff hv hw k).mpr h))
      iapply (wand (p := tripBody R i (w0 i) (w1 i) arg17 arg18 t 0#32 arg19 v113 v119 v133 _ hw2 k (BitVec.ofNat 32 (k.val - 1))))
      isplitl
      · iapply ((tripM R c 𝒱 bd X i (w0 i) (w1 i) arg17 arg18 t 0#32 arg19 v113 v119 v133 _ hw2 k (BitVec.ofNat 32 (k.val - 1)) h2 h3 h4 hc4 hc3 f14 f9 f10 f11 f12 f13).2.2.2.2 E)
        isplitl [Hi]; · iexact Hi
        isplitl [Hm]; · iexact Hm
        iexact Hs
      iintro %y ⟨%hy, Hi, Hm, Hs⟩
      iexists _, _, _, _, _
      isplitr
      · ipureintro; rw [hy, iv_eq]; rfl
      isplitr; swap
      · isplitl [Hi]; · iexact Hi
        isplitl [Hm]; · iexact Hm
        iexact Hs
      ipureintro
      exact H.laterM c 𝒱 bd arg17 arg18 t arg19 v113 v119 v133 hw2 k h2 h3 h4 hc4 hc3 f14 f9 f10 f11 f12 f13 hM hI

/-- A loop that runs no trip goes straight on. -/
theorem exec_none {c : Dev nD} {𝒱 : Variants} {bd : Option 𝒱.V} {E : Set ℕ} {w : Nat} {σ : Type} (lb ub st : BitVec w) (hok : Scf.OK lb ub st) (init : σ)
    {body : Fin (Scf.trips lb ub st) → σ → Prog (TpuEff nD τ sig (Elt F) (Λ₀ F) .tc) σ} (htr : Scf.trips lb ub st = 0)
    {β : Type} {kk : σ → Prog (TpuEff nD τ sig (Elt F) (Λ₀ F) .tc) β} {Q : β → sProp (MT nD τ sig Unit (Elt F) ℕ (UR sig nD τ) ℕ)} :
    wp frame (wpE (defs₀ (F := F)) 𝒱 (c : Thread nD τ) bd) E (kk init) Q
      ⊢ wp frame (wpE (defs₀ (F := F)) 𝒱 (c : Thread nD τ) bd) E (Scf.for lb ub st hok init body >>= kk) Q := by
  iintro H
  iapply (Scf.wp_for_bind frame (wpE (defs₀ (F := F)) 𝒱 (c : Thread nD τ) bd) E lb ub st hok init body (fun _ acc => iprop(⌜acc = init⌝))
    (fun k _ => absurd k.isLt (by omega))) $$ []
  · ipureintro; rfl
  iintro %acc %h
  subst h
  iexact H

/-- The work on a tile of queries: its blocks of keys, then the result's columns, as the kernel spells it. -/
def pairBody (R : Refs) (i : grid0.Coords) (a0 a1 arg17 arg18 : BitVec 32) (k0_t4 : Fin k0_t4_loop.trips) (arg20 : BitVec 32) :
    Prog (TpuEff nD τ sig (Elt F) (Λ₀ F) .tc) (BitVec 32) := do
  let ⟨arg19, v91, v92⟩ : Σ' (arg19 : BitVec 32) (v91 : BitVec 32), BitVec 32 ← k0_part50 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 0#32 1#32 k0_t4
  let ⟨v113, v119, v133⟩ : Σ' (v113 : BitVec 32) (v119 : BitVec 32), BitVec 1 ← k0_part51 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 k0_t4 v91 v92
  let ⟨v164, k0_hw7, v165, v167⟩ : Σ' (v164 : BitVec 32) (k0_hw7 : k0_chk7 v164) (v165 : Vec F S128x512 .f32), BitVec 32 ← k0_part52 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 a0 a1 k0_t4 arg20 arg19 v113 v119 v133
  let ⟨v187, v198⟩ : Σ' (v187 : FVec F S128x512 .f32), FVec F S128x256 .bf16 ← k0_part53 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 v164 k0_hw7 v165 v167
  let ⟨v228, c512_i32_151⟩ : Σ' (v228 : FVec F S128x512 .f32), BitVec 32 ← k0_part54 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 arg17 arg18 v187 v198
  let v234 : Vec F S1x1x128x512 .f32 ← Prog.lift (.load R.arg8 (Rect.unit (s := S1x1x128x5760) (k0_off42 k0_t4) S1x1x128x512.size (k0_off42_inb k0_t4)).toLoadRect (View.loadsAt_vmem h_S1x1x128x512))
  Prog.lift (.store R.arg8 (Rect.unit (s := S1x1x128x5760) (k0_off42 k0_t4) S1x1x128x512.size (k0_off42_inb k0_t4)) (k0_pay4 v228) Finset.univ (View.stores_vmem_bits_univ h_S1x1x128x512 rfl) (.inl rfl))
  let v238 : Vec F S128x512 .f32 ← Prog.lift (.load R.arg9 (Rect.unit (s := S128x512) ![0, 0] S128x512.size inb_S128x512_S128x512_0_0).toLoadRect (View.loadsAt_vmem h_S128x512))
  Prog.lift (.store R.arg9 (Rect.unit (s := S128x512) ![0, 0] S128x512.size inb_S128x512_S128x512_0_0) (k0_pay5 (F := F)) Finset.univ (View.stores_vmem_bits_univ h_S128x512 rfl) (.inl rfl))
  let v242 : Vec F S8x512 .f32 ← Prog.lift (.load R.arg10 (Rect.unit (s := S8x512) ![0, 0] S8x512.size inb_S8x512_S8x512_0_0).toLoadRect (View.loadsAt_vmem h_S8x512))
  Prog.lift (.store R.arg10 (Rect.unit (s := S8x512) ![0, 0] S8x512.size inb_S8x512_S8x512_0_0) (k0_pay6 (F := F)) Finset.univ (View.stores_vmem_bits_univ h_S8x512 rfl) (.inl rfl))
  let v246 : Vec F S4x512x128 .bf16 ← Prog.lift (.load R.arg12 (Rect.unit (s := S4x512x128) ![0, 0, 0] S4x512x128.size inb_S4x512x128_S4x512x128_0_0_0).toLoadRect (View.loadsAt_vmem h_S4x512x128))
  Prog.lift (.store R.arg12 (Rect.unit (s := S4x512x128) ![0, 0, 0] S4x512x128.size inb_S4x512x128_S4x512x128_0_0_0) (k0_pay7 (F := F)) Finset.univ (View.stores_vmem h_S4x512x128 (R.harg12.storeExact_slice rfl _ packedbf16_S4x512x128_S4x512x128_0_0_0) (fun _ => rfl)) (.inl rfl))
  pure 0#32

set_option maxHeartbeats 4000000 in
theorem pair (hX : ∀ o h, (X.word o h).toNat < 12288) (c : Dev nD) (𝒱 : Variants) (bd : Option 𝒱.V) (E : Set ℕ) (arg17 arg18 : BitVec 32)
    (t : Fin k0_t4_loop.trips) (f14 : Co F R.arg14) (hM : H.M f14)
    (f9 : Co F R.arg9) (f10 : Co F R.arg10) (f11 : Co F R.arg11) (f12 : Co F R.arg12) (f13 : Co F R.arg13) (f8 : Co F R.arg8) (f15 : Co F R.arg15)
    (hI : H.I t.val 0 f9 f10 f11 f12 f13) (hA : H.A t.val f8) :
    iprop(HeldIn R c X ∗ HeldM R c f14 ∗ HeldS R c f9 f10 f11 f12 f13 ∗ (R.arg8.view.loc (c : Thread nD τ) ↦[R.arg8.view.set]{fullShare} f8)
        ∗ (R.arg15.view.loc (c : Thread nD τ) ↦[R.arg15.view.set]{fullShare} f15))
      ⊢ wp frame (wpE (defs₀ (F := F)) 𝒱 (c : Thread nD τ) bd) E (pairBody R i (w0 i) (w1 i) arg17 arg18 t 0#32)
        (fun y => iprop(⌜y = 0#32⌝ ∗ ∃ f9 f10 f11 f12 f13 f8 f15, ⌜H.I (t.val + 1) 0 f9 f10 f11 f12 f13⌝ ∗ ⌜H.A (t.val + 1) f8⌝
          ∗ HeldIn R c X ∗ HeldM R c f14 ∗ HeldS R c f9 f10 f11 f12 f13 ∗ (R.arg8.view.loc (c : Thread nD τ) ↦[R.arg8.view.set]{fullShare} f8)
          ∗ (R.arg15.view.loc (c : Thread nD τ) ↦[R.arg15.view.set]{fullShare} f15))) := by
  have hv := hX (k0_off12 i t) (k0_off12_inb i t)
  have hw2 := chk2_of hv t
  have ht6 := t6_trips hv
  have ht5 := t5_trips hv
  have hw7 : k0_chk7 (BitVec.ofNat 32 (Scf.trips (k0_t5_loop (X.word (k0_off12 i t) (k0_off12_inb i t))).lb (k0_t5_loop (X.word (k0_off12 i t) (k0_off12_inb i t))).ub
      (k0_t5_loop (X.word (k0_off12 i t) (k0_off12_inb i t))).st - 1)) := by
    refine chk7_of ?_
    show (k0_t5_loop (X.word (k0_off12 i t) (k0_off12_inb i t))).trips - 1 < 24
    omega
  unfold pairBody
  iintro ⟨⟨H2, H3, H4, H5, H6, H7⟩, H14, ⟨H9, H10, H11, H12, H13⟩, H8, H15⟩
  sl_exec
  iapply (exec_none _ _ _ _ _ ht6)
  sl_exec
  sl_step
  have hv224 : pair.sl.v224 t hw7 f9L0 f12L3 = lastProd X _ hw7 f9L0 f12L3 := by
    unfold pair.sl.v224 pair.sl.H9_1 pair.sl.r_3 pair.sl.r_4
    exact View.readCov_unit_zero _ (by decide) _ _
  have hfin := H.finish t hw7 f8 _ _ _ _ _ hL1
  isplitr
  · ipureintro; rfl
  iexists _, _, _, _, _, _, _
  isplitr; swap
  · isplitr; swap
    · isplitl [H2 H3 H4 H5 H6 H7]; · sl_close
      isplitl [H14]; · iexact H14
      isplitl [H9 H10 H11 H12 H13]; · sl_close
      isplitl [H8]; · iexact H8
      iexact H15
    ipureintro
    have h := hfin.1 hA
    rw [← hv224] at h
    exact h
  ipureintro
  exact hfin.2

/-- The loop that computes the offsets exactly keeps the certificate's statement of them. -/
@[sl_loop, instance_reducible] def loop1 (hX : ∀ o h, (X.word o h).toNat < 12288) (c : Dev nD) (𝒱 : Variants) (bd : Option 𝒱.V) (E : Set ℕ) (arg17 arg18 : BitVec 32)
    (h1 : k0_cond1 arg17 = 1#1) :
    Gen.LoopInvTy_k0_t1 (F := F) Unit ℕ (UR sig nD τ) ℕ 𝒱 c bd E i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16
      arg17 arg18 (w0 i) (w1 i) h1 0#32 where
  inv k acc := iprop(∃ f14, ⌜H.M f14⌝ ∗ HeldIn R c X ∗ HeldM R c f14)
  step k acc := by
    have hc1 := chk1_of (a := arg17) (hX (k0_off4 i k) (k0_off4_inb i k))
    iintro ⟨%f14, %hM, Hi, Hm⟩
    iapply (wand (p := offsetsBody R i (w0 i) (w1 i) arg17 arg18 h1 k acc))
    isplitl
    · iapply ((tripO R c 𝒱 bd X i (w0 i) (w1 i) arg17 arg18 h1 k acc hc1 f14).2 E)
      isplitl [Hi]; · iexact Hi
      iexact Hm
    iintro %y ⟨%hy, Hi, Hm⟩
    iexists _
    isplitr; swap
    · isplitl [Hi]; · iexact Hi
      iexact Hm
    ipureintro
    exact H.offsets c 𝒱 bd arg17 arg18 h1 k acc hc1 f14 hM

/-- Every buffer of the kernel, held: the offsets as the certificate states them, the result finished if `b`. -/
def Held (c : Dev nD) (b : Prop) : sProp (MT nD τ sig Unit (Elt F) ℕ (UR sig nD τ) ℕ) :=
  iprop(∃ f14 f9 f10 f11 f12 f13 f8 f15 f16, ⌜H.M f14⌝ ∗ ⌜b → H.A 12 f8⌝ ∗ HeldIn R c X ∗ HeldM R c f14 ∗ HeldS R c f9 f10 f11 f12 f13
    ∗ (R.arg8.view.loc (c : Thread nD τ) ↦[R.arg8.view.set]{fullShare} f8) ∗ (R.arg15.view.loc (c : Thread nD τ) ↦[R.arg15.view.set]{fullShare} f15)
    ∗ (R.arg16.view.loc (c : Thread nD τ) ↦[R.arg16.view.set]{fullShare} f16))

/-- The attempts from the `j`-th on: whatever they are handed, they leave the result finished. -/
def spec (c : Dev nD) (j : ℕ) : sWPT (MT nD τ sig Unit (Elt F) ℕ (UR sig nD τ) ℕ) (BitVec 32 × BitVec 32) := do
  sWPT.consume (Held H c (1 ≤ j))
  let r ← sWPT.arbitrary
  sWPT.produce (Held H c True)
  pure r

theorem spec_apply (c : Dev nD) (j : ℕ) (K : BitVec 32 × BitVec 32 → sProp (MT nD τ sig Unit (Elt F) ℕ (UR sig nD τ) ℕ)) :
    spec H c j K = iprop(Held H c (1 ≤ j) ∗ ∀ r : BitVec 32 × BitVec 32, Held H c True -∗ K r) := rfl

abbrev 𝒱₀ : Variants := Variants.nat

/-- The kernel's attempts, as the label's record. -/
abbrev attempts (R : Refs) (i : grid0.Coords) (arg17 arg18 : BitVec 32) : Cc0While1 F :=
  ⟨i, R.arg3, R.harg3, R.arg7, R.harg7, R.arg2, R.harg2, R.arg4, R.harg4, R.arg6, R.harg6, R.arg14, R.harg14, R.arg9, R.harg9, R.arg10, R.harg10, R.arg12, R.harg12, R.arg15, R.harg15, R.arg11, R.harg11, R.arg13, R.harg13, R.arg5, R.harg5, R.arg8, R.harg8, R.arg16, R.harg16, arg17, arg18⟩

/-- The invariant of the loop over the tiles. -/
def inv4 (c : Dev nD) (k : ℕ) (acc : BitVec 32) : sProp (MT nD τ sig Unit (Elt F) ℕ (UR sig nD τ) ℕ) :=
  iprop(∃ f14 f9 f10 f11 f12 f13 f8 f15, ⌜acc = 0#32⌝ ∗ ⌜H.M f14⌝ ∗ ⌜H.I k 0 f9 f10 f11 f12 f13⌝ ∗ ⌜H.A k f8⌝ ∗ HeldIn R c X ∗ HeldM R c f14 ∗ HeldS R c f9 f10 f11 f12 f13
    ∗ (R.arg8.view.loc (c : Thread nD τ) ↦[R.arg8.view.set]{fullShare} f8) ∗ (R.arg15.view.loc (c : Thread nD τ) ↦[R.arg15.view.set]{fullShare} f15))

theorem inv4_step (hX : ∀ o h, (X.word o h).toNat < 12288) (c : Dev nD) (𝒱 : Variants) (bd : Option 𝒱.V) (E : Set ℕ) (arg17 arg18 : BitVec 32)
    (t : Fin k0_t4_loop.trips) (acc : BitVec 32) :
    inv4 H c t.val acc ⊢ wp frame (wpE (defs₀ (F := F)) 𝒱 (c : Thread nD τ) bd) E (pairBody R i (w0 i) (w1 i) arg17 arg18 t acc) (inv4 H c (t.val + 1)) := by
  unfold inv4
  iintro ⟨%f14, %f9, %f10, %f11, %f12, %f13, %f8, %f15, %ha, %hM, %hI, %hA, Hi, Hm, Hs, H8, H15⟩
  subst ha
  iapply (wand (p := pairBody R i (w0 i) (w1 i) arg17 arg18 t 0#32))
  isplitl
  · iapply (pair H hX c 𝒱 bd E arg17 arg18 t f14 hM f9 f10 f11 f12 f13 f8 f15 hI hA)
    isplitl [Hi]; · iexact Hi
    isplitl [Hm]; · iexact Hm
    isplitl [Hs]; · iexact Hs
    isplitl [H8]; · iexact H8
    iexact H15
  iintro %y ⟨%hy, %f9, %f10, %f11, %f12, %f13, %f8, %f15, %hI, %hA, Hi, Hm, Hs, H8, H15⟩
  iexists _, _, _, _, _, _, _, _
  isplitr; · (ipureintro; exact hy)
  isplitr; · (ipureintro; exact hM)
  isplitr; · (ipureintro; exact hI)
  isplitr; · (ipureintro; exact hA)
  isplitl [Hi]; · iexact Hi
  isplitl [Hm]; · iexact Hm
  isplitl [Hs]; · iexact Hs
  isplitl [H8]; · iexact H8
  iexact H15

/-- The call of the next attempt, by what the attempts from it on leave. -/
theorem recur (c : Dev nD) (E : Set ℕ) (n j : ℕ)
    (ih : ∀ (arg18 : BitVec 32) (K : BitVec 32 × BitVec 32 → sProp (MT nD τ sig Unit (Elt F) ℕ (UR sig nD τ) ℕ)), spec H c (j + 1) K
      ⊢ wp frame (wpE (defs₀ (F := F)) 𝒱₀ (c : Thread nD τ) (some n)) E (defs₀ (F := F) .tc 1 (attempts R i (BitVec.ofNat 32 (j + 1)) arg18)) K)
    (a17 a18 : BitVec 32) (ha : a17 = BitVec.ofNat 32 (j + 1)) (K : BitVec 32 × BitVec 32 → sProp (MT nD τ sig Unit (Elt F) ℕ (UR sig nD τ) ℕ)) :
    iprop(Held H c True ∗ ∀ r : BitVec 32 × BitVec 32, Held H c True -∗ K r)
      ⊢ wp frame (wpE (defs₀ (F := F)) 𝒱₀ (c : Thread nD τ) (some (n + 1))) E ((Prog.op (TpuEff.call (1 : (Λ₀ F).Label) (attempts R i a17 a18)) Prog.ret : Prog (TpuEff nD τ sig (Elt F) (Λ₀ F) .tc) (BitVec 32 × BitVec 32))) K := by
  subst ha
  iintro ⟨H, Hk⟩
  iapply (wp_call_spec 𝒱₀ (c : Thread nD τ) (some (n + 1)) E (spec H c (j + 1)) n (fun u hu => by cases hu; exact Nat.lt_succ_self n) (ih a18))
  rw [spec_apply]
  isplitl [H]
  · unfold Held
    icases H with ⟨%f14, %f9, %f10, %f11, %f12, %f13, %f8, %f15, %f16, %hM, %hA, H⟩
    iexists f14, f9, f10, f11, f12, f13, f8, f15, f16
    isplitr; · (ipureintro; exact hM)
    isplitr; · (ipureintro; exact fun _ => hA trivial)
    iexact H
  iintro %r H
  rw [wp_ret]; imodintro
  iapply Hk
  iexact H

set_option maxHeartbeats 2000000 in
/-- Two attempts are enough, and whatever the last one tried is the result. -/
theorem spec_le (hX : ∀ o h, (X.word o h).toNat < 12288) (c : Dev nD) (E : Set ℕ) :
    ∀ n j, j + n = 2 → ∀ (arg18 : BitVec 32) (K : BitVec 32 × BitVec 32 → sProp (MT nD τ sig Unit (Elt F) ℕ (UR sig nD τ) ℕ)), spec H c j K
      ⊢ wp frame (wpE (defs₀ (F := F)) 𝒱₀ (c : Thread nD τ) (some n)) E (defs₀ (F := F) .tc 1 (attempts R i (BitVec.ofNat 32 j) arg18)) K := by
  intro n
  induction n with
  | zero =>
    intro j hj arg18 K
    obtain rfl : j = 2 := by omega
    rw [spec_apply]
    show _ ⊢ wp frame (wpE (defs₀ (F := F)) 𝒱₀ (c : Thread nD τ) (some 0)) E
      (cc0_while1 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 (BitVec.ofNat 32 2) arg18) K
    rw [cc0_while1_eq_skeleton]; unfold cc0_while1_skel
    have ht : ¬ Scalar.ori (Scalar.cmpi .eq (BitVec.ofNat 32 2) 0#32) (Scalar.andi (Scalar.cmpi .eq (BitVec.ofNat 32 2) 1#32) (Scalar.cmpi .ne arg18 0#32)) = 1#1 := by
      have : ∀ x : BitVec 1, ¬ Scalar.ori (Scalar.cmpi .eq (BitVec.ofNat 32 2) 0#32) (Scalar.andi (Scalar.cmpi .eq (BitVec.ofNat 32 2) 1#32) x) = 1#1 := by decide +kernel
      exact this _
    simp only [ht, ↓reduceIte, Prog.pure_eq_ret]
    unfold Held
    iintro ⟨⟨%f14, %f9, %f10, %f11, %f12, %f13, %f8, %f15, %f16, %hM, %hA, H⟩, Hk⟩
    rw [wp_ret]; imodintro
    iapply Hk
    iexists f14, f9, f10, f11, f12, f13, f8, f15, f16
    isplitr; · (ipureintro; exact hM)
    isplitr; · (ipureintro; exact fun _ => hA (by decide))
    iexact H
  | succ n ih =>
    intro j hj arg18 K
    rw [spec_apply]
    show _ ⊢ wp frame (wpE (defs₀ (F := F)) 𝒱₀ (c : Thread nD τ) (some (n + 1))) E
      (cc0_while1 i R.arg3 R.harg3 R.arg7 R.harg7 R.arg2 R.harg2 R.arg4 R.harg4 R.arg6 R.harg6 R.arg14 R.harg14 R.arg9 R.harg9 R.arg10 R.harg10 R.arg12 R.harg12 R.arg15 R.harg15 R.arg11 R.harg11 R.arg13 R.harg13 R.arg5 R.harg5 R.arg8 R.harg8 R.arg16 R.harg16 (BitVec.ofNat 32 j) arg18) K
    rw [cc0_while1_eq_skeleton]; unfold cc0_while1_skel
    by_cases ht : Scalar.ori (Scalar.cmpi .eq (BitVec.ofNat 32 j) 0#32) (Scalar.andi (Scalar.cmpi .eq (BitVec.ofNat 32 j) 1#32) (Scalar.cmpi .ne arg18 0#32)) = 1#1
    · rw [if_pos ht]
      unfold Held
      iintro ⟨⟨%f14, %f9, %f10, %f11, %f12, %f13, %f8, %f15, %f16, %hM, %hA, ⟨H2, H3, H4, H5, H6, H7⟩, H14, ⟨H9, H10, H11, H12, H13⟩, H8, H15, H16⟩, Hk⟩
      have hsucc : Scalar.addi (BitVec.ofNat 32 j) 1#32 = BitVec.ofNat 32 (j + 1) := by
        obtain rfl | rfl : j = 0 ∨ j = 1 := by omega
        all_goals rfl
      by_cases h1 : k0_cond1 (BitVec.ofNat 32 j) = 1#1
      · let L := loop1 H hX c 𝒱₀ (some (n + 1)) E (BitVec.ofNat 32 j) arg18 h1
        sl_exec
        iapply (Scf.wp_for_bind frame (wpE (defs₀ (F := F)) 𝒱₀ (c : Thread nD τ) (some (n + 1))) E k0_t4_loop.lb k0_t4_loop.ub k0_t4_loop.st k0_t4_ok 0#32
          (pairBody R i (w0 i) (w1 i) (BitVec.ofNat 32 j) arg18) (inv4 H c) (fun t acc => inv4_step H hX c 𝒱₀ (some (n + 1)) E (BitVec.ofNat 32 j) arg18 t acc)) $$ [H2 H3 H4 H5 H6 H7 H14 H9 H10 H11 H12 H13 H8 H15]
        · unfold inv4
          iexists _, _, _, _, _, _, _, _
          isplitr; · (ipureintro; rfl)
          isplitr; swap
          · isplitr; swap
            · isplitr; · (ipureintro; exact H.start f8)
              isplitl [H2 H3 H4 H5 H6 H7]; · sl_close
              isplitl [H14]; · iexact H14
              isplitl [H9 H10 H11 H12 H13]; · sl_close
              isplitl [H8]; · iexact H8
              iexact H15
            ipureintro
            exact H.fill _ _ _ _ f13
          ipureintro
          assumption
        unfold inv4
        iintro %acc ⟨%f14', %f9', %f10', %f11', %f12', %f13', %f8', %f15', %ha, %hM', %hI', %hA', ⟨H2, H3, H4, H5, H6, H7⟩, H14, ⟨H9, H10, H11, H12, H13⟩, H8, H15⟩
        subst ha
        sl_exec
        iapply (recur H c E n j (ih (j + 1) (by omega)) _ _ (by unfold spec_le.sl.v51; exact hsucc) K)
        unfold Held
        isplitr [Hk]; swap
        · iexact Hk
        iexists f14', f9', f10', f11', f12', f13', f8', f15', _
        isplitr; · (ipureintro; exact hM')
        isplitr; · (ipureintro; intro _; have h := hA'; rwa [show Scf.trips k0_t4_loop.lb k0_t4_loop.ub k0_t4_loop.st = 12 from t4_trips] at h)
        isplitl [H2 H3 H4 H5 H6 H7]; · sl_close
        isplitl [H14]; · iexact H14
        isplitl [H9 H10 H11 H12 H13]; · sl_close
        isplitl [H8]; · iexact H8
        isplitl [H15]; · iexact H15
        iexact H16
      · sl_exec
        iapply (Scf.wp_for_bind frame (wpE (defs₀ (F := F)) 𝒱₀ (c : Thread nD τ) (some (n + 1))) E k0_t4_loop.lb k0_t4_loop.ub k0_t4_loop.st k0_t4_ok 0#32
          (pairBody R i (w0 i) (w1 i) (BitVec.ofNat 32 j) arg18) (inv4 H c) (fun t acc => inv4_step H hX c 𝒱₀ (some (n + 1)) E (BitVec.ofNat 32 j) arg18 t acc)) $$ [H2 H3 H4 H5 H6 H7 H14 H9 H10 H11 H12 H13 H8 H15]
        · unfold inv4
          iexists _, _, _, _, _, _, _, _
          isplitr; · (ipureintro; rfl)
          isplitr; swap
          · isplitr; swap
            · isplitr; · (ipureintro; exact H.start f8)
              isplitl [H2 H3 H4 H5 H6 H7]; · sl_close
              isplitl [H14]; · iexact H14
              isplitl [H9 H10 H11 H12 H13]; · sl_close
              isplitl [H8]; · iexact H8
              iexact H15
            ipureintro
            exact H.fill _ _ _ _ f13
          ipureintro
          assumption
        unfold inv4
        iintro %acc ⟨%f14', %f9', %f10', %f11', %f12', %f13', %f8', %f15', %ha, %hM', %hI', %hA', ⟨H2, H3, H4, H5, H6, H7⟩, H14, ⟨H9, H10, H11, H12, H13⟩, H8, H15⟩
        subst ha
        sl_exec
        iapply (recur H c E n j (ih (j + 1) (by omega)) _ _ (by unfold spec_le.sl.v51_1; exact hsucc) K)
        unfold Held
        isplitr [Hk]; swap
        · iexact Hk
        iexists f14', f9', f10', f11', f12', f13', f8', f15', _
        isplitr; · (ipureintro; exact hM')
        isplitr; · (ipureintro; intro _; have h := hA'; rwa [show Scf.trips k0_t4_loop.lb k0_t4_loop.ub k0_t4_loop.st = 12 from t4_trips] at h)
        isplitl [H2 H3 H4 H5 H6 H7]; · sl_close
        isplitl [H14]; · iexact H14
        isplitl [H9 H10 H11 H12 H13]; · sl_close
        isplitl [H8]; · iexact H8
        isplitl [H15]; · iexact H15
        iexact H16
    · have hj1 : j = 1 := by
        have h0 : ∀ x : BitVec 1, Scalar.ori (Scalar.cmpi .eq (BitVec.ofNat 32 0) 0#32) (Scalar.andi (Scalar.cmpi .eq (BitVec.ofNat 32 0) 1#32) x) = 1#1 := by decide +kernel
        by_contra h
        obtain rfl : j = 0 := by omega
        exact ht (h0 _)
      subst hj1
      simp only [ht, ↓reduceIte, Prog.pure_eq_ret]
      unfold Held
      iintro ⟨⟨%f14, %f9, %f10, %f11, %f12, %f13, %f8, %f15, %f16, %hM, %hA, H⟩, Hk⟩
      rw [wp_ret]; imodintro
      iapply Hk
      iexists f14, f9, f10, f11, f12, f13, f8, f15, f16
      isplitr; · (ipureintro; exact hM)
      isplitr; · (ipureintro; exact fun _ => hA (by decide))
      iexact H

end Cert.Attn.Hand

end

end
-- ==== Proof.BitsPoints.lean ====
module

public import proofs.«01_k».proof.Proof.BitsRun

@[expose] public section

/-! The attention call's windows: when each is fetched and written back, the staging buffers and the body at a grid point, the
    arrays' blocks, and what the launch theorem asks of the program around the call. -/

set_option maxRecDepth 16384

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%arg3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 4 (%arg4)) is fetched at the points ≡ 0 (mod 4), at any contents of the tables (its index map reads none). -/
theorem fetch0_3 (a : (pcfg0 (F := F)).Adm) : ∀ t : Fin (cfg0 a).N, ((cfg0 a).win 3).fetch t = true ↔ t.val % 4 = 0 :=
  (fun t => Pipeline.Window.fetchOf_reads cc0_transform_3 reads0_3 hreads0_3 0 (by decide) (by decide) (Pipeline.Window.sep_of_coord cc0_transform_3 0 0 (fun _ => rfl) (by decide)) (P := 4) (by decide) t : ∀ t : Fin grid0.N, Pipeline.Window.fetchOf grid0 false cc0_transform_3 t = true ↔ t.val % 4 = 0)
/-- Window 4 (operand 5 (%arg5)) is fetched at the points ≡ 0 (mod 4), at any contents of the tables (its index map reads none). -/
theorem fetch0_4 (a : (pcfg0 (F := F)).Adm) : ∀ t : Fin (cfg0 a).N, ((cfg0 a).win 4).fetch t = true ↔ t.val % 4 = 0 :=
  (fun t => Pipeline.Window.fetchOf_reads cc0_transform_4 reads0_4 hreads0_4 0 (by decide) (by decide) (Pipeline.Window.sep_of_coord cc0_transform_4 0 0 (fun _ => rfl) (by decide)) (P := 4) (by decide) t : ∀ t : Fin grid0.N, Pipeline.Window.fetchOf grid0 false cc0_transform_4 t = true ↔ t.val % 4 = 0)
/-- Window 5 (result 0 (%0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) (Λ₀ F) .tc) PUnit :=
  cc0_attn (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig (Λ₀ F) := cfg0 (adm m hO)

/-- Each table as the body is handed it: its whole buffer as a memref, and that memref's wholeness. -/
abbrev tbM0_0 : Memref sig .tc .smem S11520 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_AttnIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c)))⟩) h

/-! ## The kernel body on any staging memrefs: a subtype the run finds -/

/-- One staging buffer of output window 5, through which its contents are stated (`View.read_writes_of_cover`: the
    choice does not matter). -/
abbrev VO0_5 : View sig .tc .vmem S1x1x128x5760 .f32 := (Memref.whole cc0_stg5_0 : Memref sig .tc .vmem S1x1x128x5760 .f32).view
/-- Each window's current staging memref at point `t`, spelled as the pipeline passes it (`bodyAt0`), and its wholeness. -/
abbrev ms0_0 (hO : Ok m) (t : Fin (cfgM m hO).N) : Memref sig .tc .vmem S1x1x5760x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x12288x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x96x128x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x12288x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x5760 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x128x5760 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S128x512 .f32 := Memref.whole cc0_scratch0
abbrev scM0_1 : Memref sig .tc .vmem S8x512 .f32 := Memref.whole cc0_scratch1
abbrev scM0_2 : Memref sig .tc .vmem S512x512 .f32 := Memref.whole cc0_scratch2
abbrev scM0_3 : Memref sig .tc .vmem S4x512x128 .bf16 := Memref.whole cc0_scratch3
abbrev scM0_4 : Memref sig .tc .vmem S1x512 .f32 := Memref.whole cc0_scratch4
abbrev scM0_5 : Memref sig .tc .vmem S1x5760 .f32 := Memref.whole cc0_scratch5
abbrev scM0_6 : Memref sig .tc .vmem S1x512 .f32 := Memref.whole cc0_scratch6
abbrev scM0_7 : Memref sig .tc .smem S1 .i32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Attn.Hand
-- ==== Proof.BitsBody.lean ====
module

public import proofs.«01_k».proof.Proof.BitsPoints

@[expose] public section

/-! The attention kernel's body as a whole: from any contents of its scratch it ends, whatever the attempts did, with its inputs
    as they were and its result's block finished as the certificate's statement says. -/

set_option maxRecDepth 16384

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {R : Refs} {X : Ins F R} {i : grid0.Coords} (H : Hooks F R X i)

set_option maxHeartbeats 1000000 in
/-- The kernel's body. -/
theorem attn_run (hX : ∀ o h, (X.word o h).toNat < 12288) (c : Dev nD) (E : Set ℕ) (K : PUnit → sProp (MT nD τ sig Unit (Elt F) ℕ (UR sig nD τ) ℕ)) :
    iprop((∃ f14 f9 f10 f11 f12 f13 f8 f15 f16, HeldIn R c X ∗ HeldM R c f14 ∗ HeldS R c f9 f10 f11 f12 f13
        ∗ (R.arg8.view.loc (c : Thread nD τ) ↦[R.arg8.view.set]{fullShare} f8) ∗ (R.arg15.view.loc (c : Thread nD τ) ↦[R.arg15.view.set]{fullShare} f15)
        ∗ (R.arg16.view.loc (c : Thread nD τ) ↦[R.arg16.view.set]{fullShare} f16)) ∗ (Held H c True -∗ K ⟨⟩))
      ⊢ wp frame (wpE (defs₀ (F := F)) 𝒱₀ (c : Thread nD τ) none) E
        (cc0_attn i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16) K := by
  simp only [cc0_attn_eq_skeleton]; unfold cc0_attn_skel
  iintro ⟨⟨%f14, %f9, %f10, %f11, %f12, %f13, %f8, %f15, %f16, ⟨H2, H3, H4, H5, H6, H7⟩, H14, ⟨H9, H10, H11, H12, H13⟩, H8, H15, H16⟩, Hk⟩
  sl_exec
  iapply (wp_call_spec 𝒱₀ (c : Thread nD τ) none E (spec H c 0) 2 (fun u hu => nomatch hu) (spec_le H hX c E 2 0 rfl 0#32))
  rw [spec_apply]
  isplitr [Hk]
  · unfold Held
    iexists _, f9, f10, f11, f12, f13, f8, f15, f16
    isplitr; swap
    · isplitr; · (ipureintro; exact fun h => absurd h (by decide))
      isplitl [H2 H3 H4 H5 H6 H7]; · sl_close
      isplitl [H14]; · iexact H14
      isplitl [H9 H10 H11 H12 H13]; · sl_close
      isplitl [H8]; · iexact H8
      isplitl [H15]; · iexact H15
      iexact H16
    ipureintro
    exact H.zero _
  iintro %r H
  rcases r with ⟨a, b⟩
  sl_exec
  sl_step
  iapply Hk
  iexact H

end Cert.Attn.Hand
-- ==== Proof.BitsLaunch.lean ====
module

public import proofs.«01_k».proof.Proof.BitsBody
public import Idealize.ShloMosaic.Lib.Claim

@[expose] public section

/-! The attention call launched: its body at every grid point, the run with the result's array named block by block, and the run
    that says nothing of the result. -/

set_option maxRecDepth 16384

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No index map reads the table, so any contents of it are admissible. -/
theorem hO : Ok m := trivial

/-- The memrefs at a grid point. -/
abbrev refsAt (hO : Ok m) (t : Fin (cfgM m hO).N) : Refs := ⟨tbM0_0, htbM0_0, ms0_0 m hO t, hs0_0 m hO t, ms0_1 m hO t, hs0_1 m hO t, ms0_2 m hO t, hs0_2 m hO t, ms0_3 m hO t, hs0_3 m hO t, ms0_4 m hO t, hs0_4 m hO t, ms0_5 m hO t, hs0_5 m hO t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _, scM0_7, Memref.isWhole_whole _⟩
/-- The table and the inputs' blocks at a grid point. -/
abbrev insAt (hO : Ok m) (c : Dev nD) (t : Fin (cfgM m hO).N) : Ins F (refsAt m hO t) := ⟨tbl m 0, (hs0_0 m hO t).unread (iblk m hO c 0 t), (hs0_1 m hO t).unread (iblk m hO c 1 t), (hs0_2 m hO t).unread (iblk m hO c 2 t), (hs0_3 m hO t).unread (iblk m hO c 3 t), (hs0_4 m hO t).unread (iblk m hO c 4 t)⟩

/-- The table's words are positions of keys. -/
def Small (hO : Ok m) : Prop := ∀ (c : Dev nD) (t : Fin (cfgM m hO).N) o h, ((insAt m hO c t).word o h).toNat < 12288

set_option maxHeartbeats 1200000 in
/-- The body at a grid point. -/
theorem body_run (hO : Ok m) (hX : Small m hO) (c : Dev nD) (t : Fin (cfgM m hO).N) (H : Hooks F (refsAt m hO t) (insAt m hO c t) (grid0.coords t)) (K : PUnit → sProp (MT nD τ sig Unit (Elt F) ℕ (UR sig nD τ) ℕ)) :
    iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ tbPt0 c tbM0_0 (tbl m 0) ∗ (owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t)) ∗ (∃ d, owns (c : Thread nD τ) (ms0_5 m hO t) fullShare d)
        ∗ (((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) -∗ tbPt0 c tbM0_0 (tbl m 0) -∗ (owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t)) -∗ (∃ f8, ⌜H.A 12 f8⌝ ∗ ((ms0_5 m hO t).view.loc (c : Thread nD τ) ↦[(ms0_5 m hO t).view.set]{fullShare} f8)) -∗ K ⟨⟩))
      ⊢ wp frame (wpE (defs₀ (F := F)) 𝒱₀ (c : Thread nD τ) none) Set.univ (bodyAt0 (adm m hO) t) K := by
  unfold owns
  iintro ⟨⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩⟩, HT0,
    ⟨⟨%f0, %hf0, H0⟩, ⟨%f1, %hf1, H1⟩, ⟨%f2, %hf2, H2⟩, ⟨%f3, %hf3, H3⟩, ⟨%f4, %hf4, H4⟩⟩, ⟨%d5, %f5, -, H5⟩, Hk⟩
  obtain rfl := (hs0_0 m hO t).eq_unread hf0; obtain rfl := (hs0_1 m hO t).eq_unread hf1; obtain rfl := (hs0_2 m hO t).eq_unread hf2
  obtain rfl := (hs0_3 m hO t).eq_unread hf3; obtain rfl := (hs0_4 m hO t).eq_unread hf4
  iapply (attn_run H (hX c t) c Set.univ K)
  isplitr [Hk]
  · iexists fs5, fs0, fs1, fs2, fs3, fs4, f5, fs6, fs7
    isplitl [HT0 H0 H1 H2 H3 H4]; · sl_close
    isplitl [HS5]; · iexact HS5
    isplitl [HS0 HS1 HS2 HS3 HS4]; · sl_close
    isplitl [H5]; · iexact H5
    isplitl [HS6]; · iexact HS6
    iexact HS7
  unfold Held
  iintro ⟨%f14, %f9, %f10, %f11, %f12, %f13, %f8, %f15, %f16, %hM, %hA, ⟨HT0, H0, H1, H2, H3, H4⟩, HS5, ⟨HS0, HS1, HS2, HS3, HS4⟩, H5, HS6, HS7⟩
  iapply Hk $$ [HS0 HS1 HS2 HS3 HS4 HS5 HS6 HS7] [HT0] [H0 H1 H2 H3 H4] [H5]
  · isplitl [HS0]; · (iexists _, _; isplitr; swap; (· iexact HS0); ipureintro; rfl)
    isplitl [HS1]; · (iexists _, _; isplitr; swap; (· iexact HS1); ipureintro; rfl)
    isplitl [HS2]; · (iexists _, _; isplitr; swap; (· iexact HS2); ipureintro; rfl)
    isplitl [HS3]; · (iexists _, _; isplitr; swap; (· iexact HS3); ipureintro; rfl)
    isplitl [HS4]; · (iexists _, _; isplitr; swap; (· iexact HS4); ipureintro; rfl)
    isplitl [HS5]; · (iexists _, _; isplitr; swap; (· iexact HS5); ipureintro; rfl)
    isplitl [HS6]; · (iexists _, _; isplitr; swap; (· iexact HS6); ipureintro; rfl)
    iexists _, _; isplitr; swap; · iexact HS7
    ipureintro; rfl
  · iexact HT0
  · isplitl [H0]; (iexists _; isplitr; (· ipureintro; exact (hs0_0 m hO t).read_unread _); iexact H0)
    isplitl [H1]; (iexists _; isplitr; (· ipureintro; exact (hs0_1 m hO t).read_unread _); iexact H1)
    isplitl [H2]; (iexists _; isplitr; (· ipureintro; exact (hs0_2 m hO t).read_unread _); iexact H2)
    isplitl [H3]; (iexists _; isplitr; (· ipureintro; exact (hs0_3 m hO t).read_unread _); iexact H3)
    iexists _; isplitr; · (ipureintro; exact (hs0_4 m hO t).read_unread _)
    iexact H4
  · iexists f8
    isplitr; · (ipureintro; exact hA trivial)
    iexact H5

end Cert.Attn.Hand
-- ==== Proof.BitsData.lean ====
module

public import proofs.«01_k».proof.Proof.BitsLaunch
public import Idealize.ShloMosaic.Lib.Claim

@[expose] public section

/-! The attention call's proof data, common to the run that names its result and the run that does not. -/

set_option maxRecDepth 16384

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The proof data: the arrays as the region finds them; after the body at a point each input's buffer at its block and the
    result's at `out`; the kernel's scratch and the table's half; nothing owed; full shares. -/
def dats (hO : Ok m) (out : (c : Dev nD) → (t : Fin (cfgM m hO).N) → Vec F S1x1x128x5760 .f32) (_ : Fin 1) (c : Dev nD) :
    Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => out c t
  Φ _ := iprop(Pipeline.ΦA spec0 c ∗ Pipeline.ΦT pre0 (tbl m) c)
  q _ := fullShare
  owed _ := 0

variable (hO : Ok m) (out : (c : Dev nD) → (t : Fin (cfgM m hO).N) → Vec F S1x1x128x5760 .f32)

theorem A_eq (c : Dev nD) (w : Fin (cfgM m hO).W) : (dats m hO out 0 c).A w = V m c (Pipeline.arrRef spec0 w) := by
  dsimp only [dats]

/-- What the body leaves, window by window. -/
theorem after0_0 (c : Dev nD) (t : Fin (cfgM m hO).N) : (dats m hO out 0 c).after 0 t = iblk m hO c 0 t := by dsimp only [dats]; try rfl
theorem after0_1 (c : Dev nD) (t : Fin (cfgM m hO).N) : (dats m hO out 0 c).after 1 t = iblk m hO c 1 t := by dsimp only [dats]; try rfl
theorem after0_2 (c : Dev nD) (t : Fin (cfgM m hO).N) : (dats m hO out 0 c).after 2 t = iblk m hO c 2 t := by dsimp only [dats]; try rfl
theorem after0_3 (c : Dev nD) (t : Fin (cfgM m hO).N) : (dats m hO out 0 c).after 3 t = iblk m hO c 3 t := by dsimp only [dats]; try rfl
theorem after0_4 (c : Dev nD) (t : Fin (cfgM m hO).N) : (dats m hO out 0 c).after 4 t = iblk m hO c 4 t := by dsimp only [dats]; try rfl
theorem after0_5 (c : Dev nD) (t : Fin (cfgM m hO).N) : (dats m hO out 0 c).after 5 t = out c t := by dsimp only [dats]; try rfl

/-- Each input's staging buffer holds its block at every point, fetched there or not. -/
theorem before0_0 (c : Dev nD) (t : Fin (cfgM m hO).N) (d) : (dats m hO out 0 c).before 0 t d = iblk m hO c 0 t :=
  before0_0_of m hO (dats m hO out 0 c) (A_eq m hO out c 0) (after0_0 m hO out c) t d
theorem before0_1 (c : Dev nD) (t : Fin (cfgM m hO).N) (d) : (dats m hO out 0 c).before 1 t d = iblk m hO c 1 t :=
  before0_1_of m hO (dats m hO out 0 c) (A_eq m hO out c 1) (after0_1 m hO out c) t d
theorem before0_2 (c : Dev nD) (t : Fin (cfgM m hO).N) (d) : (dats m hO out 0 c).before 2 t d = iblk m hO c 2 t :=
  before0_2_of m hO (dats m hO out 0 c) (A_eq m hO out c 2) (after0_2 m hO out c) t d
theorem before0_3 (c : Dev nD) (t : Fin (cfgM m hO).N) (d) : (dats m hO out 0 c).before 3 t d = iblk m hO c 3 t :=
  before0_3_of m hO (dats m hO out 0 c) (A_eq m hO out c 3) (after0_3 m hO out c) t d
theorem before0_4 (c : Dev nD) (t : Fin (cfgM m hO).N) (d) : (dats m hO out 0 c).before 4 t d = iblk m hO c 4 t :=
  before0_4_of m hO (dats m hO out 0 c) (A_eq m hO out c 4) (after0_4 m hO out c) t d

/-- The body table's row at point `t`'s slots is the body. -/
theorem defs₀_row (t : Fin (cfgM m hO).N) :
    defs₀ (F := F) .tc (cfgM m hO).body ((cfgM m hO).bodyArgs t ((cfgM m hO).slots t)) = bodyAt0 (adm m hO) t := by
  unfold defs₀; rw [Defs.onTc_tc]

end Cert.Attn.Hand
-- ==== Proof.BitsForget.lean ====
module

public import proofs.«01_k».proof.Proof.BitsData

@[expose] public section

/-! The attention call's run, nothing said of its result: it ends, and its arguments are as they were. -/

set_option maxRecDepth 16384

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

variable (hO : Ok m) (out : (c : Dev nD) → (t : Fin (cfgM m hO).N) → Vec F S1x1x128x5760 .f32)

/-- The result's window, of which nothing is said. -/
def fgt0 : Fin 6 → Bool
  | 5 => true
  | _ => false

/-- What the body is called with at a point, and what it returns, nothing said of its result. -/
def bodyPreF (c : Dev nD) (t : Fin (cfgM m hO).N) : sProp (MT nD τ sig Unit (Elt F) ℕ (UR sig nD τ) ℕ) :=
  iprop((dats m hO out 0 c).Φ t.castSucc ∗ (dats m hO out 0 c).owesAt () t.castSucc
    ∗ (∃ d, owns (c : Thread nD τ) (ms0_0 m hO t) fullShare ((dats m hO out 0 c).before 0 t d))
    ∗ (∃ d, owns (c : Thread nD τ) (ms0_1 m hO t) fullShare ((dats m hO out 0 c).before 1 t d))
    ∗ (∃ d, owns (c : Thread nD τ) (ms0_2 m hO t) fullShare ((dats m hO out 0 c).before 2 t d))
    ∗ (∃ d, owns (c : Thread nD τ) (ms0_3 m hO t) fullShare ((dats m hO out 0 c).before 3 t d))
    ∗ (∃ d, owns (c : Thread nD τ) (ms0_4 m hO t) fullShare ((dats m hO out 0 c).before 4 t d))
    ∗ (∃ d, owns (c : Thread nD τ) (ms0_5 m hO t) fullShare d))
def bodyPostF (c : Dev nD) (t : Fin (cfgM m hO).N) : sProp (MT nD τ sig Unit (Elt F) ℕ (UR sig nD τ) ℕ) :=
  iprop((dats m hO out 0 c).Φ t.succ ∗ (dats m hO out 0 c).owesAt () t.succ
    ∗ owns (c : Thread nD τ) (ms0_0 m hO t) fullShare ((dats m hO out 0 c).after 0 t)
    ∗ owns (c : Thread nD τ) (ms0_1 m hO t) fullShare ((dats m hO out 0 c).after 1 t)
    ∗ owns (c : Thread nD τ) (ms0_2 m hO t) fullShare ((dats m hO out 0 c).after 2 t)
    ∗ owns (c : Thread nD τ) (ms0_3 m hO t) fullShare ((dats m hO out 0 c).after 3 t)
    ∗ owns (c : Thread nD τ) (ms0_4 m hO t) fullShare ((dats m hO out 0 c).after 4 t)
    ∗ (∃ d, owns (c : Thread nD τ) (ms0_5 m hO t) fullShare d))

set_option maxHeartbeats 1200000 in
/-- The body at any point. -/
theorem sound_bodyF (hX : Small m hO) (H : (c : Dev nD) → (t : Fin (cfgM m hO).N) → Hooks F (refsAt m hO t) (insAt m hO c t) (grid0.coords t))
    (c : Dev nD) (t : Fin (cfgM m hO).N) :
    bodyPreF m hO out c t ⊢ wp frame (wpE (defs₀ (F := F)) 𝒱₀ c none) Set.univ (bodyAt0 (adm m hO) t) (fun _ => bodyPostF m hO out c t) := by
  unfold bodyPreF bodyPostF
  simp only [before0_0, before0_1, before0_2, before0_3, before0_4]
  rw [show (dats m hO out 0 c).Φ t.succ = (dats m hO out 0 c).Φ t.castSucc from rfl,
    show (dats m hO out 0 c).owesAt () t.succ = (dats m hO out 0 c).owesAt () t.castSucc from rfl,
    after0_0, after0_1, after0_2, after0_3, after0_4]
  rw [show (dats m hO out 0 c).Φ t.castSucc = iprop(Pipeline.ΦA spec0 c ∗ Pipeline.ΦT pre0 (tbl m) c) from rfl, PhiT0_eq, PhiA0_eq]
  iintro ⟨⟨⟨HS, Hg⟩, HT0⟩, Ho, ⟨%d0, H0⟩, ⟨%d1, H1⟩, ⟨%d2, H2⟩, ⟨%d3, H3⟩, ⟨%d4, H4⟩, ⟨%d5, H5⟩⟩
  iapply (body_run m hO hX c t (H c t) _)
  isplitl [HS]; · iexact HS
  isplitl [HT0]; · iexact HT0
  isplitl [H0 H1 H2 H3 H4]; · sl_close
  isplitl [H5]; · iexists _; iexact H5
  iintro HS HT0 ⟨H0, H1, H2, H3, H4⟩ ⟨%f8, %hA, H5⟩
  isplitl [HS Hg HT0]
  · isplitl [HS Hg]
    · isplitl [HS]; · iexact HS
      iexact Hg
    iexact HT0
  isplitl [Ho]; · iexact Ho
  isplitl [H0]; · iexact H0
  isplitl [H1]; · iexact H1
  isplitl [H2]; · iexact H2
  isplitl [H3]; · iexact H3
  isplitl [H4]; · iexact H4
  iexists _
  unfold owns; iexists _; isplitr
  swap; · iexact H5
  ipureintro; rfl

theorem body_obligationF (hX : Small m hO) (H : (c : Dev nD) → (t : Fin (cfgM m hO).N) → Hooks F (refsAt m hO t) (insAt m hO c t) (grid0.coords t)) (c : Dev nD) :
    BodyObligation (dats (F := F) m hO out 0 c) (defs₀ (F := F)) 𝒱₀ () Set.univ fgt0 := fun t => by
  rw [bigSep_W0, bigSep_W0, defs₀_row m hO]
  exact triple_restated (sound_bodyF m hO out hX H c t) rfl .rfl fun _ => .rfl

set_option backward.isDefEq.respectTransparency.types false in
/-- The launch. -/
theorem run_forget (hX : Small m hO) (H : (c : Dev nD) → (t : Fin (cfgM m hO).N) → Hooks F (refsAt m hO t) (insAt m hO c t) (grid0.coords t)) :
    θ_run defs (onTc (τ := τ) (main (F := F))) (s₀ m ρ)
      (fun r => Pipeline.RDat.FramePost (cfgM m hO) (fun c => (dats m hO out 0 c).toRForget fgt0) (V m) r ∧ r.2.sem = fun _ => 0) :=
  Pipeline.θ_run_frameP_forget (Q' := _) pcfgs (fun _ => adm m hO) (dats m hO out) (0 : Fin 1) launch0 defs₀ 𝒱₀ fgt0 m ρ main
    (hbody := fun c => (body_obligationF m hO out hX H c).loose) (hshare := fun c => (dats m hO out 0 c).share_full fun _ => rfl)
    (howed := fun _ _ => rfl) (V := V m) (hmain := hmain m 𝒱₀) (hA := A_eq m hO out) (hpf := V_pre m)
    (hΦ := fun _ _ => rfl)

/-- Any contents of the result, where nothing is said of them. -/
def noOut : (c : Dev nD) → (t : Fin (cfgM m hO).N) → Vec F S1x1x128x5760 .f32 := fun _ _ => constant (F := F) S1x1x128x5760 .f32 (0#32)

/-- The frame: every fair run ends, the arguments unchanged and every semaphore at zero. -/
theorem frame_forget (hX : Small m hO) (H : (c : Dev nD) → (t : Fin (cfgM m hO).N) → Hooks F (refsAt m hO t) (insAt m hO c t) (grid0.coords t)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (by decide : main_arg0 ∈ Pipeline.restRefs sig spec0)).trans (V_main_arg0 m c),
      (h.1.arr_in c 0 rfl).trans ((A_eq m hO (noOut m hO) c 0).trans (V_main_arg1 m c)),
      (h.1.arr_in c 1 rfl).trans ((A_eq m hO (noOut m hO) c 1).trans (V_main_arg2 m c)),
      (h.1.arr_in c 2 rfl).trans ((A_eq m hO (noOut m hO) c 2).trans (V_main_arg3 m c)),
      (h.1.arr_in c 3 rfl).trans ((A_eq m hO (noOut m hO) c 3).trans (V_main_arg4 m c)),
      (h.1.arr_in c 4 rfl).trans ((A_eq m hO (noOut m hO) c 4).trans (V_main_arg5 m c))⟩, h.2⟩)
    (run_forget m ρ hO (noOut m hO) hX H)

end Cert.Attn.Hand
-- ==== Proof.BitsFrame.lean ====
module

public import proofs.«01_k».proof.Defs
public import proofs.«01_k».proof.Proof.BitsForget
public import proofs.«01_k».proof.Proof.AttnPre

/-! The attention call's frame: under the precondition every word the kernel reads of the table is a position of a key, so every
fair run ends, its arguments as they were. -/

@[expose] public section

noncomputable section

namespace Cert.Attn.Hand

open Cert.Attn Cert.Attn.Gen
open Idealize.ShloMosaic Idealize.ShloMosaic.TcCoe

variable {F : FTy → Type} [FloatOps F]

/-- Nothing stated of the buffers' contents. -/
def noHooks (R : Refs) (X : Ins F R) (i : grid0.Coords) : Hooks F R X i where
  M _ := True
  I _ _ _ _ _ _ _ := True
  A _ _ := True
  zero _ := trivial
  offsets := by intros; trivial
  start _ := trivial
  fill := by intros; trivial
  laterU := by intros; trivial
  laterM := by intros; trivial
  firstU := by intros; trivial
  firstM := by intros; trivial
  finish := by intros; exact ⟨fun _ => trivial, trivial⟩

variable (m : (ℓ : Loc nD τ sig) → Buf (Elt F) ℓ)

/-- A word the kernel reads of the table is the argument's word at the offset. -/
theorem word_eq (hO : Ok m) (c : Dev nD) (t : Fin (cfgM m hO).N) (o : Fin 1 → Nat) (h) (y : S11520.Idx) (hy : (y 0).val = o 0) :
    (insAt m hO c t).word o h = m ((c.tc : Thread nD τ).loc main_arg0) y := by
  obtain rfl : c = 0 := Subsingleton.elim _ _
  refine Eq.trans ?_ (congrFun (V_main_arg0 m 0) y)
  show (V m (0 : Dev nD) main_arg0) _ = _
  refine congrArg _ (funext fun a => ?_)
  obtain rfl : a = (0 : Fin 1) := Subsingleton.elim (α := Fin 1) _ _
  refine Fin.ext ?_
  show o 0 + 1 * 0 = _
  omega

/-- Words of a table of positions of keys. -/
theorem small_of (hO : Ok m) (h : ∀ (c : Dev nD) (y : S11520.Idx), (m ((c.tc : Thread nD τ).loc main_arg0) y).toNat < 12288) : Small m hO := fun c t o ho => by
  have h0 : o 0 < 11520 := by have := ho 0; simpa using this
  rw [word_eq m hO c t o ho (fun a => match a with | ⟨0, _⟩ => ⟨o 0, h0⟩) rfl]; exact h c _

end Cert.Attn.Hand

namespace Cert.BitsFrame

open Cert.Attn Cert.Attn.Gen Cert.Attn.Hand

/-- The frame of the attention call. -/
theorem frame : Cert.quiescent_Attn := fun m ρ h =>
  frame_forget m ρ (hO m) (small_of m (hO m) fun c y => Cert.Sel.range_lt (h c) y) fun _ _ => noHooks _ _ _

end Cert.BitsFrame
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Flash
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Flash
public import proofs.«01_k».proof.Proof.Gen.AttnRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Frame
public import proofs.«01_k».proof.Proof.Gen.Pre_in_range
public import proofs.«01_k».proof.Proof.Gen.Pre_selected
public import proofs.«01_k».proof.Proof.Gen.AttnRefIdeal.Run
public import proofs.«01_k».proof.Proof.Gen.OutIdeal.Value
public import proofs.«01_k».proof.Proof.Gen.OutRefIdeal.Value
public import proofs.«01_k».proof.Proof.OutEq
public import proofs.«01_k».proof.Proof.AttnEq
public import proofs.«01_k».proof.Proof.BitsFrame
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.Out.Gen.facts, Cert.OutIdeal.Gen.facts, Cert.OutRefIdeal.Gen.facts, Cert.Pre_in_range.Gen.facts, Cert.Pre_selected.Gen.facts,
  Cert.BitsFrame.frame, Cert.AttnFrame.frame, Cert.AttnFrame.frame_selected, Cert.AttnEq.ref_frame, fun m ρ _ => Cert.AttnEq.ref_frame m ρ trivial,
  fun m ρ _ => Cert.Out.Gen.frame m ρ, fun m ρ _ => Cert.OutIdeal.Gen.frame m ρ, fun m ρ _ => Cert.OutRefIdeal.Gen.frame m ρ,
  trivial, Cert.AttnEq.algebraic, trivial, Cert.OutEq.algebraic⟩

end Cert.Proof

end
